-- ==== Defs.lean ====
def Pre_KernelScan (m : (ℓ : Loc Cert.KernelScan.nD Cert.KernelScan.τ Cert.KernelScan.sig) → Buf (Elt Bits) ℓ) : Prop :=
  True

def Pre_KernelScanIdeal (m : (ℓ : Loc Cert.KernelScanIdeal.nD Cert.KernelScanIdeal.τ Cert.KernelScanIdeal.sig) → Buf (Elt Ideal) ℓ) : Prop :=
  True

def Pre_KernelScanIdeal_finite [hPre_finite : Cert.Pre_finite.Facts] (m : (ℓ : Loc Cert.KernelScanIdeal.nD Cert.KernelScanIdeal.τ Cert.KernelScanIdeal.sig) → Buf (Elt Ideal) ℓ) : Prop :=
  ∀ c : Dev Cert.KernelScanIdeal.nD,
    (Cert.Pre_finite.fn (F := Ideal) (m ((c.tc : Thread Cert.KernelScanIdeal.nD Cert.KernelScanIdeal.τ).loc Cert.KernelScanIdeal.main_arg0)) (m ((c.tc : Thread Cert.KernelScanIdeal.nD Cert.KernelScanIdeal.τ).loc Cert.KernelScanIdeal.main_arg1)) (m ((c.tc : Thread Cert.KernelScanIdeal.nD Cert.KernelScanIdeal.τ).loc Cert.KernelScanIdeal.main_arg2)) (m ((c.tc : Thread Cert.KernelScanIdeal.nD Cert.KernelScanIdeal.τ).loc Cert.KernelScanIdeal.main_arg3)) (m ((c.tc : Thread Cert.KernelScanIdeal.nD Cert.KernelScanIdeal.τ).loc Cert.KernelScanIdeal.main_arg4)) (m ((c.tc : Thread Cert.KernelScanIdeal.nD Cert.KernelScanIdeal.τ).loc Cert.KernelScanIdeal.main_arg5))) = (fun _ => 1#1)

def Pre_ReferenceScanIdeal (m : (ℓ : Loc Cert.ReferenceScanIdeal.nD Cert.ReferenceScanIdeal.τ Cert.ReferenceScanIdeal.sig) → Buf (Elt Ideal) ℓ) : Prop :=
  True

def Pre_ReferenceScanIdeal_finite [hPre_finite : Cert.Pre_finite.Facts] (m : (ℓ : Loc Cert.ReferenceScanIdeal.nD Cert.ReferenceScanIdeal.τ Cert.ReferenceScanIdeal.sig) → Buf (Elt Ideal) ℓ) : Prop :=
  ∀ c : Dev Cert.ReferenceScanIdeal.nD,
    (Cert.Pre_finite.fn (F := Ideal) (m ((c.tc : Thread Cert.ReferenceScanIdeal.nD Cert.ReferenceScanIdeal.τ).loc Cert.ReferenceScanIdeal.main_arg0)) (m ((c.tc : Thread Cert.ReferenceScanIdeal.nD Cert.ReferenceScanIdeal.τ).loc Cert.ReferenceScanIdeal.main_arg1)) (m ((c.tc : Thread Cert.ReferenceScanIdeal.nD Cert.ReferenceScanIdeal.τ).loc Cert.ReferenceScanIdeal.main_arg2)) (m ((c.tc : Thread Cert.ReferenceScanIdeal.nD Cert.ReferenceScanIdeal.τ).loc Cert.ReferenceScanIdeal.main_arg3)) (m ((c.tc : Thread Cert.ReferenceScanIdeal.nD Cert.ReferenceScanIdeal.τ).loc Cert.ReferenceScanIdeal.main_arg4)) (m ((c.tc : Thread Cert.ReferenceScanIdeal.nD Cert.ReferenceScanIdeal.τ).loc Cert.ReferenceScanIdeal.main_arg5))) = (fun _ => 1#1)

def Pre_KernelUp (m : (ℓ : Loc Cert.KernelUp.nD Cert.KernelUp.τ Cert.KernelUp.sig) → Buf (Elt Bits) ℓ) : Prop :=
  True

def Pre_KernelUpIdeal (m : (ℓ : Loc Cert.KernelUpIdeal.nD Cert.KernelUpIdeal.τ Cert.KernelUpIdeal.sig) → Buf (Elt Ideal) ℓ) : Prop :=
  True

def Pre_ReferenceUpIdeal (m : (ℓ : Loc Cert.ReferenceUpIdeal.nD Cert.ReferenceUpIdeal.τ Cert.ReferenceUpIdeal.sig) → Buf (Elt Ideal) ℓ) : Prop :=
  True

def Pre_KernelDown (m : (ℓ : Loc Cert.KernelDown.nD Cert.KernelDown.τ Cert.KernelDown.sig) → Buf (Elt Bits) ℓ) : Prop :=
  True

def Pre_KernelDownIdeal (m : (ℓ : Loc Cert.KernelDownIdeal.nD Cert.KernelDownIdeal.τ Cert.KernelDownIdeal.sig) → Buf (Elt Ideal) ℓ) : Prop :=
  True

def Pre_ReferenceDownIdeal (m : (ℓ : Loc Cert.ReferenceDownIdeal.nD Cert.ReferenceDownIdeal.τ Cert.ReferenceDownIdeal.sig) → Buf (Elt Ideal) ℓ) : Prop :=
  True

def Pre_KernelIn (m : (ℓ : Loc Cert.KernelIn.nD Cert.KernelIn.τ Cert.KernelIn.sig) → Buf (Elt Bits) ℓ) : Prop :=
  True

def Pre_KernelInIdeal (m : (ℓ : Loc Cert.KernelInIdeal.nD Cert.KernelInIdeal.τ Cert.KernelInIdeal.sig) → Buf (Elt Ideal) ℓ) : Prop :=
  True

def Pre_ReferenceInIdeal (m : (ℓ : Loc Cert.ReferenceInIdeal.nD Cert.ReferenceInIdeal.τ Cert.ReferenceInIdeal.sig) → Buf (Elt Ideal) ℓ) : Prop :=
  True

def Pre_KernelMix (m : (ℓ : Loc Cert.KernelMix.nD Cert.KernelMix.τ Cert.KernelMix.sig) → Buf (Elt Bits) ℓ) : Prop :=
  True

def Pre_KernelMixIdeal (m : (ℓ : Loc Cert.KernelMixIdeal.nD Cert.KernelMixIdeal.τ Cert.KernelMixIdeal.sig) → Buf (Elt Ideal) ℓ) : Prop :=
  True

def Pre_ReferenceMixIdeal (m : (ℓ : Loc Cert.ReferenceMixIdeal.nD Cert.ReferenceMixIdeal.τ Cert.ReferenceMixIdeal.sig) → Buf (Elt Ideal) ℓ) : Prop :=
  True

def Pre_KernelRank (m : (ℓ : Loc Cert.KernelRank.nD Cert.KernelRank.τ Cert.KernelRank.sig) → Buf (Elt Bits) ℓ) : Prop :=
  True

def Pre_KernelRankIdeal (m : (ℓ : Loc Cert.KernelRankIdeal.nD Cert.KernelRankIdeal.τ Cert.KernelRankIdeal.sig) → Buf (Elt Ideal) ℓ) : Prop :=
  True

def Pre_ReferenceRankIdeal (m : (ℓ : Loc Cert.ReferenceRankIdeal.nD Cert.ReferenceRankIdeal.τ Cert.ReferenceRankIdeal.sig) → Buf (Elt Ideal) ℓ) : Prop :=
  True

def Pre_KernelNorm (m : (ℓ : Loc Cert.KernelNorm.nD Cert.KernelNorm.τ Cert.KernelNorm.sig) → Buf (Elt Bits) ℓ) : Prop :=
  True

def Pre_KernelNormIdeal (m : (ℓ : Loc Cert.KernelNormIdeal.nD Cert.KernelNormIdeal.τ Cert.KernelNormIdeal.sig) → Buf (Elt Ideal) ℓ) : Prop :=
  True

def Pre_ReferenceNormIdeal (m : (ℓ : Loc Cert.ReferenceNormIdeal.nD Cert.ReferenceNormIdeal.τ Cert.ReferenceNormIdeal.sig) → Buf (Elt Ideal) ℓ) : Prop :=
  True

def Pre_KernelHead (m : (ℓ : Loc Cert.KernelHead.nD Cert.KernelHead.τ Cert.KernelHead.sig) → Buf (Elt Bits) ℓ) : Prop :=
  True

def Pre_KernelHeadIdeal (m : (ℓ : Loc Cert.KernelHeadIdeal.nD Cert.KernelHeadIdeal.τ Cert.KernelHeadIdeal.sig) → Buf (Elt Ideal) ℓ) : Prop :=
  True

def Pre_ReferenceHeadIdeal (m : (ℓ : Loc Cert.ReferenceHeadIdeal.nD Cert.ReferenceHeadIdeal.τ Cert.ReferenceHeadIdeal.sig) → Buf (Elt Ideal) ℓ) : Prop :=
  True

def Pre_KernelLastPrompt (m : (ℓ : Loc Cert.KernelLastPrompt.nD Cert.KernelLastPrompt.τ Cert.KernelLastPrompt.sig) → Buf (Elt Bits) ℓ) : Prop :=
  True

def Pre_KernelLastPromptIdeal (m : (ℓ : Loc Cert.KernelLastPromptIdeal.nD Cert.KernelLastPromptIdeal.τ Cert.KernelLastPromptIdeal.sig) → Buf (Elt Ideal) ℓ) : Prop :=
  True

def Pre_ReferenceLastPromptIdeal (m : (ℓ : Loc Cert.ReferenceLastPromptIdeal.nD Cert.ReferenceLastPromptIdeal.τ Cert.ReferenceLastPromptIdeal.sig) → Buf (Elt Ideal) ℓ) : Prop :=
  True

def Pre_KernelLastSample (m : (ℓ : Loc Cert.KernelLastSample.nD Cert.KernelLastSample.τ Cert.KernelLastSample.sig) → Buf (Elt Bits) ℓ) : Prop :=
  True

def Pre_KernelLastSampleIdeal (m : (ℓ : Loc Cert.KernelLastSampleIdeal.nD Cert.KernelLastSampleIdeal.τ Cert.KernelLastSampleIdeal.sig) → Buf (Elt Ideal) ℓ) : Prop :=
  True

def Pre_ReferenceLastSampleIdeal (m : (ℓ : Loc Cert.ReferenceLastSampleIdeal.nD Cert.ReferenceLastSampleIdeal.τ Cert.ReferenceLastSampleIdeal.sig) → Buf (Elt Ideal) ℓ) : Prop :=
  True

def Pre_KernelMods (m : (ℓ : Loc Cert.KernelMods.nD Cert.KernelMods.τ Cert.KernelMods.sig) → Buf (Elt Bits) ℓ) : Prop :=
  True

def Pre_KernelModsIdeal (m : (ℓ : Loc Cert.KernelModsIdeal.nD Cert.KernelModsIdeal.τ Cert.KernelModsIdeal.sig) → Buf (Elt Ideal) ℓ) : Prop :=
  True

def Pre_ReferenceModsIdeal (m : (ℓ : Loc Cert.ReferenceModsIdeal.nD Cert.ReferenceModsIdeal.τ Cert.ReferenceModsIdeal.sig) → Buf (Elt Ideal) ℓ) : Prop :=
  True

def Pre_KernelEmbed (m : (ℓ : Loc Cert.KernelEmbed.nD Cert.KernelEmbed.τ Cert.KernelEmbed.sig) → Buf (Elt Bits) ℓ) : Prop :=
  True

def Pre_KernelEmbedIdeal (m : (ℓ : Loc Cert.KernelEmbedIdeal.nD Cert.KernelEmbedIdeal.τ Cert.KernelEmbedIdeal.sig) → Buf (Elt Ideal) ℓ) : Prop :=
  True

def Pre_ReferenceEmbedIdeal (m : (ℓ : Loc Cert.ReferenceEmbedIdeal.nD Cert.ReferenceEmbedIdeal.τ Cert.ReferenceEmbedIdeal.sig) → Buf (Elt Ideal) ℓ) : Prop :=
  True

def quiescent_KernelScan [hKernelScan : Cert.KernelScan.Facts] : Prop :=
  ∀ (m : (ℓ : Loc Cert.KernelScan.nD Cert.KernelScan.τ Cert.KernelScan.sig) → Buf (Elt Bits) ℓ) (g : Dev Cert.KernelScan.nD → PrngReg), Pre_KernelScan m →
    θ_run (Cert.KernelScan.defs (F := Bits)) (onTc (τ := Cert.KernelScan.τ) (Cert.KernelScan.main (F := Bits))) ⟨m, fun _ => 0, g⟩ (fun r => (∀ c : Dev Cert.KernelScan.nD,
      r.2.mem ((c.tc : Thread Cert.KernelScan.nD Cert.KernelScan.τ).loc Cert.KernelScan.main_arg0) = m ((c.tc : Thread Cert.KernelScan.nD Cert.KernelScan.τ).loc Cert.KernelScan.main_arg0)
      ∧ r.2.mem ((c.tc : Thread Cert.KernelScan.nD Cert.KernelScan.τ).loc Cert.KernelScan.main_arg1) = m ((c.tc : Thread Cert.KernelScan.nD Cert.KernelScan.τ).loc Cert.KernelScan.main_arg1)
      ∧ r.2.mem ((c.tc : Thread Cert.KernelScan.nD Cert.KernelScan.τ).loc Cert.KernelScan.main_arg2) = m ((c.tc : Thread Cert.KernelScan.nD Cert.KernelScan.τ).loc Cert.KernelScan.main_arg2)
      ∧ r.2.mem ((c.tc : Thread Cert.KernelScan.nD Cert.KernelScan.τ).loc Cert.KernelScan.main_arg3) = m ((c.tc : Thread Cert.KernelScan.nD Cert.KernelScan.τ).loc Cert.KernelScan.main_arg3)
      ∧ r.2.mem ((c.tc : Thread Cert.KernelScan.nD Cert.KernelScan.τ).loc Cert.KernelScan.main_arg4) = m ((c.tc : Thread Cert.KernelScan.nD Cert.KernelScan.τ).loc Cert.KernelScan.main_arg4)
      ∧ r.2.mem ((c.tc : Thread Cert.KernelScan.nD Cert.KernelScan.τ).loc Cert.KernelScan.main_arg5) = m ((c.tc : Thread Cert.KernelScan.nD Cert.KernelScan.τ).loc Cert.KernelScan.main_arg5))
      ∧ r.2.sem = fun _ => 0)

def quiescent_KernelScanIdeal [hKernelScanIdeal : Cert.KernelScanIdeal.Facts] : Prop :=
  ∀ (m : (ℓ : Loc Cert.KernelScanIdeal.nD Cert.KernelScanIdeal.τ Cert.KernelScanIdeal.sig) → Buf (Elt Ideal) ℓ) (g : Dev Cert.KernelScanIdeal.nD → PrngReg), Pre_KernelScanIdeal m →
    θ_run (Cert.KernelScanIdeal.defs (F := Ideal)) (onTc (τ := Cert.KernelScanIdeal.τ) (Cert.KernelScanIdeal.main (F := Ideal))) ⟨m, fun _ => 0, g⟩ (fun r => (∀ c : Dev Cert.KernelScanIdeal.nD,
      r.2.mem ((c.tc : Thread Cert.KernelScanIdeal.nD Cert.KernelScanIdeal.τ).loc Cert.KernelScanIdeal.main_arg0) = m ((c.tc : Thread Cert.KernelScanIdeal.nD Cert.KernelScanIdeal.τ).loc Cert.KernelScanIdeal.main_arg0)
      ∧ r.2.mem ((c.tc : Thread Cert.KernelScanIdeal.nD Cert.KernelScanIdeal.τ).loc Cert.KernelScanIdeal.main_arg1) = m ((c.tc : Thread Cert.KernelScanIdeal.nD Cert.KernelScanIdeal.τ).loc Cert.KernelScanIdeal.main_arg1)
      ∧ r.2.mem ((c.tc : Thread Cert.KernelScanIdeal.nD Cert.KernelScanIdeal.τ).loc Cert.KernelScanIdeal.main_arg2) = m ((c.tc : Thread Cert.KernelScanIdeal.nD Cert.KernelScanIdeal.τ).loc Cert.KernelScanIdeal.main_arg2)
      ∧ r.2.mem ((c.tc : Thread Cert.KernelScanIdeal.nD Cert.KernelScanIdeal.τ).loc Cert.KernelScanIdeal.main_arg3) = m ((c.tc : Thread Cert.KernelScanIdeal.nD Cert.KernelScanIdeal.τ).loc Cert.KernelScanIdeal.main_arg3)
      ∧ r.2.mem ((c.tc : Thread Cert.KernelScanIdeal.nD Cert.KernelScanIdeal.τ).loc Cert.KernelScanIdeal.main_arg4) = m ((c.tc : Thread Cert.KernelScanIdeal.nD Cert.KernelScanIdeal.τ).loc Cert.KernelScanIdeal.main_arg4)
      ∧ r.2.mem ((c.tc : Thread Cert.KernelScanIdeal.nD Cert.KernelScanIdeal.τ).loc Cert.KernelScanIdeal.main_arg5) = m ((c.tc : Thread Cert.KernelScanIdeal.nD Cert.KernelScanIdeal.τ).loc Cert.KernelScanIdeal.main_arg5))
      ∧ r.2.sem = fun _ => 0)

def quiescent_KernelScanIdeal_pre_finite [hKernelScanIdeal : Cert.KernelScanIdeal.Facts] [hPre_finite : Cert.Pre_finite.Facts] : Prop :=
  ∀ (m : (ℓ : Loc Cert.KernelScanIdeal.nD Cert.KernelScanIdeal.τ Cert.KernelScanIdeal.sig) → Buf (Elt Ideal) ℓ) (g : Dev Cert.KernelScanIdeal.nD → PrngReg), Pre_KernelScanIdeal_finite m →
    θ_run (Cert.KernelScanIdeal.defs (F := Ideal)) (onTc (τ := Cert.KernelScanIdeal.τ) (Cert.KernelScanIdeal.main (F := Ideal))) ⟨m, fun _ => 0, g⟩ (fun r => (∀ c : Dev Cert.KernelScanIdeal.nD,
      r.2.mem ((c.tc : Thread Cert.KernelScanIdeal.nD Cert.KernelScanIdeal.τ).loc Cert.KernelScanIdeal.main_arg0) = m ((c.tc : Thread Cert.KernelScanIdeal.nD Cert.KernelScanIdeal.τ).loc Cert.KernelScanIdeal.main_arg0)
      ∧ r.2.mem ((c.tc : Thread Cert.KernelScanIdeal.nD Cert.KernelScanIdeal.τ).loc Cert.KernelScanIdeal.main_arg1) = m ((c.tc : Thread Cert.KernelScanIdeal.nD Cert.KernelScanIdeal.τ).loc Cert.KernelScanIdeal.main_arg1)
      ∧ r.2.mem ((c.tc : Thread Cert.KernelScanIdeal.nD Cert.KernelScanIdeal.τ).loc Cert.KernelScanIdeal.main_arg2) = m ((c.tc : Thread Cert.KernelScanIdeal.nD Cert.KernelScanIdeal.τ).loc Cert.KernelScanIdeal.main_arg2)
      ∧ r.2.mem ((c.tc : Thread Cert.KernelScanIdeal.nD Cert.KernelScanIdeal.τ).loc Cert.KernelScanIdeal.main_arg3) = m ((c.tc : Thread Cert.KernelScanIdeal.nD Cert.KernelScanIdeal.τ).loc Cert.KernelScanIdeal.main_arg3)
      ∧ r.2.mem ((c.tc : Thread Cert.KernelScanIdeal.nD Cert.KernelScanIdeal.τ).loc Cert.KernelScanIdeal.main_arg4) = m ((c.tc : Thread Cert.KernelScanIdeal.nD Cert.KernelScanIdeal.τ).loc Cert.KernelScanIdeal.main_arg4)
      ∧ r.2.mem ((c.tc : Thread Cert.KernelScanIdeal.nD Cert.KernelScanIdeal.τ).loc Cert.KernelScanIdeal.main_arg5) = m ((c.tc : Thread Cert.KernelScanIdeal.nD Cert.KernelScanIdeal.τ).loc Cert.KernelScanIdeal.main_arg5))
      ∧ r.2.sem = fun _ => 0)

def quiescent_ReferenceScanIdeal [hReferenceScanIdeal : Cert.ReferenceScanIdeal.Facts] : Prop :=
  ∀ (m : (ℓ : Loc Cert.ReferenceScanIdeal.nD Cert.ReferenceScanIdeal.τ Cert.ReferenceScanIdeal.sig) → Buf (Elt Ideal) ℓ) (g : Dev Cert.ReferenceScanIdeal.nD → PrngReg), Pre_ReferenceScanIdeal m →
    θ_run (Cert.ReferenceScanIdeal.defs (F := Ideal)) (onTc (τ := Cert.ReferenceScanIdeal.τ) (Cert.ReferenceScanIdeal.main (F := Ideal))) ⟨m, fun _ => 0, g⟩ (fun r => (∀ c : Dev Cert.ReferenceScanIdeal.nD,
      r.2.mem ((c.tc : Thread Cert.ReferenceScanIdeal.nD Cert.ReferenceScanIdeal.τ).loc Cert.ReferenceScanIdeal.main_arg0) = m ((c.tc : Thread Cert.ReferenceScanIdeal.nD Cert.ReferenceScanIdeal.τ).loc Cert.ReferenceScanIdeal.main_arg0)
      ∧ r.2.mem ((c.tc : Thread Cert.ReferenceScanIdeal.nD Cert.ReferenceScanIdeal.τ).loc Cert.ReferenceScanIdeal.main_arg1) = m ((c.tc : Thread Cert.ReferenceScanIdeal.nD Cert.ReferenceScanIdeal.τ).loc Cert.ReferenceScanIdeal.main_arg1)
      ∧ r.2.mem ((c.tc : Thread Cert.ReferenceScanIdeal.nD Cert.ReferenceScanIdeal.τ).loc Cert.ReferenceScanIdeal.main_arg2) = m ((c.tc : Thread Cert.ReferenceScanIdeal.nD Cert.ReferenceScanIdeal.τ).loc Cert.ReferenceScanIdeal.main_arg2)
      ∧ r.2.mem ((c.tc : Thread Cert.ReferenceScanIdeal.nD Cert.ReferenceScanIdeal.τ).loc Cert.ReferenceScanIdeal.main_arg3) = m ((c.tc : Thread Cert.ReferenceScanIdeal.nD Cert.ReferenceScanIdeal.τ).loc Cert.ReferenceScanIdeal.main_arg3)
      ∧ r.2.mem ((c.tc : Thread Cert.ReferenceScanIdeal.nD Cert.ReferenceScanIdeal.τ).loc Cert.ReferenceScanIdeal.main_arg4) = m ((c.tc : Thread Cert.ReferenceScanIdeal.nD Cert.ReferenceScanIdeal.τ).loc Cert.ReferenceScanIdeal.main_arg4)
      ∧ r.2.mem ((c.tc : Thread Cert.ReferenceScanIdeal.nD Cert.ReferenceScanIdeal.τ).loc Cert.ReferenceScanIdeal.main_arg5) = m ((c.tc : Thread Cert.ReferenceScanIdeal.nD Cert.ReferenceScanIdeal.τ).loc Cert.ReferenceScanIdeal.main_arg5))
      ∧ r.2.sem = fun _ => 0)

def quiescent_ReferenceScanIdeal_pre_finite [hReferenceScanIdeal : Cert.ReferenceScanIdeal.Facts] [hPre_finite : Cert.Pre_finite.Facts] : Prop :=
  ∀ (m : (ℓ : Loc Cert.ReferenceScanIdeal.nD Cert.ReferenceScanIdeal.τ Cert.ReferenceScanIdeal.sig) → Buf (Elt Ideal) ℓ) (g : Dev Cert.ReferenceScanIdeal.nD → PrngReg), Pre_ReferenceScanIdeal_finite m →
    θ_run (Cert.ReferenceScanIdeal.defs (F := Ideal)) (onTc (τ := Cert.ReferenceScanIdeal.τ) (Cert.ReferenceScanIdeal.main (F := Ideal))) ⟨m, fun _ => 0, g⟩ (fun r => (∀ c : Dev Cert.ReferenceScanIdeal.nD,
      r.2.mem ((c.tc : Thread Cert.ReferenceScanIdeal.nD Cert.ReferenceScanIdeal.τ).loc Cert.ReferenceScanIdeal.main_arg0) = m ((c.tc : Thread Cert.ReferenceScanIdeal.nD Cert.ReferenceScanIdeal.τ).loc Cert.ReferenceScanIdeal.main_arg0)
      ∧ r.2.mem ((c.tc : Thread Cert.ReferenceScanIdeal.nD Cert.ReferenceScanIdeal.τ).loc Cert.ReferenceScanIdeal.main_arg1) = m ((c.tc : Thread Cert.ReferenceScanIdeal.nD Cert.ReferenceScanIdeal.τ).loc Cert.ReferenceScanIdeal.main_arg1)
      ∧ r.2.mem ((c.tc : Thread Cert.ReferenceScanIdeal.nD Cert.ReferenceScanIdeal.τ).loc Cert.ReferenceScanIdeal.main_arg2) = m ((c.tc : Thread Cert.ReferenceScanIdeal.nD Cert.ReferenceScanIdeal.τ).loc Cert.ReferenceScanIdeal.main_arg2)
      ∧ r.2.mem ((c.tc : Thread Cert.ReferenceScanIdeal.nD Cert.ReferenceScanIdeal.τ).loc Cert.ReferenceScanIdeal.main_arg3) = m ((c.tc : Thread Cert.ReferenceScanIdeal.nD Cert.ReferenceScanIdeal.τ).loc Cert.ReferenceScanIdeal.main_arg3)
      ∧ r.2.mem ((c.tc : Thread Cert.ReferenceScanIdeal.nD Cert.ReferenceScanIdeal.τ).loc Cert.ReferenceScanIdeal.main_arg4) = m ((c.tc : Thread Cert.ReferenceScanIdeal.nD Cert.ReferenceScanIdeal.τ).loc Cert.ReferenceScanIdeal.main_arg4)
      ∧ r.2.mem ((c.tc : Thread Cert.ReferenceScanIdeal.nD Cert.ReferenceScanIdeal.τ).loc Cert.ReferenceScanIdeal.main_arg5) = m ((c.tc : Thread Cert.ReferenceScanIdeal.nD Cert.ReferenceScanIdeal.τ).loc Cert.ReferenceScanIdeal.main_arg5))
      ∧ r.2.sem = fun _ => 0)

def quiescent_KernelUp [hKernelUp : Cert.KernelUp.Facts] : Prop :=
  ∀ (m : (ℓ : Loc Cert.KernelUp.nD Cert.KernelUp.τ Cert.KernelUp.sig) → Buf (Elt Bits) ℓ) (g : Dev Cert.KernelUp.nD → PrngReg), Pre_KernelUp m →
    θ_run (Cert.KernelUp.defs (F := Bits)) (onTc (τ := Cert.KernelUp.τ) (Cert.KernelUp.main (F := Bits))) ⟨m, fun _ => 0, g⟩ (fun r => (∀ c : Dev Cert.KernelUp.nD,
      r.2.mem ((c.tc : Thread Cert.KernelUp.nD Cert.KernelUp.τ).loc Cert.KernelUp.main_arg0) = m ((c.tc : Thread Cert.KernelUp.nD Cert.KernelUp.τ).loc Cert.KernelUp.main_arg0)
      ∧ r.2.mem ((c.tc : Thread Cert.KernelUp.nD Cert.KernelUp.τ).loc Cert.KernelUp.main_arg1) = m ((c.tc : Thread Cert.KernelUp.nD Cert.KernelUp.τ).loc Cert.KernelUp.main_arg1))
      ∧ r.2.sem = fun _ => 0)

def quiescent_KernelUpIdeal [hKernelUpIdeal : Cert.KernelUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg), Pre_KernelUpIdeal m →
    θ_run (Cert.KernelUpIdeal.defs (F := Ideal)) (onTc (τ := Cert.KernelUpIdeal.τ) (Cert.KernelUpIdeal.main (F := Ideal))) ⟨m, fun _ => 0, g⟩ (fun r => (∀ c : Dev Cert.KernelUpIdeal.nD,
      r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
      ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1))
      ∧ r.2.sem = fun _ => 0)

def quiescent_ReferenceUpIdeal [hReferenceUpIdeal : Cert.ReferenceUpIdeal.Facts] : Prop :=
  ∀ (m : (ℓ : Loc Cert.ReferenceUpIdeal.nD Cert.ReferenceUpIdeal.τ Cert.ReferenceUpIdeal.sig) → Buf (Elt Ideal) ℓ) (g : Dev Cert.ReferenceUpIdeal.nD → PrngReg), Pre_ReferenceUpIdeal m →
    θ_run (Cert.ReferenceUpIdeal.defs (F := Ideal)) (onTc (τ := Cert.ReferenceUpIdeal.τ) (Cert.ReferenceUpIdeal.main (F := Ideal))) ⟨m, fun _ => 0, g⟩ (fun r => (∀ c : Dev Cert.ReferenceUpIdeal.nD,
      r.2.mem ((c.tc : Thread Cert.ReferenceUpIdeal.nD Cert.ReferenceUpIdeal.τ).loc Cert.ReferenceUpIdeal.main_arg0) = m ((c.tc : Thread Cert.ReferenceUpIdeal.nD Cert.ReferenceUpIdeal.τ).loc Cert.ReferenceUpIdeal.main_arg0)
      ∧ r.2.mem ((c.tc : Thread Cert.ReferenceUpIdeal.nD Cert.ReferenceUpIdeal.τ).loc Cert.ReferenceUpIdeal.main_arg1) = m ((c.tc : Thread Cert.ReferenceUpIdeal.nD Cert.ReferenceUpIdeal.τ).loc Cert.ReferenceUpIdeal.main_arg1))
      ∧ r.2.sem = fun _ => 0)

def quiescent_KernelDown [hKernelDown : Cert.KernelDown.Facts] : Prop :=
  ∀ (m : (ℓ : Loc Cert.KernelDown.nD Cert.KernelDown.τ Cert.KernelDown.sig) → Buf (Elt Bits) ℓ) (g : Dev Cert.KernelDown.nD → PrngReg), Pre_KernelDown m →
    θ_run (Cert.KernelDown.defs (F := Bits)) (onTc (τ := Cert.KernelDown.τ) (Cert.KernelDown.main (F := Bits))) ⟨m, fun _ => 0, g⟩ (fun r => (∀ c : Dev Cert.KernelDown.nD,
      r.2.mem ((c.tc : Thread Cert.KernelDown.nD Cert.KernelDown.τ).loc Cert.KernelDown.main_arg0) = m ((c.tc : Thread Cert.KernelDown.nD Cert.KernelDown.τ).loc Cert.KernelDown.main_arg0)
      ∧ r.2.mem ((c.tc : Thread Cert.KernelDown.nD Cert.KernelDown.τ).loc Cert.KernelDown.main_arg1) = m ((c.tc : Thread Cert.KernelDown.nD Cert.KernelDown.τ).loc Cert.KernelDown.main_arg1)
      ∧ r.2.mem ((c.tc : Thread Cert.KernelDown.nD Cert.KernelDown.τ).loc Cert.KernelDown.main_arg2) = m ((c.tc : Thread Cert.KernelDown.nD Cert.KernelDown.τ).loc Cert.KernelDown.main_arg2)
      ∧ r.2.mem ((c.tc : Thread Cert.KernelDown.nD Cert.KernelDown.τ).loc Cert.KernelDown.main_arg3) = m ((c.tc : Thread Cert.KernelDown.nD Cert.KernelDown.τ).loc Cert.KernelDown.main_arg3))
      ∧ r.2.sem = fun _ => 0)

def quiescent_KernelDownIdeal [hKernelDownIdeal : Cert.KernelDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg), Pre_KernelDownIdeal m →
    θ_run (Cert.KernelDownIdeal.defs (F := Ideal)) (onTc (τ := Cert.KernelDownIdeal.τ) (Cert.KernelDownIdeal.main (F := Ideal))) ⟨m, fun _ => 0, g⟩ (fun r => (∀ c : Dev Cert.KernelDownIdeal.nD,
      r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
      ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
      ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2)
      ∧ r.2.mem ((c.tc : Thread Cert.KernelDownIdeal.nD Cert.KernelDownIdeal.τ).loc Cert.KernelDownIdeal.main_arg3) = m ((c.tc : Thread Cert.KernelDownIdeal.nD Cert.KernelDownIdeal.τ).loc Cert.KernelDownIdeal.main_arg3))
      ∧ r.2.sem = fun _ => 0)

def quiescent_ReferenceDownIdeal [hReferenceDownIdeal : Cert.ReferenceDownIdeal.Facts] : Prop :=
  ∀ (m : (ℓ : Loc Cert.ReferenceDownIdeal.nD Cert.ReferenceDownIdeal.τ Cert.ReferenceDownIdeal.sig) → Buf (Elt Ideal) ℓ) (g : Dev Cert.ReferenceDownIdeal.nD → PrngReg), Pre_ReferenceDownIdeal m →
    θ_run (Cert.ReferenceDownIdeal.defs (F := Ideal)) (onTc (τ := Cert.ReferenceDownIdeal.τ) (Cert.ReferenceDownIdeal.main (F := Ideal))) ⟨m, fun _ => 0, g⟩ (fun r => (∀ c : Dev Cert.ReferenceDownIdeal.nD,
      r.2.mem ((c.tc : Thread Cert.ReferenceDownIdeal.nD Cert.ReferenceDownIdeal.τ).loc Cert.ReferenceDownIdeal.main_arg0) = m ((c.tc : Thread Cert.ReferenceDownIdeal.nD Cert.ReferenceDownIdeal.τ).loc Cert.ReferenceDownIdeal.main_arg0)
      ∧ r.2.mem ((c.tc : Thread Cert.ReferenceDownIdeal.nD Cert.ReferenceDownIdeal.τ).loc Cert.ReferenceDownIdeal.main_arg1) = m ((c.tc : Thread Cert.ReferenceDownIdeal.nD Cert.ReferenceDownIdeal.τ).loc Cert.ReferenceDownIdeal.main_arg1)
      ∧ r.2.mem ((c.tc : Thread Cert.ReferenceDownIdeal.nD Cert.ReferenceDownIdeal.τ).loc Cert.ReferenceDownIdeal.main_arg2) = m ((c.tc : Thread Cert.ReferenceDownIdeal.nD Cert.ReferenceDownIdeal.τ).loc Cert.ReferenceDownIdeal.main_arg2)
      ∧ r.2.mem ((c.tc : Thread Cert.ReferenceDownIdeal.nD Cert.ReferenceDownIdeal.τ).loc Cert.ReferenceDownIdeal.main_arg3) = m ((c.tc : Thread Cert.ReferenceDownIdeal.nD Cert.ReferenceDownIdeal.τ).loc Cert.ReferenceDownIdeal.main_arg3))
      ∧ r.2.sem = fun _ => 0)

def quiescent_KernelIn [hKernelIn : Cert.KernelIn.Facts] : Prop :=
  ∀ (m : (ℓ : Loc Cert.KernelIn.nD Cert.KernelIn.τ Cert.KernelIn.sig) → Buf (Elt Bits) ℓ) (g : Dev Cert.KernelIn.nD → PrngReg), Pre_KernelIn m →
    θ_run (Cert.KernelIn.defs (F := Bits)) (onTc (τ := Cert.KernelIn.τ) (Cert.KernelIn.main (F := Bits))) ⟨m, fun _ => 0, g⟩ (fun r => (∀ c : Dev Cert.KernelIn.nD,
      r.2.mem ((c.tc : Thread Cert.KernelIn.nD Cert.KernelIn.τ).loc Cert.KernelIn.main_arg0) = m ((c.tc : Thread Cert.KernelIn.nD Cert.KernelIn.τ).loc Cert.KernelIn.main_arg0)
      ∧ r.2.mem ((c.tc : Thread Cert.KernelIn.nD Cert.KernelIn.τ).loc Cert.KernelIn.main_arg1) = m ((c.tc : Thread Cert.KernelIn.nD Cert.KernelIn.τ).loc Cert.KernelIn.main_arg1))
      ∧ r.2.sem = fun _ => 0)

def quiescent_KernelInIdeal [hKernelInIdeal : Cert.KernelInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1))
      ∧ r.2.sem = fun _ => 0)

def quiescent_ReferenceInIdeal [hReferenceInIdeal : Cert.ReferenceInIdeal.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1))
      ∧ r.2.sem = fun _ => 0)

def quiescent_KernelMix [hKernelMix : Cert.KernelMix.Facts] : Prop :=
  ∀ (m : (ℓ : Loc Cert.KernelMix.nD Cert.KernelMix.τ Cert.KernelMix.sig) → Buf (Elt Bits) ℓ) (g : Dev Cert.KernelMix.nD → PrngReg), Pre_KernelMix m →
    θ_run (Cert.KernelMix.defs (F := Bits)) (onTc (τ := Cert.KernelMix.τ) (Cert.KernelMix.main (F := Bits))) ⟨m, fun _ => 0, g⟩ (fun r => (∀ c : Dev Cert.KernelMix.nD,
      r.2.mem ((c.tc : Thread Cert.KernelMix.nD Cert.KernelMix.τ).loc Cert.KernelMix.main_arg0) = m ((c.tc : Thread Cert.KernelMix.nD Cert.KernelMix.τ).loc Cert.KernelMix.main_arg0)
      ∧ r.2.mem ((c.tc : Thread Cert.KernelMix.nD Cert.KernelMix.τ).loc Cert.KernelMix.main_arg1) = m ((c.tc : Thread Cert.KernelMix.nD Cert.KernelMix.τ).loc Cert.KernelMix.main_arg1)
      ∧ r.2.mem ((c.tc : Thread Cert.KernelMix.nD Cert.KernelMix.τ).loc Cert.KernelMix.main_arg2) = m ((c.tc : Thread Cert.KernelMix.nD Cert.KernelMix.τ).loc Cert.KernelMix.main_arg2)
      ∧ r.2.mem ((c.tc : Thread Cert.KernelMix.nD Cert.KernelMix.τ).loc Cert.KernelMix.main_arg3) = m ((c.tc : Thread Cert.KernelMix.nD Cert.KernelMix.τ).loc Cert.KernelMix.main_arg3))
      ∧ r.2.sem = fun _ => 0)

def quiescent_KernelMixIdeal [hKernelMixIdeal : Cert.KernelMixIdeal.Facts] : Prop :=
  ∀ (m : (ℓ : Loc Cert.KernelMixIdeal.nD Cert.KernelMixIdeal.τ Cert.KernelMixIdeal.sig) → Buf (Elt Ideal) ℓ) (g : Dev Cert.KernelMixIdeal.nD → PrngReg), Pre_KernelMixIdeal m →
    θ_run (Cert.KernelMixIdeal.defs (F := Ideal)) (onTc (τ := Cert.KernelMixIdeal.τ) (Cert.KernelMixIdeal.main (F := Ideal))) ⟨m, fun _ => 0, g⟩ (fun r => (∀ c : Dev Cert.KernelMixIdeal.nD,
      r.2.mem ((c.tc : Thread Cert.KernelMixIdeal.nD Cert.KernelMixIdeal.τ).loc Cert.KernelMixIdeal.main_arg0) = m ((c.tc : Thread Cert.KernelMixIdeal.nD Cert.KernelMixIdeal.τ).loc Cert.KernelMixIdeal.main_arg0)
      ∧ r.2.mem ((c.tc : Thread Cert.KernelMixIdeal.nD Cert.KernelMixIdeal.τ).loc Cert.KernelMixIdeal.main_arg1) = m ((c.tc : Thread Cert.KernelMixIdeal.nD Cert.KernelMixIdeal.τ).loc Cert.KernelMixIdeal.main_arg1)
      ∧ r.2.mem ((c.tc : Thread Cert.KernelMixIdeal.nD Cert.KernelMixIdeal.τ).loc Cert.KernelMixIdeal.main_arg2) = m ((c.tc : Thread Cert.KernelMixIdeal.nD Cert.KernelMixIdeal.τ).loc Cert.KernelMixIdeal.main_arg2)
      ∧ r.2.mem ((c.tc : Thread Cert.KernelMixIdeal.nD Cert.KernelMixIdeal.τ).loc Cert.KernelMixIdeal.main_arg3) = m ((c.tc : Thread Cert.KernelMixIdeal.nD Cert.KernelMixIdeal.τ).loc Cert.KernelMixIdeal.main_arg3))
      ∧ r.2.sem = fun _ => 0)

def quiescent_ReferenceMixIdeal [hReferenceMixIdeal : Cert.ReferenceMixIdeal.Facts] : Prop :=
  ∀ (m : (ℓ : Loc Cert.ReferenceMixIdeal.nD Cert.ReferenceMixIdeal.τ Cert.ReferenceMixIdeal.sig) → Buf (Elt Ideal) ℓ) (g : Dev Cert.ReferenceMixIdeal.nD → PrngReg), Pre_ReferenceMixIdeal m →
    θ_run (Cert.ReferenceMixIdeal.defs (F := Ideal)) (onTc (τ := Cert.ReferenceMixIdeal.τ) (Cert.ReferenceMixIdeal.main (F := Ideal))) ⟨m, fun _ => 0, g⟩ (fun r => (∀ c : Dev Cert.ReferenceMixIdeal.nD,
      r.2.mem ((c.tc : Thread Cert.ReferenceMixIdeal.nD Cert.ReferenceMixIdeal.τ).loc Cert.ReferenceMixIdeal.main_arg0) = m ((c.tc : Thread Cert.ReferenceMixIdeal.nD Cert.ReferenceMixIdeal.τ).loc Cert.ReferenceMixIdeal.main_arg0)
      ∧ r.2.mem ((c.tc : Thread Cert.ReferenceMixIdeal.nD Cert.ReferenceMixIdeal.τ).loc Cert.ReferenceMixIdeal.main_arg1) = m ((c.tc : Thread Cert.ReferenceMixIdeal.nD Cert.ReferenceMixIdeal.τ).loc Cert.ReferenceMixIdeal.main_arg1)
      ∧ r.2.mem ((c.tc : Thread Cert.ReferenceMixIdeal.nD Cert.ReferenceMixIdeal.τ).loc Cert.ReferenceMixIdeal.main_arg2) = m ((c.tc : Thread Cert.ReferenceMixIdeal.nD Cert.ReferenceMixIdeal.τ).loc Cert.ReferenceMixIdeal.main_arg2)
      ∧ r.2.mem ((c.tc : Thread Cert.ReferenceMixIdeal.nD Cert.ReferenceMixIdeal.τ).loc Cert.ReferenceMixIdeal.main_arg3) = m ((c.tc : Thread Cert.ReferenceMixIdeal.nD Cert.ReferenceMixIdeal.τ).loc Cert.ReferenceMixIdeal.main_arg3))
      ∧ r.2.sem = fun _ => 0)

def quiescent_KernelRank [hKernelRank : Cert.KernelRank.Facts] : Prop :=
  ∀ (m : (ℓ : Loc Cert.KernelRank.nD Cert.KernelRank.τ Cert.KernelRank.sig) → Buf (Elt Bits) ℓ) (g : Dev Cert.KernelRank.nD → PrngReg), Pre_KernelRank m →
    θ_run (Cert.KernelRank.defs (F := Bits)) (onTc (τ := Cert.KernelRank.τ) (Cert.KernelRank.main (F := Bits))) ⟨m, fun _ => 0, g⟩ (fun r => (∀ c : Dev Cert.KernelRank.nD,
      r.2.mem ((c.tc : Thread Cert.KernelRank.nD Cert.KernelRank.τ).loc Cert.KernelRank.main_arg0) = m ((c.tc : Thread Cert.KernelRank.nD Cert.KernelRank.τ).loc Cert.KernelRank.main_arg0)
      ∧ r.2.mem ((c.tc : Thread Cert.KernelRank.nD Cert.KernelRank.τ).loc Cert.KernelRank.main_arg1) = m ((c.tc : Thread Cert.KernelRank.nD Cert.KernelRank.τ).loc Cert.KernelRank.main_arg1)
      ∧ r.2.mem ((c.tc : Thread Cert.KernelRank.nD Cert.KernelRank.τ).loc Cert.KernelRank.main_arg2) = m ((c.tc : Thread Cert.KernelRank.nD Cert.KernelRank.τ).loc Cert.KernelRank.main_arg2))
      ∧ r.2.sem = fun _ => 0)

def quiescent_KernelRankIdeal [hKernelRankIdeal : Cert.KernelRankIdeal.Facts] : Prop :=
  ∀ (m : (ℓ : Loc Cert.KernelRankIdeal.nD Cert.KernelRankIdeal.τ Cert.KernelRankIdeal.sig) → Buf (Elt Ideal) ℓ) (g : Dev Cert.KernelRankIdeal.nD → PrngReg), Pre_KernelRankIdeal m →
    θ_run (Cert.KernelRankIdeal.defs (F := Ideal)) (onTc (τ := Cert.KernelRankIdeal.τ) (Cert.KernelRankIdeal.main (F := Ideal))) ⟨m, fun _ => 0, g⟩ (fun r => (∀ c : Dev Cert.KernelRankIdeal.nD,
      r.2.mem ((c.tc : Thread Cert.KernelRankIdeal.nD Cert.KernelRankIdeal.τ).loc Cert.KernelRankIdeal.main_arg0) = m ((c.tc : Thread Cert.KernelRankIdeal.nD Cert.KernelRankIdeal.τ).loc Cert.KernelRankIdeal.main_arg0)
      ∧ r.2.mem ((c.tc : Thread Cert.KernelRankIdeal.nD Cert.KernelRankIdeal.τ).loc Cert.KernelRankIdeal.main_arg1) = m ((c.tc : Thread Cert.KernelRankIdeal.nD Cert.KernelRankIdeal.τ).loc Cert.KernelRankIdeal.main_arg1)
      ∧ r.2.mem ((c.tc : Thread Cert.KernelRankIdeal.nD Cert.KernelRankIdeal.τ).loc Cert.KernelRankIdeal.main_arg2) = m ((c.tc : Thread Cert.KernelRankIdeal.nD Cert.KernelRankIdeal.τ).loc Cert.KernelRankIdeal.main_arg2))
      ∧ r.2.sem = fun _ => 0)

def quiescent_ReferenceRankIdeal [hReferenceRankIdeal : Cert.ReferenceRankIdeal.Facts] : Prop :=
  ∀ (m : (ℓ : Loc Cert.ReferenceRankIdeal.nD Cert.ReferenceRankIdeal.τ Cert.ReferenceRankIdeal.sig) → Buf (Elt Ideal) ℓ) (g : Dev Cert.ReferenceRankIdeal.nD → PrngReg), Pre_ReferenceRankIdeal m →
    θ_run (Cert.ReferenceRankIdeal.defs (F := Ideal)) (onTc (τ := Cert.ReferenceRankIdeal.τ) (Cert.ReferenceRankIdeal.main (F := Ideal))) ⟨m, fun _ => 0, g⟩ (fun r => (∀ c : Dev Cert.ReferenceRankIdeal.nD,
      r.2.mem ((c.tc : Thread Cert.ReferenceRankIdeal.nD Cert.ReferenceRankIdeal.τ).loc Cert.ReferenceRankIdeal.main_arg0) = m ((c.tc : Thread Cert.ReferenceRankIdeal.nD Cert.ReferenceRankIdeal.τ).loc Cert.ReferenceRankIdeal.main_arg0)
      ∧ r.2.mem ((c.tc : Thread Cert.ReferenceRankIdeal.nD Cert.ReferenceRankIdeal.τ).loc Cert.ReferenceRankIdeal.main_arg1) = m ((c.tc : Thread Cert.ReferenceRankIdeal.nD Cert.ReferenceRankIdeal.τ).loc Cert.ReferenceRankIdeal.main_arg1)
      ∧ r.2.mem ((c.tc : Thread Cert.ReferenceRankIdeal.nD Cert.ReferenceRankIdeal.τ).loc Cert.ReferenceRankIdeal.main_arg2) = m ((c.tc : Thread Cert.ReferenceRankIdeal.nD Cert.ReferenceRankIdeal.τ).loc Cert.ReferenceRankIdeal.main_arg2))
      ∧ r.2.sem = fun _ => 0)

def quiescent_KernelNorm [hKernelNorm : Cert.KernelNorm.Facts] : Prop :=
  ∀ (m : (ℓ : Loc Cert.KernelNorm.nD Cert.KernelNorm.τ Cert.KernelNorm.sig) → Buf (Elt Bits) ℓ) (g : Dev Cert.KernelNorm.nD → PrngReg), Pre_KernelNorm m →
    θ_run (Cert.KernelNorm.defs (F := Bits)) (onTc (τ := Cert.KernelNorm.τ) (Cert.KernelNorm.main (F := Bits))) ⟨m, fun _ => 0, g⟩ (fun r => (∀ c : Dev Cert.KernelNorm.nD,
      r.2.mem ((c.tc : Thread Cert.KernelNorm.nD Cert.KernelNorm.τ).loc Cert.KernelNorm.main_arg0) = m ((c.tc : Thread Cert.KernelNorm.nD Cert.KernelNorm.τ).loc Cert.KernelNorm.main_arg0)
      ∧ r.2.mem ((c.tc : Thread Cert.KernelNorm.nD Cert.KernelNorm.τ).loc Cert.KernelNorm.main_arg1) = m ((c.tc : Thread Cert.KernelNorm.nD Cert.KernelNorm.τ).loc Cert.KernelNorm.main_arg1)
      ∧ r.2.mem ((c.tc : Thread Cert.KernelNorm.nD Cert.KernelNorm.τ).loc Cert.KernelNorm.main_arg2) = m ((c.tc : Thread Cert.KernelNorm.nD Cert.KernelNorm.τ).loc Cert.KernelNorm.main_arg2))
      ∧ r.2.sem = fun _ => 0)

def quiescent_KernelNormIdeal [hKernelNormIdeal : Cert.KernelNormIdeal.Facts] : Prop :=
  ∀ (m : (ℓ : Loc Cert.KernelNormIdeal.nD Cert.KernelNormIdeal.τ Cert.KernelNormIdeal.sig) → Buf (Elt Ideal) ℓ) (g : Dev Cert.KernelNormIdeal.nD → PrngReg), Pre_KernelNormIdeal m →
    θ_run (Cert.KernelNormIdeal.defs (F := Ideal)) (onTc (τ := Cert.KernelNormIdeal.τ) (Cert.KernelNormIdeal.main (F := Ideal))) ⟨m, fun _ => 0, g⟩ (fun r => (∀ c : Dev Cert.KernelNormIdeal.nD,
      r.2.mem ((c.tc : Thread Cert.KernelNormIdeal.nD Cert.KernelNormIdeal.τ).loc Cert.KernelNormIdeal.main_arg0) = m ((c.tc : Thread Cert.KernelNormIdeal.nD Cert.KernelNormIdeal.τ).loc Cert.KernelNormIdeal.main_arg0)
      ∧ r.2.mem ((c.tc : Thread Cert.KernelNormIdeal.nD Cert.KernelNormIdeal.τ).loc Cert.KernelNormIdeal.main_arg1) = m ((c.tc : Thread Cert.KernelNormIdeal.nD Cert.KernelNormIdeal.τ).loc Cert.KernelNormIdeal.main_arg1)
      ∧ r.2.mem ((c.tc : Thread Cert.KernelNormIdeal.nD Cert.KernelNormIdeal.τ).loc Cert.KernelNormIdeal.main_arg2) = m ((c.tc : Thread Cert.KernelNormIdeal.nD Cert.KernelNormIdeal.τ).loc Cert.KernelNormIdeal.main_arg2))
      ∧ r.2.sem = fun _ => 0)

def quiescent_ReferenceNormIdeal [hReferenceNormIdeal : Cert.ReferenceNormIdeal.Facts] : Prop :=
  ∀ (m : (ℓ : Loc Cert.ReferenceNormIdeal.nD Cert.ReferenceNormIdeal.τ Cert.ReferenceNormIdeal.sig) → Buf (Elt Ideal) ℓ) (g : Dev Cert.ReferenceNormIdeal.nD → PrngReg), Pre_ReferenceNormIdeal m →
    θ_run (Cert.ReferenceNormIdeal.defs (F := Ideal)) (onTc (τ := Cert.ReferenceNormIdeal.τ) (Cert.ReferenceNormIdeal.main (F := Ideal))) ⟨m, fun _ => 0, g⟩ (fun r => (∀ c : Dev Cert.ReferenceNormIdeal.nD,
      r.2.mem ((c.tc : Thread Cert.ReferenceNormIdeal.nD Cert.ReferenceNormIdeal.τ).loc Cert.ReferenceNormIdeal.main_arg0) = m ((c.tc : Thread Cert.ReferenceNormIdeal.nD Cert.ReferenceNormIdeal.τ).loc Cert.ReferenceNormIdeal.main_arg0)
      ∧ r.2.mem ((c.tc : Thread Cert.ReferenceNormIdeal.nD Cert.ReferenceNormIdeal.τ).loc Cert.ReferenceNormIdeal.main_arg1) = m ((c.tc : Thread Cert.ReferenceNormIdeal.nD Cert.ReferenceNormIdeal.τ).loc Cert.ReferenceNormIdeal.main_arg1)
      ∧ r.2.mem ((c.tc : Thread Cert.ReferenceNormIdeal.nD Cert.ReferenceNormIdeal.τ).loc Cert.ReferenceNormIdeal.main_arg2) = m ((c.tc : Thread Cert.ReferenceNormIdeal.nD Cert.ReferenceNormIdeal.τ).loc Cert.ReferenceNormIdeal.main_arg2))
      ∧ r.2.sem = fun _ => 0)

def quiescent_KernelHead [hKernelHead : Cert.KernelHead.Facts] : Prop :=
  ∀ (m : (ℓ : Loc Cert.KernelHead.nD Cert.KernelHead.τ Cert.KernelHead.sig) → Buf (Elt Bits) ℓ) (g : Dev Cert.KernelHead.nD → PrngReg), Pre_KernelHead m →
    θ_run (Cert.KernelHead.defs (F := Bits)) (onTc (τ := Cert.KernelHead.τ) (Cert.KernelHead.main (F := Bits))) ⟨m, fun _ => 0, g⟩ (fun r => (∀ c : Dev Cert.KernelHead.nD,
      r.2.mem ((c.tc : Thread Cert.KernelHead.nD Cert.KernelHead.τ).loc Cert.KernelHead.main_arg0) = m ((c.tc : Thread Cert.KernelHead.nD Cert.KernelHead.τ).loc Cert.KernelHead.main_arg0)
      ∧ r.2.mem ((c.tc : Thread Cert.KernelHead.nD Cert.KernelHead.τ).loc Cert.KernelHead.main_arg1) = m ((c.tc : Thread Cert.KernelHead.nD Cert.KernelHead.τ).loc Cert.KernelHead.main_arg1)
      ∧ r.2.mem ((c.tc : Thread Cert.KernelHead.nD Cert.KernelHead.τ).loc Cert.KernelHead.main_arg2) = m ((c.tc : Thread Cert.KernelHead.nD Cert.KernelHead.τ).loc Cert.KernelHead.main_arg2)
      ∧ r.2.mem ((c.tc : Thread Cert.KernelHead.nD Cert.KernelHead.τ).loc Cert.KernelHead.main_arg3) = m ((c.tc : Thread Cert.KernelHead.nD Cert.KernelHead.τ).loc Cert.KernelHead.main_arg3))
      ∧ r.2.sem = fun _ => 0)

def quiescent_KernelHeadIdeal [hKernelHeadIdeal : Cert.KernelHeadIdeal.Facts] : Prop :=
  ∀ (m : (ℓ : Loc Cert.KernelHeadIdeal.nD Cert.KernelHeadIdeal.τ Cert.KernelHeadIdeal.sig) → Buf (Elt Ideal) ℓ) (g : Dev Cert.KernelHeadIdeal.nD → PrngReg), Pre_KernelHeadIdeal m →
    θ_run (Cert.KernelHeadIdeal.defs (F := Ideal)) (onTc (τ := Cert.KernelHeadIdeal.τ) (Cert.KernelHeadIdeal.main (F := Ideal))) ⟨m, fun _ => 0, g⟩ (fun r => (∀ c : Dev Cert.KernelHeadIdeal.nD,
      r.2.mem ((c.tc : Thread Cert.KernelHeadIdeal.nD Cert.KernelHeadIdeal.τ).loc Cert.KernelHeadIdeal.main_arg0) = m ((c.tc : Thread Cert.KernelHeadIdeal.nD Cert.KernelHeadIdeal.τ).loc Cert.KernelHeadIdeal.main_arg0)
      ∧ r.2.mem ((c.tc : Thread Cert.KernelHeadIdeal.nD Cert.KernelHeadIdeal.τ).loc Cert.KernelHeadIdeal.main_arg1) = m ((c.tc : Thread Cert.KernelHeadIdeal.nD Cert.KernelHeadIdeal.τ).loc Cert.KernelHeadIdeal.main_arg1)
      ∧ r.2.mem ((c.tc : Thread Cert.KernelHeadIdeal.nD Cert.KernelHeadIdeal.τ).loc Cert.KernelHeadIdeal.main_arg2) = m ((c.tc : Thread Cert.KernelHeadIdeal.nD Cert.KernelHeadIdeal.τ).loc Cert.KernelHeadIdeal.main_arg2)
      ∧ r.2.mem ((c.tc : Thread Cert.KernelHeadIdeal.nD Cert.KernelHeadIdeal.τ).loc Cert.KernelHeadIdeal.main_arg3) = m ((c.tc : Thread Cert.KernelHeadIdeal.nD Cert.KernelHeadIdeal.τ).loc Cert.KernelHeadIdeal.main_arg3))
      ∧ r.2.sem = fun _ => 0)

def quiescent_ReferenceHeadIdeal [hReferenceHeadIdeal : Cert.ReferenceHeadIdeal.Facts] : Prop :=
  ∀ (m : (ℓ : Loc Cert.ReferenceHeadIdeal.nD Cert.ReferenceHeadIdeal.τ Cert.ReferenceHeadIdeal.sig) → Buf (Elt Ideal) ℓ) (g : Dev Cert.ReferenceHeadIdeal.nD → PrngReg), Pre_ReferenceHeadIdeal m →
    θ_run (Cert.ReferenceHeadIdeal.defs (F := Ideal)) (onTc (τ := Cert.ReferenceHeadIdeal.τ) (Cert.ReferenceHeadIdeal.main (F := Ideal))) ⟨m, fun _ => 0, g⟩ (fun r => (∀ c : Dev Cert.ReferenceHeadIdeal.nD,
      r.2.mem ((c.tc : Thread Cert.ReferenceHeadIdeal.nD Cert.ReferenceHeadIdeal.τ).loc Cert.ReferenceHeadIdeal.main_arg0) = m ((c.tc : Thread Cert.ReferenceHeadIdeal.nD Cert.ReferenceHeadIdeal.τ).loc Cert.ReferenceHeadIdeal.main_arg0)
      ∧ r.2.mem ((c.tc : Thread Cert.ReferenceHeadIdeal.nD Cert.ReferenceHeadIdeal.τ).loc Cert.ReferenceHeadIdeal.main_arg1) = m ((c.tc : Thread Cert.ReferenceHeadIdeal.nD Cert.ReferenceHeadIdeal.τ).loc Cert.ReferenceHeadIdeal.main_arg1)
      ∧ r.2.mem ((c.tc : Thread Cert.ReferenceHeadIdeal.nD Cert.ReferenceHeadIdeal.τ).loc Cert.ReferenceHeadIdeal.main_arg2) = m ((c.tc : Thread Cert.ReferenceHeadIdeal.nD Cert.ReferenceHeadIdeal.τ).loc Cert.ReferenceHeadIdeal.main_arg2)
      ∧ r.2.mem ((c.tc : Thread Cert.ReferenceHeadIdeal.nD Cert.ReferenceHeadIdeal.τ).loc Cert.ReferenceHeadIdeal.main_arg3) = m ((c.tc : Thread Cert.ReferenceHeadIdeal.nD Cert.ReferenceHeadIdeal.τ).loc Cert.ReferenceHeadIdeal.main_arg3))
      ∧ r.2.sem = fun _ => 0)

def quiescent_KernelLastPrompt [hKernelLastPrompt : Cert.KernelLastPrompt.Facts] : Prop :=
  ∀ (m : (ℓ : Loc Cert.KernelLastPrompt.nD Cert.KernelLastPrompt.τ Cert.KernelLastPrompt.sig) → Buf (Elt Bits) ℓ) (g : Dev Cert.KernelLastPrompt.nD → PrngReg), Pre_KernelLastPrompt m →
    θ_run (Cert.KernelLastPrompt.defs (F := Bits)) (onTc (τ := Cert.KernelLastPrompt.τ) (Cert.KernelLastPrompt.main (F := Bits))) ⟨m, fun _ => 0, g⟩ (fun r => (∀ c : Dev Cert.KernelLastPrompt.nD,
      r.2.mem ((c.tc : Thread Cert.KernelLastPrompt.nD Cert.KernelLastPrompt.τ).loc Cert.KernelLastPrompt.main_arg0) = m ((c.tc : Thread Cert.KernelLastPrompt.nD Cert.KernelLastPrompt.τ).loc Cert.KernelLastPrompt.main_arg0)
      ∧ r.2.mem ((c.tc : Thread Cert.KernelLastPrompt.nD Cert.KernelLastPrompt.τ).loc Cert.KernelLastPrompt.main_arg1) = m ((c.tc : Thread Cert.KernelLastPrompt.nD Cert.KernelLastPrompt.τ).loc Cert.KernelLastPrompt.main_arg1))
      ∧ r.2.sem = fun _ => 0)

def quiescent_KernelLastPromptIdeal [hKernelLastPromptIdeal : Cert.KernelLastPromptIdeal.Facts] : Prop :=
  ∀ (m : (ℓ : Loc Cert.KernelLastPromptIdeal.nD Cert.KernelLastPromptIdeal.τ Cert.KernelLastPromptIdeal.sig) → Buf (Elt Ideal) ℓ) (g : Dev Cert.KernelLastPromptIdeal.nD → PrngReg), Pre_KernelLastPromptIdeal m →
    θ_run (Cert.KernelLastPromptIdeal.defs (F := Ideal)) (onTc (τ := Cert.KernelLastPromptIdeal.τ) (Cert.KernelLastPromptIdeal.main (F := Ideal))) ⟨m, fun _ => 0, g⟩ (fun r => (∀ c : Dev Cert.KernelLastPromptIdeal.nD,
      r.2.mem ((c.tc : Thread Cert.KernelLastPromptIdeal.nD Cert.KernelLastPromptIdeal.τ).loc Cert.KernelLastPromptIdeal.main_arg0) = m ((c.tc : Thread Cert.KernelLastPromptIdeal.nD Cert.KernelLastPromptIdeal.τ).loc Cert.KernelLastPromptIdeal.main_arg0)
      ∧ r.2.mem ((c.tc : Thread Cert.KernelLastPromptIdeal.nD Cert.KernelLastPromptIdeal.τ).loc Cert.KernelLastPromptIdeal.main_arg1) = m ((c.tc : Thread Cert.KernelLastPromptIdeal.nD Cert.KernelLastPromptIdeal.τ).loc Cert.KernelLastPromptIdeal.main_arg1))
      ∧ r.2.sem = fun _ => 0)

def quiescent_ReferenceLastPromptIdeal [hReferenceLastPromptIdeal : Cert.ReferenceLastPromptIdeal.Facts] : Prop :=
  ∀ (m : (ℓ : Loc Cert.ReferenceLastPromptIdeal.nD Cert.ReferenceLastPromptIdeal.τ Cert.ReferenceLastPromptIdeal.sig) → Buf (Elt Ideal) ℓ) (g : Dev Cert.ReferenceLastPromptIdeal.nD → PrngReg), Pre_ReferenceLastPromptIdeal m →
    θ_run (Cert.ReferenceLastPromptIdeal.defs (F := Ideal)) (onTc (τ := Cert.ReferenceLastPromptIdeal.τ) (Cert.ReferenceLastPromptIdeal.main (F := Ideal))) ⟨m, fun _ => 0, g⟩ (fun r => (∀ c : Dev Cert.ReferenceLastPromptIdeal.nD,
      r.2.mem ((c.tc : Thread Cert.ReferenceLastPromptIdeal.nD Cert.ReferenceLastPromptIdeal.τ).loc Cert.ReferenceLastPromptIdeal.main_arg0) = m ((c.tc : Thread Cert.ReferenceLastPromptIdeal.nD Cert.ReferenceLastPromptIdeal.τ).loc Cert.ReferenceLastPromptIdeal.main_arg0)
      ∧ r.2.mem ((c.tc : Thread Cert.ReferenceLastPromptIdeal.nD Cert.ReferenceLastPromptIdeal.τ).loc Cert.ReferenceLastPromptIdeal.main_arg1) = m ((c.tc : Thread Cert.ReferenceLastPromptIdeal.nD Cert.ReferenceLastPromptIdeal.τ).loc Cert.ReferenceLastPromptIdeal.main_arg1))
      ∧ r.2.sem = fun _ => 0)

def quiescent_KernelLastSample [hKernelLastSample : Cert.KernelLastSample.Facts] : Prop :=
  ∀ (m : (ℓ : Loc Cert.KernelLastSample.nD Cert.KernelLastSample.τ Cert.KernelLastSample.sig) → Buf (Elt Bits) ℓ) (g : Dev Cert.KernelLastSample.nD → PrngReg), Pre_KernelLastSample m →
    θ_run (Cert.KernelLastSample.defs (F := Bits)) (onTc (τ := Cert.KernelLastSample.τ) (Cert.KernelLastSample.main (F := Bits))) ⟨m, fun _ => 0, g⟩ (fun r => (∀ c : Dev Cert.KernelLastSample.nD,
      r.2.mem ((c.tc : Thread Cert.KernelLastSample.nD Cert.KernelLastSample.τ).loc Cert.KernelLastSample.main_arg0) = m ((c.tc : Thread Cert.KernelLastSample.nD Cert.KernelLastSample.τ).loc Cert.KernelLastSample.main_arg0)
      ∧ r.2.mem ((c.tc : Thread Cert.KernelLastSample.nD Cert.KernelLastSample.τ).loc Cert.KernelLastSample.main_arg1) = m ((c.tc : Thread Cert.KernelLastSample.nD Cert.KernelLastSample.τ).loc Cert.KernelLastSample.main_arg1))
      ∧ r.2.sem = fun _ => 0)

def quiescent_KernelLastSampleIdeal [hKernelLastSampleIdeal : Cert.KernelLastSampleIdeal.Facts] : Prop :=
  ∀ (m : (ℓ : Loc Cert.KernelLastSampleIdeal.nD Cert.KernelLastSampleIdeal.τ Cert.KernelLastSampleIdeal.sig) → Buf (Elt Ideal) ℓ) (g : Dev Cert.KernelLastSampleIdeal.nD → PrngReg), Pre_KernelLastSampleIdeal m →
    θ_run (Cert.KernelLastSampleIdeal.defs (F := Ideal)) (onTc (τ := Cert.KernelLastSampleIdeal.τ) (Cert.KernelLastSampleIdeal.main (F := Ideal))) ⟨m, fun _ => 0, g⟩ (fun r => (∀ c : Dev Cert.KernelLastSampleIdeal.nD,
      r.2.mem ((c.tc : Thread Cert.KernelLastSampleIdeal.nD Cert.KernelLastSampleIdeal.τ).loc Cert.KernelLastSampleIdeal.main_arg0) = m ((c.tc : Thread Cert.KernelLastSampleIdeal.nD Cert.KernelLastSampleIdeal.τ).loc Cert.KernelLastSampleIdeal.main_arg0)
      ∧ r.2.mem ((c.tc : Thread Cert.KernelLastSampleIdeal.nD Cert.KernelLastSampleIdeal.τ).loc Cert.KernelLastSampleIdeal.main_arg1) = m ((c.tc : Thread Cert.KernelLastSampleIdeal.nD Cert.KernelLastSampleIdeal.τ).loc Cert.KernelLastSampleIdeal.main_arg1))
      ∧ r.2.sem = fun _ => 0)

def quiescent_ReferenceLastSampleIdeal [hReferenceLastSampleIdeal : Cert.ReferenceLastSampleIdeal.Facts] : Prop :=
  ∀ (m : (ℓ : Loc Cert.ReferenceLastSampleIdeal.nD Cert.ReferenceLastSampleIdeal.τ Cert.ReferenceLastSampleIdeal.sig) → Buf (Elt Ideal) ℓ) (g : Dev Cert.ReferenceLastSampleIdeal.nD → PrngReg), Pre_ReferenceLastSampleIdeal m →
    θ_run (Cert.ReferenceLastSampleIdeal.defs (F := Ideal)) (onTc (τ := Cert.ReferenceLastSampleIdeal.τ) (Cert.ReferenceLastSampleIdeal.main (F := Ideal))) ⟨m, fun _ => 0, g⟩ (fun r => (∀ c : Dev Cert.ReferenceLastSampleIdeal.nD,
      r.2.mem ((c.tc : Thread Cert.ReferenceLastSampleIdeal.nD Cert.ReferenceLastSampleIdeal.τ).loc Cert.ReferenceLastSampleIdeal.main_arg0) = m ((c.tc : Thread Cert.ReferenceLastSampleIdeal.nD Cert.ReferenceLastSampleIdeal.τ).loc Cert.ReferenceLastSampleIdeal.main_arg0)
      ∧ r.2.mem ((c.tc : Thread Cert.ReferenceLastSampleIdeal.nD Cert.ReferenceLastSampleIdeal.τ).loc Cert.ReferenceLastSampleIdeal.main_arg1) = m ((c.tc : Thread Cert.ReferenceLastSampleIdeal.nD Cert.ReferenceLastSampleIdeal.τ).loc Cert.ReferenceLastSampleIdeal.main_arg1))
      ∧ r.2.sem = fun _ => 0)

def quiescent_KernelMods [hKernelMods : Cert.KernelMods.Facts] : Prop :=
  ∀ (m : (ℓ : Loc Cert.KernelMods.nD Cert.KernelMods.τ Cert.KernelMods.sig) → Buf (Elt Bits) ℓ) (g : Dev Cert.KernelMods.nD → PrngReg), Pre_KernelMods m →
    θ_run (Cert.KernelMods.defs (F := Bits)) (onTc (τ := Cert.KernelMods.τ) (Cert.KernelMods.main (F := Bits))) ⟨m, fun _ => 0, g⟩ (fun r => (∀ c : Dev Cert.KernelMods.nD,
      r.2.mem ((c.tc : Thread Cert.KernelMods.nD Cert.KernelMods.τ).loc Cert.KernelMods.main_arg0) = m ((c.tc : Thread Cert.KernelMods.nD Cert.KernelMods.τ).loc Cert.KernelMods.main_arg0)
      ∧ r.2.mem ((c.tc : Thread Cert.KernelMods.nD Cert.KernelMods.τ).loc Cert.KernelMods.main_arg1) = m ((c.tc : Thread Cert.KernelMods.nD Cert.KernelMods.τ).loc Cert.KernelMods.main_arg1)
      ∧ r.2.mem ((c.tc : Thread Cert.KernelMods.nD Cert.KernelMods.τ).loc Cert.KernelMods.main_arg2) = m ((c.tc : Thread Cert.KernelMods.nD Cert.KernelMods.τ).loc Cert.KernelMods.main_arg2))
      ∧ r.2.sem = fun _ => 0)

def quiescent_KernelModsIdeal [hKernelModsIdeal : Cert.KernelModsIdeal.Facts] : Prop :=
  ∀ (m : (ℓ : Loc Cert.KernelModsIdeal.nD Cert.KernelModsIdeal.τ Cert.KernelModsIdeal.sig) → Buf (Elt Ideal) ℓ) (g : Dev Cert.KernelModsIdeal.nD → PrngReg), Pre_KernelModsIdeal m →
    θ_run (Cert.KernelModsIdeal.defs (F := Ideal)) (onTc (τ := Cert.KernelModsIdeal.τ) (Cert.KernelModsIdeal.main (F := Ideal))) ⟨m, fun _ => 0, g⟩ (fun r => (∀ c : Dev Cert.KernelModsIdeal.nD,
      r.2.mem ((c.tc : Thread Cert.KernelModsIdeal.nD Cert.KernelModsIdeal.τ).loc Cert.KernelModsIdeal.main_arg0) = m ((c.tc : Thread Cert.KernelModsIdeal.nD Cert.KernelModsIdeal.τ).loc Cert.KernelModsIdeal.main_arg0)
      ∧ r.2.mem ((c.tc : Thread Cert.KernelModsIdeal.nD Cert.KernelModsIdeal.τ).loc Cert.KernelModsIdeal.main_arg1) = m ((c.tc : Thread Cert.KernelModsIdeal.nD Cert.KernelModsIdeal.τ).loc Cert.KernelModsIdeal.main_arg1)
      ∧ r.2.mem ((c.tc : Thread Cert.KernelModsIdeal.nD Cert.KernelModsIdeal.τ).loc Cert.KernelModsIdeal.main_arg2) = m ((c.tc : Thread Cert.KernelModsIdeal.nD Cert.KernelModsIdeal.τ).loc Cert.KernelModsIdeal.main_arg2))
      ∧ r.2.sem = fun _ => 0)

def quiescent_ReferenceModsIdeal [hReferenceModsIdeal : Cert.ReferenceModsIdeal.Facts] : Prop :=
  ∀ (m : (ℓ : Loc Cert.ReferenceModsIdeal.nD Cert.ReferenceModsIdeal.τ Cert.ReferenceModsIdeal.sig) → Buf (Elt Ideal) ℓ) (g : Dev Cert.ReferenceModsIdeal.nD → PrngReg), Pre_ReferenceModsIdeal m →
    θ_run (Cert.ReferenceModsIdeal.defs (F := Ideal)) (onTc (τ := Cert.ReferenceModsIdeal.τ) (Cert.ReferenceModsIdeal.main (F := Ideal))) ⟨m, fun _ => 0, g⟩ (fun r => (∀ c : Dev Cert.ReferenceModsIdeal.nD,
      r.2.mem ((c.tc : Thread Cert.ReferenceModsIdeal.nD Cert.ReferenceModsIdeal.τ).loc Cert.ReferenceModsIdeal.main_arg0) = m ((c.tc : Thread Cert.ReferenceModsIdeal.nD Cert.ReferenceModsIdeal.τ).loc Cert.ReferenceModsIdeal.main_arg0)
      ∧ r.2.mem ((c.tc : Thread Cert.ReferenceModsIdeal.nD Cert.ReferenceModsIdeal.τ).loc Cert.ReferenceModsIdeal.main_arg1) = m ((c.tc : Thread Cert.ReferenceModsIdeal.nD Cert.ReferenceModsIdeal.τ).loc Cert.ReferenceModsIdeal.main_arg1)
      ∧ r.2.mem ((c.tc : Thread Cert.ReferenceModsIdeal.nD Cert.ReferenceModsIdeal.τ).loc Cert.ReferenceModsIdeal.main_arg2) = m ((c.tc : Thread Cert.ReferenceModsIdeal.nD Cert.ReferenceModsIdeal.τ).loc Cert.ReferenceModsIdeal.main_arg2))
      ∧ r.2.sem = fun _ => 0)

def quiescent_KernelEmbed [hKernelEmbed : Cert.KernelEmbed.Facts] : Prop :=
  ∀ (m : (ℓ : Loc Cert.KernelEmbed.nD Cert.KernelEmbed.τ Cert.KernelEmbed.sig) → Buf (Elt Bits) ℓ) (g : Dev Cert.KernelEmbed.nD → PrngReg), Pre_KernelEmbed m →
    θ_run (Cert.KernelEmbed.defs (F := Bits)) (onTc (τ := Cert.KernelEmbed.τ) (Cert.KernelEmbed.main (F := Bits))) ⟨m, fun _ => 0, g⟩ (fun r => (∀ c : Dev Cert.KernelEmbed.nD,
      r.2.mem ((c.tc : Thread Cert.KernelEmbed.nD Cert.KernelEmbed.τ).loc Cert.KernelEmbed.main_arg0) = m ((c.tc : Thread Cert.KernelEmbed.nD Cert.KernelEmbed.τ).loc Cert.KernelEmbed.main_arg0)
      ∧ r.2.mem ((c.tc : Thread Cert.KernelEmbed.nD Cert.KernelEmbed.τ).loc Cert.KernelEmbed.main_arg1) = m ((c.tc : Thread Cert.KernelEmbed.nD Cert.KernelEmbed.τ).loc Cert.KernelEmbed.main_arg1)
      ∧ r.2.mem ((c.tc : Thread Cert.KernelEmbed.nD Cert.KernelEmbed.τ).loc Cert.KernelEmbed.main_arg2) = m ((c.tc : Thread Cert.KernelEmbed.nD Cert.KernelEmbed.τ).loc Cert.KernelEmbed.main_arg2))
      ∧ r.2.sem = fun _ => 0)

def quiescent_KernelEmbedIdeal [hKernelEmbedIdeal : Cert.KernelEmbedIdeal.Facts] : Prop :=
  ∀ (m : (ℓ : Loc Cert.KernelEmbedIdeal.nD Cert.KernelEmbedIdeal.τ Cert.KernelEmbedIdeal.sig) → Buf (Elt Ideal) ℓ) (g : Dev Cert.KernelEmbedIdeal.nD → PrngReg), Pre_KernelEmbedIdeal m →
    θ_run (Cert.KernelEmbedIdeal.defs (F := Ideal)) (onTc (τ := Cert.KernelEmbedIdeal.τ) (Cert.KernelEmbedIdeal.main (F := Ideal))) ⟨m, fun _ => 0, g⟩ (fun r => (∀ c : Dev Cert.KernelEmbedIdeal.nD,
      r.2.mem ((c.tc : Thread Cert.KernelEmbedIdeal.nD Cert.KernelEmbedIdeal.τ).loc Cert.KernelEmbedIdeal.main_arg0) = m ((c.tc : Thread Cert.KernelEmbedIdeal.nD Cert.KernelEmbedIdeal.τ).loc Cert.KernelEmbedIdeal.main_arg0)
      ∧ r.2.mem ((c.tc : Thread Cert.KernelEmbedIdeal.nD Cert.KernelEmbedIdeal.τ).loc Cert.KernelEmbedIdeal.main_arg1) = m ((c.tc : Thread Cert.KernelEmbedIdeal.nD Cert.KernelEmbedIdeal.τ).loc Cert.KernelEmbedIdeal.main_arg1)
      ∧ r.2.mem ((c.tc : Thread Cert.KernelEmbedIdeal.nD Cert.KernelEmbedIdeal.τ).loc Cert.KernelEmbedIdeal.main_arg2) = m ((c.tc : Thread Cert.KernelEmbedIdeal.nD Cert.KernelEmbedIdeal.τ).loc Cert.KernelEmbedIdeal.main_arg2))
      ∧ r.2.sem = fun _ => 0)

def quiescent_ReferenceEmbedIdeal [hReferenceEmbedIdeal : Cert.ReferenceEmbedIdeal.Facts] : Prop :=
  ∀ (m : (ℓ : Loc Cert.ReferenceEmbedIdeal.nD Cert.ReferenceEmbedIdeal.τ Cert.ReferenceEmbedIdeal.sig) → Buf (Elt Ideal) ℓ) (g : Dev Cert.ReferenceEmbedIdeal.nD → PrngReg), Pre_ReferenceEmbedIdeal m →
    θ_run (Cert.ReferenceEmbedIdeal.defs (F := Ideal)) (onTc (τ := Cert.ReferenceEmbedIdeal.τ) (Cert.ReferenceEmbedIdeal.main (F := Ideal))) ⟨m, fun _ => 0, g⟩ (fun r => (∀ c : Dev Cert.ReferenceEmbedIdeal.nD,
      r.2.mem ((c.tc : Thread Cert.ReferenceEmbedIdeal.nD Cert.ReferenceEmbedIdeal.τ).loc Cert.ReferenceEmbedIdeal.main_arg0) = m ((c.tc : Thread Cert.ReferenceEmbedIdeal.nD Cert.ReferenceEmbedIdeal.τ).loc Cert.ReferenceEmbedIdeal.main_arg0)
      ∧ r.2.mem ((c.tc : Thread Cert.ReferenceEmbedIdeal.nD Cert.ReferenceEmbedIdeal.τ).loc Cert.ReferenceEmbedIdeal.main_arg1) = m ((c.tc : Thread Cert.ReferenceEmbedIdeal.nD Cert.ReferenceEmbedIdeal.τ).loc Cert.ReferenceEmbedIdeal.main_arg1)
      ∧ r.2.mem ((c.tc : Thread Cert.ReferenceEmbedIdeal.nD Cert.ReferenceEmbedIdeal.τ).loc Cert.ReferenceEmbedIdeal.main_arg2) = m ((c.tc : Thread Cert.ReferenceEmbedIdeal.nD Cert.ReferenceEmbedIdeal.τ).loc Cert.ReferenceEmbedIdeal.main_arg2))
      ∧ r.2.sem = fun _ => 0)

def preserves_KernelScan_KernelScanIdeal : Prop :=
  True

def algebraic_KernelScanIdeal_ReferenceScanIdeal_on_prompt_rows_pre_finite [hKernelScanIdeal : Cert.KernelScanIdeal.Facts] [hReferenceScanIdeal : Cert.ReferenceScanIdeal.Facts] [hPre_finite : Cert.Pre_finite.Facts] [hOn_prompt_rows : Cert.On_prompt_rows.Facts] : Prop :=
  ∀ (m : (ℓ : Loc Cert.KernelScanIdeal.nD Cert.KernelScanIdeal.τ Cert.KernelScanIdeal.sig) → Buf (Elt Ideal) ℓ) (g : Dev Cert.KernelScanIdeal.nD → PrngReg)
    (m' : (ℓ : Loc Cert.ReferenceScanIdeal.nD Cert.ReferenceScanIdeal.τ Cert.ReferenceScanIdeal.sig) → Buf (Elt Ideal) ℓ) (g' : Dev Cert.ReferenceScanIdeal.nD → PrngReg), Pre_KernelScanIdeal_finite m →
    (∀ c : Dev Cert.KernelScanIdeal.nD,
      m' ((c.tc : Thread Cert.ReferenceScanIdeal.nD Cert.ReferenceScanIdeal.τ).loc Cert.ReferenceScanIdeal.main_arg0) = m ((c.tc : Thread Cert.KernelScanIdeal.nD Cert.KernelScanIdeal.τ).loc Cert.KernelScanIdeal.main_arg0)
      ∧ m' ((c.tc : Thread Cert.ReferenceScanIdeal.nD Cert.ReferenceScanIdeal.τ).loc Cert.ReferenceScanIdeal.main_arg1) = m ((c.tc : Thread Cert.KernelScanIdeal.nD Cert.KernelScanIdeal.τ).loc Cert.KernelScanIdeal.main_arg1)
      ∧ m' ((c.tc : Thread Cert.ReferenceScanIdeal.nD Cert.ReferenceScanIdeal.τ).loc Cert.ReferenceScanIdeal.main_arg2) = m ((c.tc : Thread Cert.KernelScanIdeal.nD Cert.KernelScanIdeal.τ).loc Cert.KernelScanIdeal.main_arg2)
      ∧ m' ((c.tc : Thread Cert.ReferenceScanIdeal.nD Cert.ReferenceScanIdeal.τ).loc Cert.ReferenceScanIdeal.main_arg3) = m ((c.tc : Thread Cert.KernelScanIdeal.nD Cert.KernelScanIdeal.τ).loc Cert.KernelScanIdeal.main_arg3)
      ∧ m' ((c.tc : Thread Cert.ReferenceScanIdeal.nD Cert.ReferenceScanIdeal.τ).loc Cert.ReferenceScanIdeal.main_arg4) = m ((c.tc : Thread Cert.KernelScanIdeal.nD Cert.KernelScanIdeal.τ).loc Cert.KernelScanIdeal.main_arg4)
      ∧ m' ((c.tc : Thread Cert.ReferenceScanIdeal.nD Cert.ReferenceScanIdeal.τ).loc Cert.ReferenceScanIdeal.main_arg5) = m ((c.tc : Thread Cert.KernelScanIdeal.nD Cert.KernelScanIdeal.τ).loc Cert.KernelScanIdeal.main_arg5)) →
    ∃ (v0 : (c : Dev Cert.KernelScanIdeal.nD) → Buf (Elt Ideal) ((c.tc : Thread Cert.KernelScanIdeal.nD Cert.KernelScanIdeal.τ).loc Cert.KernelScanIdeal.main_v106_0)) (v1 : (c : Dev Cert.KernelScanIdeal.nD) → Buf (Elt Ideal) ((c.tc : Thread Cert.KernelScanIdeal.nD Cert.KernelScanIdeal.τ).loc Cert.KernelScanIdeal.main_v106_1)) (v2 : (c : Dev Cert.KernelScanIdeal.nD) → Buf (Elt Ideal) ((c.tc : Thread Cert.KernelScanIdeal.nD Cert.KernelScanIdeal.τ).loc Cert.KernelScanIdeal.main_v106_2)) (v3 : (c : Dev Cert.KernelScanIdeal.nD) → Buf (Elt Ideal) ((c.tc : Thread Cert.KernelScanIdeal.nD Cert.KernelScanIdeal.τ).loc Cert.KernelScanIdeal.main_v106_3)),
      θ_run (Cert.KernelScanIdeal.defs (F := Ideal)) (onTc (τ := Cert.KernelScanIdeal.τ) (Cert.KernelScanIdeal.main (F := Ideal))) ⟨m, fun _ => 0, g⟩ (fun r => ∀ c : Dev Cert.KernelScanIdeal.nD,
          (∀ i : (⟨2, ![24576, 4096]⟩ : Shape).Idx, (Cert.On_prompt_rows.fn (F := Ideal) (m ((c.tc : Thread Cert.KernelScanIdeal.nD Cert.KernelScanIdeal.τ).loc Cert.KernelScanIdeal.main_arg0)) (m ((c.tc : Thread Cert.KernelScanIdeal.nD Cert.KernelScanIdeal.τ).loc Cert.KernelScanIdeal.main_arg1)) (m ((c.tc : Thread Cert.KernelScanIdeal.nD Cert.KernelScanIdeal.τ).loc Cert.KernelScanIdeal.main_arg2)) (m ((c.tc : Thread Cert.KernelScanIdeal.nD Cert.KernelScanIdeal.τ).loc Cert.KernelScanIdeal.main_arg3)) (m ((c.tc : Thread Cert.KernelScanIdeal.nD Cert.KernelScanIdeal.τ).loc Cert.KernelScanIdeal.main_arg4)) (m ((c.tc : Thread Cert.KernelScanIdeal.nD Cert.KernelScanIdeal.τ).loc Cert.KernelScanIdeal.main_arg5))).1 i = 1#1 → r.2.mem ((c.tc : Thread Cert.KernelScanIdeal.nD Cert.KernelScanIdeal.τ).loc Cert.KernelScanIdeal.main_v106_0) i = v0 c i)
          ∧ (∀ i : (⟨2, ![24576, 4096]⟩ : Shape).Idx, (Cert.On_prompt_rows.fn (F := Ideal) (m ((c.tc : Thread Cert.KernelScanIdeal.nD Cert.KernelScanIdeal.τ).loc Cert.KernelScanIdeal.main_arg0)) (m ((c.tc : Thread Cert.KernelScanIdeal.nD Cert.KernelScanIdeal.τ).loc Cert.KernelScanIdeal.main_arg1)) (m ((c.tc : Thread Cert.KernelScanIdeal.nD Cert.KernelScanIdeal.τ).loc Cert.KernelScanIdeal.main_arg2)) (m ((c.tc : Thread Cert.KernelScanIdeal.nD Cert.KernelScanIdeal.τ).loc Cert.KernelScanIdeal.main_arg3)) (m ((c.tc : Thread Cert.KernelScanIdeal.nD Cert.KernelScanIdeal.τ).loc Cert.KernelScanIdeal.main_arg4)) (m ((c.tc : Thread Cert.KernelScanIdeal.nD Cert.KernelScanIdeal.τ).loc Cert.KernelScanIdeal.main_arg5))).2.1 i = 1#1 → r.2.mem ((c.tc : Thread Cert.KernelScanIdeal.nD Cert.KernelScanIdeal.τ).loc Cert.KernelScanIdeal.main_v106_1) i = v1 c i)
          ∧ (∀ i : (⟨4, ![32, 8, 256, 512]⟩ : Shape).Idx, (Cert.On_prompt_rows.fn (F := Ideal) (m ((c.tc : Thread Cert.KernelScanIdeal.nD Cert.KernelScanIdeal.τ).loc Cert.KernelScanIdeal.main_arg0)) (m ((c.tc : Thread Cert.KernelScanIdeal.nD Cert.KernelScanIdeal.τ).loc Cert.KernelScanIdeal.main_arg1)) (m ((c.tc : Thread Cert.KernelScanIdeal.nD Cert.KernelScanIdeal.τ).loc Cert.KernelScanIdeal.main_arg2)) (m ((c.tc : Thread Cert.KernelScanIdeal.nD Cert.KernelScanIdeal.τ).loc Cert.KernelScanIdeal.main_arg3)) (m ((c.tc : Thread Cert.KernelScanIdeal.nD Cert.KernelScanIdeal.τ).loc Cert.KernelScanIdeal.main_arg4)) (m ((c.tc : Thread Cert.KernelScanIdeal.nD Cert.KernelScanIdeal.τ).loc Cert.KernelScanIdeal.main_arg5))).2.2.1 i = 1#1 → r.2.mem ((c.tc : Thread Cert.KernelScanIdeal.nD Cert.KernelScanIdeal.τ).loc Cert.KernelScanIdeal.main_v106_2) i = v2 c i)
          ∧ (∀ i : (⟨4, ![32, 8, 256, 512]⟩ : Shape).Idx, (Cert.On_prompt_rows.fn (F := Ideal) (m ((c.tc : Thread Cert.KernelScanIdeal.nD Cert.KernelScanIdeal.τ).loc Cert.KernelScanIdeal.main_arg0)) (m ((c.tc : Thread Cert.KernelScanIdeal.nD Cert.KernelScanIdeal.τ).loc Cert.KernelScanIdeal.main_arg1)) (m ((c.tc : Thread Cert.KernelScanIdeal.nD Cert.KernelScanIdeal.τ).loc Cert.KernelScanIdeal.main_arg2)) (m ((c.tc : Thread Cert.KernelScanIdeal.nD Cert.KernelScanIdeal.τ).loc Cert.KernelScanIdeal.main_arg3)) (m ((c.tc : Thread Cert.KernelScanIdeal.nD Cert.KernelScanIdeal.τ).loc Cert.KernelScanIdeal.main_arg4)) (m ((c.tc : Thread Cert.KernelScanIdeal.nD Cert.KernelScanIdeal.τ).loc Cert.KernelScanIdeal.main_arg5))).2.2.2 i = 1#1 → r.2.mem ((c.tc : Thread Cert.KernelScanIdeal.nD Cert.KernelScanIdeal.τ).loc Cert.KernelScanIdeal.main_v106_3) i = v3 c i)
          ∧ r.2.mem ((c.tc : Thread Cert.KernelScanIdeal.nD Cert.KernelScanIdeal.τ).loc Cert.KernelScanIdeal.main_arg0) = m ((c.tc : Thread Cert.KernelScanIdeal.nD Cert.KernelScanIdeal.τ).loc Cert.KernelScanIdeal.main_arg0)
          ∧ r.2.mem ((c.tc : Thread Cert.KernelScanIdeal.nD Cert.KernelScanIdeal.τ).loc Cert.KernelScanIdeal.main_arg1) = m ((c.tc : Thread Cert.KernelScanIdeal.nD Cert.KernelScanIdeal.τ).loc Cert.KernelScanIdeal.main_arg1)
          ∧ r.2.mem ((c.tc : Thread Cert.KernelScanIdeal.nD Cert.KernelScanIdeal.τ).loc Cert.KernelScanIdeal.main_arg2) = m ((c.tc : Thread Cert.KernelScanIdeal.nD Cert.KernelScanIdeal.τ).loc Cert.KernelScanIdeal.main_arg2)
          ∧ r.2.mem ((c.tc : Thread Cert.KernelScanIdeal.nD Cert.KernelScanIdeal.τ).loc Cert.KernelScanIdeal.main_arg3) = m ((c.tc : Thread Cert.KernelScanIdeal.nD Cert.KernelScanIdeal.τ).loc Cert.KernelScanIdeal.main_arg3)
          ∧ r.2.mem ((c.tc : Thread Cert.KernelScanIdeal.nD Cert.KernelScanIdeal.τ).loc Cert.KernelScanIdeal.main_arg4) = m ((c.tc : Thread Cert.KernelScanIdeal.nD Cert.KernelScanIdeal.τ).loc Cert.KernelScanIdeal.main_arg4)
          ∧ r.2.mem ((c.tc : Thread Cert.KernelScanIdeal.nD Cert.KernelScanIdeal.τ).loc Cert.KernelScanIdeal.main_arg5) = m ((c.tc : Thread Cert.KernelScanIdeal.nD Cert.KernelScanIdeal.τ).loc Cert.KernelScanIdeal.main_arg5))
      ∧ θ_run (Cert.ReferenceScanIdeal.defs (F := Ideal)) (onTc (τ := Cert.ReferenceScanIdeal.τ) (Cert.ReferenceScanIdeal.main (F := Ideal))) ⟨m', fun _ => 0, g'⟩ (fun r => ∀ c : Dev Cert.ReferenceScanIdeal.nD,
          (∀ i : (⟨2, ![24576, 4096]⟩ : Shape).Idx, (Cert.On_prompt_rows.fn (F := Ideal) (m ((c.tc : Thread Cert.KernelScanIdeal.nD Cert.KernelScanIdeal.τ).loc Cert.KernelScanIdeal.main_arg0)) (m ((c.tc : Thread Cert.KernelScanIdeal.nD Cert.KernelScanIdeal.τ).loc Cert.KernelScanIdeal.main_arg1)) (m ((c.tc : Thread Cert.KernelScanIdeal.nD Cert.KernelScanIdeal.τ).loc Cert.KernelScanIdeal.main_arg2)) (m ((c.tc : Thread Cert.KernelScanIdeal.nD Cert.KernelScanIdeal.τ).loc Cert.KernelScanIdeal.main_arg3)) (m ((c.tc : Thread Cert.KernelScanIdeal.nD Cert.KernelScanIdeal.τ).loc Cert.KernelScanIdeal.main_arg4)) (m ((c.tc : Thread Cert.KernelScanIdeal.nD Cert.KernelScanIdeal.τ).loc Cert.KernelScanIdeal.main_arg5))).1 i = 1#1 → r.2.mem ((c.tc : Thread Cert.ReferenceScanIdeal.nD Cert.ReferenceScanIdeal.τ).loc Cert.ReferenceScanIdeal.main_v60) i = v0 c i)
          ∧ (∀ i : (⟨2, ![24576, 4096]⟩ : Shape).Idx, (Cert.On_prompt_rows.fn (F := Ideal) (m ((c.tc : Thread Cert.KernelScanIdeal.nD Cert.KernelScanIdeal.τ).loc Cert.KernelScanIdeal.main_arg0)) (m ((c.tc : Thread Cert.KernelScanIdeal.nD Cert.KernelScanIdeal.τ).loc Cert.KernelScanIdeal.main_arg1)) (m ((c.tc : Thread Cert.KernelScanIdeal.nD Cert.KernelScanIdeal.τ).loc Cert.KernelScanIdeal.main_arg2)) (m ((c.tc : Thread Cert.KernelScanIdeal.nD Cert.KernelScanIdeal.τ).loc Cert.KernelScanIdeal.main_arg3)) (m ((c.tc : Thread Cert.KernelScanIdeal.nD Cert.KernelScanIdeal.τ).loc Cert.KernelScanIdeal.main_arg4)) (m ((c.tc : Thread Cert.KernelScanIdeal.nD Cert.KernelScanIdeal.τ).loc Cert.KernelScanIdeal.main_arg5))).2.1 i = 1#1 → r.2.mem ((c.tc : Thread Cert.ReferenceScanIdeal.nD Cert.ReferenceScanIdeal.τ).loc Cert.ReferenceScanIdeal.main_v61) i = v1 c i)
          ∧ (∀ i : (⟨4, ![32, 8, 256, 512]⟩ : Shape).Idx, (Cert.On_prompt_rows.fn (F := Ideal) (m ((c.tc : Thread Cert.KernelScanIdeal.nD Cert.KernelScanIdeal.τ).loc Cert.KernelScanIdeal.main_arg0)) (m ((c.tc : Thread Cert.KernelScanIdeal.nD Cert.KernelScanIdeal.τ).loc Cert.KernelScanIdeal.main_arg1)) (m ((c.tc : Thread Cert.KernelScanIdeal.nD Cert.KernelScanIdeal.τ).loc Cert.KernelScanIdeal.main_arg2)) (m ((c.tc : Thread Cert.KernelScanIdeal.nD Cert.KernelScanIdeal.τ).loc Cert.KernelScanIdeal.main_arg3)) (m ((c.tc : Thread Cert.KernelScanIdeal.nD Cert.KernelScanIdeal.τ).loc Cert.KernelScanIdeal.main_arg4)) (m ((c.tc : Thread Cert.KernelScanIdeal.nD Cert.KernelScanIdeal.τ).loc Cert.KernelScanIdeal.main_arg5))).2.2.1 i = 1#1 → r.2.mem ((c.tc : Thread Cert.ReferenceScanIdeal.nD Cert.ReferenceScanIdeal.τ).loc Cert.ReferenceScanIdeal.main_v57) i = v2 c i)
          ∧ (∀ i : (⟨4, ![32, 8, 256, 512]⟩ : Shape).Idx, (Cert.On_prompt_rows.fn (F := Ideal) (m ((c.tc : Thread Cert.KernelScanIdeal.nD Cert.KernelScanIdeal.τ).loc Cert.KernelScanIdeal.main_arg0)) (m ((c.tc : Thread Cert.KernelScanIdeal.nD Cert.KernelScanIdeal.τ).loc Cert.KernelScanIdeal.main_arg1)) (m ((c.tc : Thread Cert.KernelScanIdeal.nD Cert.KernelScanIdeal.τ).loc Cert.KernelScanIdeal.main_arg2)) (m ((c.tc : Thread Cert.KernelScanIdeal.nD Cert.KernelScanIdeal.τ).loc Cert.KernelScanIdeal.main_arg3)) (m ((c.tc : Thread Cert.KernelScanIdeal.nD Cert.KernelScanIdeal.τ).loc Cert.KernelScanIdeal.main_arg4)) (m ((c.tc : Thread Cert.KernelScanIdeal.nD Cert.KernelScanIdeal.τ).loc Cert.KernelScanIdeal.main_arg5))).2.2.2 i = 1#1 → r.2.mem ((c.tc : Thread Cert.ReferenceScanIdeal.nD Cert.ReferenceScanIdeal.τ).loc Cert.ReferenceScanIdeal.main_v58) i = v3 c i)
          ∧ r.2.mem ((c.tc : Thread Cert.ReferenceScanIdeal.nD Cert.ReferenceScanIdeal.τ).loc Cert.ReferenceScanIdeal.main_arg0) = m' ((c.tc : Thread Cert.ReferenceScanIdeal.nD Cert.ReferenceScanIdeal.τ).loc Cert.ReferenceScanIdeal.main_arg0)
          ∧ r.2.mem ((c.tc : Thread Cert.ReferenceScanIdeal.nD Cert.ReferenceScanIdeal.τ).loc Cert.ReferenceScanIdeal.main_arg1) = m' ((c.tc : Thread Cert.ReferenceScanIdeal.nD Cert.ReferenceScanIdeal.τ).loc Cert.ReferenceScanIdeal.main_arg1)
          ∧ r.2.mem ((c.tc : Thread Cert.ReferenceScanIdeal.nD Cert.ReferenceScanIdeal.τ).loc Cert.ReferenceScanIdeal.main_arg2) = m' ((c.tc : Thread Cert.ReferenceScanIdeal.nD Cert.ReferenceScanIdeal.τ).loc Cert.ReferenceScanIdeal.main_arg2)
          ∧ r.2.mem ((c.tc : Thread Cert.ReferenceScanIdeal.nD Cert.ReferenceScanIdeal.τ).loc Cert.ReferenceScanIdeal.main_arg3) = m' ((c.tc : Thread Cert.ReferenceScanIdeal.nD Cert.ReferenceScanIdeal.τ).loc Cert.ReferenceScanIdeal.main_arg3)
          ∧ r.2.mem ((c.tc : Thread Cert.ReferenceScanIdeal.nD Cert.ReferenceScanIdeal.τ).loc Cert.ReferenceScanIdeal.main_arg4) = m' ((c.tc : Thread Cert.ReferenceScanIdeal.nD Cert.ReferenceScanIdeal.τ).loc Cert.ReferenceScanIdeal.main_arg4)
          ∧ r.2.mem ((c.tc : Thread Cert.ReferenceScanIdeal.nD Cert.ReferenceScanIdeal.τ).loc Cert.ReferenceScanIdeal.main_arg5) = m' ((c.tc : Thread Cert.ReferenceScanIdeal.nD Cert.ReferenceScanIdeal.τ).loc Cert.ReferenceScanIdeal.main_arg5))

def preserves_KernelUp_KernelUpIdeal : Prop :=
  True

def algebraic_KernelUpIdeal_ReferenceUpIdeal [hKernelUpIdeal : Cert.KernelUpIdeal.Facts] [hReferenceUpIdeal : Cert.ReferenceUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg)
    (m' : (ℓ : Loc Cert.ReferenceUpIdeal.nD Cert.ReferenceUpIdeal.τ Cert.ReferenceUpIdeal.sig) → Buf (Elt Ideal) ℓ) (g' : Dev Cert.ReferenceUpIdeal.nD → PrngReg), Pre_KernelUpIdeal m →
    (∀ c : Dev Cert.KernelUpIdeal.nD,
      m' ((c.tc : Thread Cert.ReferenceUpIdeal.nD Cert.ReferenceUpIdeal.τ).loc Cert.ReferenceUpIdeal.main_arg0) = m ((c.tc : Thread Cert.KernelUpIdeal.nD Cert.KernelUpIdeal.τ).loc Cert.KernelUpIdeal.main_arg0)
      ∧ m' ((c.tc : Thread Cert.ReferenceUpIdeal.nD Cert.ReferenceUpIdeal.τ).loc Cert.ReferenceUpIdeal.main_arg1) = m ((c.tc : Thread Cert.KernelUpIdeal.nD Cert.KernelUpIdeal.τ).loc Cert.KernelUpIdeal.main_arg1)) →
    ∃ (v0 : (c : Dev Cert.KernelUpIdeal.nD) → Buf (Elt Ideal) ((c.tc : Thread Cert.KernelUpIdeal.nD Cert.KernelUpIdeal.τ).loc Cert.KernelUpIdeal.main_v1)),
      θ_run (Cert.KernelUpIdeal.defs (F := Ideal)) (onTc (τ := Cert.KernelUpIdeal.τ) (Cert.KernelUpIdeal.main (F := Ideal))) ⟨m, fun _ => 0, g⟩ (fun r => ∀ c : Dev Cert.KernelUpIdeal.nD,
          r.2.mem ((c.tc : Thread Cert.KernelUpIdeal.nD Cert.KernelUpIdeal.τ).loc Cert.KernelUpIdeal.main_v1) = v0 c
          ∧ r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
          ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1))
      ∧ θ_run (Cert.ReferenceUpIdeal.defs (F := Ideal)) (onTc (τ := Cert.ReferenceUpIdeal.τ) (Cert.ReferenceUpIdeal.main (F := Ideal))) ⟨m', fun _ => 0, g'⟩ (fun r => ∀ c : Dev Cert.ReferenceUpIdeal.nD,
          r.2.mem ((c.tc : Thread Cert.ReferenceUpIdeal.nD Cert.ReferenceUpIdeal.τ).loc Cert.ReferenceUpIdeal.main_v4) = v0 c
          ∧ r.2.mem ((c.tc : Thread Cert.ReferenceUpIdeal.nD Cert.ReferenceUpIdeal.τ).loc Cert.ReferenceUpIdeal.main_arg0) = m' ((c.tc : Thread Cert.ReferenceUpIdeal.nD Cert.ReferenceUpIdeal.τ).loc Cert.ReferenceUpIdeal.main_arg0)
          ∧ r.2.mem ((c.tc : Thread Cert.ReferenceUpIdeal.nD Cert.ReferenceUpIdeal.τ).loc Cert.ReferenceUpIdeal.main_arg1) = m' ((c.tc : Thread Cert.ReferenceUpIdeal.nD Cert.ReferenceUpIdeal.τ).loc Cert.ReferenceUpIdeal.main_arg1))

def preserves_KernelDown_KernelDownIdeal : Prop :=
  True

def algebraic_KernelDownIdeal_ReferenceDownIdeal [hKernelDownIdeal : Cert.KernelDownIdeal.Facts] [hReferenceDownIdeal : Cert.ReferenceDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg)
    (m' : (ℓ : Loc Cert.ReferenceDownIdeal.nD Cert.ReferenceDownIdeal.τ Cert.ReferenceDownIdeal.sig) → Buf (Elt Ideal) ℓ) (g' : Dev Cert.ReferenceDownIdeal.nD → PrngReg), Pre_KernelDownIdeal m →
    (∀ c : Dev Cert.KernelDownIdeal.nD,
      m' ((c.tc : Thread Cert.ReferenceDownIdeal.nD Cert.ReferenceDownIdeal.τ).loc Cert.ReferenceDownIdeal.main_arg0) = m ((c.tc : Thread Cert.KernelDownIdeal.nD Cert.KernelDownIdeal.τ).loc Cert.KernelDownIdeal.main_arg0)
      ∧ m' ((c.tc : Thread Cert.ReferenceDownIdeal.nD Cert.ReferenceDownIdeal.τ).loc Cert.ReferenceDownIdeal.main_arg1) = m ((c.tc : Thread Cert.KernelDownIdeal.nD Cert.KernelDownIdeal.τ).loc Cert.KernelDownIdeal.main_arg1)
      ∧ m' ((c.tc : Thread Cert.ReferenceDownIdeal.nD Cert.ReferenceDownIdeal.τ).loc Cert.ReferenceDownIdeal.main_arg2) = m ((c.tc : Thread Cert.KernelDownIdeal.nD Cert.KernelDownIdeal.τ).loc Cert.KernelDownIdeal.main_arg2)
      ∧ m' ((c.tc : Thread Cert.ReferenceDownIdeal.nD Cert.ReferenceDownIdeal.τ).loc Cert.ReferenceDownIdeal.main_arg3) = m ((c.tc : Thread Cert.KernelDownIdeal.nD Cert.KernelDownIdeal.τ).loc Cert.KernelDownIdeal.main_arg3)) →
    ∃ (v0 : (c : Dev Cert.KernelDownIdeal.nD) → Buf (Elt Ideal) ((c.tc : Thread Cert.KernelDownIdeal.nD Cert.KernelDownIdeal.τ).loc Cert.KernelDownIdeal.main_v1)),
      θ_run (Cert.KernelDownIdeal.defs (F := Ideal)) (onTc (τ := Cert.KernelDownIdeal.τ) (Cert.KernelDownIdeal.main (F := Ideal))) ⟨m, fun _ => 0, g⟩ (fun r => ∀ c : Dev Cert.KernelDownIdeal.nD,
          r.2.mem ((c.tc : Thread Cert.KernelDownIdeal.nD Cert.KernelDownIdeal.τ).loc Cert.KernelDownIdeal.main_v1) = v0 c
          ∧ r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
          ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
          ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2)
          ∧ r.2.mem ((c.tc : Thread Cert.KernelDownIdeal.nD Cert.KernelDownIdeal.τ).loc Cert.KernelDownIdeal.main_arg3) = m ((c.tc : Thread Cert.KernelDownIdeal.nD Cert.KernelDownIdeal.τ).loc Cert.KernelDownIdeal.main_arg3))
      ∧ θ_run (Cert.ReferenceDownIdeal.defs (F := Ideal)) (onTc (τ := Cert.ReferenceDownIdeal.τ) (Cert.ReferenceDownIdeal.main (F := Ideal))) ⟨m', fun _ => 0, g'⟩ (fun r => ∀ c : Dev Cert.ReferenceDownIdeal.nD,
          r.2.mem ((c.tc : Thread Cert.ReferenceDownIdeal.nD Cert.ReferenceDownIdeal.τ).loc Cert.ReferenceDownIdeal.main_v26) = v0 c
          ∧ r.2.mem ((c.tc : Thread Cert.ReferenceDownIdeal.nD Cert.ReferenceDownIdeal.τ).loc Cert.ReferenceDownIdeal.main_arg0) = m' ((c.tc : Thread Cert.ReferenceDownIdeal.nD Cert.ReferenceDownIdeal.τ).loc Cert.ReferenceDownIdeal.main_arg0)
          ∧ r.2.mem ((c.tc : Thread Cert.ReferenceDownIdeal.nD Cert.ReferenceDownIdeal.τ).loc Cert.ReferenceDownIdeal.main_arg1) = m' ((c.tc : Thread Cert.ReferenceDownIdeal.nD Cert.ReferenceDownIdeal.τ).loc Cert.ReferenceDownIdeal.main_arg1)
          ∧ r.2.mem ((c.tc : Thread Cert.ReferenceDownIdeal.nD Cert.ReferenceDownIdeal.τ).loc Cert.ReferenceDownIdeal.main_arg2) = m' ((c.tc : Thread Cert.ReferenceDownIdeal.nD Cert.ReferenceDownIdeal.τ).loc Cert.ReferenceDownIdeal.main_arg2)
          ∧ r.2.mem ((c.tc : Thread Cert.ReferenceDownIdeal.nD Cert.ReferenceDownIdeal.τ).loc Cert.ReferenceDownIdeal.main_arg3) = m' ((c.tc : Thread Cert.ReferenceDownIdeal.nD Cert.ReferenceDownIdeal.τ).loc Cert.ReferenceDownIdeal.main_arg3))

def preserves_KernelIn_KernelInIdeal : Prop :=
  True

def algebraic_KernelInIdeal_ReferenceInIdeal [hKernelInIdeal : Cert.KernelInIdeal.Facts] [hReferenceInIdeal : Cert.ReferenceInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg)
    (m' : (ℓ : Loc Cert.ReferenceInIdeal.nD Cert.ReferenceInIdeal.τ Cert.ReferenceInIdeal.sig) → Buf (Elt Ideal) ℓ) (g' : Dev Cert.ReferenceInIdeal.nD → PrngReg), Pre_KernelInIdeal m →
    (∀ c : Dev Cert.KernelInIdeal.nD,
      m' ((c.tc : Thread Cert.ReferenceInIdeal.nD Cert.ReferenceInIdeal.τ).loc Cert.ReferenceInIdeal.main_arg0) = m ((c.tc : Thread Cert.KernelInIdeal.nD Cert.KernelInIdeal.τ).loc Cert.KernelInIdeal.main_arg0)
      ∧ m' ((c.tc : Thread Cert.ReferenceInIdeal.nD Cert.ReferenceInIdeal.τ).loc Cert.ReferenceInIdeal.main_arg1) = m ((c.tc : Thread Cert.KernelInIdeal.nD Cert.KernelInIdeal.τ).loc Cert.KernelInIdeal.main_arg1)) →
    ∃ (v0 : (c : Dev Cert.KernelInIdeal.nD) → Buf (Elt Ideal) ((c.tc : Thread Cert.KernelInIdeal.nD Cert.KernelInIdeal.τ).loc Cert.KernelInIdeal.main_v1)),
      θ_run (Cert.KernelInIdeal.defs (F := Ideal)) (onTc (τ := Cert.KernelInIdeal.τ) (Cert.KernelInIdeal.main (F := Ideal))) ⟨m, fun _ => 0, g⟩ (fun r => ∀ c : Dev Cert.KernelInIdeal.nD,
          r.2.mem ((c.tc : Thread Cert.KernelInIdeal.nD Cert.KernelInIdeal.τ).loc Cert.KernelInIdeal.main_v1) = v0 c
          ∧ r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
          ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1))
      ∧ θ_run (Cert.ReferenceInIdeal.defs (F := Ideal)) (onTc (τ := Cert.ReferenceInIdeal.τ) (Cert.ReferenceInIdeal.main (F := Ideal))) ⟨m', fun _ => 0, g'⟩ (fun r => ∀ c : Dev Cert.ReferenceInIdeal.nD,
          r.2.mem ((c.tc : Thread Cert.ReferenceInIdeal.nD Cert.ReferenceInIdeal.τ).loc Cert.ReferenceInIdeal.main_v1) = v0 c
          ∧ r.2.mem ((c.tc : Thread Cert.ReferenceInIdeal.nD Cert.ReferenceInIdeal.τ).loc Cert.ReferenceInIdeal.main_arg0) = m' ((c.tc : Thread Cert.ReferenceInIdeal.nD Cert.ReferenceInIdeal.τ).loc Cert.ReferenceInIdeal.main_arg0)
          ∧ r.2.mem ((c.tc : Thread Cert.ReferenceInIdeal.nD Cert.ReferenceInIdeal.τ).loc Cert.ReferenceInIdeal.main_arg1) = m' ((c.tc : Thread Cert.ReferenceInIdeal.nD Cert.ReferenceInIdeal.τ).loc Cert.ReferenceInIdeal.main_arg1))

def preserves_KernelMix_KernelMixIdeal : Prop :=
  True

def algebraic_KernelMixIdeal_ReferenceMixIdeal [hKernelMixIdeal : Cert.KernelMixIdeal.Facts] [hReferenceMixIdeal : Cert.ReferenceMixIdeal.Facts] : Prop :=
  ∀ (m : (ℓ : Loc Cert.KernelMixIdeal.nD Cert.KernelMixIdeal.τ Cert.KernelMixIdeal.sig) → Buf (Elt Ideal) ℓ) (g : Dev Cert.KernelMixIdeal.nD → PrngReg)
    (m' : (ℓ : Loc Cert.ReferenceMixIdeal.nD Cert.ReferenceMixIdeal.τ Cert.ReferenceMixIdeal.sig) → Buf (Elt Ideal) ℓ) (g' : Dev Cert.ReferenceMixIdeal.nD → PrngReg), Pre_KernelMixIdeal m →
    (∀ c : Dev Cert.KernelMixIdeal.nD,
      m' ((c.tc : Thread Cert.ReferenceMixIdeal.nD Cert.ReferenceMixIdeal.τ).loc Cert.ReferenceMixIdeal.main_arg0) = m ((c.tc : Thread Cert.KernelMixIdeal.nD Cert.KernelMixIdeal.τ).loc Cert.KernelMixIdeal.main_arg0)
      ∧ m' ((c.tc : Thread Cert.ReferenceMixIdeal.nD Cert.ReferenceMixIdeal.τ).loc Cert.ReferenceMixIdeal.main_arg1) = m ((c.tc : Thread Cert.KernelMixIdeal.nD Cert.KernelMixIdeal.τ).loc Cert.KernelMixIdeal.main_arg1)
      ∧ m' ((c.tc : Thread Cert.ReferenceMixIdeal.nD Cert.ReferenceMixIdeal.τ).loc Cert.ReferenceMixIdeal.main_arg2) = m ((c.tc : Thread Cert.KernelMixIdeal.nD Cert.KernelMixIdeal.τ).loc Cert.KernelMixIdeal.main_arg2)
      ∧ m' ((c.tc : Thread Cert.ReferenceMixIdeal.nD Cert.ReferenceMixIdeal.τ).loc Cert.ReferenceMixIdeal.main_arg3) = m ((c.tc : Thread Cert.KernelMixIdeal.nD Cert.KernelMixIdeal.τ).loc Cert.KernelMixIdeal.main_arg3)) →
    ∃ (v0 : (c : Dev Cert.KernelMixIdeal.nD) → Buf (Elt Ideal) ((c.tc : Thread Cert.KernelMixIdeal.nD Cert.KernelMixIdeal.τ).loc Cert.KernelMixIdeal.main_v1)),
      θ_run (Cert.KernelMixIdeal.defs (F := Ideal)) (onTc (τ := Cert.KernelMixIdeal.τ) (Cert.KernelMixIdeal.main (F := Ideal))) ⟨m, fun _ => 0, g⟩ (fun r => ∀ c : Dev Cert.KernelMixIdeal.nD,
          r.2.mem ((c.tc : Thread Cert.KernelMixIdeal.nD Cert.KernelMixIdeal.τ).loc Cert.KernelMixIdeal.main_v1) = v0 c
          ∧ r.2.mem ((c.tc : Thread Cert.KernelMixIdeal.nD Cert.KernelMixIdeal.τ).loc Cert.KernelMixIdeal.main_arg0) = m ((c.tc : Thread Cert.KernelMixIdeal.nD Cert.KernelMixIdeal.τ).loc Cert.KernelMixIdeal.main_arg0)
          ∧ r.2.mem ((c.tc : Thread Cert.KernelMixIdeal.nD Cert.KernelMixIdeal.τ).loc Cert.KernelMixIdeal.main_arg1) = m ((c.tc : Thread Cert.KernelMixIdeal.nD Cert.KernelMixIdeal.τ).loc Cert.KernelMixIdeal.main_arg1)
          ∧ r.2.mem ((c.tc : Thread Cert.KernelMixIdeal.nD Cert.KernelMixIdeal.τ).loc Cert.KernelMixIdeal.main_arg2) = m ((c.tc : Thread Cert.KernelMixIdeal.nD Cert.KernelMixIdeal.τ).loc Cert.KernelMixIdeal.main_arg2)
          ∧ r.2.mem ((c.tc : Thread Cert.KernelMixIdeal.nD Cert.KernelMixIdeal.τ).loc Cert.KernelMixIdeal.main_arg3) = m ((c.tc : Thread Cert.KernelMixIdeal.nD Cert.KernelMixIdeal.τ).loc Cert.KernelMixIdeal.main_arg3))
      ∧ θ_run (Cert.ReferenceMixIdeal.defs (F := Ideal)) (onTc (τ := Cert.ReferenceMixIdeal.τ) (Cert.ReferenceMixIdeal.main (F := Ideal))) ⟨m', fun _ => 0, g'⟩ (fun r => ∀ c : Dev Cert.ReferenceMixIdeal.nD,
          r.2.mem ((c.tc : Thread Cert.ReferenceMixIdeal.nD Cert.ReferenceMixIdeal.τ).loc Cert.ReferenceMixIdeal.main_v26) = v0 c
          ∧ r.2.mem ((c.tc : Thread Cert.ReferenceMixIdeal.nD Cert.ReferenceMixIdeal.τ).loc Cert.ReferenceMixIdeal.main_arg0) = m' ((c.tc : Thread Cert.ReferenceMixIdeal.nD Cert.ReferenceMixIdeal.τ).loc Cert.ReferenceMixIdeal.main_arg0)
          ∧ r.2.mem ((c.tc : Thread Cert.ReferenceMixIdeal.nD Cert.ReferenceMixIdeal.τ).loc Cert.ReferenceMixIdeal.main_arg1) = m' ((c.tc : Thread Cert.ReferenceMixIdeal.nD Cert.ReferenceMixIdeal.τ).loc Cert.ReferenceMixIdeal.main_arg1)
          ∧ r.2.mem ((c.tc : Thread Cert.ReferenceMixIdeal.nD Cert.ReferenceMixIdeal.τ).loc Cert.ReferenceMixIdeal.main_arg2) = m' ((c.tc : Thread Cert.ReferenceMixIdeal.nD Cert.ReferenceMixIdeal.τ).loc Cert.ReferenceMixIdeal.main_arg2)
          ∧ r.2.mem ((c.tc : Thread Cert.ReferenceMixIdeal.nD Cert.ReferenceMixIdeal.τ).loc Cert.ReferenceMixIdeal.main_arg3) = m' ((c.tc : Thread Cert.ReferenceMixIdeal.nD Cert.ReferenceMixIdeal.τ).loc Cert.ReferenceMixIdeal.main_arg3))

def preserves_KernelRank_KernelRankIdeal : Prop :=
  True

def algebraic_KernelRankIdeal_ReferenceRankIdeal [hKernelRankIdeal : Cert.KernelRankIdeal.Facts] [hReferenceRankIdeal : Cert.ReferenceRankIdeal.Facts] : Prop :=
  ∀ (m : (ℓ : Loc Cert.KernelRankIdeal.nD Cert.KernelRankIdeal.τ Cert.KernelRankIdeal.sig) → Buf (Elt Ideal) ℓ) (g : Dev Cert.KernelRankIdeal.nD → PrngReg)
    (m' : (ℓ : Loc Cert.ReferenceRankIdeal.nD Cert.ReferenceRankIdeal.τ Cert.ReferenceRankIdeal.sig) → Buf (Elt Ideal) ℓ) (g' : Dev Cert.ReferenceRankIdeal.nD → PrngReg), Pre_KernelRankIdeal m →
    (∀ c : Dev Cert.KernelRankIdeal.nD,
      m' ((c.tc : Thread Cert.ReferenceRankIdeal.nD Cert.ReferenceRankIdeal.τ).loc Cert.ReferenceRankIdeal.main_arg0) = m ((c.tc : Thread Cert.KernelRankIdeal.nD Cert.KernelRankIdeal.τ).loc Cert.KernelRankIdeal.main_arg0)
      ∧ m' ((c.tc : Thread Cert.ReferenceRankIdeal.nD Cert.ReferenceRankIdeal.τ).loc Cert.ReferenceRankIdeal.main_arg1) = m ((c.tc : Thread Cert.KernelRankIdeal.nD Cert.KernelRankIdeal.τ).loc Cert.KernelRankIdeal.main_arg1)
      ∧ m' ((c.tc : Thread Cert.ReferenceRankIdeal.nD Cert.ReferenceRankIdeal.τ).loc Cert.ReferenceRankIdeal.main_arg2) = m ((c.tc : Thread Cert.KernelRankIdeal.nD Cert.KernelRankIdeal.τ).loc Cert.KernelRankIdeal.main_arg2)) →
    ∃ (v0 : (c : Dev Cert.KernelRankIdeal.nD) → Buf (Elt Ideal) ((c.tc : Thread Cert.KernelRankIdeal.nD Cert.KernelRankIdeal.τ).loc Cert.KernelRankIdeal.main_v6)),
      θ_run (Cert.KernelRankIdeal.defs (F := Ideal)) (onTc (τ := Cert.KernelRankIdeal.τ) (Cert.KernelRankIdeal.main (F := Ideal))) ⟨m, fun _ => 0, g⟩ (fun r => ∀ c : Dev Cert.KernelRankIdeal.nD,
          r.2.mem ((c.tc : Thread Cert.KernelRankIdeal.nD Cert.KernelRankIdeal.τ).loc Cert.KernelRankIdeal.main_v6) = v0 c
          ∧ r.2.mem ((c.tc : Thread Cert.KernelRankIdeal.nD Cert.KernelRankIdeal.τ).loc Cert.KernelRankIdeal.main_arg0) = m ((c.tc : Thread Cert.KernelRankIdeal.nD Cert.KernelRankIdeal.τ).loc Cert.KernelRankIdeal.main_arg0)
          ∧ r.2.mem ((c.tc : Thread Cert.KernelRankIdeal.nD Cert.KernelRankIdeal.τ).loc Cert.KernelRankIdeal.main_arg1) = m ((c.tc : Thread Cert.KernelRankIdeal.nD Cert.KernelRankIdeal.τ).loc Cert.KernelRankIdeal.main_arg1)
          ∧ r.2.mem ((c.tc : Thread Cert.KernelRankIdeal.nD Cert.KernelRankIdeal.τ).loc Cert.KernelRankIdeal.main_arg2) = m ((c.tc : Thread Cert.KernelRankIdeal.nD Cert.KernelRankIdeal.τ).loc Cert.KernelRankIdeal.main_arg2))
      ∧ θ_run (Cert.ReferenceRankIdeal.defs (F := Ideal)) (onTc (τ := Cert.ReferenceRankIdeal.τ) (Cert.ReferenceRankIdeal.main (F := Ideal))) ⟨m', fun _ => 0, g'⟩ (fun r => ∀ c : Dev Cert.ReferenceRankIdeal.nD,
          r.2.mem ((c.tc : Thread Cert.ReferenceRankIdeal.nD Cert.ReferenceRankIdeal.τ).loc Cert.ReferenceRankIdeal.main_v4) = v0 c
          ∧ r.2.mem ((c.tc : Thread Cert.ReferenceRankIdeal.nD Cert.ReferenceRankIdeal.τ).loc Cert.ReferenceRankIdeal.main_arg0) = m' ((c.tc : Thread Cert.ReferenceRankIdeal.nD Cert.ReferenceRankIdeal.τ).loc Cert.ReferenceRankIdeal.main_arg0)
          ∧ r.2.mem ((c.tc : Thread Cert.ReferenceRankIdeal.nD Cert.ReferenceRankIdeal.τ).loc Cert.ReferenceRankIdeal.main_arg1) = m' ((c.tc : Thread Cert.ReferenceRankIdeal.nD Cert.ReferenceRankIdeal.τ).loc Cert.ReferenceRankIdeal.main_arg1)
          ∧ r.2.mem ((c.tc : Thread Cert.ReferenceRankIdeal.nD Cert.ReferenceRankIdeal.τ).loc Cert.ReferenceRankIdeal.main_arg2) = m' ((c.tc : Thread Cert.ReferenceRankIdeal.nD Cert.ReferenceRankIdeal.τ).loc Cert.ReferenceRankIdeal.main_arg2))

def preserves_KernelNorm_KernelNormIdeal : Prop :=
  True

def algebraic_KernelNormIdeal_ReferenceNormIdeal [hKernelNormIdeal : Cert.KernelNormIdeal.Facts] [hReferenceNormIdeal : Cert.ReferenceNormIdeal.Facts] : Prop :=
  ∀ (m : (ℓ : Loc Cert.KernelNormIdeal.nD Cert.KernelNormIdeal.τ Cert.KernelNormIdeal.sig) → Buf (Elt Ideal) ℓ) (g : Dev Cert.KernelNormIdeal.nD → PrngReg)
    (m' : (ℓ : Loc Cert.ReferenceNormIdeal.nD Cert.ReferenceNormIdeal.τ Cert.ReferenceNormIdeal.sig) → Buf (Elt Ideal) ℓ) (g' : Dev Cert.ReferenceNormIdeal.nD → PrngReg), Pre_KernelNormIdeal m →
    (∀ c : Dev Cert.KernelNormIdeal.nD,
      m' ((c.tc : Thread Cert.ReferenceNormIdeal.nD Cert.ReferenceNormIdeal.τ).loc Cert.ReferenceNormIdeal.main_arg0) = m ((c.tc : Thread Cert.KernelNormIdeal.nD Cert.KernelNormIdeal.τ).loc Cert.KernelNormIdeal.main_arg0)
      ∧ m' ((c.tc : Thread Cert.ReferenceNormIdeal.nD Cert.ReferenceNormIdeal.τ).loc Cert.ReferenceNormIdeal.main_arg1) = m ((c.tc : Thread Cert.KernelNormIdeal.nD Cert.KernelNormIdeal.τ).loc Cert.KernelNormIdeal.main_arg1)
      ∧ m' ((c.tc : Thread Cert.ReferenceNormIdeal.nD Cert.ReferenceNormIdeal.τ).loc Cert.ReferenceNormIdeal.main_arg2) = m ((c.tc : Thread Cert.KernelNormIdeal.nD Cert.KernelNormIdeal.τ).loc Cert.KernelNormIdeal.main_arg2)) →
    ∃ (v0 : (c : Dev Cert.KernelNormIdeal.nD) → Buf (Elt Ideal) ((c.tc : Thread Cert.KernelNormIdeal.nD Cert.KernelNormIdeal.τ).loc Cert.KernelNormIdeal.main_v1)),
      θ_run (Cert.KernelNormIdeal.defs (F := Ideal)) (onTc (τ := Cert.KernelNormIdeal.τ) (Cert.KernelNormIdeal.main (F := Ideal))) ⟨m, fun _ => 0, g⟩ (fun r => ∀ c : Dev Cert.KernelNormIdeal.nD,
          r.2.mem ((c.tc : Thread Cert.KernelNormIdeal.nD Cert.KernelNormIdeal.τ).loc Cert.KernelNormIdeal.main_v1) = v0 c
          ∧ r.2.mem ((c.tc : Thread Cert.KernelNormIdeal.nD Cert.KernelNormIdeal.τ).loc Cert.KernelNormIdeal.main_arg0) = m ((c.tc : Thread Cert.KernelNormIdeal.nD Cert.KernelNormIdeal.τ).loc Cert.KernelNormIdeal.main_arg0)
          ∧ r.2.mem ((c.tc : Thread Cert.KernelNormIdeal.nD Cert.KernelNormIdeal.τ).loc Cert.KernelNormIdeal.main_arg1) = m ((c.tc : Thread Cert.KernelNormIdeal.nD Cert.KernelNormIdeal.τ).loc Cert.KernelNormIdeal.main_arg1)
          ∧ r.2.mem ((c.tc : Thread Cert.KernelNormIdeal.nD Cert.KernelNormIdeal.τ).loc Cert.KernelNormIdeal.main_arg2) = m ((c.tc : Thread Cert.KernelNormIdeal.nD Cert.KernelNormIdeal.τ).loc Cert.KernelNormIdeal.main_arg2))
      ∧ θ_run (Cert.ReferenceNormIdeal.defs (F := Ideal)) (onTc (τ := Cert.ReferenceNormIdeal.τ) (Cert.ReferenceNormIdeal.main (F := Ideal))) ⟨m', fun _ => 0, g'⟩ (fun r => ∀ c : Dev Cert.ReferenceNormIdeal.nD,
          r.2.mem ((c.tc : Thread Cert.ReferenceNormIdeal.nD Cert.ReferenceNormIdeal.τ).loc Cert.ReferenceNormIdeal.main_v47) = v0 c
          ∧ r.2.mem ((c.tc : Thread Cert.ReferenceNormIdeal.nD Cert.ReferenceNormIdeal.τ).loc Cert.ReferenceNormIdeal.main_arg0) = m' ((c.tc : Thread Cert.ReferenceNormIdeal.nD Cert.ReferenceNormIdeal.τ).loc Cert.ReferenceNormIdeal.main_arg0)
          ∧ r.2.mem ((c.tc : Thread Cert.ReferenceNormIdeal.nD Cert.ReferenceNormIdeal.τ).loc Cert.ReferenceNormIdeal.main_arg1) = m' ((c.tc : Thread Cert.ReferenceNormIdeal.nD Cert.ReferenceNormIdeal.τ).loc Cert.ReferenceNormIdeal.main_arg1)
          ∧ r.2.mem ((c.tc : Thread Cert.ReferenceNormIdeal.nD Cert.ReferenceNormIdeal.τ).loc Cert.ReferenceNormIdeal.main_arg2) = m' ((c.tc : Thread Cert.ReferenceNormIdeal.nD Cert.ReferenceNormIdeal.τ).loc Cert.ReferenceNormIdeal.main_arg2))

def preserves_KernelHead_KernelHeadIdeal : Prop :=
  True

def algebraic_KernelHeadIdeal_ReferenceHeadIdeal [hKernelHeadIdeal : Cert.KernelHeadIdeal.Facts] [hReferenceHeadIdeal : Cert.ReferenceHeadIdeal.Facts] : Prop :=
  ∀ (m : (ℓ : Loc Cert.KernelHeadIdeal.nD Cert.KernelHeadIdeal.τ Cert.KernelHeadIdeal.sig) → Buf (Elt Ideal) ℓ) (g : Dev Cert.KernelHeadIdeal.nD → PrngReg)
    (m' : (ℓ : Loc Cert.ReferenceHeadIdeal.nD Cert.ReferenceHeadIdeal.τ Cert.ReferenceHeadIdeal.sig) → Buf (Elt Ideal) ℓ) (g' : Dev Cert.ReferenceHeadIdeal.nD → PrngReg), Pre_KernelHeadIdeal m →
    (∀ c : Dev Cert.KernelHeadIdeal.nD,
      m' ((c.tc : Thread Cert.ReferenceHeadIdeal.nD Cert.ReferenceHeadIdeal.τ).loc Cert.ReferenceHeadIdeal.main_arg0) = m ((c.tc : Thread Cert.KernelHeadIdeal.nD Cert.KernelHeadIdeal.τ).loc Cert.KernelHeadIdeal.main_arg0)
      ∧ m' ((c.tc : Thread Cert.ReferenceHeadIdeal.nD Cert.ReferenceHeadIdeal.τ).loc Cert.ReferenceHeadIdeal.main_arg1) = m ((c.tc : Thread Cert.KernelHeadIdeal.nD Cert.KernelHeadIdeal.τ).loc Cert.KernelHeadIdeal.main_arg1)
      ∧ m' ((c.tc : Thread Cert.ReferenceHeadIdeal.nD Cert.ReferenceHeadIdeal.τ).loc Cert.ReferenceHeadIdeal.main_arg2) = m ((c.tc : Thread Cert.KernelHeadIdeal.nD Cert.KernelHeadIdeal.τ).loc Cert.KernelHeadIdeal.main_arg2)
      ∧ m' ((c.tc : Thread Cert.ReferenceHeadIdeal.nD Cert.ReferenceHeadIdeal.τ).loc Cert.ReferenceHeadIdeal.main_arg3) = m ((c.tc : Thread Cert.KernelHeadIdeal.nD Cert.KernelHeadIdeal.τ).loc Cert.KernelHeadIdeal.main_arg3)) →
    ∃ (v0 : (c : Dev Cert.KernelHeadIdeal.nD) → Buf (Elt Ideal) ((c.tc : Thread Cert.KernelHeadIdeal.nD Cert.KernelHeadIdeal.τ).loc Cert.KernelHeadIdeal.main_v1)),
      θ_run (Cert.KernelHeadIdeal.defs (F := Ideal)) (onTc (τ := Cert.KernelHeadIdeal.τ) (Cert.KernelHeadIdeal.main (F := Ideal))) ⟨m, fun _ => 0, g⟩ (fun r => ∀ c : Dev Cert.KernelHeadIdeal.nD,
          r.2.mem ((c.tc : Thread Cert.KernelHeadIdeal.nD Cert.KernelHeadIdeal.τ).loc Cert.KernelHeadIdeal.main_v1) = v0 c
          ∧ r.2.mem ((c.tc : Thread Cert.KernelHeadIdeal.nD Cert.KernelHeadIdeal.τ).loc Cert.KernelHeadIdeal.main_arg0) = m ((c.tc : Thread Cert.KernelHeadIdeal.nD Cert.KernelHeadIdeal.τ).loc Cert.KernelHeadIdeal.main_arg0)
          ∧ r.2.mem ((c.tc : Thread Cert.KernelHeadIdeal.nD Cert.KernelHeadIdeal.τ).loc Cert.KernelHeadIdeal.main_arg1) = m ((c.tc : Thread Cert.KernelHeadIdeal.nD Cert.KernelHeadIdeal.τ).loc Cert.KernelHeadIdeal.main_arg1)
          ∧ r.2.mem ((c.tc : Thread Cert.KernelHeadIdeal.nD Cert.KernelHeadIdeal.τ).loc Cert.KernelHeadIdeal.main_arg2) = m ((c.tc : Thread Cert.KernelHeadIdeal.nD Cert.KernelHeadIdeal.τ).loc Cert.KernelHeadIdeal.main_arg2)
          ∧ r.2.mem ((c.tc : Thread Cert.KernelHeadIdeal.nD Cert.KernelHeadIdeal.τ).loc Cert.KernelHeadIdeal.main_arg3) = m ((c.tc : Thread Cert.KernelHeadIdeal.nD Cert.KernelHeadIdeal.τ).loc Cert.KernelHeadIdeal.main_arg3))
      ∧ θ_run (Cert.ReferenceHeadIdeal.defs (F := Ideal)) (onTc (τ := Cert.ReferenceHeadIdeal.τ) (Cert.ReferenceHeadIdeal.main (F := Ideal))) ⟨m', fun _ => 0, g'⟩ (fun r => ∀ c : Dev Cert.ReferenceHeadIdeal.nD,
          r.2.mem ((c.tc : Thread Cert.ReferenceHeadIdeal.nD Cert.ReferenceHeadIdeal.τ).loc Cert.ReferenceHeadIdeal.main_v26) = v0 c
          ∧ r.2.mem ((c.tc : Thread Cert.ReferenceHeadIdeal.nD Cert.ReferenceHeadIdeal.τ).loc Cert.ReferenceHeadIdeal.main_arg0) = m' ((c.tc : Thread Cert.ReferenceHeadIdeal.nD Cert.ReferenceHeadIdeal.τ).loc Cert.ReferenceHeadIdeal.main_arg0)
          ∧ r.2.mem ((c.tc : Thread Cert.ReferenceHeadIdeal.nD Cert.ReferenceHeadIdeal.τ).loc Cert.ReferenceHeadIdeal.main_arg1) = m' ((c.tc : Thread Cert.ReferenceHeadIdeal.nD Cert.ReferenceHeadIdeal.τ).loc Cert.ReferenceHeadIdeal.main_arg1)
          ∧ r.2.mem ((c.tc : Thread Cert.ReferenceHeadIdeal.nD Cert.ReferenceHeadIdeal.τ).loc Cert.ReferenceHeadIdeal.main_arg2) = m' ((c.tc : Thread Cert.ReferenceHeadIdeal.nD Cert.ReferenceHeadIdeal.τ).loc Cert.ReferenceHeadIdeal.main_arg2)
          ∧ r.2.mem ((c.tc : Thread Cert.ReferenceHeadIdeal.nD Cert.ReferenceHeadIdeal.τ).loc Cert.ReferenceHeadIdeal.main_arg3) = m' ((c.tc : Thread Cert.ReferenceHeadIdeal.nD Cert.ReferenceHeadIdeal.τ).loc Cert.ReferenceHeadIdeal.main_arg3))

def preserves_KernelLastPrompt_KernelLastPromptIdeal : Prop :=
  True

def algebraic_KernelLastPromptIdeal_ReferenceLastPromptIdeal [hKernelLastPromptIdeal : Cert.KernelLastPromptIdeal.Facts] [hReferenceLastPromptIdeal : Cert.ReferenceLastPromptIdeal.Facts] : Prop :=
  ∀ (m : (ℓ : Loc Cert.KernelLastPromptIdeal.nD Cert.KernelLastPromptIdeal.τ Cert.KernelLastPromptIdeal.sig) → Buf (Elt Ideal) ℓ) (g : Dev Cert.KernelLastPromptIdeal.nD → PrngReg)
    (m' : (ℓ : Loc Cert.ReferenceLastPromptIdeal.nD Cert.ReferenceLastPromptIdeal.τ Cert.ReferenceLastPromptIdeal.sig) → Buf (Elt Ideal) ℓ) (g' : Dev Cert.ReferenceLastPromptIdeal.nD → PrngReg), Pre_KernelLastPromptIdeal m →
    (∀ c : Dev Cert.KernelLastPromptIdeal.nD,
      m' ((c.tc : Thread Cert.ReferenceLastPromptIdeal.nD Cert.ReferenceLastPromptIdeal.τ).loc Cert.ReferenceLastPromptIdeal.main_arg0) = m ((c.tc : Thread Cert.KernelLastPromptIdeal.nD Cert.KernelLastPromptIdeal.τ).loc Cert.KernelLastPromptIdeal.main_arg0)
      ∧ m' ((c.tc : Thread Cert.ReferenceLastPromptIdeal.nD Cert.ReferenceLastPromptIdeal.τ).loc Cert.ReferenceLastPromptIdeal.main_arg1) = m ((c.tc : Thread Cert.KernelLastPromptIdeal.nD Cert.KernelLastPromptIdeal.τ).loc Cert.KernelLastPromptIdeal.main_arg1)) →
    ∃ (v0 : (c : Dev Cert.KernelLastPromptIdeal.nD) → Buf (Elt Ideal) ((c.tc : Thread Cert.KernelLastPromptIdeal.nD Cert.KernelLastPromptIdeal.τ).loc Cert.KernelLastPromptIdeal.main_v1)),
      θ_run (Cert.KernelLastPromptIdeal.defs (F := Ideal)) (onTc (τ := Cert.KernelLastPromptIdeal.τ) (Cert.KernelLastPromptIdeal.main (F := Ideal))) ⟨m, fun _ => 0, g⟩ (fun r => ∀ c : Dev Cert.KernelLastPromptIdeal.nD,
          r.2.mem ((c.tc : Thread Cert.KernelLastPromptIdeal.nD Cert.KernelLastPromptIdeal.τ).loc Cert.KernelLastPromptIdeal.main_v1) = v0 c
          ∧ r.2.mem ((c.tc : Thread Cert.KernelLastPromptIdeal.nD Cert.KernelLastPromptIdeal.τ).loc Cert.KernelLastPromptIdeal.main_arg0) = m ((c.tc : Thread Cert.KernelLastPromptIdeal.nD Cert.KernelLastPromptIdeal.τ).loc Cert.KernelLastPromptIdeal.main_arg0)
          ∧ r.2.mem ((c.tc : Thread Cert.KernelLastPromptIdeal.nD Cert.KernelLastPromptIdeal.τ).loc Cert.KernelLastPromptIdeal.main_arg1) = m ((c.tc : Thread Cert.KernelLastPromptIdeal.nD Cert.KernelLastPromptIdeal.τ).loc Cert.KernelLastPromptIdeal.main_arg1))
      ∧ θ_run (Cert.ReferenceLastPromptIdeal.defs (F := Ideal)) (onTc (τ := Cert.ReferenceLastPromptIdeal.τ) (Cert.ReferenceLastPromptIdeal.main (F := Ideal))) ⟨m', fun _ => 0, g'⟩ (fun r => ∀ c : Dev Cert.ReferenceLastPromptIdeal.nD,
          r.2.mem ((c.tc : Thread Cert.ReferenceLastPromptIdeal.nD Cert.ReferenceLastPromptIdeal.τ).loc Cert.ReferenceLastPromptIdeal.main_v13) = v0 c
          ∧ r.2.mem ((c.tc : Thread Cert.ReferenceLastPromptIdeal.nD Cert.ReferenceLastPromptIdeal.τ).loc Cert.ReferenceLastPromptIdeal.main_arg0) = m' ((c.tc : Thread Cert.ReferenceLastPromptIdeal.nD Cert.ReferenceLastPromptIdeal.τ).loc Cert.ReferenceLastPromptIdeal.main_arg0)
          ∧ r.2.mem ((c.tc : Thread Cert.ReferenceLastPromptIdeal.nD Cert.ReferenceLastPromptIdeal.τ).loc Cert.ReferenceLastPromptIdeal.main_arg1) = m' ((c.tc : Thread Cert.ReferenceLastPromptIdeal.nD Cert.ReferenceLastPromptIdeal.τ).loc Cert.ReferenceLastPromptIdeal.main_arg1))

def preserves_KernelLastSample_KernelLastSampleIdeal : Prop :=
  True

def algebraic_KernelLastSampleIdeal_ReferenceLastSampleIdeal [hKernelLastSampleIdeal : Cert.KernelLastSampleIdeal.Facts] [hReferenceLastSampleIdeal : Cert.ReferenceLastSampleIdeal.Facts] : Prop :=
  ∀ (m : (ℓ : Loc Cert.KernelLastSampleIdeal.nD Cert.KernelLastSampleIdeal.τ Cert.KernelLastSampleIdeal.sig) → Buf (Elt Ideal) ℓ) (g : Dev Cert.KernelLastSampleIdeal.nD → PrngReg)
    (m' : (ℓ : Loc Cert.ReferenceLastSampleIdeal.nD Cert.ReferenceLastSampleIdeal.τ Cert.ReferenceLastSampleIdeal.sig) → Buf (Elt Ideal) ℓ) (g' : Dev Cert.ReferenceLastSampleIdeal.nD → PrngReg), Pre_KernelLastSampleIdeal m →
    (∀ c : Dev Cert.KernelLastSampleIdeal.nD,
      m' ((c.tc : Thread Cert.ReferenceLastSampleIdeal.nD Cert.ReferenceLastSampleIdeal.τ).loc Cert.ReferenceLastSampleIdeal.main_arg0) = m ((c.tc : Thread Cert.KernelLastSampleIdeal.nD Cert.KernelLastSampleIdeal.τ).loc Cert.KernelLastSampleIdeal.main_arg0)
      ∧ m' ((c.tc : Thread Cert.ReferenceLastSampleIdeal.nD Cert.ReferenceLastSampleIdeal.τ).loc Cert.ReferenceLastSampleIdeal.main_arg1) = m ((c.tc : Thread Cert.KernelLastSampleIdeal.nD Cert.KernelLastSampleIdeal.τ).loc Cert.KernelLastSampleIdeal.main_arg1)) →
    ∃ (v0 : (c : Dev Cert.KernelLastSampleIdeal.nD) → Buf (Elt Ideal) ((c.tc : Thread Cert.KernelLastSampleIdeal.nD Cert.KernelLastSampleIdeal.τ).loc Cert.KernelLastSampleIdeal.main_v1)),
      θ_run (Cert.KernelLastSampleIdeal.defs (F := Ideal)) (onTc (τ := Cert.KernelLastSampleIdeal.τ) (Cert.KernelLastSampleIdeal.main (F := Ideal))) ⟨m, fun _ => 0, g⟩ (fun r => ∀ c : Dev Cert.KernelLastSampleIdeal.nD,
          r.2.mem ((c.tc : Thread Cert.KernelLastSampleIdeal.nD Cert.KernelLastSampleIdeal.τ).loc Cert.KernelLastSampleIdeal.main_v1) = v0 c
          ∧ r.2.mem ((c.tc : Thread Cert.KernelLastSampleIdeal.nD Cert.KernelLastSampleIdeal.τ).loc Cert.KernelLastSampleIdeal.main_arg0) = m ((c.tc : Thread Cert.KernelLastSampleIdeal.nD Cert.KernelLastSampleIdeal.τ).loc Cert.KernelLastSampleIdeal.main_arg0)
          ∧ r.2.mem ((c.tc : Thread Cert.KernelLastSampleIdeal.nD Cert.KernelLastSampleIdeal.τ).loc Cert.KernelLastSampleIdeal.main_arg1) = m ((c.tc : Thread Cert.KernelLastSampleIdeal.nD Cert.KernelLastSampleIdeal.τ).loc Cert.KernelLastSampleIdeal.main_arg1))
      ∧ θ_run (Cert.ReferenceLastSampleIdeal.defs (F := Ideal)) (onTc (τ := Cert.ReferenceLastSampleIdeal.τ) (Cert.ReferenceLastSampleIdeal.main (F := Ideal))) ⟨m', fun _ => 0, g'⟩ (fun r => ∀ c : Dev Cert.ReferenceLastSampleIdeal.nD,
          r.2.mem ((c.tc : Thread Cert.ReferenceLastSampleIdeal.nD Cert.ReferenceLastSampleIdeal.τ).loc Cert.ReferenceLastSampleIdeal.main_v13) = v0 c
          ∧ r.2.mem ((c.tc : Thread Cert.ReferenceLastSampleIdeal.nD Cert.ReferenceLastSampleIdeal.τ).loc Cert.ReferenceLastSampleIdeal.main_arg0) = m' ((c.tc : Thread Cert.ReferenceLastSampleIdeal.nD Cert.ReferenceLastSampleIdeal.τ).loc Cert.ReferenceLastSampleIdeal.main_arg0)
          ∧ r.2.mem ((c.tc : Thread Cert.ReferenceLastSampleIdeal.nD Cert.ReferenceLastSampleIdeal.τ).loc Cert.ReferenceLastSampleIdeal.main_arg1) = m' ((c.tc : Thread Cert.ReferenceLastSampleIdeal.nD Cert.ReferenceLastSampleIdeal.τ).loc Cert.ReferenceLastSampleIdeal.main_arg1))

def preserves_KernelMods_KernelModsIdeal : Prop :=
  True

def algebraic_KernelModsIdeal_ReferenceModsIdeal [hKernelModsIdeal : Cert.KernelModsIdeal.Facts] [hReferenceModsIdeal : Cert.ReferenceModsIdeal.Facts] : Prop :=
  ∀ (m : (ℓ : Loc Cert.KernelModsIdeal.nD Cert.KernelModsIdeal.τ Cert.KernelModsIdeal.sig) → Buf (Elt Ideal) ℓ) (g : Dev Cert.KernelModsIdeal.nD → PrngReg)
    (m' : (ℓ : Loc Cert.ReferenceModsIdeal.nD Cert.ReferenceModsIdeal.τ Cert.ReferenceModsIdeal.sig) → Buf (Elt Ideal) ℓ) (g' : Dev Cert.ReferenceModsIdeal.nD → PrngReg), Pre_KernelModsIdeal m →
    (∀ c : Dev Cert.KernelModsIdeal.nD,
      m' ((c.tc : Thread Cert.ReferenceModsIdeal.nD Cert.ReferenceModsIdeal.τ).loc Cert.ReferenceModsIdeal.main_arg0) = m ((c.tc : Thread Cert.KernelModsIdeal.nD Cert.KernelModsIdeal.τ).loc Cert.KernelModsIdeal.main_arg0)
      ∧ m' ((c.tc : Thread Cert.ReferenceModsIdeal.nD Cert.ReferenceModsIdeal.τ).loc Cert.ReferenceModsIdeal.main_arg1) = m ((c.tc : Thread Cert.KernelModsIdeal.nD Cert.KernelModsIdeal.τ).loc Cert.KernelModsIdeal.main_arg1)
      ∧ m' ((c.tc : Thread Cert.ReferenceModsIdeal.nD Cert.ReferenceModsIdeal.τ).loc Cert.ReferenceModsIdeal.main_arg2) = m ((c.tc : Thread Cert.KernelModsIdeal.nD Cert.KernelModsIdeal.τ).loc Cert.KernelModsIdeal.main_arg2)) →
    ∃ (v0 : (c : Dev Cert.KernelModsIdeal.nD) → Buf (Elt Ideal) ((c.tc : Thread Cert.KernelModsIdeal.nD Cert.KernelModsIdeal.τ).loc Cert.KernelModsIdeal.main_v1)),
      θ_run (Cert.KernelModsIdeal.defs (F := Ideal)) (onTc (τ := Cert.KernelModsIdeal.τ) (Cert.KernelModsIdeal.main (F := Ideal))) ⟨m, fun _ => 0, g⟩ (fun r => ∀ c : Dev Cert.KernelModsIdeal.nD,
          r.2.mem ((c.tc : Thread Cert.KernelModsIdeal.nD Cert.KernelModsIdeal.τ).loc Cert.KernelModsIdeal.main_v1) = v0 c
          ∧ r.2.mem ((c.tc : Thread Cert.KernelModsIdeal.nD Cert.KernelModsIdeal.τ).loc Cert.KernelModsIdeal.main_arg0) = m ((c.tc : Thread Cert.KernelModsIdeal.nD Cert.KernelModsIdeal.τ).loc Cert.KernelModsIdeal.main_arg0)
          ∧ r.2.mem ((c.tc : Thread Cert.KernelModsIdeal.nD Cert.KernelModsIdeal.τ).loc Cert.KernelModsIdeal.main_arg1) = m ((c.tc : Thread Cert.KernelModsIdeal.nD Cert.KernelModsIdeal.τ).loc Cert.KernelModsIdeal.main_arg1)
          ∧ r.2.mem ((c.tc : Thread Cert.KernelModsIdeal.nD Cert.KernelModsIdeal.τ).loc Cert.KernelModsIdeal.main_arg2) = m ((c.tc : Thread Cert.KernelModsIdeal.nD Cert.KernelModsIdeal.τ).loc Cert.KernelModsIdeal.main_arg2))
      ∧ θ_run (Cert.ReferenceModsIdeal.defs (F := Ideal)) (onTc (τ := Cert.ReferenceModsIdeal.τ) (Cert.ReferenceModsIdeal.main (F := Ideal))) ⟨m', fun _ => 0, g'⟩ (fun r => ∀ c : Dev Cert.ReferenceModsIdeal.nD,
          r.2.mem ((c.tc : Thread Cert.ReferenceModsIdeal.nD Cert.ReferenceModsIdeal.τ).loc Cert.ReferenceModsIdeal.main_v11) = v0 c
          ∧ r.2.mem ((c.tc : Thread Cert.ReferenceModsIdeal.nD Cert.ReferenceModsIdeal.τ).loc Cert.ReferenceModsIdeal.main_arg0) = m' ((c.tc : Thread Cert.ReferenceModsIdeal.nD Cert.ReferenceModsIdeal.τ).loc Cert.ReferenceModsIdeal.main_arg0)
          ∧ r.2.mem ((c.tc : Thread Cert.ReferenceModsIdeal.nD Cert.ReferenceModsIdeal.τ).loc Cert.ReferenceModsIdeal.main_arg1) = m' ((c.tc : Thread Cert.ReferenceModsIdeal.nD Cert.ReferenceModsIdeal.τ).loc Cert.ReferenceModsIdeal.main_arg1)
          ∧ r.2.mem ((c.tc : Thread Cert.ReferenceModsIdeal.nD Cert.ReferenceModsIdeal.τ).loc Cert.ReferenceModsIdeal.main_arg2) = m' ((c.tc : Thread Cert.ReferenceModsIdeal.nD Cert.ReferenceModsIdeal.τ).loc Cert.ReferenceModsIdeal.main_arg2))

def preserves_KernelEmbed_KernelEmbedIdeal : Prop :=
  True

def algebraic_KernelEmbedIdeal_ReferenceEmbedIdeal [hKernelEmbedIdeal : Cert.KernelEmbedIdeal.Facts] [hReferenceEmbedIdeal : Cert.ReferenceEmbedIdeal.Facts] : Prop :=
  ∀ (m : (ℓ : Loc Cert.KernelEmbedIdeal.nD Cert.KernelEmbedIdeal.τ Cert.KernelEmbedIdeal.sig) → Buf (Elt Ideal) ℓ) (g : Dev Cert.KernelEmbedIdeal.nD → PrngReg)
    (m' : (ℓ : Loc Cert.ReferenceEmbedIdeal.nD Cert.ReferenceEmbedIdeal.τ Cert.ReferenceEmbedIdeal.sig) → Buf (Elt Ideal) ℓ) (g' : Dev Cert.ReferenceEmbedIdeal.nD → PrngReg), Pre_KernelEmbedIdeal m →
    (∀ c : Dev Cert.KernelEmbedIdeal.nD,
      m' ((c.tc : Thread Cert.ReferenceEmbedIdeal.nD Cert.ReferenceEmbedIdeal.τ).loc Cert.ReferenceEmbedIdeal.main_arg0) = m ((c.tc : Thread Cert.KernelEmbedIdeal.nD Cert.KernelEmbedIdeal.τ).loc Cert.KernelEmbedIdeal.main_arg0)
      ∧ m' ((c.tc : Thread Cert.ReferenceEmbedIdeal.nD Cert.ReferenceEmbedIdeal.τ).loc Cert.ReferenceEmbedIdeal.main_arg1) = m ((c.tc : Thread Cert.KernelEmbedIdeal.nD Cert.KernelEmbedIdeal.τ).loc Cert.KernelEmbedIdeal.main_arg1)
      ∧ m' ((c.tc : Thread Cert.ReferenceEmbedIdeal.nD Cert.ReferenceEmbedIdeal.τ).loc Cert.ReferenceEmbedIdeal.main_arg2) = m ((c.tc : Thread Cert.KernelEmbedIdeal.nD Cert.KernelEmbedIdeal.τ).loc Cert.KernelEmbedIdeal.main_arg2)) →
    ∃ (v0 : (c : Dev Cert.KernelEmbedIdeal.nD) → Buf (Elt Ideal) ((c.tc : Thread Cert.KernelEmbedIdeal.nD Cert.KernelEmbedIdeal.τ).loc Cert.KernelEmbedIdeal.main_v0)),
      θ_run (Cert.KernelEmbedIdeal.defs (F := Ideal)) (onTc (τ := Cert.KernelEmbedIdeal.τ) (Cert.KernelEmbedIdeal.main (F := Ideal))) ⟨m, fun _ => 0, g⟩ (fun r => ∀ c : Dev Cert.KernelEmbedIdeal.nD,
          r.2.mem ((c.tc : Thread Cert.KernelEmbedIdeal.nD Cert.KernelEmbedIdeal.τ).loc Cert.KernelEmbedIdeal.main_v0) = v0 c
          ∧ r.2.mem ((c.tc : Thread Cert.KernelEmbedIdeal.nD Cert.KernelEmbedIdeal.τ).loc Cert.KernelEmbedIdeal.main_arg0) = m ((c.tc : Thread Cert.KernelEmbedIdeal.nD Cert.KernelEmbedIdeal.τ).loc Cert.KernelEmbedIdeal.main_arg0)
          ∧ r.2.mem ((c.tc : Thread Cert.KernelEmbedIdeal.nD Cert.KernelEmbedIdeal.τ).loc Cert.KernelEmbedIdeal.main_arg1) = m ((c.tc : Thread Cert.KernelEmbedIdeal.nD Cert.KernelEmbedIdeal.τ).loc Cert.KernelEmbedIdeal.main_arg1)
          ∧ r.2.mem ((c.tc : Thread Cert.KernelEmbedIdeal.nD Cert.KernelEmbedIdeal.τ).loc Cert.KernelEmbedIdeal.main_arg2) = m ((c.tc : Thread Cert.KernelEmbedIdeal.nD Cert.KernelEmbedIdeal.τ).loc Cert.KernelEmbedIdeal.main_arg2))
      ∧ θ_run (Cert.ReferenceEmbedIdeal.defs (F := Ideal)) (onTc (τ := Cert.ReferenceEmbedIdeal.τ) (Cert.ReferenceEmbedIdeal.main (F := Ideal))) ⟨m', fun _ => 0, g'⟩ (fun r => ∀ c : Dev Cert.ReferenceEmbedIdeal.nD,
          r.2.mem ((c.tc : Thread Cert.ReferenceEmbedIdeal.nD Cert.ReferenceEmbedIdeal.τ).loc Cert.ReferenceEmbedIdeal.main_v5) = v0 c
          ∧ r.2.mem ((c.tc : Thread Cert.ReferenceEmbedIdeal.nD Cert.ReferenceEmbedIdeal.τ).loc Cert.ReferenceEmbedIdeal.main_arg0) = m' ((c.tc : Thread Cert.ReferenceEmbedIdeal.nD Cert.ReferenceEmbedIdeal.τ).loc Cert.ReferenceEmbedIdeal.main_arg0)
          ∧ r.2.mem ((c.tc : Thread Cert.ReferenceEmbedIdeal.nD Cert.ReferenceEmbedIdeal.τ).loc Cert.ReferenceEmbedIdeal.main_arg1) = m' ((c.tc : Thread Cert.ReferenceEmbedIdeal.nD Cert.ReferenceEmbedIdeal.τ).loc Cert.ReferenceEmbedIdeal.main_arg1)
          ∧ r.2.mem ((c.tc : Thread Cert.ReferenceEmbedIdeal.nD Cert.ReferenceEmbedIdeal.τ).loc Cert.ReferenceEmbedIdeal.main_arg2) = m' ((c.tc : Thread Cert.ReferenceEmbedIdeal.nD Cert.ReferenceEmbedIdeal.τ).loc Cert.ReferenceEmbedIdeal.main_arg2))

def Claim : Prop :=
  ∃ (hKernelScan : Cert.KernelScan.Facts) (hKernelScanIdeal : Cert.KernelScanIdeal.Facts) (hReferenceScanIdeal : Cert.ReferenceScanIdeal.Facts) (hKernelUp : Cert.KernelUp.Facts) (hKernelUpIdeal : Cert.KernelUpIdeal.Facts) (hReferenceUpIdeal : Cert.ReferenceUpIdeal.Facts) (hKernelDown : Cert.KernelDown.Facts) (hKernelDownIdeal : Cert.KernelDownIdeal.Facts) (hReferenceDownIdeal : Cert.ReferenceDownIdeal.Facts) (hKernelIn : Cert.KernelIn.Facts) (hKernelInIdeal : Cert.KernelInIdeal.Facts) (hReferenceInIdeal : Cert.ReferenceInIdeal.Facts) (hKernelMix : Cert.KernelMix.Facts) (hKernelMixIdeal : Cert.KernelMixIdeal.Facts) (hReferenceMixIdeal : Cert.ReferenceMixIdeal.Facts) (hKernelRank : Cert.KernelRank.Facts) (hKernelRankIdeal : Cert.KernelRankIdeal.Facts) (hReferenceRankIdeal : Cert.ReferenceRankIdeal.Facts) (hKernelNorm : Cert.KernelNorm.Facts) (hKernelNormIdeal : Cert.KernelNormIdeal.Facts) (hReferenceNormIdeal : Cert.ReferenceNormIdeal.Facts) (hKernelHead : Cert.KernelHead.Facts) (hKernelHeadIdeal : Cert.KernelHeadIdeal.Facts) (hReferenceHeadIdeal : Cert.ReferenceHeadIdeal.Facts) (hKernelLastPrompt : Cert.KernelLastPrompt.Facts) (hKernelLastPromptIdeal : Cert.KernelLastPromptIdeal.Facts) (hReferenceLastPromptIdeal : Cert.ReferenceLastPromptIdeal.Facts) (hKernelLastSample : Cert.KernelLastSample.Facts) (hKernelLastSampleIdeal : Cert.KernelLastSampleIdeal.Facts) (hReferenceLastSampleIdeal : Cert.ReferenceLastSampleIdeal.Facts) (hKernelMods : Cert.KernelMods.Facts) (hKernelModsIdeal : Cert.KernelModsIdeal.Facts) (hReferenceModsIdeal : Cert.ReferenceModsIdeal.Facts) (hKernelEmbed : Cert.KernelEmbed.Facts) (hKernelEmbedIdeal : Cert.KernelEmbedIdeal.Facts) (hReferenceEmbedIdeal : Cert.ReferenceEmbedIdeal.Facts) (hPre_finite : Cert.Pre_finite.Facts) (hOn_prompt_rows : Cert.On_prompt_rows.Facts),
    quiescent_KernelScan (hKernelScan := hKernelScan)
    ∧ quiescent_KernelScanIdeal (hKernelScanIdeal := hKernelScanIdeal)
    ∧ quiescent_KernelScanIdeal_pre_finite (hKernelScanIdeal := hKernelScanIdeal) (hPre_finite := hPre_finite)
    ∧ quiescent_ReferenceScanIdeal (hReferenceScanIdeal := hReferenceScanIdeal)
    ∧ quiescent_ReferenceScanIdeal_pre_finite (hReferenceScanIdeal := hReferenceScanIdeal) (hPre_finite := hPre_finite)
    ∧ quiescent_KernelUp (hKernelUp := hKernelUp)
    ∧ quiescent_KernelUpIdeal (hKernelUpIdeal := hKernelUpIdeal)
    ∧ quiescent_ReferenceUpIdeal (hReferenceUpIdeal := hReferenceUpIdeal)
    ∧ quiescent_KernelDown (hKernelDown := hKernelDown)
    ∧ quiescent_KernelDownIdeal (hKernelDownIdeal := hKernelDownIdeal)
    ∧ quiescent_ReferenceDownIdeal (hReferenceDownIdeal := hReferenceDownIdeal)
    ∧ quiescent_KernelIn (hKernelIn := hKernelIn)
    ∧ quiescent_KernelInIdeal (hKernelInIdeal := hKernelInIdeal)
    ∧ quiescent_ReferenceInIdeal (hReferenceInIdeal := hReferenceInIdeal)
    ∧ quiescent_KernelMix (hKernelMix := hKernelMix)
    ∧ quiescent_KernelMixIdeal (hKernelMixIdeal := hKernelMixIdeal)
    ∧ quiescent_ReferenceMixIdeal (hReferenceMixIdeal := hReferenceMixIdeal)
    ∧ quiescent_KernelRank (hKernelRank := hKernelRank)
    ∧ quiescent_KernelRankIdeal (hKernelRankIdeal := hKernelRankIdeal)
    ∧ quiescent_ReferenceRankIdeal (hReferenceRankIdeal := hReferenceRankIdeal)
    ∧ quiescent_KernelNorm (hKernelNorm := hKernelNorm)
    ∧ quiescent_KernelNormIdeal (hKernelNormIdeal := hKernelNormIdeal)
    ∧ quiescent_ReferenceNormIdeal (hReferenceNormIdeal := hReferenceNormIdeal)
    ∧ quiescent_KernelHead (hKernelHead := hKernelHead)
    ∧ quiescent_KernelHeadIdeal (hKernelHeadIdeal := hKernelHeadIdeal)
    ∧ quiescent_ReferenceHeadIdeal (hReferenceHeadIdeal := hReferenceHeadIdeal)
    ∧ quiescent_KernelLastPrompt (hKernelLastPrompt := hKernelLastPrompt)
    ∧ quiescent_KernelLastPromptIdeal (hKernelLastPromptIdeal := hKernelLastPromptIdeal)
    ∧ quiescent_ReferenceLastPromptIdeal (hReferenceLastPromptIdeal := hReferenceLastPromptIdeal)
    ∧ quiescent_KernelLastSample (hKernelLastSample := hKernelLastSample)
    ∧ quiescent_KernelLastSampleIdeal (hKernelLastSampleIdeal := hKernelLastSampleIdeal)
    ∧ quiescent_ReferenceLastSampleIdeal (hReferenceLastSampleIdeal := hReferenceLastSampleIdeal)
    ∧ quiescent_KernelMods (hKernelMods := hKernelMods)
    ∧ quiescent_KernelModsIdeal (hKernelModsIdeal := hKernelModsIdeal)
    ∧ quiescent_ReferenceModsIdeal (hReferenceModsIdeal := hReferenceModsIdeal)
    ∧ quiescent_KernelEmbed (hKernelEmbed := hKernelEmbed)
    ∧ quiescent_KernelEmbedIdeal (hKernelEmbedIdeal := hKernelEmbedIdeal)
    ∧ quiescent_ReferenceEmbedIdeal (hReferenceEmbedIdeal := hReferenceEmbedIdeal)
    ∧ preserves_KernelScan_KernelScanIdeal
    ∧ algebraic_KernelScanIdeal_ReferenceScanIdeal_on_prompt_rows_pre_finite (hKernelScanIdeal := hKernelScanIdeal) (hReferenceScanIdeal := hReferenceScanIdeal) (hPre_finite := hPre_finite) (hOn_prompt_rows := hOn_prompt_rows)
    ∧ preserves_KernelUp_KernelUpIdeal
    ∧ algebraic_KernelUpIdeal_ReferenceUpIdeal (hKernelUpIdeal := hKernelUpIdeal) (hReferenceUpIdeal := hReferenceUpIdeal)
    ∧ preserves_KernelDown_KernelDownIdeal
    ∧ algebraic_KernelDownIdeal_ReferenceDownIdeal (hKernelDownIdeal := hKernelDownIdeal) (hReferenceDownIdeal := hReferenceDownIdeal)
    ∧ preserves_KernelIn_KernelInIdeal
    ∧ algebraic_KernelInIdeal_ReferenceInIdeal (hKernelInIdeal := hKernelInIdeal) (hReferenceInIdeal := hReferenceInIdeal)
    ∧ preserves_KernelMix_KernelMixIdeal
    ∧ algebraic_KernelMixIdeal_ReferenceMixIdeal (hKernelMixIdeal := hKernelMixIdeal) (hReferenceMixIdeal := hReferenceMixIdeal)
    ∧ preserves_KernelRank_KernelRankIdeal
    ∧ algebraic_KernelRankIdeal_ReferenceRankIdeal (hKernelRankIdeal := hKernelRankIdeal) (hReferenceRankIdeal := hReferenceRankIdeal)
    ∧ preserves_KernelNorm_KernelNormIdeal
    ∧ algebraic_KernelNormIdeal_ReferenceNormIdeal (hKernelNormIdeal := hKernelNormIdeal) (hReferenceNormIdeal := hReferenceNormIdeal)
    ∧ preserves_KernelHead_KernelHeadIdeal
    ∧ algebraic_KernelHeadIdeal_ReferenceHeadIdeal (hKernelHeadIdeal := hKernelHeadIdeal) (hReferenceHeadIdeal := hReferenceHeadIdeal)
    ∧ preserves_KernelLastPrompt_KernelLastPromptIdeal
    ∧ algebraic_KernelLastPromptIdeal_ReferenceLastPromptIdeal (hKernelLastPromptIdeal := hKernelLastPromptIdeal) (hReferenceLastPromptIdeal := hReferenceLastPromptIdeal)
    ∧ preserves_KernelLastSample_KernelLastSampleIdeal
    ∧ algebraic_KernelLastSampleIdeal_ReferenceLastSampleIdeal (hKernelLastSampleIdeal := hKernelLastSampleIdeal) (hReferenceLastSampleIdeal := hReferenceLastSampleIdeal)
    ∧ preserves_KernelMods_KernelModsIdeal
    ∧ algebraic_KernelModsIdeal_ReferenceModsIdeal (hKernelModsIdeal := hKernelModsIdeal) (hReferenceModsIdeal := hReferenceModsIdeal)
    ∧ preserves_KernelEmbed_KernelEmbedIdeal
    ∧ algebraic_KernelEmbedIdeal_ReferenceEmbedIdeal (hKernelEmbedIdeal := hKernelEmbedIdeal) (hReferenceEmbedIdeal := hReferenceEmbedIdeal)
-- ==== On_prompt_rows.lean ====
abbrev S24576x12288 : Shape := ⟨2, ![24576, 12288]⟩
abbrev S24576x128 : Shape := ⟨2, ![24576, 128]⟩
abbrev S16x2048 : Shape := ⟨2, ![16, 2048]⟩
abbrev S2048 : Shape := ⟨1, ![2048]⟩
abbrev S24576x4096 : Shape := ⟨2, ![24576, 4096]⟩
abbrev S_ : Shape := ⟨0, ![]⟩
abbrev S32x8x256x512 : Shape := ⟨4, ![32, 8, 256, 512]⟩

class Facts : Prop where
  bcast_S_S24576x4096 : S_.BroadcastsInDim S24576x4096 (![] : Fin 0 → Fin S24576x4096.rank)
  bcast_S_S32x8x256x512 : S_.BroadcastsInDim S32x8x256x512 (![] : Fin 0 → Fin S32x8x256x512.rank)

variable [Facts]

def fn {F : FTy → Type} [FloatOps F] (main_arg0 : FVec F S24576x12288 .f32) (main_arg1 : FVec F S24576x128 .f32) (main_arg2 : FVec F S16x2048 .f32) (main_arg3 : FVec F S2048 .f32) (main_arg4 : FVec F S16x2048 .f32) (main_arg5 : FVec F S2048 .f32) : IVec S24576x4096 1 × IVec S24576x4096 1 × IVec S32x8x256x512 1 × IVec S32x8x256x512 1 :=
  let main_v0 : IVec S24576x4096 32 := iotaInDim S24576x4096 32 0
  let main_c : IVec S_ 32 := constantI S_ 32 8192#32
  let main_v1 : IVec S24576x4096 32 := broadcastInDim S24576x4096 ![] bcast_S_S24576x4096 main_c
  let main_v2 : IVec S24576x4096 1 := cmpi .slt main_v0 main_v1
  let main_c_0 : IVec S_ 1 := constantI S_ 1 1#1
  let main_v3 : IVec S32x8x256x512 1 := broadcastInDim S32x8x256x512 ![] bcast_S_S32x8x256x512 main_c_0
  (main_v2, main_v2, main_v3, main_v3)
-- ==== Pre_finite.lean ====
abbrev S24576x12288 : Shape := ⟨2, ![24576, 12288]⟩
abbrev S24576x128 : Shape := ⟨2, ![24576, 128]⟩
abbrev S16x2048 : Shape := ⟨2, ![16, 2048]⟩
abbrev S2048 : Shape := ⟨1, ![2048]⟩
abbrev S_ : Shape := ⟨0, ![]⟩

class Facts : Prop where
  bcast_S_S24576x12288 : S_.BroadcastsInDim S24576x12288 (![] : Fin 0 → Fin S24576x12288.rank)
  reducesTo_S24576x12288_S_d0_1 : S24576x12288.ReducesTo [0, 1] S_
  h_S_ : 0 < S_.numel
  bcast_S_S24576x128 : S_.BroadcastsInDim S24576x128 (![] : Fin 0 → Fin S24576x128.rank)
  reducesTo_S24576x128_S_d0_1 : S24576x128.ReducesTo [0, 1] S_
  bcast_S_S16x2048 : S_.BroadcastsInDim S16x2048 (![] : Fin 0 → Fin S16x2048.rank)
  reducesTo_S16x2048_S_d0_1 : S16x2048.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg4 : FVec F S16x2048 .f32) (main_arg5 : FVec F S2048 .f32) (main_v14 : IVec S_ 1) (main_v15 : FVec F S2048 .f32) (main_cst_5 : FVec F S_ .f32) : IVec S_ 1 :=
  let main_v16 : FVec F S2048 .f32 := broadcastInDim S2048 ![] bcast_S_S2048 main_cst_5
  let main_v17 : IVec S2048 1 := cmpf .olt main_v15 main_v16
  let main_c_6 : IVec S_ 1 := constantI S_ 1 1#1
  let main_v18 : IVec S_ 1 := (fun x v => Host.reduce IntOp.andi x v reducesTo_S2048_S_d0 h_S_) main_v17 main_c_6
  let main_v19 : IVec S_ 1 := andi main_v14 main_v18
  let main_v20 : FVec F S16x2048 .f32 := Host.absf main_arg4
  let main_cst_7 : FVec F S_ .f32 := constant S_ .f32 0x7F800000#32
  let main_v21 : FVec F S16x2048 .f32 := broadcastInDim S16x2048 ![] bcast_S_S16x2048 main_cst_7
  let main_v22 : IVec S16x2048 1 := cmpf .olt main_v20 main_v21
  let main_c_8 : IVec S_ 1 := constantI S_ 1 1#1
  let main_v23 : IVec S_ 1 := (fun x v => Host.reduce IntOp.andi x v reducesTo_S16x2048_S_d0_1 h_S_) main_v22 main_c_8
  let main_v24 : IVec S_ 1 := andi main_v19 main_v23
  let main_v25 : FVec F S2048 .f32 := Host.absf main_arg5
  let main_cst_9 : FVec F S_ .f32 := constant S_ .f32 0x7F800000#32
  let main_v26 : FVec F S2048 .f32 := broadcastInDim S2048 ![] bcast_S_S2048 main_cst_9
  let main_v27 : IVec S2048 1 := cmpf .olt main_v25 main_v26
  let main_c_10 : IVec S_ 1 := constantI S_ 1 1#1
  let main_v28 : IVec S_ 1 := (fun x v => Host.reduce IntOp.andi x v reducesTo_S2048_S_d0 h_S_) main_v27 main_c_10
  let main_v29 : IVec S_ 1 := andi main_v24 main_v28
  main_v29

def fn {F : FTy → Type} [FloatOps F] (main_arg0 : FVec F S24576x12288 .f32) (main_arg1 : FVec F S24576x128 .f32) (main_arg2 : FVec F S16x2048 .f32) (main_arg3 : FVec F S2048 .f32) (main_arg4 : FVec F S16x2048 .f32) (main_arg5 : FVec F S2048 .f32) : IVec S_ 1 :=
  let main_v0 : FVec F S24576x12288 .f32 := Host.absf main_arg0
  let main_cst : FVec F S_ .f32 := constant S_ .f32 0x7F800000#32
  let main_v1 : FVec F S24576x12288 .f32 := broadcastInDim S24576x12288 ![] bcast_S_S24576x12288 main_cst
  let main_v2 : IVec S24576x12288 1 := cmpf .olt main_v0 main_v1
  let main_c : IVec S_ 1 := constantI S_ 1 1#1
  let main_v3 : IVec S_ 1 := (fun x v => Host.reduce IntOp.andi x v reducesTo_S24576x12288_S_d0_1 h_S_) main_v2 main_c
  let main_c_0 : IVec S_ 1 := constantI S_ 1 1#1
  let main_v4 : IVec S_ 1 := andi main_c_0 main_v3
  let main_v5 : FVec F S24576x128 .f32 := Host.absf main_arg1
  let main_cst_1 : FVec F S_ .f32 := constant S_ .f32 0x7F800000#32
  let main_v6 : FVec F S24576x128 .f32 := broadcastInDim S24576x128 ![] bcast_S_S24576x128 main_cst_1
  let main_v7 : IVec S24576x128 1 := cmpf .olt main_v5 main_v6
  let main_c_2 : IVec S_ 1 := constantI S_ 1 1#1
  let main_v8 : IVec S_ 1 := (fun x v => Host.reduce IntOp.andi x v reducesTo_S24576x128_S_d0_1 h_S_) main_v7 main_c_2
  let main_v9 : IVec S_ 1 := andi main_v4 main_v8
  let main_v10 : FVec F S16x2048 .f32 := Host.absf main_arg2
  let main_cst_3 : FVec F S_ .f32 := constant S_ .f32 0x7F800000#32
  let main_v11 : FVec F S16x2048 .f32 := broadcastInDim S16x2048 ![] bcast_S_S16x2048 main_cst_3
  let main_v12 : IVec S16x2048 1 := cmpf .olt main_v10 main_v11
  let main_c_4 : IVec S_ 1 := constantI S_ 1 1#1
  let main_v13 : IVec S_ 1 := (fun x v => Host.reduce IntOp.andi x v reducesTo_S16x2048_S_d0_1 h_S_) main_v12 main_c_4
  let main_v14 : IVec S_ 1 := andi main_v9 main_v13
  let main_v15 : FVec F S2048 .f32 := Host.absf main_arg3
  let main_cst_5 : FVec F S_ .f32 := constant S_ .f32 0x7F800000#32
  fn_part1 (F := F) main_arg4 main_arg5 main_v14 main_v15 main_cst_5
-- ==== KernelScan.lean ====
abbrev S24576x12288 : Shape := ⟨2, ![24576, 12288]⟩
abbrev S24576x128 : Shape := ⟨2, ![24576, 128]⟩
abbrev S16x2048 : Shape := ⟨2, ![16, 2048]⟩
abbrev S2048 : Shape := ⟨1, ![2048]⟩
abbrev S_ : Shape := ⟨0, ![]⟩
abbrev S128x2048 : Shape := ⟨2, ![128, 2048]⟩
abbrev S1 : Shape := ⟨1, ![1]⟩
abbrev S1x2048 : Shape := ⟨2, ![1, 2048]⟩
abbrev S1024 : Shape := ⟨1, ![1024]⟩
abbrev S1x1024 : Shape := ⟨2, ![1, 1024]⟩
abbrev S2x1024 : Shape := ⟨2, ![2, 1024]⟩
abbrev S2x1024x1 : Shape := ⟨3, ![2, 1024, 1]⟩
abbrev S128 : Shape := ⟨1, ![128]⟩
abbrev S1x1x128 : Shape := ⟨3, ![1, 1, 128]⟩
abbrev S2x1024x128 : Shape := ⟨3, ![2, 1024, 128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S2x128x128 : Shape := ⟨3, ![2, 128, 128]⟩
abbrev S24576x4096 : Shape := ⟨2, ![24576, 4096]⟩
abbrev S32x8x256x512 : Shape := ⟨4, ![32, 8, 256, 512]⟩
abbrev S128x256 : Shape := ⟨2, ![128, 256]⟩
abbrev S128x512 : Shape := ⟨2, ![128, 512]⟩
abbrev S1x256 : Shape := ⟨2, ![1, 256]⟩
abbrev S1x1x256x512 : Shape := ⟨4, ![1, 1, 256, 512]⟩
abbrev S256x512 : Shape := ⟨2, ![256, 512]⟩
abbrev S1x1024x128 : Shape := ⟨3, ![1, 1024, 128]⟩
abbrev S1024x128 : Shape := ⟨2, ![1024, 128]⟩
abbrev S128x768 : Shape := ⟨2, ![128, 768]⟩
abbrev S1024x768 : Shape := ⟨2, ![1024, 768]⟩
abbrev S1024x256 : Shape := ⟨2, ![1024, 256]⟩
abbrev S256x128 : Shape := ⟨2, ![256, 128]⟩
abbrev S256x1 : Shape := ⟨2, ![256, 1]⟩

abbrev nBuf : Space → Nat
  | .hbm => 149
  | .vmem => 36
  | .smem => 0
  | _ => 0

abbrev hbmTy0_0 (i : Nat) : BufTy := match i % 128 with
  | 0 => ⟨S24576x12288, .f32⟩
  | 1 => ⟨S24576x128, .f32⟩
  | 2 => ⟨S16x2048, .f32⟩
  | 3 => ⟨S2048, .f32⟩
  | 4 => ⟨S16x2048, .f32⟩
  | 5 => ⟨S2048, .f32⟩
  | 6 => ⟨S_, .f32⟩
  | 7 => ⟨S128x2048, .f32⟩
  | 8 => ⟨S_, .i32⟩
  | 9 => ⟨S1, .i32⟩
  | 10 => ⟨S128x2048, .f32⟩
  | 11 => ⟨S_, .f32⟩
  | 12 => ⟨S128x2048, .f32⟩
  | 13 => ⟨S_, .i32⟩
  | 14 => ⟨S1, .i32⟩
  | 15 => ⟨S128x2048, .f32⟩
  | 16 => ⟨S1x2048, .f32⟩
  | 17 => ⟨S1x2048, .f32⟩
  | 18 => ⟨S1024, .i32⟩
  | 19 => ⟨S_, .i32⟩
  | 20 => ⟨S1024, .i32⟩
  | 21 => ⟨S1024, .i32⟩
  | 22 => ⟨S_, .i32⟩
  | 23 => ⟨S1024, .i32⟩
  | 24 => ⟨S1024, .i32⟩
  | 25 => ⟨S_, .i32⟩
  | 26 => ⟨S1024, .i32⟩
  | 27 => ⟨S1024, .i32⟩
  | 28 => ⟨S_, .i32⟩
  | 29 => ⟨S1024, .i32⟩
  | 30 => ⟨S1024, .i32⟩
  | 31 => ⟨S_, .i32⟩
  | 32 => ⟨S1024, .i32⟩
  | 33 => ⟨S1024, .i32⟩
  | 34 => ⟨S1024, .i32⟩
  | 35 => ⟨S1024, .i32⟩
  | 36 => ⟨S1024, .i32⟩
  | 37 => ⟨S_, .i32⟩
  | 38 => ⟨S1024, .i32⟩
  | 39 => ⟨S1024, .i1⟩
  | 40 => ⟨S1024, .i32⟩
  | 41 => ⟨S1024, .i1⟩
  | 42 => ⟨S_, .i32⟩
  | 43 => ⟨S1024, .i32⟩
  | 44 => ⟨S1024, .i32⟩
  | 45 => ⟨S1024, .i32⟩
  | 46 => ⟨S_, .i32⟩
  | 47 => ⟨S_, .i32⟩
  | 48 => ⟨S1024, .i32⟩
  | 49 => ⟨S1024, .i32⟩
  | 50 => ⟨S_, .i32⟩
  | 51 => ⟨S1024, .i32⟩
  | 52 => ⟨S1024, .i32⟩
  | 53 => ⟨S_, .i32⟩
  | 54 => ⟨S1024, .i32⟩
  | 55 => ⟨S1024, .i32⟩
  | 56 => ⟨S1024, .i32⟩
  | 57 => ⟨S1024, .i32⟩
  | 58 => ⟨S1024, .i32⟩
  | 59 => ⟨S1024, .i32⟩
  | 60 => ⟨S1024, .i32⟩
  | 61 => ⟨S_, .i32⟩
  | 62 => ⟨S_, .i32⟩
  | 63 => ⟨S1024, .i32⟩
  | 64 => ⟨S1024, .i32⟩
  | 65 => ⟨S1x1024, .i32⟩
  | 66 => ⟨S1x1024, .i32⟩
  | 67 => ⟨S2x1024, .i32⟩
  | 68 => ⟨S2x1024x1, .i32⟩
  | 69 => ⟨S1x1024, .i32⟩
  | 70 => ⟨S1x1024, .i32⟩
  | 71 => ⟨S2x1024, .i32⟩
  | 72 => ⟨S2x1024x1, .i32⟩
  | 73 => ⟨S128, .i32⟩
  | 74 => ⟨S1x1x128, .i32⟩
  | 75 => ⟨S2x1024x128, .i32⟩
  | 76 => ⟨S2x1024x128, .i32⟩
  | 77 => ⟨S2x1024x128, .i1⟩
  | 78 => ⟨S2x1024x128, .i32⟩
  | 79 => ⟨S2x1024x128, .i32⟩
  | 80 => ⟨S2x1024x128, .i1⟩
  | 81 => ⟨S2x1024x128, .i1⟩
  | 82 => ⟨S2x1024x128, .f32⟩
  | 83 => ⟨S128, .i32⟩
  | 84 => ⟨S128x1, .i32⟩
  | 85 => ⟨S128, .i32⟩
  | 86 => ⟨S1x128, .i32⟩
  | 87 => ⟨S128x128, .i32⟩
  | 88 => ⟨S128x128, .i32⟩
  | 89 => ⟨S128x128, .i32⟩
  | 90 => ⟨S_, .i32⟩
  | 91 => ⟨S128x128, .i32⟩
  | 92 => ⟨S128x128, .i1⟩
  | 93 => ⟨S128x128, .i32⟩
  | 94 => ⟨S_, .i32⟩
  | 95 => ⟨S128x128, .i32⟩
  | 96 => ⟨S128x128, .i32⟩
  | 97 => ⟨S_, .i32⟩
  | 98 => ⟨S128x128, .i32⟩
  | 99 => ⟨S128x128, .i1⟩
  | 100 => ⟨S128x128, .i32⟩
  | 101 => ⟨S128x128, .i32⟩
  | 102 => ⟨S_, .i32⟩
  | 103 => ⟨S128x128, .i32⟩
  | 104 => ⟨S128x128, .i1⟩
  | 105 => ⟨S128x128, .i32⟩
  | 106 => ⟨S128x128, .i32⟩
  | 107 => ⟨S_, .i32⟩
  | 108 => ⟨S128x128, .i32⟩
  | 109 => ⟨S128x128, .i1⟩
  | 110 => ⟨S128x128, .i32⟩
  | 111 => ⟨S128x128, .i32⟩
  | 112 => ⟨S_, .i32⟩
  | 113 => ⟨S128x128, .i32⟩
  | 114 => ⟨S128x128, .i1⟩
  | 115 => ⟨S128x128, .i32⟩
  | 116 => ⟨S128x128, .i32⟩
  | 117 => ⟨S_, .i32⟩
  | 118 => ⟨S128x128, .i32⟩
  | 119 => ⟨S128x128, .i1⟩
  | 120 => ⟨S128x128, .i32⟩
  | 121 => ⟨S128x128, .i32⟩
  | 122 => ⟨S_, .i32⟩
  | 123 => ⟨S128x128, .i32⟩
  | 124 => ⟨S128x128, .i1⟩
  | 125 => ⟨S128x128, .i32⟩
  | 126 => ⟨S128x128, .i32⟩
  | 127 => ⟨S128x128, .i32⟩
  | _ => ⟨S24576x12288, .f32⟩

abbrev hbmTy0_1 (i : Nat) : BufTy := match i % 128 with
  | 0 => ⟨S128x128, .i32⟩
  | 1 => ⟨S128x128, .i1⟩
  | 2 => ⟨S_, .i32⟩
  | 3 => ⟨S_, .i32⟩
  | 4 => ⟨S128x128, .i32⟩
  | 5 => ⟨S128x128, .i32⟩
  | 6 => ⟨S128x128, .i32⟩
  | 7 => ⟨S128x128, .i32⟩
  | 8 => ⟨S128x128, .i1⟩
  | 9 => ⟨S_, .i32⟩
  | 10 => ⟨S_, .i32⟩
  | 11 => ⟨S128x128, .i32⟩
  | 12 => ⟨S128x128, .i32⟩
  | 13 => ⟨S1x128x128, .i32⟩
  | 14 => ⟨S1x128x128, .i32⟩
  | 15 => ⟨S2x128x128, .i32⟩
  | 16 => ⟨S2x1024x128, .bf16⟩
  | 17 => ⟨S24576x4096, .f32⟩
  | 18 => ⟨S24576x4096, .f32⟩
  | 19 => ⟨S32x8x256x512, .f32⟩
  | 20 => ⟨S32x8x256x512, .f32⟩
  | _ => ⟨S24576x12288, .f32⟩

abbrev hbmTy (i : Nat) : BufTy := match i / 128 with
  | 0 => hbmTy0_0 i
  | 1 => hbmTy0_1 i
  | _ => ⟨S24576x12288, .f32⟩

abbrev bufTy : (tb : Table) → Fin (tcTables nBuf tb) → BufTy
  | .hbm, ⟨i, _⟩ => hbmTy i
  | .local _ .vmem, ⟨0, _⟩ => ⟨S128x256, .f32⟩
  | .local _ .vmem, ⟨1, _⟩ => ⟨S128x256, .f32⟩
  | .local _ .vmem, ⟨2, _⟩ => ⟨S128x256, .f32⟩
  | .local _ .vmem, ⟨3, _⟩ => ⟨S128x256, .f32⟩
  | .local _ .vmem, ⟨4, _⟩ => ⟨S128x512, .f32⟩
  | .local _ .vmem, ⟨5, _⟩ => ⟨S128x512, .f32⟩
  | .local _ .vmem, ⟨6, _⟩ => ⟨S128x128, .f32⟩
  | .local _ .vmem, ⟨7, _⟩ => ⟨S128x128, .f32⟩
  | .local _ .vmem, ⟨8, _⟩ => ⟨S128x256, .f32⟩
  | .local _ .vmem, ⟨9, _⟩ => ⟨S128x256, .f32⟩
  | .local _ .vmem, ⟨10, _⟩ => ⟨S128x256, .f32⟩
  | .local _ .vmem, ⟨11, _⟩ => ⟨S128x256, .f32⟩
  | .local _ .vmem, ⟨12, _⟩ => ⟨S128x512, .f32⟩
  | .local _ .vmem, ⟨13, _⟩ => ⟨S128x512, .f32⟩
  | .local _ .vmem, ⟨14, _⟩ => ⟨S128x128, .f32⟩
  | .local _ .vmem, ⟨15, _⟩ => ⟨S128x128, .f32⟩
  | .local _ .vmem, ⟨16, _⟩ => ⟨S128x256, .f32⟩
  | .local _ .vmem, ⟨17, _⟩ => ⟨S128x256, .f32⟩
  | .local _ .vmem, ⟨18, _⟩ => ⟨S1x256, .f32⟩
  | .local _ .vmem, ⟨19, _⟩ => ⟨S1x256, .f32⟩
  | .local _ .vmem, ⟨20, _⟩ => ⟨S128x256, .f32⟩
  | .local _ .vmem, ⟨21, _⟩ => ⟨S128x256, .f32⟩
  | .local _ .vmem, ⟨22, _⟩ => ⟨S1x256, .f32⟩
  | .local _ .vmem, ⟨23, _⟩ => ⟨S1x256, .f32⟩
  | .local _ .vmem, ⟨24, _⟩ => ⟨S2x1024x128, .bf16⟩
  | .local _ .vmem, ⟨25, _⟩ => ⟨S2x128x128, .i32⟩
  | .local _ .vmem, ⟨26, _⟩ => ⟨S128x512, .f32⟩
  | .local _ .vmem, ⟨27, _⟩ => ⟨S128x512, .f32⟩
  | .local _ .vmem, ⟨28, _⟩ => ⟨S128x512, .f32⟩
  | .local _ .vmem, ⟨29, _⟩ => ⟨S128x512, .f32⟩
  | .local _ .vmem, ⟨30, _⟩ => ⟨S1x1x256x512, .f32⟩
  | .local _ .vmem, ⟨31, _⟩ => ⟨S1x1x256x512, .f32⟩
  | .local _ .vmem, ⟨32, _⟩ => ⟨S1x1x256x512, .f32⟩
  | .local _ .vmem, ⟨33, _⟩ => ⟨S1x1x256x512, .f32⟩
  | .local _ .vmem, ⟨34, _⟩ => ⟨S256x512, .f32⟩
  | .local _ .vmem, ⟨35, _⟩ => ⟨S256x512, .f32⟩
  | _, _ => ⟨S24576x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_c_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c_2 : Ref sig .tc := ⟨.hbm, 19, rfl⟩
abbrev main_v9 : Ref sig .tc := ⟨.hbm, 20, rfl⟩
abbrev main_v10 : Ref sig .tc := ⟨.hbm, 21, rfl⟩
abbrev main_c_3 : Ref sig .tc := ⟨.hbm, 22, rfl⟩
abbrev main_v11 : Ref sig .tc := ⟨.hbm, 23, rfl⟩
abbrev main_v12 : Ref sig .tc := ⟨.hbm, 24, rfl⟩
abbrev main_c_4 : Ref sig .tc := ⟨.hbm, 25, rfl⟩
abbrev main_v13 : Ref sig .tc := ⟨.hbm, 26, rfl⟩
abbrev main_v14 : Ref sig .tc := ⟨.hbm, 27, rfl⟩
abbrev main_c_5 : Ref sig .tc := ⟨.hbm, 28, rfl⟩
abbrev main_v15 : Ref sig .tc := ⟨.hbm, 29, rfl⟩
abbrev main_v16 : Ref sig .tc := ⟨.hbm, 30, rfl⟩
abbrev main_c_6 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_7 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c_8 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c_9 : Ref sig .tc := ⟨.hbm, 46, rfl⟩
abbrev main_call1_v0 : Ref sig .tc := ⟨.hbm, 47, rfl⟩
abbrev main_call1_v1 : Ref sig .tc := ⟨.hbm, 48, rfl⟩
abbrev main_v29 : Ref sig .tc := ⟨.hbm, 49, rfl⟩
abbrev main_c_10 : Ref sig .tc := ⟨.hbm, 50, rfl⟩
abbrev main_v30 : Ref sig .tc := ⟨.hbm, 51, rfl⟩
abbrev main_v31 : Ref sig .tc := ⟨.hbm, 52, rfl⟩
abbrev main_c_11 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_c_12 : Ref sig .tc := ⟨.hbm, 61, rfl⟩
abbrev main_call7_v0 : Ref sig .tc := ⟨.hbm, 62, rfl⟩
abbrev main_call7_v1 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_c_13 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_c_14 : Ref sig .tc := ⟨.hbm, 94, rfl⟩
abbrev main_v68 : Ref sig .tc := ⟨.hbm, 95, rfl⟩
abbrev main_v69 : Ref sig .tc := ⟨.hbm, 96, rfl⟩
abbrev main_c_15 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_c_16 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_c_17 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_c_18 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_c_19 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_c_20 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_c_21 : Ref sig .tc := ⟨.hbm, 130, rfl⟩
abbrev main_call8_v0 : Ref sig .tc := ⟨.hbm, 131, rfl⟩
abbrev main_call8_v1 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_c_22 : Ref sig .tc := ⟨.hbm, 137, rfl⟩
abbrev main_call9_v0 : Ref sig .tc := ⟨.hbm, 138, rfl⟩
abbrev main_call9_v1 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106_0 : Ref sig .tc := ⟨.hbm, 145, rfl⟩
abbrev main_v106_1 : Ref sig .tc := ⟨.hbm, 146, rfl⟩
abbrev main_v106_2 : Ref sig .tc := ⟨.hbm, 147, rfl⟩
abbrev main_v106_3 : Ref sig .tc := ⟨.hbm, 148, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg13_0 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_stg17_0 : Ref sig .tc := ⟨.vmem, 32, rfl⟩
abbrev cc0_stg17_1 : Ref sig .tc := ⟨.vmem, 33, rfl⟩
abbrev cc0_scratch0 : Ref sig .tc := ⟨.vmem, 34, rfl⟩
abbrev cc0_scratch1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem13_0 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30
abbrev cc0_sem16_1 : DmaSem sig := 31
abbrev cc0_sem17_0 : DmaSem sig := 32
abbrev cc0_sem17_1 : DmaSem sig := 33

abbrev nD : Nat := 1
abbrev τ : Topo := Topo.v7x

variable {F : FTy → Type} [FloatOps F]

abbrev grid0 : Pipeline.Grid := ⟨3, ![32, 8, 2], ![false, false, false]⟩

def k0_cond2 (i : grid0.Coords) : BitVec 1 :=
  let arg2 : BitVec 32 := BitVec.ofNat 32 (i 2).val
  let c1_i32_109 : BitVec 32 := 1#32
  let v353 : BitVec 1 := Scalar.cmpi .eq arg2 c1_i32_109
  let v354 : BitVec 32 := Scalar.extui v353
  let c0_i32_110 : BitVec 32 := 0#32
  let v355 : BitVec 1 := Scalar.cmpi .ne v354 c0_i32_110
  v355

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let c0_i32 : BitVec 32 := 0#32
  let v1 : BitVec 32 := Scalar.addi c0_i32 v0
  let v2 : BitVec 32 := Scalar.addi v1 arg2
  let c0_i32_0 : BitVec 32 := 0#32
  ![v2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let c0_i32 : BitVec 32 := 0#32
  let v1 : BitVec 32 := Scalar.addi c0_i32 v0
  let v2 : BitVec 32 := Scalar.addi v1 arg2
  let c8_i32 : BitVec 32 := 8#32
  let v3 : BitVec 32 := Scalar.addi c8_i32 arg1
  let c0_i32_0 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let c0_i32 : BitVec 32 := 0#32
  let v1 : BitVec 32 := Scalar.addi c0_i32 v0
  let v2 : BitVec 32 := Scalar.addi v1 arg2
  let c8_i32 : BitVec 32 := 8#32
  let v3 : BitVec 32 := Scalar.addi c8_i32 arg1
  let c0_i32_0 : BitVec 32 := 0#32
  ![v2.toNat, v3.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let c0_i32 : BitVec 32 := 0#32
  let v1 : BitVec 32 := Scalar.addi c0_i32 v0
  let v2 : BitVec 32 := Scalar.addi v1 arg2
  let c0_i32_0 : BitVec 32 := 0#32
  let c0_i32_1 : BitVec 32 := 0#32
  ![v2.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let c0_i32 : BitVec 32 := 0#32
  let v1 : BitVec 32 := Scalar.addi c0_i32 v0
  let c1_i32 : BitVec 32 := 1#32
  let v2 : BitVec 32 := Scalar.subi c1_i32 arg2
  let v3 : BitVec 32 := Scalar.addi v1 v2
  let c0_i32_0 : BitVec 32 := 0#32
  ![v3.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let c0_i32 : BitVec 32 := 0#32
  let v1 : BitVec 32 := Scalar.addi c0_i32 v0
  let c1_i32 : BitVec 32 := 1#32
  let v2 : BitVec 32 := Scalar.subi c1_i32 arg2
  let v3 : BitVec 32 := Scalar.addi v1 v2
  let c8_i32 : BitVec 32 := 8#32
  let v4 : BitVec 32 := Scalar.addi c8_i32 arg1
  let c0_i32_0 : BitVec 32 := 0#32
  ![v3.toNat, v4.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let c0_i32 : BitVec 32 := 0#32
  let v1 : BitVec 32 := Scalar.addi c0_i32 v0
  let c1_i32 : BitVec 32 := 1#32
  let v2 : BitVec 32 := Scalar.subi c1_i32 arg2
  let v3 : BitVec 32 := Scalar.addi v1 v2
  let c8_i32 : BitVec 32 := 8#32
  let v4 : BitVec 32 := Scalar.addi c8_i32 arg1
  let c0_i32_0 : BitVec 32 := 0#32
  ![v3.toNat, v4.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let c0_i32 : BitVec 32 := 0#32
  let v1 : BitVec 32 := Scalar.addi c0_i32 v0
  let c1_i32 : BitVec 32 := 1#32
  let v2 : BitVec 32 := Scalar.subi c1_i32 arg2
  let v3 : BitVec 32 := Scalar.addi v1 v2
  let c0_i32_0 : BitVec 32 := 0#32
  let c0_i32_1 : BitVec 32 := 0#32
  ![v3.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_12 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let c0_i32 : BitVec 32 := 0#32
  let v1 : BitVec 32 := Scalar.addi c0_i32 v0
  let v2 : BitVec 32 := Scalar.addi v1 arg2
  let c0_i32_0 : BitVec 32 := 0#32
  ![v2.toNat, arg1.toNat]

def cc0_transform_15 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let c0_i32 : BitVec 32 := 0#32
  let v1 : BitVec 32 := Scalar.addi c0_i32 v0
  let c1_i32 : BitVec 32 := 1#32
  let v2 : BitVec 32 := Scalar.subi c1_i32 arg2
  let v3 : BitVec 32 := Scalar.addi v1 v2
  let c0_i32_0 : BitVec 32 := 0#32
  ![v3.toNat, arg1.toNat]

def cc0_transform_16 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_17 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, true]

abbrev stage0_8 : Fin 2 → Memref sig .tc .vmem S128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true, false]

abbrev stage0_9 : Fin 2 → Memref sig .tc .vmem S1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true, false]

abbrev stage0_10 : Fin 2 → Memref sig .tc .vmem S128x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true, false]

abbrev stage0_11 : Fin 2 → Memref sig .tc .vmem S1x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true, false]

abbrev stage0_12 : Fin 1 → Memref sig .tc .vmem S2x1024x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false, false]

abbrev stage0_13 : Fin 1 → Memref sig .tc .vmem S2x128x128 .i32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false, false]

abbrev stage0_14 : Fin 2 → Memref sig .tc .vmem S128x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true, true]

abbrev stage0_15 : Fin 2 → Memref sig .tc .vmem S128x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true, true]

abbrev stage0_16 : Fin 2 → Memref sig .tc .vmem S1x1x256x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true, false]

abbrev stage0_17 : Fin 2 → Memref sig .tc .vmem S1x1x256x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true, false]
-- ==== ReferenceScanIdeal.lean ====
abbrev S24576x12288 : Shape := ⟨2, ![24576, 12288]⟩
abbrev S24576x128 : Shape := ⟨2, ![24576, 128]⟩
abbrev S16x2048 : Shape := ⟨2, ![16, 2048]⟩
abbrev S2048 : Shape := ⟨1, ![2048]⟩
abbrev S_ : Shape := ⟨0, ![]⟩
abbrev S32x8x256x512 : Shape := ⟨4, ![32, 8, 256, 512]⟩
abbrev S8192x12288 : Shape := ⟨2, ![8192, 12288]⟩
abbrev S32x256x12288 : Shape := ⟨3, ![32, 256, 12288]⟩
abbrev S8192x128 : Shape := ⟨2, ![8192, 128]⟩
abbrev S32x256x128 : Shape := ⟨3, ![32, 256, 128]⟩
abbrev S32x256x2048 : Shape := ⟨3, ![32, 256, 2048]⟩
abbrev S32x256x4096 : Shape := ⟨3, ![32, 256, 4096]⟩
abbrev S32x256x8x256 : Shape := ⟨4, ![32, 256, 8, 256]⟩
abbrev S32x256x8x512 : Shape := ⟨4, ![32, 256, 8, 512]⟩
abbrev S64x256x8x256 : Shape := ⟨4, ![64, 256, 8, 256]⟩
abbrev S64x256x8x512 : Shape := ⟨4, ![64, 256, 8, 512]⟩
abbrev S32x256x16 : Shape := ⟨3, ![32, 256, 16]⟩
abbrev S1x1x2048 : Shape := ⟨3, ![1, 1, 2048]⟩
abbrev S64x8x256x512 : Shape := ⟨4, ![64, 8, 256, 512]⟩
abbrev S256x64x8x256 : Shape := ⟨4, ![256, 64, 8, 256]⟩
abbrev S256x64x8x512 : Shape := ⟨4, ![256, 64, 8, 512]⟩
abbrev S1x64x8x256 : Shape := ⟨4, ![1, 64, 8, 256]⟩
abbrev S64x8x256 : Shape := ⟨3, ![64, 8, 256]⟩
abbrev S1x64x8x512 : Shape := ⟨4, ![1, 64, 8, 512]⟩
abbrev S64x8x512 : Shape := ⟨3, ![64, 8, 512]⟩
abbrev S64x8x256x1 : Shape := ⟨4, ![64, 8, 256, 1]⟩
abbrev S64x8x1x512 : Shape := ⟨4, ![64, 8, 1, 512]⟩
abbrev S8192x4096 : Shape := ⟨2, ![8192, 4096]⟩
abbrev S16384x4096 : Shape := ⟨2, ![16384, 4096]⟩
abbrev S24576x4096 : Shape := ⟨2, ![24576, 4096]⟩

abbrev nBuf : Space → Nat
  | .hbm => 147
  | .vmem => 0
  | .smem => 0
  | _ => 0

abbrev hbmTy0_0 (i : Nat) : BufTy := match i % 128 with
  | 0 => ⟨S24576x12288, .f32⟩
  | 1 => ⟨S24576x128, .f32⟩
  | 2 => ⟨S16x2048, .f32⟩
  | 3 => ⟨S2048, .f32⟩
  | 4 => ⟨S16x2048, .f32⟩
  | 5 => ⟨S2048, .f32⟩
  | 6 => ⟨S_, .f32⟩
  | 7 => ⟨S32x8x256x512, .f32⟩
  | 8 => ⟨S8192x12288, .f32⟩
  | 9 => ⟨S32x256x12288, .f32⟩
  | 10 => ⟨S8192x128, .f32⟩
  | 11 => ⟨S32x256x128, .f32⟩
  | 12 => ⟨S32x256x2048, .f32⟩
  | 13 => ⟨S32x256x2048, .f32⟩
  | 14 => ⟨S32x256x4096, .f32⟩
  | 15 => ⟨S32x256x4096, .f32⟩
  | 16 => ⟨S32x256x8x256, .f32⟩
  | 17 => ⟨S_, .f32⟩
  | 18 => ⟨S32x256x8x256, .f32⟩
  | 19 => ⟨S32x256x8x256, .f32⟩
  | 20 => ⟨S32x256x8x256, .f32⟩
  | 21 => ⟨S32x256x8x512, .f32⟩
  | 22 => ⟨S32x256x8x256, .f32⟩
  | 23 => ⟨S64x256x8x256, .f32⟩
  | 24 => ⟨S32x256x8x256, .f32⟩
  | 25 => ⟨S64x256x8x256, .f32⟩
  | 26 => ⟨S32x256x8x512, .f32⟩
  | 27 => ⟨S64x256x8x512, .f32⟩
  | 28 => ⟨S32x256x16, .f32⟩
  | 29 => ⟨S32x256x2048, .f32⟩
  | 30 => ⟨S1x1x2048, .f32⟩
  | 31 => ⟨S32x256x2048, .f32⟩
  | 32 => ⟨S32x256x2048, .f32⟩
  | 33 => ⟨S32x256x2048, .f32⟩
  | 34 => ⟨S_, .f32⟩
  | 35 => ⟨S32x256x2048, .f32⟩
  | 36 => ⟨S32x256x2048, .f32⟩
  | 37 => ⟨S32x256x2048, .f32⟩
  | 38 => ⟨S32x256x2048, .f32⟩
  | 39 => ⟨S32x256x2048, .i1⟩
  | 40 => ⟨S32x256x2048, .f32⟩
  | 41 => ⟨S32x256x2048, .f32⟩
  | 42 => ⟨S32x256x2048, .f32⟩
  | 43 => ⟨S32x256x2048, .f32⟩
  | 44 => ⟨S32x256x2048, .f32⟩
  | 45 => ⟨S32x256x2048, .f32⟩
  | 46 => ⟨S32x256x2048, .f32⟩
  | 47 => ⟨S32x256x2048, .f32⟩
  | 48 => ⟨S32x256x2048, .f32⟩
  | 49 => ⟨S_, .f32⟩
  | 50 => ⟨S32x256x2048, .f32⟩
  | 51 => ⟨S32x256x2048, .f32⟩
  | 52 => ⟨S32x256x8x256, .f32⟩
  | 53 => ⟨S32x256x16, .f32⟩
  | 54 => ⟨S32x256x2048, .f32⟩
  | 55 => ⟨S1x1x2048, .f32⟩
  | 56 => ⟨S32x256x2048, .f32⟩
  | 57 => ⟨S32x256x2048, .f32⟩
  | 58 => ⟨S32x256x2048, .f32⟩
  | 59 => ⟨S_, .f32⟩
  | 60 => ⟨S32x256x2048, .f32⟩
  | 61 => ⟨S32x256x2048, .f32⟩
  | 62 => ⟨S32x256x2048, .f32⟩
  | 63 => ⟨S32x256x2048, .f32⟩
  | 64 => ⟨S32x256x2048, .i1⟩
  | 65 => ⟨S32x256x2048, .f32⟩
  | 66 => ⟨S32x256x2048, .f32⟩
  | 67 => ⟨S32x256x2048, .f32⟩
  | 68 => ⟨S32x256x2048, .f32⟩
  | 69 => ⟨S32x256x2048, .f32⟩
  | 70 => ⟨S32x256x2048, .f32⟩
  | 71 => ⟨S32x256x2048, .f32⟩
  | 72 => ⟨S32x256x2048, .f32⟩
  | 73 => ⟨S32x256x2048, .f32⟩
  | 74 => ⟨S_, .f32⟩
  | 75 => ⟨S32x256x2048, .f32⟩
  | 76 => ⟨S32x256x2048, .f32⟩
  | 77 => ⟨S32x256x8x256, .f32⟩
  | 78 => ⟨S32x256x8x256, .f32⟩
  | 79 => ⟨S64x256x8x256, .f32⟩
  | 80 => ⟨S64x8x256x512, .f32⟩
  | 81 => ⟨S256x64x8x256, .f32⟩
  | 82 => ⟨S256x64x8x256, .f32⟩
  | 83 => ⟨S256x64x8x512, .f32⟩
  | 84 => ⟨S256x64x8x256, .f32⟩
  | 85 => ⟨S_, .f32⟩
  | 86 => ⟨S256x64x8x512, .f32⟩
  | 87 => ⟨S_, .i32⟩
  | 88 => ⟨S256x64x8x256, .f32⟩
  | 89 => ⟨S256x64x8x256, .f32⟩
  | 90 => ⟨S256x64x8x512, .f32⟩
  | 91 => ⟨S256x64x8x256, .f32⟩
  | 92 => ⟨S_, .i32⟩
  | 93 => ⟨S64x8x256x512, .f32⟩
  | 94 => ⟨S256x64x8x512, .f32⟩
  | 95 => ⟨S_, .i32⟩
  | 96 => ⟨S_, .i1⟩
  | 97 => ⟨S_, .i32⟩
  | 98 => ⟨S_, .i32⟩
  | 99 => ⟨S_, .i32⟩
  | 100 => ⟨S1x64x8x256, .f32⟩
  | 101 => ⟨S64x8x256, .f32⟩
  | 102 => ⟨S_, .i32⟩
  | 103 => ⟨S_, .i32⟩
  | 104 => ⟨S_, .i32⟩
  | 105 => ⟨S1x64x8x256, .f32⟩
  | 106 => ⟨S64x8x256, .f32⟩
  | 107 => ⟨S_, .i32⟩
  | 108 => ⟨S_, .i32⟩
  | 109 => ⟨S_, .i32⟩
  | 110 => ⟨S1x64x8x512, .f32⟩
  | 111 => ⟨S64x8x512, .f32⟩
  | 112 => ⟨S_, .i32⟩
  | 113 => ⟨S_, .i32⟩
  | 114 => ⟨S_, .i32⟩
  | 115 => ⟨S1x64x8x256, .f32⟩
  | 116 => ⟨S64x8x256, .f32⟩
  | 117 => ⟨S64x8x256, .f32⟩
  | 118 => ⟨S64x8x256x1, .f32⟩
  | 119 => ⟨S64x8x256x512, .f32⟩
  | 120 => ⟨S64x8x256x512, .f32⟩
  | 121 => ⟨S64x8x256x1, .f32⟩
  | 122 => ⟨S64x8x1x512, .f32⟩
  | 123 => ⟨S64x8x256x512, .f32⟩
  | 124 => ⟨S64x8x256x512, .f32⟩
  | 125 => ⟨S64x8x256x512, .f32⟩
  | 126 => ⟨S64x8x256x512, .f32⟩
  | 127 => ⟨S64x8x512, .f32⟩
  | _ => ⟨S24576x12288, .f32⟩

abbrev hbmTy0_1 (i : Nat) : BufTy := match i % 128 with
  | 0 => ⟨S1x64x8x512, .f32⟩
  | 1 => ⟨S_, .i32⟩
  | 2 => ⟨S_, .i32⟩
  | 3 => ⟨S_, .i32⟩
  | 4 => ⟨S256x64x8x512, .f32⟩
  | 5 => ⟨S_, .i32⟩
  | 6 => ⟨S_, .i32⟩
  | 7 => ⟨S64x256x8x512, .f32⟩
  | 8 => ⟨S32x256x8x512, .f32⟩
  | 9 => ⟨S8192x4096, .f32⟩
  | 10 => ⟨S32x256x8x512, .f32⟩
  | 11 => ⟨S32x256x8x512, .f32⟩
  | 12 => ⟨S8192x4096, .f32⟩
  | 13 => ⟨S32x8x256x512, .f32⟩
  | 14 => ⟨S32x8x256x512, .f32⟩
  | 15 => ⟨S_, .f32⟩
  | 16 => ⟨S16384x4096, .f32⟩
  | 17 => ⟨S24576x4096, .f32⟩
  | 18 => ⟨S24576x4096, .f32⟩
  | _ => ⟨S24576x12288, .f32⟩

abbrev hbmTy (i : Nat) : BufTy := match i / 128 with
  | 0 => hbmTy0_0 i
  | 1 => hbmTy0_1 i
  | _ => ⟨S24576x12288, .f32⟩

abbrev bufTy : (tb : Table) → Fin (tcTables nBuf tb) → BufTy
  | .hbm, ⟨i, _⟩ => hbmTy i
  | _, _ => ⟨S24576x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_call3_cst : Ref sig .tc := ⟨.hbm, 34, rfl⟩
abbrev main_call3_v0 : Ref sig .tc := ⟨.hbm, 35, rfl⟩
abbrev main_call3_v1 : Ref sig .tc := ⟨.hbm, 36, rfl⟩
abbrev main_call3_v2 : Ref sig .tc := ⟨.hbm, 37, rfl⟩
abbrev main_call3_v3 : Ref sig .tc := ⟨.hbm, 38, rfl⟩
abbrev main_call3_v4 : Ref sig .tc := ⟨.hbm, 39, rfl⟩
abbrev main_call3_v5 : Ref sig .tc := ⟨.hbm, 40, rfl⟩
abbrev main_call3_v6 : Ref sig .tc := ⟨.hbm, 41, rfl⟩
abbrev main_call3_v7 : Ref sig .tc := ⟨.hbm, 42, rfl⟩
abbrev main_call3_v8 : Ref sig .tc := ⟨.hbm, 43, rfl⟩
abbrev main_call3_v9 : Ref sig .tc := ⟨.hbm, 44, rfl⟩
abbrev main_call3_v10 : Ref sig .tc := ⟨.hbm, 45, rfl⟩
abbrev main_call3_v11 : Ref sig .tc := ⟨.hbm, 46, rfl⟩
abbrev main_v26 : Ref sig .tc := ⟨.hbm, 47, rfl⟩
abbrev main_v27 : Ref sig .tc := ⟨.hbm, 48, rfl⟩
abbrev main_cst_1 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_call4_cst : Ref sig .tc := ⟨.hbm, 59, rfl⟩
abbrev main_call4_v0 : Ref sig .tc := ⟨.hbm, 60, rfl⟩
abbrev main_call4_v1 : Ref sig .tc := ⟨.hbm, 61, rfl⟩
abbrev main_call4_v2 : Ref sig .tc := ⟨.hbm, 62, rfl⟩
abbrev main_call4_v3 : Ref sig .tc := ⟨.hbm, 63, rfl⟩
abbrev main_call4_v4 : Ref sig .tc := ⟨.hbm, 64, rfl⟩
abbrev main_call4_v5 : Ref sig .tc := ⟨.hbm, 65, rfl⟩
abbrev main_call4_v6 : Ref sig .tc := ⟨.hbm, 66, rfl⟩
abbrev main_call4_v7 : Ref sig .tc := ⟨.hbm, 67, rfl⟩
abbrev main_call4_v8 : Ref sig .tc := ⟨.hbm, 68, rfl⟩
abbrev main_call4_v9 : Ref sig .tc := ⟨.hbm, 69, rfl⟩
abbrev main_call4_v10 : Ref sig .tc := ⟨.hbm, 70, rfl⟩
abbrev main_call4_v11 : Ref sig .tc := ⟨.hbm, 71, rfl⟩
abbrev main_v37 : Ref sig .tc := ⟨.hbm, 72, rfl⟩
abbrev main_v38 : Ref sig .tc := ⟨.hbm, 73, rfl⟩
abbrev main_cst_2 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_cst_3 : Ref sig .tc := ⟨.hbm, 85, rfl⟩
abbrev main_v49 : Ref sig .tc := ⟨.hbm, 86, rfl⟩
abbrev main_c : Ref sig .tc := ⟨.hbm, 87, rfl⟩
abbrev main_v50_0 : Ref sig .tc := ⟨.hbm, 88, rfl⟩
abbrev main_v50_1 : Ref sig .tc := ⟨.hbm, 89, rfl⟩
abbrev main_v50_2 : Ref sig .tc := ⟨.hbm, 90, rfl⟩
abbrev main_v50_3 : Ref sig .tc := ⟨.hbm, 91, rfl⟩
abbrev main_v50_4 : Ref sig .tc := ⟨.hbm, 92, rfl⟩
abbrev main_v50_5 : Ref sig .tc := ⟨.hbm, 93, rfl⟩
abbrev main_v50_6 : Ref sig .tc := ⟨.hbm, 94, rfl⟩
abbrev main_while0c_c_11 : Ref sig .tc := ⟨.hbm, 95, rfl⟩
abbrev main_while0c_v62 : Ref sig .tc := ⟨.hbm, 96, rfl⟩
abbrev main_while0b_call6_c : Ref sig .tc := ⟨.hbm, 97, rfl⟩
abbrev main_while0b_call6_c_0 : Ref sig .tc := ⟨.hbm, 98, rfl⟩
abbrev main_while0b_call6_c_1 : Ref sig .tc := ⟨.hbm, 99, rfl⟩
abbrev main_while0b_call6_v0 : Ref sig .tc := ⟨.hbm, 100, rfl⟩
abbrev main_while0b_v62 : Ref sig .tc := ⟨.hbm, 101, rfl⟩
abbrev main_while0b_call7_c : Ref sig .tc := ⟨.hbm, 102, rfl⟩
abbrev main_while0b_call7_c_0 : Ref sig .tc := ⟨.hbm, 103, rfl⟩
abbrev main_while0b_call7_c_1 : Ref sig .tc := ⟨.hbm, 104, rfl⟩
abbrev main_while0b_call7_v0 : Ref sig .tc := ⟨.hbm, 105, rfl⟩
abbrev main_while0b_v63 : Ref sig .tc := ⟨.hbm, 106, rfl⟩
abbrev main_while0b_call8_c : Ref sig .tc := ⟨.hbm, 107, rfl⟩
abbrev main_while0b_call8_c_0 : Ref sig .tc := ⟨.hbm, 108, rfl⟩
abbrev main_while0b_call8_c_1 : Ref sig .tc := ⟨.hbm, 109, rfl⟩
abbrev main_while0b_call8_v0 : Ref sig .tc := ⟨.hbm, 110, rfl⟩
abbrev main_while0b_v64 : Ref sig .tc := ⟨.hbm, 111, rfl⟩
abbrev main_while0b_call9_c : Ref sig .tc := ⟨.hbm, 112, rfl⟩
abbrev main_while0b_call9_c_0 : Ref sig .tc := ⟨.hbm, 113, rfl⟩
abbrev main_while0b_call9_c_1 : Ref sig .tc := ⟨.hbm, 114, rfl⟩
abbrev main_while0b_call9_v0 : Ref sig .tc := ⟨.hbm, 115, rfl⟩
abbrev main_while0b_v65 : Ref sig .tc := ⟨.hbm, 116, rfl⟩
abbrev main_while0b_v66 : Ref sig .tc := ⟨.hbm, 117, rfl⟩
abbrev main_while0b_v67 : Ref sig .tc := ⟨.hbm, 118, rfl⟩
abbrev main_while0b_v68 : Ref sig .tc := ⟨.hbm, 119, rfl⟩
abbrev main_while0b_v69 : Ref sig .tc := ⟨.hbm, 120, rfl⟩
abbrev main_while0b_v70 : Ref sig .tc := ⟨.hbm, 121, rfl⟩
abbrev main_while0b_v71 : Ref sig .tc := ⟨.hbm, 122, rfl⟩
abbrev main_while0b_v72 : Ref sig .tc := ⟨.hbm, 123, rfl⟩
abbrev main_while0b_v73 : Ref sig .tc := ⟨.hbm, 124, rfl⟩
abbrev main_while0b_v74 : Ref sig .tc := ⟨.hbm, 125, rfl⟩
abbrev main_while0b_v75 : Ref sig .tc := ⟨.hbm, 126, rfl⟩
abbrev main_while0b_v76 : Ref sig .tc := ⟨.hbm, 127, rfl⟩
abbrev main_while0b_call10_v0 : Ref sig .tc := ⟨.hbm, 128, rfl⟩
abbrev main_while0b_call10_c : Ref sig .tc := ⟨.hbm, 129, rfl⟩
abbrev main_while0b_call10_c_0 : Ref sig .tc := ⟨.hbm, 130, rfl⟩
abbrev main_while0b_call10_c_1 : Ref sig .tc := ⟨.hbm, 131, rfl⟩
abbrev main_while0b_v77 : Ref sig .tc := ⟨.hbm, 132, rfl⟩
abbrev main_while0b_c_11 : Ref sig .tc := ⟨.hbm, 133, rfl⟩
abbrev main_while0b_v78 : Ref sig .tc := ⟨.hbm, 134, rfl⟩
abbrev main_v51 : Ref sig .tc := ⟨.hbm, 135, rfl⟩
abbrev main_v52 : Ref sig .tc := ⟨.hbm, 136, rfl⟩
abbrev main_v53 : Ref sig .tc := ⟨.hbm, 137, rfl⟩
abbrev main_v54 : Ref sig .tc := ⟨.hbm, 138, rfl⟩
abbrev main_v55 : Ref sig .tc := ⟨.hbm, 139, rfl⟩
abbrev main_v56 : Ref sig .tc := ⟨.hbm, 140, rfl⟩
abbrev main_v57 : Ref sig .tc := ⟨.hbm, 141, rfl⟩
abbrev main_v58 : Ref sig .tc := ⟨.hbm, 142, rfl⟩
abbrev main_cst_4 : Ref sig .tc := ⟨.hbm, 143, rfl⟩
abbrev main_v59 : Ref sig .tc := ⟨.hbm, 144, rfl⟩
abbrev main_v60 : Ref sig .tc := ⟨.hbm, 145, rfl⟩
abbrev main_v61 : Ref sig .tc := ⟨.hbm, 146, rfl⟩

abbrev nD : Nat := 1
abbrev τ : Topo := Topo.v7x

variable {F : FTy → Type} [FloatOps F]

abbrev main_while0_count : Scf.Loop 32 := ⟨0#32, 256#32, 1#32⟩
-- ==== KernelUp.lean ====
abbrev S24576x4096 : Shape := ⟨2, ![24576, 4096]⟩
abbrev S4096x16384 : Shape := ⟨2, ![4096, 16384]⟩
abbrev S24576x16384 : Shape := ⟨2, ![24576, 16384]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S24576x4096, .bf16⟩
  | .hbm, ⟨1, _⟩ => ⟨S4096x16384, .f32⟩
  | .hbm, ⟨2, _⟩ => ⟨S4096x16384, .bf16⟩
  | .hbm, ⟨3, _⟩ => ⟨S24576x16384, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S24576x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![24, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceUpIdeal.lean ====
abbrev S24576x4096 : Shape := ⟨2, ![24576, 4096]⟩
abbrev S4096x16384 : Shape := ⟨2, ![4096, 16384]⟩
abbrev S24576x16384 : Shape := ⟨2, ![24576, 16384]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S24576x4096, .bf16⟩
  | .hbm, ⟨1, _⟩ => ⟨S4096x16384, .f32⟩
  | .hbm, ⟨2, _⟩ => ⟨S24576x4096, .f32⟩
  | .hbm, ⟨3, _⟩ => ⟨S24576x16384, .f32⟩
  | .hbm, ⟨4, _⟩ => ⟨S_, .f32⟩
  | .hbm, ⟨5, _⟩ => ⟨S24576x16384, .f32⟩
  | .hbm, ⟨6, _⟩ => ⟨S24576x16384, .f32⟩
  | .hbm, ⟨7, _⟩ => ⟨S24576x16384, .f32⟩
  | .hbm, ⟨8, _⟩ => ⟨S24576x16384, .bf16⟩
  | _, _ => ⟨S24576x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_cst : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== KernelDown.lean ====
abbrev S24576x16384 : Shape := ⟨2, ![24576, 16384]⟩
abbrev S16384x4096 : Shape := ⟨2, ![16384, 4096]⟩
abbrev S24576x4096 : Shape := ⟨2, ![24576, 4096]⟩
abbrev S192x1x4096 : Shape := ⟨3, ![192, 1, 4096]⟩
abbrev S1024x2048 : Shape := ⟨2, ![1024, 2048]⟩
abbrev S2048x1024 : Shape := ⟨2, ![2048, 1024]⟩
abbrev S1024x1024 : Shape := ⟨2, ![1024, 1024]⟩
abbrev S1x1x1024 : Shape := ⟨3, ![1, 1, 1024]⟩
abbrev S1x1024 : Shape := ⟨2, ![1, 1024]⟩

abbrev nBuf : Space → Nat
  | .hbm => 6
  | .vmem => 11
  | .smem => 0
  | _ => 0

abbrev bufTy : (tb : Table) → Fin (tcTables nBuf tb) → BufTy
  | .hbm, ⟨0, _⟩ => ⟨S24576x16384, .bf16⟩
  | .hbm, ⟨1, _⟩ => ⟨S16384x4096, .f32⟩
  | .hbm, ⟨2, _⟩ => ⟨S24576x4096, .f32⟩
  | .hbm, ⟨3, _⟩ => ⟨S192x1x4096, .f32⟩
  | .hbm, ⟨4, _⟩ => ⟨S16384x4096, .bf16⟩
  | .hbm, ⟨5, _⟩ => ⟨S24576x4096, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1x1024, .f32⟩
  | .local _ .vmem, ⟨7, _⟩ => ⟨S1x1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S24576x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![24, 4, 8], ![false, false, false]⟩

def k0_cond3 (i : grid0.Coords) : BitVec 1 :=
  let arg2 : BitVec 32 := BitVec.ofNat 32 (i 2).val
  let c7_i32 : BitVec 32 := 7#32
  let v10 : BitVec 1 := Scalar.cmpi .eq arg2 c7_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1024_i32 : BitVec 32 := 1024#32
  let v0 : BitVec 32 := Scalar.muli arg0 c1024_i32
  let c8192_i32 : BitVec 32 := 8192#32
  let v1 : BitVec 1 := Scalar.cmpi .slt v0 c8192_i32
  let c8192_i32_0 : BitVec 32 := 8192#32
  let v2 : BitVec 32 := Scalar.subi v0 c8192_i32_0
  let c4096_i32 : BitVec 32 := 4096#32
  let v3 : BitVec 32 := Scalar.divsi v2 c4096_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c4096_i32 c0_i32_2
  let v10 : BitVec 32 := Scalar.extui v9
  let c0_i32_3 : BitVec 32 := 0#32
  let v11 : BitVec 1 := Scalar.cmpi .slt c4096_i32 c0_i32_3
  let v12 : BitVec 32 := Scalar.extui v11
  let v13 : BitVec 32 := Scalar.subi v10 v12
  let v14 : BitVec 1 := Scalar.cmpi .ne v8 v13
  let v15 : BitVec 32 := Scalar.remsi v2 c4096_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c0_i32_7 : BitVec 32 := 0#32
  let v22 : BitVec 32 := Scalar.addi c0_i32_7 v21
  let c6_i32 : BitVec 32 := 6#32
  let v23 : BitVec 32 := Scalar.muli v22 c6_i32
  let c5_i32 : BitVec 32 := 5#32
  let v24 : BitVec 32 := Scalar.addi v23 c5_i32
  let c0_i32_8 : BitVec 32 := 0#32
  let c0_i32_9 : BitVec 32 := 0#32
  ![v24.toNat, c0_i32_8.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== ReferenceDownIdeal.lean ====
abbrev S24576x16384 : Shape := ⟨2, ![24576, 16384]⟩
abbrev S16384x4096 : Shape := ⟨2, ![16384, 4096]⟩
abbrev S24576x4096 : Shape := ⟨2, ![24576, 4096]⟩
abbrev S192x1x4096 : Shape := ⟨3, ![192, 1, 4096]⟩
abbrev S4x8x6x4096 : Shape := ⟨4, ![4, 8, 6, 4096]⟩
abbrev S1x8x1x4096 : Shape := ⟨4, ![1, 8, 1, 4096]⟩
abbrev S8x4096 : Shape := ⟨2, ![8, 4096]⟩
abbrev S8192x4096 : Shape := ⟨2, ![8192, 4096]⟩
abbrev S32x256x4096 : Shape := ⟨3, ![32, 256, 4096]⟩
abbrev S1x4096 : Shape := ⟨2, ![1, 4096]⟩
abbrev S4096 : Shape := ⟨1, ![4096]⟩
abbrev S1x1x4096 : Shape := ⟨3, ![1, 1, 4096]⟩
abbrev S4x4096x4096 : Shape := ⟨3, ![4, 4096, 4096]⟩
abbrev S4x4096 : Shape := ⟨2, ![4, 4096]⟩
abbrev S4x1x4096 : Shape := ⟨3, ![4, 1, 4096]⟩

abbrev nBuf : Space → Nat
  | .hbm => 31
  | .vmem => 0
  | .smem => 0
  | _ => 0

abbrev bufTy : (tb : Table) → Fin (tcTables nBuf tb) → BufTy
  | .hbm, ⟨0, _⟩ => ⟨S24576x16384, .bf16⟩
  | .hbm, ⟨1, _⟩ => ⟨S16384x4096, .f32⟩
  | .hbm, ⟨2, _⟩ => ⟨S24576x4096, .f32⟩
  | .hbm, ⟨3, _⟩ => ⟨S192x1x4096, .f32⟩
  | .hbm, ⟨4, _⟩ => ⟨S4x8x6x4096, .f32⟩
  | .hbm, ⟨5, _⟩ => ⟨S1x8x1x4096, .f32⟩
  | .hbm, ⟨6, _⟩ => ⟨S8x4096, .f32⟩
  | .hbm, ⟨7, _⟩ => ⟨S24576x16384, .f32⟩
  | .hbm, ⟨8, _⟩ => ⟨S24576x4096, .f32⟩
  | .hbm, ⟨9, _⟩ => ⟨S8192x4096, .f32⟩
  | .hbm, ⟨10, _⟩ => ⟨S32x256x4096, .f32⟩
  | .hbm, ⟨11, _⟩ => ⟨S1x4096, .f32⟩
  | .hbm, ⟨12, _⟩ => ⟨S4096, .f32⟩
  | .hbm, ⟨13, _⟩ => ⟨S1x1x4096, .f32⟩
  | .hbm, ⟨14, _⟩ => ⟨S8192x4096, .f32⟩
  | .hbm, ⟨15, _⟩ => ⟨S32x256x4096, .f32⟩
  | .hbm, ⟨16, _⟩ => ⟨S32x256x4096, .f32⟩
  | .hbm, ⟨17, _⟩ => ⟨S32x256x4096, .f32⟩
  | .hbm, ⟨18, _⟩ => ⟨S32x256x4096, .f32⟩
  | .hbm, ⟨19, _⟩ => ⟨S16384x4096, .f32⟩
  | .hbm, ⟨20, _⟩ => ⟨S4x4096x4096, .f32⟩
  | .hbm, ⟨21, _⟩ => ⟨S4x4096, .f32⟩
  | .hbm, ⟨22, _⟩ => ⟨S4x1x4096, .f32⟩
  | .hbm, ⟨23, _⟩ => ⟨S16384x4096, .f32⟩
  | .hbm, ⟨24, _⟩ => ⟨S4x4096x4096, .f32⟩
  | .hbm, ⟨25, _⟩ => ⟨S4x4096x4096, .f32⟩
  | .hbm, ⟨26, _⟩ => ⟨S4x4096x4096, .f32⟩
  | .hbm, ⟨27, _⟩ => ⟨S4x4096x4096, .f32⟩
  | .hbm, ⟨28, _⟩ => ⟨S8192x4096, .f32⟩
  | .hbm, ⟨29, _⟩ => ⟨S16384x4096, .f32⟩
  | .hbm, ⟨30, _⟩ => ⟨S24576x4096, .f32⟩
  | _, _ => ⟨S24576x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩

abbrev nD : Nat := 1
abbrev τ : Topo := Topo.v7x

variable {F : FTy → Type} [FloatOps F]
-- ==== KernelIn.lean ====
abbrev S24576x4096 : Shape := ⟨2, ![24576, 4096]⟩
abbrev S4096x12288 : Shape := ⟨2, ![4096, 12288]⟩
abbrev S24576x12288 : Shape := ⟨2, ![24576, 12288]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S24576x4096, .bf16⟩
  | .hbm, ⟨1, _⟩ => ⟨S4096x12288, .f32⟩
  | .hbm, ⟨2, _⟩ => ⟨S4096x12288, .bf16⟩
  | .hbm, ⟨3, _⟩ => ⟨S24576x12288, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | _, _ => ⟨S24576x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![24, 12, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceInIdeal.lean ====
abbrev S24576x4096 : Shape := ⟨2, ![24576, 4096]⟩
abbrev S4096x12288 : Shape := ⟨2, ![4096, 12288]⟩
abbrev S24576x12288 : Shape := ⟨2, ![24576, 12288]⟩

abbrev nBuf : Space → Nat
  | .hbm => 4
  | .vmem => 0
  | .smem => 0
  | _ => 0

abbrev bufTy : (tb : Table) → Fin (tcTables nBuf tb) → BufTy
  | .hbm, ⟨0, _⟩ => ⟨S24576x4096, .bf16⟩
  | .hbm, ⟨1, _⟩ => ⟨S4096x12288, .f32⟩
  | .hbm, ⟨2, _⟩ => ⟨S24576x4096, .f32⟩
  | .hbm, ⟨3, _⟩ => ⟨S24576x12288, .f32⟩
  | _, _ => ⟨S24576x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== KernelMix.lean ====
abbrev S24576x4096 : Shape := ⟨2, ![24576, 4096]⟩
abbrev S4096x4096 : Shape := ⟨2, ![4096, 4096]⟩
abbrev S192x1x4096 : Shape := ⟨3, ![192, 1, 4096]⟩
abbrev S1024x2048 : Shape := ⟨2, ![1024, 2048]⟩
abbrev S2048x1024 : Shape := ⟨2, ![2048, 1024]⟩
abbrev S1024x1024 : Shape := ⟨2, ![1024, 1024]⟩
abbrev S1x1x1024 : Shape := ⟨3, ![1, 1, 1024]⟩
abbrev S1x1024 : Shape := ⟨2, ![1, 1024]⟩

abbrev nBuf : Space → Nat
  | .hbm => 6
  | .vmem => 11
  | .smem => 0
  | _ => 0

abbrev bufTy : (tb : Table) → Fin (tcTables nBuf tb) → BufTy
  | .hbm, ⟨0, _⟩ => ⟨S24576x4096, .bf16⟩
  | .hbm, ⟨1, _⟩ => ⟨S4096x4096, .f32⟩
  | .hbm, ⟨2, _⟩ => ⟨S24576x4096, .f32⟩
  | .hbm, ⟨3, _⟩ => ⟨S192x1x4096, .f32⟩
  | .hbm, ⟨4, _⟩ => ⟨S4096x4096, .bf16⟩
  | .hbm, ⟨5, _⟩ => ⟨S24576x4096, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1x1024, .f32⟩
  | .local _ .vmem, ⟨7, _⟩ => ⟨S1x1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S24576x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![24, 4, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1024_i32 : BitVec 32 := 1024#32
  let v0 : BitVec 32 := Scalar.muli arg0 c1024_i32
  let c8192_i32 : BitVec 32 := 8192#32
  let v1 : BitVec 1 := Scalar.cmpi .slt v0 c8192_i32
  let c8192_i32_0 : BitVec 32 := 8192#32
  let v2 : BitVec 32 := Scalar.subi v0 c8192_i32_0
  let c4096_i32 : BitVec 32 := 4096#32
  let v3 : BitVec 32 := Scalar.divsi v2 c4096_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c4096_i32 c0_i32_2
  let v10 : BitVec 32 := Scalar.extui v9
  let c0_i32_3 : BitVec 32 := 0#32
  let v11 : BitVec 1 := Scalar.cmpi .slt c4096_i32 c0_i32_3
  let v12 : BitVec 32 := Scalar.extui v11
  let v13 : BitVec 32 := Scalar.subi v10 v12
  let v14 : BitVec 1 := Scalar.cmpi .ne v8 v13
  let v15 : BitVec 32 := Scalar.remsi v2 c4096_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c0_i32_7 : BitVec 32 := 0#32
  let v22 : BitVec 32 := Scalar.addi c0_i32_7 v21
  let c6_i32 : BitVec 32 := 6#32
  let v23 : BitVec 32 := Scalar.muli v22 c6_i32
  let c2_i32 : BitVec 32 := 2#32
  let v24 : BitVec 32 := Scalar.addi v23 c2_i32
  let c0_i32_8 : BitVec 32 := 0#32
  let c0_i32_9 : BitVec 32 := 0#32
  ![v24.toNat, c0_i32_8.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== ReferenceMixIdeal.lean ====
abbrev S24576x4096 : Shape := ⟨2, ![24576, 4096]⟩
abbrev S4096x4096 : Shape := ⟨2, ![4096, 4096]⟩
abbrev S192x1x4096 : Shape := ⟨3, ![192, 1, 4096]⟩
abbrev S4x8x6x4096 : Shape := ⟨4, ![4, 8, 6, 4096]⟩
abbrev S1x8x1x4096 : Shape := ⟨4, ![1, 8, 1, 4096]⟩
abbrev S8x4096 : Shape := ⟨2, ![8, 4096]⟩
abbrev S8192x4096 : Shape := ⟨2, ![8192, 4096]⟩
abbrev S32x256x4096 : Shape := ⟨3, ![32, 256, 4096]⟩
abbrev S1x4096 : Shape := ⟨2, ![1, 4096]⟩
abbrev S4096 : Shape := ⟨1, ![4096]⟩
abbrev S1x1x4096 : Shape := ⟨3, ![1, 1, 4096]⟩
abbrev S16384x4096 : Shape := ⟨2, ![16384, 4096]⟩
abbrev S4x4096x4096 : Shape := ⟨3, ![4, 4096, 4096]⟩
abbrev S4x4096 : Shape := ⟨2, ![4, 4096]⟩
abbrev S4x1x4096 : Shape := ⟨3, ![4, 1, 4096]⟩

abbrev nBuf : Space → Nat
  | .hbm => 31
  | .vmem => 0
  | .smem => 0
  | _ => 0

abbrev bufTy : (tb : Table) → Fin (tcTables nBuf tb) → BufTy
  | .hbm, ⟨0, _⟩ => ⟨S24576x4096, .bf16⟩
  | .hbm, ⟨1, _⟩ => ⟨S4096x4096, .f32⟩
  | .hbm, ⟨2, _⟩ => ⟨S24576x4096, .f32⟩
  | .hbm, ⟨3, _⟩ => ⟨S192x1x4096, .f32⟩
  | .hbm, ⟨4, _⟩ => ⟨S4x8x6x4096, .f32⟩
  | .hbm, ⟨5, _⟩ => ⟨S1x8x1x4096, .f32⟩
  | .hbm, ⟨6, _⟩ => ⟨S8x4096, .f32⟩
  | .hbm, ⟨7, _⟩ => ⟨S24576x4096, .f32⟩
  | .hbm, ⟨8, _⟩ => ⟨S24576x4096, .f32⟩
  | .hbm, ⟨9, _⟩ => ⟨S8192x4096, .f32⟩
  | .hbm, ⟨10, _⟩ => ⟨S32x256x4096, .f32⟩
  | .hbm, ⟨11, _⟩ => ⟨S1x4096, .f32⟩
  | .hbm, ⟨12, _⟩ => ⟨S4096, .f32⟩
  | .hbm, ⟨13, _⟩ => ⟨S1x1x4096, .f32⟩
  | .hbm, ⟨14, _⟩ => ⟨S8192x4096, .f32⟩
  | .hbm, ⟨15, _⟩ => ⟨S32x256x4096, .f32⟩
  | .hbm, ⟨16, _⟩ => ⟨S32x256x4096, .f32⟩
  | .hbm, ⟨17, _⟩ => ⟨S32x256x4096, .f32⟩
  | .hbm, ⟨18, _⟩ => ⟨S32x256x4096, .f32⟩
  | .hbm, ⟨19, _⟩ => ⟨S16384x4096, .f32⟩
  | .hbm, ⟨20, _⟩ => ⟨S4x4096x4096, .f32⟩
  | .hbm, ⟨21, _⟩ => ⟨S4x4096, .f32⟩
  | .hbm, ⟨22, _⟩ => ⟨S4x1x4096, .f32⟩
  | .hbm, ⟨23, _⟩ => ⟨S16384x4096, .f32⟩
  | .hbm, ⟨24, _⟩ => ⟨S4x4096x4096, .f32⟩
  | .hbm, ⟨25, _⟩ => ⟨S4x4096x4096, .f32⟩
  | .hbm, ⟨26, _⟩ => ⟨S4x4096x4096, .f32⟩
  | .hbm, ⟨27, _⟩ => ⟨S4x4096x4096, .f32⟩
  | .hbm, ⟨28, _⟩ => ⟨S8192x4096, .f32⟩
  | .hbm, ⟨29, _⟩ => ⟨S16384x4096, .f32⟩
  | .hbm, ⟨30, _⟩ => ⟨S24576x4096, .f32⟩
  | _, _ => ⟨S24576x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩

abbrev nD : Nat := 1
abbrev τ : Topo := Topo.v7x

variable {F : FTy → Type} [FloatOps F]
-- ==== KernelRank.lean ====
abbrev S24576x4096 : Shape := ⟨2, ![24576, 4096]⟩
abbrev S4096x16 : Shape := ⟨2, ![4096, 16]⟩
abbrev S_ : Shape := ⟨0, ![]⟩
abbrev S4096x128 : Shape := ⟨2, ![4096, 128]⟩
abbrev S1 : Shape := ⟨1, ![1]⟩
abbrev S24576x128 : Shape := ⟨2, ![24576, 128]⟩
abbrev S2048x4096 : Shape := ⟨2, ![2048, 4096]⟩
abbrev S2048x128 : Shape := ⟨2, ![2048, 128]⟩

abbrev nBuf : Space → Nat
  | .hbm => 13
  | .vmem => 5
  | .smem => 0
  | _ => 0

abbrev bufTy : (tb : Table) → Fin (tcTables nBuf tb) → BufTy
  | .hbm, ⟨0, _⟩ => ⟨S24576x4096, .bf16⟩
  | .hbm, ⟨1, _⟩ => ⟨S4096x16, .f32⟩
  | .hbm, ⟨2, _⟩ => ⟨S4096x16, .f32⟩
  | .hbm, ⟨3, _⟩ => ⟨S_, .f32⟩
  | .hbm, ⟨4, _⟩ => ⟨S4096x128, .f32⟩
  | .hbm, ⟨5, _⟩ => ⟨S_, .i32⟩
  | .hbm, ⟨6, _⟩ => ⟨S1, .i32⟩
  | .hbm, ⟨7, _⟩ => ⟨S4096x128, .f32⟩
  | .hbm, ⟨8, _⟩ => ⟨S_, .i32⟩
  | .hbm, ⟨9, _⟩ => ⟨S1, .i32⟩
  | .hbm, ⟨10, _⟩ => ⟨S4096x128, .f32⟩
  | .hbm, ⟨11, _⟩ => ⟨S4096x128, .bf16⟩
  | .hbm, ⟨12, _⟩ => ⟨S24576x128, .f32⟩
  | .local _ .vmem, ⟨0, _⟩ => ⟨S2048x4096, .bf16⟩
  | .local _ .vmem, ⟨1, _⟩ => ⟨S2048x4096, .bf16⟩
  | .local _ .vmem, ⟨2, _⟩ => ⟨S4096x128, .bf16⟩
  | .local _ .vmem, ⟨3, _⟩ => ⟨S2048x128, .f32⟩
  | .local _ .vmem, ⟨4, _⟩ => ⟨S2048x128, .f32⟩
  | _, _ => ⟨S24576x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![12, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceRankIdeal.lean ====
abbrev S24576x4096 : Shape := ⟨2, ![24576, 4096]⟩
abbrev S4096x16 : Shape := ⟨2, ![4096, 16]⟩
abbrev S24576x16 : Shape := ⟨2, ![24576, 16]⟩
abbrev S_ : Shape := ⟨0, ![]⟩
abbrev S24576x96 : Shape := ⟨2, ![24576, 96]⟩
abbrev S24576x128 : Shape := ⟨2, ![24576, 128]⟩

abbrev nBuf : Space → Nat
  | .hbm => 9
  | .vmem => 0
  | .smem => 0
  | _ => 0

abbrev bufTy : (tb : Table) → Fin (tcTables nBuf tb) → BufTy
  | .hbm, ⟨0, _⟩ => ⟨S24576x4096, .bf16⟩
  | .hbm, ⟨1, _⟩ => ⟨S4096x16, .f32⟩
  | .hbm, ⟨2, _⟩ => ⟨S4096x16, .f32⟩
  | .hbm, ⟨3, _⟩ => ⟨S24576x4096, .f32⟩
  | .hbm, ⟨4, _⟩ => ⟨S24576x16, .f32⟩
  | .hbm, ⟨5, _⟩ => ⟨S24576x16, .f32⟩
  | .hbm, ⟨6, _⟩ => ⟨S_, .f32⟩
  | .hbm, ⟨7, _⟩ => ⟨S24576x96, .f32⟩
  | .hbm, ⟨8, _⟩ => ⟨S24576x128, .f32⟩
  | _, _ => ⟨S24576x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== KernelNorm.lean ====
abbrev S24576x4096 : Shape := ⟨2, ![24576, 4096]⟩
abbrev S4096 : Shape := ⟨1, ![4096]⟩
abbrev S192x1x4096 : Shape := ⟨3, ![192, 1, 4096]⟩
abbrev S1x4096 : Shape := ⟨2, ![1, 4096]⟩
abbrev S512x4096 : Shape := ⟨2, ![512, 4096]⟩
abbrev S1x1x4096 : Shape := ⟨3, ![1, 1, 4096]⟩
abbrev S512 : Shape := ⟨1, ![512]⟩
abbrev S512x1 : Shape := ⟨2, ![512, 1]⟩

abbrev nBuf : Space → Nat
  | .hbm => 5
  | .vmem => 9
  | .smem => 0
  | _ => 0

abbrev bufTy : (tb : Table) → Fin (tcTables nBuf tb) → BufTy
  | .hbm, ⟨0, _⟩ => ⟨S24576x4096, .f32⟩
  | .hbm, ⟨1, _⟩ => ⟨S4096, .f32⟩
  | .hbm, ⟨2, _⟩ => ⟨S192x1x4096, .f32⟩
  | .hbm, ⟨3, _⟩ => ⟨S1x4096, .f32⟩
  | .hbm, ⟨4, _⟩ => ⟨S24576x4096, .bf16⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S1x1x4096, .f32⟩
  | .local _ .vmem, ⟨4, _⟩ => ⟨S1x1x4096, .f32⟩
  | .local _ .vmem, ⟨5, _⟩ => ⟨S1x1x4096, .f32⟩
  | .local _ .vmem, ⟨6, _⟩ => ⟨S1x1x4096, .f32⟩
  | .local _ .vmem, ⟨7, _⟩ => ⟨S512x4096, .bf16⟩
  | .local _ .vmem, ⟨8, _⟩ => ⟨S512x4096, .bf16⟩
  | _, _ => ⟨S24576x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c512_i32 : BitVec 32 := 512#32
  let v0 : BitVec 32 := Scalar.muli arg0 c512_i32
  let c8192_i32 : BitVec 32 := 8192#32
  let v1 : BitVec 1 := Scalar.cmpi .slt v0 c8192_i32
  let c8192_i32_0 : BitVec 32 := 8192#32
  let v2 : BitVec 32 := Scalar.subi v0 c8192_i32_0
  let c4096_i32 : BitVec 32 := 4096#32
  let v3 : BitVec 32 := Scalar.divsi v2 c4096_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c4096_i32 c0_i32_2
  let v10 : BitVec 32 := Scalar.extui v9
  let c0_i32_3 : BitVec 32 := 0#32
  let v11 : BitVec 1 := Scalar.cmpi .slt c4096_i32 c0_i32_3
  let v12 : BitVec 32 := Scalar.extui v11
  let v13 : BitVec 32 := Scalar.subi v10 v12
  let v14 : BitVec 1 := Scalar.cmpi .ne v8 v13
  let v15 : BitVec 32 := Scalar.remsi v2 c4096_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c0_i32_7 : BitVec 32 := 0#32
  let v22 : BitVec 32 := Scalar.addi c0_i32_7 v21
  let c6_i32 : BitVec 32 := 6#32
  let v23 : BitVec 32 := Scalar.muli v22 c6_i32
  let c1_i32_8 : BitVec 32 := 1#32
  let v24 : BitVec 32 := Scalar.addi v23 c1_i32_8
  let c0_i32_9 : BitVec 32 := 0#32
  let c0_i32_10 : BitVec 32 := 0#32
  let c0_i32_11 : BitVec 32 := 0#32
  ![v24.toNat, c0_i32_9.toNat, c0_i32_10.toNat]

def cc0_transform_3 (i : grid0.Coords) : Fin 3 → Nat :=
  let arg0 : BitVec 32 := BitVec.ofNat 32 (i 0).val
  let c512_i32 : BitVec 32 := 512#32
  let v0 : BitVec 32 := Scalar.muli arg0 c512_i32
  let c8192_i32 : BitVec 32 := 8192#32
  let v1 : BitVec 1 := Scalar.cmpi .slt v0 c8192_i32
  let c8192_i32_0 : BitVec 32 := 8192#32
  let v2 : BitVec 32 := Scalar.subi v0 c8192_i32_0
  let c4096_i32 : BitVec 32 := 4096#32
  let v3 : BitVec 32 := Scalar.divsi v2 c4096_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c4096_i32 c0_i32_2
  let v10 : BitVec 32 := Scalar.extui v9
  let c0_i32_3 : BitVec 32 := 0#32
  let v11 : BitVec 1 := Scalar.cmpi .slt c4096_i32 c0_i32_3
  let v12 : BitVec 32 := Scalar.extui v11
  let v13 : BitVec 32 := Scalar.subi v10 v12
  let v14 : BitVec 1 := Scalar.cmpi .ne v8 v13
  let v15 : BitVec 32 := Scalar.remsi v2 c4096_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c0_i32_7 : BitVec 32 := 0#32
  let v22 : BitVec 32 := Scalar.addi c0_i32_7 v21
  let c6_i32 : BitVec 32 := 6#32
  let v23 : BitVec 32 := Scalar.muli v22 c6_i32
  let c0_i32_8 : BitVec 32 := 0#32
  let v24 : BitVec 32 := Scalar.addi v23 c0_i32_8
  let c0_i32_9 : BitVec 32 := 0#32
  let c0_i32_10 : BitVec 32 := 0#32
  let c0_i32_11 : BitVec 32 := 0#32
  ![v24.toNat, c0_i32_9.toNat, c0_i32_10.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceNormIdeal.lean ====
abbrev S24576x4096 : Shape := ⟨2, ![24576, 4096]⟩
abbrev S4096 : Shape := ⟨1, ![4096]⟩
abbrev S192x1x4096 : Shape := ⟨3, ![192, 1, 4096]⟩
abbrev S4x8x6x4096 : Shape := ⟨4, ![4, 8, 6, 4096]⟩
abbrev S1x8x6x4096 : Shape := ⟨4, ![1, 8, 6, 4096]⟩
abbrev S8x6x4096 : Shape := ⟨3, ![8, 6, 4096]⟩
abbrev S_ : Shape := ⟨0, ![]⟩
abbrev S24576 : Shape := ⟨1, ![24576]⟩
abbrev S24576x1 : Shape := ⟨2, ![24576, 1]⟩
abbrev S1x4096 : Shape := ⟨2, ![1, 4096]⟩
abbrev S8192x4096 : Shape := ⟨2, ![8192, 4096]⟩
abbrev S32x256x4096 : Shape := ⟨3, ![32, 256, 4096]⟩
abbrev S1x1x4096 : Shape := ⟨3, ![1, 1, 4096]⟩
abbrev S16384x4096 : Shape := ⟨2, ![16384, 4096]⟩
abbrev S4x4096x4096 : Shape := ⟨3, ![4, 4096, 4096]⟩
abbrev S4x1x4096 : Shape := ⟨3, ![4, 1, 4096]⟩
abbrev S4x4096 : Shape := ⟨2, ![4, 4096]⟩

abbrev nBuf : Space → Nat
  | .hbm => 56
  | .vmem => 0
  | .smem => 0
  | _ => 0

abbrev bufTy : (tb : Table) → Fin (tcTables nBuf tb) → BufTy
  | .hbm, ⟨0, _⟩ => ⟨S24576x4096, .f32⟩
  | .hbm, ⟨1, _⟩ => ⟨S4096, .f32⟩
  | .hbm, ⟨2, _⟩ => ⟨S192x1x4096, .f32⟩
  | .hbm, ⟨3, _⟩ => ⟨S4x8x6x4096, .f32⟩
  | .hbm, ⟨4, _⟩ => ⟨S1x8x6x4096, .f32⟩
  | .hbm, ⟨5, _⟩ => ⟨S8x6x4096, .f32⟩
  | .hbm, ⟨6, _⟩ => ⟨S24576x4096, .f32⟩
  | .hbm, ⟨7, _⟩ => ⟨S_, .f32⟩
  | .hbm, ⟨8, _⟩ => ⟨S24576, .f32⟩
  | .hbm, ⟨9, _⟩ => ⟨S24576x1, .f32⟩
  | .hbm, ⟨10, _⟩ => ⟨S_, .f32⟩
  | .hbm, ⟨11, _⟩ => ⟨S24576x1, .f32⟩
  | .hbm, ⟨12, _⟩ => ⟨S24576x1, .f32⟩
  | .hbm, ⟨13, _⟩ => ⟨S_, .f32⟩
  | .hbm, ⟨14, _⟩ => ⟨S24576x1, .f32⟩
  | .hbm, ⟨15, _⟩ => ⟨S24576x1, .f32⟩
  | .hbm, ⟨16, _⟩ => ⟨S24576x1, .f32⟩
  | .hbm, ⟨17, _⟩ => ⟨S24576x4096, .f32⟩
  | .hbm, ⟨18, _⟩ => ⟨S24576x4096, .f32⟩
  | .hbm, ⟨19, _⟩ => ⟨S1x4096, .f32⟩
  | .hbm, ⟨20, _⟩ => ⟨S24576x4096, .f32⟩
  | .hbm, ⟨21, _⟩ => ⟨S24576x4096, .f32⟩
  | .hbm, ⟨22, _⟩ => ⟨S8192x4096, .f32⟩
  | .hbm, ⟨23, _⟩ => ⟨S32x256x4096, .f32⟩
  | .hbm, ⟨24, _⟩ => ⟨S1x1x4096, .f32⟩
  | .hbm, ⟨25, _⟩ => ⟨S4096, .f32⟩
  | .hbm, ⟨26, _⟩ => ⟨S1x1x4096, .f32⟩
  | .hbm, ⟨27, _⟩ => ⟨S_, .f32⟩
  | .hbm, ⟨28, _⟩ => ⟨S1x1x4096, .f32⟩
  | .hbm, ⟨29, _⟩ => ⟨S1x1x4096, .f32⟩
  | .hbm, ⟨30, _⟩ => ⟨S32x256x4096, .f32⟩
  | .hbm, ⟨31, _⟩ => ⟨S32x256x4096, .f32⟩
  | .hbm, ⟨32, _⟩ => ⟨S1x1x4096, .f32⟩
  | .hbm, ⟨33, _⟩ => ⟨S4096, .f32⟩
  | .hbm, ⟨34, _⟩ => ⟨S1x1x4096, .f32⟩
  | .hbm, ⟨35, _⟩ => ⟨S32x256x4096, .f32⟩
  | .hbm, ⟨36, _⟩ => ⟨S32x256x4096, .f32⟩
  | .hbm, ⟨37, _⟩ => ⟨S16384x4096, .f32⟩
  | .hbm, ⟨38, _⟩ => ⟨S4x4096x4096, .f32⟩
  | .hbm, ⟨39, _⟩ => ⟨S4x1x4096, .f32⟩
  | .hbm, ⟨40, _⟩ => ⟨S4x4096, .f32⟩
  | .hbm, ⟨41, _⟩ => ⟨S4x1x4096, .f32⟩
  | .hbm, ⟨42, _⟩ => ⟨S_, .f32⟩
  | .hbm, ⟨43, _⟩ => ⟨S4x1x4096, .f32⟩
  | .hbm, ⟨44, _⟩ => ⟨S4x1x4096, .f32⟩
  | .hbm, ⟨45, _⟩ => ⟨S4x4096x4096, .f32⟩
  | .hbm, ⟨46, _⟩ => ⟨S4x4096x4096, .f32⟩
  | .hbm, ⟨47, _⟩ => ⟨S4x1x4096, .f32⟩
  | .hbm, ⟨48, _⟩ => ⟨S4x4096, .f32⟩
  | .hbm, ⟨49, _⟩ => ⟨S4x1x4096, .f32⟩
  | .hbm, ⟨50, _⟩ => ⟨S4x4096x4096, .f32⟩
  | .hbm, ⟨51, _⟩ => ⟨S4x4096x4096, .f32⟩
  | .hbm, ⟨52, _⟩ => ⟨S8192x4096, .f32⟩
  | .hbm, ⟨53, _⟩ => ⟨S16384x4096, .f32⟩
  | .hbm, ⟨54, _⟩ => ⟨S24576x4096, .f32⟩
  | .hbm, ⟨55, _⟩ => ⟨S24576x4096, .bf16⟩
  | _, _ => ⟨S24576x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_cst_3 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩

abbrev nD : Nat := 1
abbrev τ : Topo := Topo.v7x

variable {F : FTy → Type} [FloatOps F]
-- ==== KernelHead.lean ====
abbrev S24576x4096 : Shape := ⟨2, ![24576, 4096]⟩
abbrev S24576x12288 : Shape := ⟨2, ![24576, 12288]⟩
abbrev S512 : Shape := ⟨1, ![512]⟩
abbrev S1x512 : Shape := ⟨2, ![1, 512]⟩
abbrev S256x4096 : Shape := ⟨2, ![256, 4096]⟩
abbrev S256x512 : Shape := ⟨2, ![256, 512]⟩
abbrev S256 : Shape := ⟨1, ![256]⟩
abbrev S256x1 : Shape := ⟨2, ![256, 1]⟩

abbrev nBuf : Space → Nat
  | .hbm => 6
  | .vmem => 9
  | .smem => 0
  | _ => 0

abbrev bufTy : (tb : Table) → Fin (tcTables nBuf tb) → BufTy
  | .hbm, ⟨0, _⟩ => ⟨S24576x4096, .f32⟩
  | .hbm, ⟨1, _⟩ => ⟨S24576x4096, .f32⟩
  | .hbm, ⟨2, _⟩ => ⟨S24576x12288, .f32⟩
  | .hbm, ⟨3, _⟩ => ⟨S512, .f32⟩
  | .hbm, ⟨4, _⟩ => ⟨S1x512, .f32⟩
  | .hbm, ⟨5, _⟩ => ⟨S24576x4096, .bf16⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S256x4096, .f32⟩
  | .local _ .vmem, ⟨5, _⟩ => ⟨S256x4096, .f32⟩
  | .local _ .vmem, ⟨6, _⟩ => ⟨S1x512, .f32⟩
  | .local _ .vmem, ⟨7, _⟩ => ⟨S256x4096, .bf16⟩
  | .local _ .vmem, ⟨8, _⟩ => ⟨S256x4096, .bf16⟩
  | _, _ => ⟨S24576x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![96], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceHeadIdeal.lean ====
abbrev S24576x4096 : Shape := ⟨2, ![24576, 4096]⟩
abbrev S24576x12288 : Shape := ⟨2, ![24576, 12288]⟩
abbrev S512 : Shape := ⟨1, ![512]⟩
abbrev S24576x8x512 : Shape := ⟨3, ![24576, 8, 512]⟩
abbrev S_ : Shape := ⟨0, ![]⟩
abbrev S24576x8 : Shape := ⟨2, ![24576, 8]⟩
abbrev S24576x8x1 : Shape := ⟨3, ![24576, 8, 1]⟩
abbrev S1x1x512 : Shape := ⟨3, ![1, 1, 512]⟩

abbrev nBuf : Space → Nat
  | .hbm => 36
  | .vmem => 0
  | .smem => 0
  | _ => 0

abbrev bufTy : (tb : Table) → Fin (tcTables nBuf tb) → BufTy
  | .hbm, ⟨0, _⟩ => ⟨S24576x4096, .f32⟩
  | .hbm, ⟨1, _⟩ => ⟨S24576x4096, .f32⟩
  | .hbm, ⟨2, _⟩ => ⟨S24576x12288, .f32⟩
  | .hbm, ⟨3, _⟩ => ⟨S512, .f32⟩
  | .hbm, ⟨4, _⟩ => ⟨S24576x4096, .f32⟩
  | .hbm, ⟨5, _⟩ => ⟨S24576x8x512, .f32⟩
  | .hbm, ⟨6, _⟩ => ⟨S24576x4096, .f32⟩
  | .hbm, ⟨7, _⟩ => ⟨S24576x8x512, .f32⟩
  | .hbm, ⟨8, _⟩ => ⟨S24576x8x512, .f32⟩
  | .hbm, ⟨9, _⟩ => ⟨S_, .f32⟩
  | .hbm, ⟨10, _⟩ => ⟨S24576x8, .f32⟩
  | .hbm, ⟨11, _⟩ => ⟨S24576x8x1, .f32⟩
  | .hbm, ⟨12, _⟩ => ⟨S_, .f32⟩
  | .hbm, ⟨13, _⟩ => ⟨S24576x8x1, .f32⟩
  | .hbm, ⟨14, _⟩ => ⟨S24576x8x1, .f32⟩
  | .hbm, ⟨15, _⟩ => ⟨S_, .f32⟩
  | .hbm, ⟨16, _⟩ => ⟨S24576x8x1, .f32⟩
  | .hbm, ⟨17, _⟩ => ⟨S24576x8x1, .f32⟩
  | .hbm, ⟨18, _⟩ => ⟨S24576x8x1, .f32⟩
  | .hbm, ⟨19, _⟩ => ⟨S24576x8x512, .f32⟩
  | .hbm, ⟨20, _⟩ => ⟨S24576x8x512, .f32⟩
  | .hbm, ⟨21, _⟩ => ⟨S1x1x512, .f32⟩
  | .hbm, ⟨22, _⟩ => ⟨S24576x8x512, .f32⟩
  | .hbm, ⟨23, _⟩ => ⟨S24576x8x512, .f32⟩
  | .hbm, ⟨24, _⟩ => ⟨S24576x8x512, .f32⟩
  | .hbm, ⟨25, _⟩ => ⟨S24576x8x512, .f32⟩
  | .hbm, ⟨26, _⟩ => ⟨S_, .f32⟩
  | .hbm, ⟨27, _⟩ => ⟨S24576x8x512, .f32⟩
  | .hbm, ⟨28, _⟩ => ⟨S24576x8x512, .f32⟩
  | .hbm, ⟨29, _⟩ => ⟨S_, .f32⟩
  | .hbm, ⟨30, _⟩ => ⟨S24576x8x512, .f32⟩
  | .hbm, ⟨31, _⟩ => ⟨S24576x8x512, .f32⟩
  | .hbm, ⟨32, _⟩ => ⟨S24576x8x512, .f32⟩
  | .hbm, ⟨33, _⟩ => ⟨S24576x8x512, .f32⟩
  | .hbm, ⟨34, _⟩ => ⟨S24576x4096, .f32⟩
  | .hbm, ⟨35, _⟩ => ⟨S24576x4096, .bf16⟩
  | _, _ => ⟨S24576x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩

abbrev nD : Nat := 1
abbrev τ : Topo := Topo.v7x

variable {F : FTy → Type} [FloatOps F]
-- ==== KernelLastPrompt.lean ====
abbrev S24576x4096 : Shape := ⟨2, ![24576, 4096]⟩
abbrev S4096 : Shape := ⟨1, ![4096]⟩
abbrev S1x4096 : Shape := ⟨2, ![1, 4096]⟩
abbrev S8192x4096 : Shape := ⟨2, ![8192, 4096]⟩
abbrev S512x4096 : Shape := ⟨2, ![512, 4096]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S24576x4096, .f32⟩
  | .hbm, ⟨1, _⟩ => ⟨S4096, .f32⟩
  | .hbm, ⟨2, _⟩ => ⟨S1x4096, .f32⟩
  | .hbm, ⟨3, _⟩ => ⟨S8192x4096, .f32⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S512x4096, .f32⟩
  | .local _ .vmem, ⟨4, _⟩ => ⟨S512x4096, .f32⟩
  | _, _ => ⟨S24576x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceLastPromptIdeal.lean ====
abbrev S24576x4096 : Shape := ⟨2, ![24576, 4096]⟩
abbrev S4096 : Shape := ⟨1, ![4096]⟩
abbrev S8192x4096 : Shape := ⟨2, ![8192, 4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S24576x4096, .f32⟩
  | .hbm, ⟨1, _⟩ => ⟨S4096, .f32⟩
  | .hbm, ⟨2, _⟩ => ⟨S8192x4096, .f32⟩
  | .hbm, ⟨3, _⟩ => ⟨S8192x4096, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x4096, .f32⟩
  | .hbm, ⟨15, _⟩ => ⟨S8192x4096, .f32⟩
  | .hbm, ⟨16, _⟩ => ⟨S1x4096, .f32⟩
  | .hbm, ⟨17, _⟩ => ⟨S8192x4096, .f32⟩
  | .hbm, ⟨18, _⟩ => ⟨S8192x4096, .f32⟩
  | _, _ => ⟨S24576x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== KernelLastSample.lean ====
abbrev S24576x4096 : Shape := ⟨2, ![24576, 4096]⟩
abbrev S4096 : Shape := ⟨1, ![4096]⟩
abbrev S1x4096 : Shape := ⟨2, ![1, 4096]⟩
abbrev S16384x4096 : Shape := ⟨2, ![16384, 4096]⟩
abbrev S512x4096 : Shape := ⟨2, ![512, 4096]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S24576x4096, .f32⟩
  | .hbm, ⟨1, _⟩ => ⟨S4096, .f32⟩
  | .hbm, ⟨2, _⟩ => ⟨S1x4096, .f32⟩
  | .hbm, ⟨3, _⟩ => ⟨S16384x4096, .f32⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S512x4096, .f32⟩
  | .local _ .vmem, ⟨4, _⟩ => ⟨S512x4096, .f32⟩
  | _, _ => ⟨S24576x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceLastSampleIdeal.lean ====
abbrev S24576x4096 : Shape := ⟨2, ![24576, 4096]⟩
abbrev S4096 : Shape := ⟨1, ![4096]⟩
abbrev S16384x4096 : Shape := ⟨2, ![16384, 4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S24576x4096, .f32⟩
  | .hbm, ⟨1, _⟩ => ⟨S4096, .f32⟩
  | .hbm, ⟨2, _⟩ => ⟨S16384x4096, .f32⟩
  | .hbm, ⟨3, _⟩ => ⟨S16384x4096, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x4096, .f32⟩
  | .hbm, ⟨15, _⟩ => ⟨S16384x4096, .f32⟩
  | .hbm, ⟨16, _⟩ => ⟨S1x4096, .f32⟩
  | .hbm, ⟨17, _⟩ => ⟨S16384x4096, .f32⟩
  | .hbm, ⟨18, _⟩ => ⟨S16384x4096, .f32⟩
  | _, _ => ⟨S24576x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== KernelMods.lean ====
abbrev S8x4096 : Shape := ⟨2, ![8, 4096]⟩
abbrev S4x4096x24576 : Shape := ⟨3, ![4, 4096, 24576]⟩
abbrev S4x24576 : Shape := ⟨2, ![4, 24576]⟩
abbrev S4x1x24576 : Shape := ⟨3, ![4, 1, 24576]⟩
abbrev S4x8x24576 : Shape := ⟨3, ![4, 8, 24576]⟩
abbrev S1x4096x512 : Shape := ⟨3, ![1, 4096, 512]⟩
abbrev S1x1x512 : Shape := ⟨3, ![1, 1, 512]⟩
abbrev S1x8x512 : Shape := ⟨3, ![1, 8, 512]⟩
abbrev S4096x512 : Shape := ⟨2, ![4096, 512]⟩
abbrev S8x512 : Shape := ⟨2, ![8, 512]⟩
abbrev S1x512 : Shape := ⟨2, ![1, 512]⟩

abbrev nBuf : Space → Nat
  | .hbm => 5
  | .vmem => 7
  | .smem => 0
  | _ => 0

abbrev bufTy : (tb : Table) → Fin (tcTables nBuf tb) → BufTy
  | .hbm, ⟨0, _⟩ => ⟨S8x4096, .f32⟩
  | .hbm, ⟨1, _⟩ => ⟨S4x4096x24576, .f32⟩
  | .hbm, ⟨2, _⟩ => ⟨S4x24576, .f32⟩
  | .hbm, ⟨3, _⟩ => ⟨S4x1x24576, .f32⟩
  | .hbm, ⟨4, _⟩ => ⟨S4x8x24576, .f32⟩
  | .local _ .vmem, ⟨0, _⟩ => ⟨S8x4096, .f32⟩
  | .local _ .vmem, ⟨1, _⟩ => ⟨S1x4096x512, .f32⟩
  | .local _ .vmem, ⟨2, _⟩ => ⟨S1x4096x512, .f32⟩
  | .local _ .vmem, ⟨3, _⟩ => ⟨S1x1x512, .f32⟩
  | .local _ .vmem, ⟨4, _⟩ => ⟨S1x1x512, .f32⟩
  | .local _ .vmem, ⟨5, _⟩ => ⟨S1x8x512, .f32⟩
  | .local _ .vmem, ⟨6, _⟩ => ⟨S1x8x512, .f32⟩
  | _, _ => ⟨S8x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 48], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceModsIdeal.lean ====
abbrev S8x4096 : Shape := ⟨2, ![8, 4096]⟩
abbrev S4x4096x24576 : Shape := ⟨3, ![4, 4096, 24576]⟩
abbrev S4x24576 : Shape := ⟨2, ![4, 24576]⟩
abbrev S_ : Shape := ⟨0, ![]⟩
abbrev S4x24576x8 : Shape := ⟨3, ![4, 24576, 8]⟩
abbrev S4x8x24576 : Shape := ⟨3, ![4, 8, 24576]⟩
abbrev S4x1x24576 : Shape := ⟨3, ![4, 1, 24576]⟩

abbrev nBuf : Space → Nat
  | .hbm => 17
  | .vmem => 0
  | .smem => 0
  | _ => 0

abbrev bufTy : (tb : Table) → Fin (tcTables nBuf tb) → BufTy
  | .hbm, ⟨0, _⟩ => ⟨S8x4096, .f32⟩
  | .hbm, ⟨1, _⟩ => ⟨S4x4096x24576, .f32⟩
  | .hbm, ⟨2, _⟩ => ⟨S4x24576, .f32⟩
  | .hbm, ⟨3, _⟩ => ⟨S8x4096, .f32⟩
  | .hbm, ⟨4, _⟩ => ⟨S8x4096, .f32⟩
  | .hbm, ⟨5, _⟩ => ⟨S_, .f32⟩
  | .hbm, ⟨6, _⟩ => ⟨S8x4096, .f32⟩
  | .hbm, ⟨7, _⟩ => ⟨S8x4096, .f32⟩
  | .hbm, ⟨8, _⟩ => ⟨S_, .f32⟩
  | .hbm, ⟨9, _⟩ => ⟨S8x4096, .f32⟩
  | .hbm, ⟨10, _⟩ => ⟨S8x4096, .f32⟩
  | .hbm, ⟨11, _⟩ => ⟨S8x4096, .f32⟩
  | .hbm, ⟨12, _⟩ => ⟨S4x24576x8, .f32⟩
  | .hbm, ⟨13, _⟩ => ⟨S4x8x24576, .f32⟩
  | .hbm, ⟨14, _⟩ => ⟨S4x1x24576, .f32⟩
  | .hbm, ⟨15, _⟩ => ⟨S4x8x24576, .f32⟩
  | .hbm, ⟨16, _⟩ => ⟨S4x8x24576, .f32⟩
  | _, _ => ⟨S8x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== KernelEmbed.lean ====
abbrev S8192x4096 : Shape := ⟨2, ![8192, 4096]⟩
abbrev S16384x4096 : Shape := ⟨2, ![16384, 4096]⟩
abbrev S4096x4096 : Shape := ⟨2, ![4096, 4096]⟩
abbrev S24576x4096 : Shape := ⟨2, ![24576, 4096]⟩
abbrev S256x4096 : Shape := ⟨2, ![256, 4096]⟩

abbrev nBuf : Space → Nat
  | .hbm => 4
  | .vmem => 8
  | .smem => 0
  | _ => 0

abbrev bufTy : (tb : Table) → Fin (tcTables nBuf tb) → BufTy
  | .hbm, ⟨0, _⟩ => ⟨S8192x4096, .f32⟩
  | .hbm, ⟨1, _⟩ => ⟨S16384x4096, .f32⟩
  | .hbm, ⟨2, _⟩ => ⟨S4096x4096, .f32⟩
  | .hbm, ⟨3, _⟩ => ⟨S24576x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S256x4096, .f32⟩
  | .local _ .vmem, ⟨5, _⟩ => ⟨S256x4096, .f32⟩
  | .local _ .vmem, ⟨6, _⟩ => ⟨S256x4096, .f32⟩
  | .local _ .vmem, ⟨7, _⟩ => ⟨S256x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![96], ![false]⟩

def k0_cond1 (i : grid0.Coords) : BitVec 1 :=
  let arg0 : BitVec 32 := BitVec.ofNat 32 (i 0).val
  let c32_i32 : BitVec 32 := 32#32
  let v0 : BitVec 1 := Scalar.cmpi .slt arg0 c32_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c32_i32_0 : BitVec 32 := 32#32
  let v3 : BitVec 1 := Scalar.cmpi .sge arg0 c32_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c16_i32 : BitVec 32 := 16#32
  let c0_i32_0 : BitVec 32 := 0#32
  let v2 : BitVec 1 := Scalar.cmpi .eq c16_i32 c0_i32_0
  let c1_i32 : BitVec 32 := 1#32
  let v3 : BitVec 32 := Scalar.select v2 c1_i32 c16_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c0_i32_4 : BitVec 32 := 0#32
  let c0_i32_5 : BitVec 32 := 0#32
  ![v11.toNat, c0_i32_4.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceEmbedIdeal.lean ====
abbrev S8192x4096 : Shape := ⟨2, ![8192, 4096]⟩
abbrev S16384x4096 : Shape := ⟨2, ![16384, 4096]⟩
abbrev S4096x4096 : Shape := ⟨2, ![4096, 4096]⟩
abbrev S4x4096x4096 : Shape := ⟨3, ![4, 4096, 4096]⟩
abbrev S1x4096x4096 : Shape := ⟨3, ![1, 4096, 4096]⟩
abbrev S24576x4096 : Shape := ⟨2, ![24576, 4096]⟩

abbrev nBuf : Space → Nat
  | .hbm => 9
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S16384x4096, .f32⟩
  | .hbm, ⟨2, _⟩ => ⟨S4096x4096, .f32⟩
  | .hbm, ⟨3, _⟩ => ⟨S4x4096x4096, .f32⟩
  | .hbm, ⟨4, _⟩ => ⟨S1x4096x4096, .f32⟩
  | .hbm, ⟨5, _⟩ => ⟨S4x4096x4096, .f32⟩
  | .hbm, ⟨6, _⟩ => ⟨S4x4096x4096, .f32⟩
  | .hbm, ⟨7, _⟩ => ⟨S16384x4096, .f32⟩
  | .hbm, ⟨8, _⟩ => ⟨S24576x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Proof.Up.lean ====
/- The MLP's up projection: what the tiled product with its squared ReLU leaves in the result array, index by index, is
   the squared ReLU of the whole product. -/
module

public import proofs.«01_k».proof.Proof.Gen.KernelUpIdeal.Frame
public import proofs.«01_k».proof.Proof.Gen.ReferenceUpIdeal.Run
public import Idealize.ShloMosaic.Lib.Pipeline.ValueKit
public import Idealize.ShloMosaic.Lib.Pointwise

@[expose] public section

set_option maxRecDepth 16384

noncomputable section

namespace Cert.KernelUpIdeal.Hand

open Cert.KernelUpIdeal Cert.KernelUpIdeal.Gen Idealize.ShloMosaic Idealize.ShloMosaic.TcCoe Idealize.SL.Sem

variable (m : (ℓ : Loc nD τ sig) → Buf (Elt Ideal) ℓ)

/-- The reference's result, as one term of the activations and the weights. -/
def upRef (h : FVec Ideal Cert.ReferenceUpIdeal.S24576x4096 .bf16) (w : FVec Ideal Cert.ReferenceUpIdeal.S4096x16384 .f32) :
    FVec Ideal Cert.ReferenceUpIdeal.S24576x16384 .bf16 :=
  truncf .bf16 (mulf (maximumf (Host.dotGeneral Cert.ReferenceUpIdeal.dot_S24576x4096_S4096x16384_S24576x16384_1_0_0_1_n_n none (extf .f32 h Cert.ReferenceUpIdeal.Gen.bitsLt_bf16_f32) w) (broadcastInDim Cert.ReferenceUpIdeal.S24576x16384 ![] Cert.ReferenceUpIdeal.Gen.bcast_S_S24576x16384 (constant Cert.ReferenceUpIdeal.S_ .f32 0x00000000#32))) (maximumf (Host.dotGeneral Cert.ReferenceUpIdeal.dot_S24576x4096_S4096x16384_S24576x16384_1_0_0_1_n_n none (extf .f32 h Cert.ReferenceUpIdeal.Gen.bitsLt_bf16_f32) w) (broadcastInDim Cert.ReferenceUpIdeal.S24576x16384 ![] Cert.ReferenceUpIdeal.Gen.bcast_S_S24576x16384 (constant Cert.ReferenceUpIdeal.S_ .f32 0x00000000#32)))) Cert.ReferenceUpIdeal.Gen.bitsLt_bf16_f32

/-- Which block each window reads or writes at grid point `t`. -/
theorem idx : ∀ t : Fin cfg0.N, win0_0.index t = ![t.val / 16, 0] ∧ win0_1.index t = ![0, t.val % 16]
    ∧ win0_2.index t = ![t.val / 16, t.val % 16] :=
  (by decide +kernel : ∀ t : Fin grid0.N, _)

/-- One block of the product is that block of the reference's result. -/
theorem point (c : Dev nD) (t : Fin cfg0.N) (y : S1024x1024.Idx) :
    k0_pay1 (iblk m c 0 t) (iblk m c 1 t) y
      = upRef (m ((c : Thread nD τ).loc main_arg0)) (m ((c : Thread nD τ).loc main_arg1)) (((cfg0.win 2).blk t).view.emb y) := by
  pointwise [k0_pay1, upRef]
  blk_point [iblk, V, idx t]

/-- The result array after the launch is the reference's. -/
theorem final (c : Dev nD) : (dats m 0 c).arrAt 2 (cfgs 0).N
    = upRef (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

end Cert.KernelUpIdeal.Hand

end
-- ==== Proof.Down.lean ====
/- The MLP's down projection with its gated residual add: the product accumulated over eight blocks of the contracted
   axis, and the array the launch leaves. -/
module

public import proofs.«01_k».proof.Proof.Gen.KernelDownIdeal.Frame
public import proofs.«01_k».proof.Proof.Gen.ReferenceDownIdeal.Run
public import Idealize.ShloMosaic.Lib.Pipeline.ValueKit
public import Idealize.ShloMosaic.Lib.Pointwise
public import Idealize.ShloMosaic.Lib.Pipeline.ReadBack

@[expose] public section

set_option maxRecDepth 16384

noncomputable section

namespace Cert.ReferenceDownIdeal.Hand

open Cert.ReferenceDownIdeal Cert.ReferenceDownIdeal.Gen Idealize.ShloMosaic Idealize.ShloMosaic.TcCoe Idealize.SL.Sem

/-- The reference's result, as one term of the activations, the weights, the residual stream and the modulation rows. -/
def downRef (a : FVec Ideal Cert.ReferenceDownIdeal.S24576x16384 .bf16) (w : FVec Ideal Cert.ReferenceDownIdeal.S16384x4096 .f32)
    (x : FVec Ideal Cert.ReferenceDownIdeal.S24576x4096 .f32) (g : FVec Ideal Cert.ReferenceDownIdeal.S192x1x4096 .f32) :
    FVec Ideal Cert.ReferenceDownIdeal.S24576x4096 .f32 :=
  concatenate S24576x4096 0 [⟨S8192x4096, (shapeCast _ (addf (shapeCast _ (extractStridedSlice S8192x4096 ![0, 0] x slices_S24576x4096_S8192x4096_0_0) shapeCasts_S8192x4096_S32x256x4096) (mulf (broadcastInDim S32x256x4096 ![0, 1, 2] bcast_S1x1x4096_S32x256x4096_0_1_2 (broadcastInDim S1x1x4096 ![2] bcast_S4096_S1x1x4096_2 (shapeCast _ (extractStridedSlice S1x4096 ![0, 0] (shapeCast _ (extractStridedSlice S1x8x1x4096 ![0, 0, 5, 0] (shapeCast _ g shapeCasts_S192x1x4096_S4x8x6x4096) slices_S4x8x6x4096_S1x8x1x4096_0_0_5_0) shapeCasts_S1x8x1x4096_S8x4096) slices_S8x4096_S1x4096_0_0) shapeCasts_S1x4096_S4096))) (shapeCast _ (extractStridedSlice S8192x4096 ![0, 0] (Host.dotGeneral dot_S24576x16384_S16384x4096_S24576x4096_1_0_0_1_n_n none (extf .f32 a bitsLt_bf16_f32) w) slices_S24576x4096_S8192x4096_0_0) shapeCasts_S8192x4096_S32x256x4096))) shapeCasts_S32x256x4096_S8192x4096)⟩, ⟨S16384x4096, (shapeCast _ (addf (shapeCast _ (extractStridedSlice S16384x4096 ![8192, 0] x slices_S24576x4096_S16384x4096_8192_0) shapeCasts_S16384x4096_S4x4096x4096) (mulf (broadcastInDim S4x4096x4096 ![0, 1, 2] bcast_S4x1x4096_S4x4096x4096_0_1_2 (broadcastInDim S4x1x4096 ![0, 2] bcast_S4x4096_S4x1x4096_0_2 (extractStridedSlice S4x4096 ![1, 0] (shapeCast _ (extractStridedSlice S1x8x1x4096 ![0, 0, 5, 0] (shapeCast _ g shapeCasts_S192x1x4096_S4x8x6x4096) slices_S4x8x6x4096_S1x8x1x4096_0_0_5_0) shapeCasts_S1x8x1x4096_S8x4096) slices_S8x4096_S4x4096_1_0))) (shapeCast _ (extractStridedSlice S16384x4096 ![8192, 0] (Host.dotGeneral dot_S24576x16384_S16384x4096_S24576x4096_1_0_0_1_n_n none (extf .f32 a bitsLt_bf16_f32) w) slices_S24576x4096_S16384x4096_8192_0) shapeCasts_S16384x4096_S4x4096x4096))) shapeCasts_S4x4096x4096_S16384x4096)⟩] concatenates_S8192x4096_S16384x4096_S24576x4096_d0
end Cert.ReferenceDownIdeal.Hand

namespace Cert.KernelDownIdeal.Hand

open Cert.KernelDownIdeal Cert.KernelDownIdeal.Gen Idealize.ShloMosaic Idealize.ShloMosaic.TcCoe Idealize.SL.Sem

variable (m : (ℓ : Loc nD τ sig) → Buf (Elt Ideal) ℓ)

/-- Which block each window reads or writes at grid point `t`. -/
theorem idx : ∀ t : Fin cfg0.N, win0_0.index t = ![t.val / 32, t.val % 8] ∧ win0_1.index t = ![t.val % 8, t.val / 8 % 4]
    ∧ win0_2.index t = ![t.val / 32, t.val / 8 % 4]
    ∧ win0_3.index t = ![if t.val / 32 < 8 then 5 else (1 + (t.val / 32 - 8) / 4) * 6 + 5, 0, t.val / 8 % 4]
    ∧ win0_4.index t = ![t.val / 32, t.val / 8 % 4] :=
  (by decide +kernel : ∀ t : Fin grid0.N, _)

/-- One block product at an index. -/
theorem hpay1 (x0 : Vec Ideal S1024x2048 .bf16) (x1 : Vec Ideal S2048x1024 .bf16) (j : S1024x1024.Idx) :
    k0_pay1 (F := Ideal) x0 x1 j = ∑ k : Fin 2048, x0 (Idealize.ShloMosaic.ix2 (j 0) k) * x1 (Idealize.ShloMosaic.ix2 k (j 1)) := by
  pointwise [k0_pay1]

/-- The flushing point writes the residual plus the gate times what the accumulator holds. -/
theorem out_eq (c : Dev nD) (t : Fin cfg0.N) (h0 : ¬t.val % 8 = 0) (h1 : 1 ≤ t.val % 8) (h2 : t.val % 8 = 7) :
    (outsAt0 m c t.val t.isLt).1 = k0_pay4 (outsAt0 m c t.val t.isLt).2 (iblk m c 2 t) (iblk m c 3 t) := by
  rw [outsAt0_C m c t h0 h1 h2]
  frame_out

/-- The accumulator at a flushing point: the eight block products of its run, which are the product's row and column. -/
theorem acc_eq (c : Dev nD) (t : Fin cfg0.N) (h2 : t.val % 8 = 7) (j : S1024x1024.Idx) (r : Fin 24576) (q : Fin 4096)
    (A : FVec Ideal S24576x16384 .bf16) (W : FVec Ideal S16384x4096 .f32)
    (hA : m ((c : Thread nD τ).loc main_arg0) = A) (hW : m ((c : Thread nD τ).loc main_arg1) = W)
    (hr : r.val = t.val / 32 * 1024 + j 0) (hq : q.val = t.val / 8 % 4 * 1024 + j 1) :
    (outsAt0 m c t.val t.isLt).2 j = ∑ k : Fin 16384, A (ix2 r k) * W (ix2 k q) := by
  subst hA hW
  rw [Pipeline.eq_sum_fin_of_reset_step_apply_of_flush (fun n h => (outsAt0 m c n h).2) 8 (fun _ => 0)
    (fun t j => k0_pay1 (F := Ideal) (iblk m c 0 t) (iblk m c 1 t) j)
    (fun t h j => by rw [outsAt0_A m c t h (by omega) (by omega)]; frame_out; rw [zero_add]; pointwise [k0_pay2])
    (fun t h j => by
      by_cases h7 : t.val % 8 = 7
      · rw [outsAt0_C m c t h (by omega) h7]; frame_out; simp only [read_unread_whole]; pointwise [k0_pay3, k0_pay1]
      · rw [outsAt0_B m c t h (by omega) h7]; frame_out; simp only [read_unread_whole]; pointwise [k0_pay3, k0_pay1])
    t h2 j, zero_add]
  simp only [hpay1]
  refine Fin.sum_mul_add_congr fun s k hl => ?_
  have e := idx ⟨_, Pipeline.run_point_lt_of_flush t h2 s⟩
  blk_point [iblk, V, idx t, e]

/-- The residual add at one element. -/
theorem pay4_at (X acc : Vec Ideal S1024x1024 .f32) (G : Vec Ideal S1x1x1024 .f32) (y : S1024x1024.Idx) :
    k0_pay4 (F := Ideal) acc X G y = X y + G (ix3 0 0 (y 1)) * acc y := by
  pointwise [k0_pay4]

/-- The residual add at one element, against the reference at the element's place in the array: both halves of the
    stream read the same product row, and the gate row of the element's sequence. -/
theorem tile (X acc : Vec Ideal S1024x1024 .f32) (G : Vec Ideal S1x1x1024 .f32) (a : FVec Ideal S24576x16384 .bf16)
    (w : FVec Ideal S16384x4096 .f32) (x : FVec Ideal S24576x4096 .f32) (g : FVec Ideal S192x1x4096 .f32)
    (y : S1024x1024.Idx) (i : S24576x4096.Idx) (ρ : Fin 192)
    (hρ : ρ.val = if (i 0).val < 8192 then 5 else (1 + ((i 0).val - 8192) / 4096) * 6 + 5)
    (hX : X y = x i) (hacc : acc y = ∑ k : Fin 16384, a (ix2 (i 0) k) * w (ix2 k (i 1)))
    (hG : G (ix3 0 0 (y 1)) = g (ix3 ρ 0 (i 1))) :
    k0_pay4 acc X G y = Cert.ReferenceDownIdeal.Hand.downRef a w x g i := by
  rw [pay4_at, hX, hacc, hG]
  pointwise [Cert.ReferenceDownIdeal.Hand.downRef]
  have hi : (i 0).val < 24576 := (i 0).isLt
  by_cases h : (i 0).val < 8192
  · rw [if_pos h] at hρ
    rw [dif_pos h]
    blk_point
  · rw [if_neg h] at hρ
    rw [dif_neg h]
    blk_point

/-- One flushed block is that block of the reference's result. -/
theorem point (c : Dev nD) (t : Fin cfg0.N) (h2 : t.val % 8 = 7) (y : S1024x1024.Idx) :
    (outsAt0 m c t.val t.isLt).1 y
      = Cert.ReferenceDownIdeal.Hand.downRef (m ((c : Thread nD τ).loc main_arg0)) (m ((c : Thread nD τ).loc main_arg1))
        (m ((c : Thread nD τ).loc main_arg2)) (m ((c : Thread nD τ).loc main_arg3)) (((cfg0.win 4).blk t).view.emb y) := by
  have e := idx t
  have ht : t.val < 768 := lt_of_lt_of_eq t.isLt N_0
  have hy : (y 0).val < 1024 := (y 0).isLt
  rw [out_eq m c t (by omega) (by omega) h2]
  have hr : ((((cfg0.win 4).blk t).view.emb y) 0).val = t.val / 32 * 1024 + y 0 := by blk_simp [e]
  have hq : ((((cfg0.win 4).blk t).view.emb y) 1).val = t.val / 8 % 4 * 1024 + y 1 := by blk_simp [e]
  have hρ : (if t.val / 32 < 8 then 5 else (1 + (t.val / 32 - 8) / 4) * 6 + 5) < 192 := by split <;> omega
  refine tile _ _ _ _ _ _ _ y _ ⟨_, hρ⟩ ?_ ?_ (acc_eq m c t h2 y _ _ _ _ rfl rfl hr hq) ?_
  · rw [hr]
    show (if t.val / 32 < 8 then 5 else (1 + (t.val / 32 - 8) / 4) * 6 + 5) = _
    split <;> split <;> omega
  · blk_point [iblk, V, e]
  · blk_point [iblk, V, e]

/-- The result array after the launch is the reference's. -/
theorem final (c : Dev nD) : (dats m 0 c).arrAt 4 (cfgs 0).N
    = Cert.ReferenceDownIdeal.Hand.downRef (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t hf y => ?_
  blk_simp
  rw [after0_4]
  exact point m c t ((flush0_4 t).mp hf) y

end Cert.KernelDownIdeal.Hand

end
-- ==== Proof.In.lean ====
/- The attention layer's input projection: what the tiled product leaves in the result array, index by index, is the
   whole product. -/
module

public import proofs.«01_k».proof.Proof.Gen.KernelInIdeal.Frame
public import proofs.«01_k».proof.Proof.Gen.ReferenceInIdeal.Run
public import Idealize.ShloMosaic.Lib.Pipeline.ValueKit
public import Idealize.ShloMosaic.Lib.Pointwise

@[expose] public section

set_option maxRecDepth 16384

noncomputable section

namespace Cert.KernelInIdeal.Hand

open Cert.KernelInIdeal Cert.KernelInIdeal.Gen Idealize.ShloMosaic Idealize.ShloMosaic.TcCoe Idealize.SL.Sem

variable (m : (ℓ : Loc nD τ sig) → Buf (Elt Ideal) ℓ)

/-- The reference's result, as one term of the activations and the weights. -/
def inRef (h : FVec Ideal Cert.ReferenceInIdeal.S24576x4096 .bf16) (w : FVec Ideal Cert.ReferenceInIdeal.S4096x12288 .f32) :
    FVec Ideal Cert.ReferenceInIdeal.S24576x12288 .f32 :=
  Host.dotGeneral Cert.ReferenceInIdeal.dot_S24576x4096_S4096x12288_S24576x12288_1_0_0_1_n_n none
    (extf .f32 h Cert.ReferenceInIdeal.Gen.bitsLt_bf16_f32) w

/-- Which block each window reads or writes at grid point `t`. -/
theorem idx : ∀ t : Fin cfg0.N, win0_0.index t = ![t.val / 12, 0] ∧ win0_1.index t = ![0, t.val % 12]
    ∧ win0_2.index t = ![t.val / 12, t.val % 12] :=
  (by decide +kernel : ∀ t : Fin grid0.N, _)

/-- One block of the product is that block of the reference's result. -/
theorem point (c : Dev nD) (t : Fin cfg0.N) (y : S1024x1024.Idx) :
    k0_pay1 (iblk m c 0 t) (iblk m c 1 t) y
      = inRef (m ((c : Thread nD τ).loc main_arg0)) (m ((c : Thread nD τ).loc main_arg1)) (((cfg0.win 2).blk t).view.emb y) := by
  pointwise [k0_pay1, inRef]
  blk_point [iblk, V, idx t]

/-- The result array after the launch is the reference's. -/
theorem final (c : Dev nD) : (dats m 0 c).arrAt 2 (cfgs 0).N
    = inRef (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

end Cert.KernelInIdeal.Hand

end
-- ==== Proof.Mix.lean ====
/- The mixing's output projection with its gated residual add: the product accumulated over two blocks of the contracted
   axis, and the array the launch leaves. -/
module

public import proofs.«01_k».proof.Proof.Gen.KernelMixIdeal.Frame
public import proofs.«01_k».proof.Proof.Gen.ReferenceMixIdeal.Run
public import Idealize.ShloMosaic.Lib.Pipeline.ValueKit
public import Idealize.ShloMosaic.Lib.Pointwise
public import Idealize.ShloMosaic.Lib.Pipeline.ReadBack

@[expose] public section

set_option maxRecDepth 16384

noncomputable section

namespace Cert.ReferenceMixIdeal.Hand

open Cert.ReferenceMixIdeal Cert.ReferenceMixIdeal.Gen Idealize.ShloMosaic Idealize.ShloMosaic.TcCoe Idealize.SL.Sem

/-- The reference's result, as one term of the activations, the weights, the residual stream and the modulation rows. -/
def mixRef (a : FVec Ideal Cert.ReferenceMixIdeal.S24576x4096 .bf16) (w : FVec Ideal Cert.ReferenceMixIdeal.S4096x4096 .f32)
    (x : FVec Ideal Cert.ReferenceMixIdeal.S24576x4096 .f32) (g : FVec Ideal Cert.ReferenceMixIdeal.S192x1x4096 .f32) :
    FVec Ideal Cert.ReferenceMixIdeal.S24576x4096 .f32 :=
  concatenate S24576x4096 0 [⟨S8192x4096, (shapeCast _ (addf (shapeCast _ (extractStridedSlice S8192x4096 ![0, 0] x slices_S24576x4096_S8192x4096_0_0) shapeCasts_S8192x4096_S32x256x4096) (mulf (broadcastInDim S32x256x4096 ![0, 1, 2] bcast_S1x1x4096_S32x256x4096_0_1_2 (broadcastInDim S1x1x4096 ![2] bcast_S4096_S1x1x4096_2 (shapeCast _ (extractStridedSlice S1x4096 ![0, 0] (shapeCast _ (extractStridedSlice S1x8x1x4096 ![0, 0, 2, 0] (shapeCast _ g shapeCasts_S192x1x4096_S4x8x6x4096) slices_S4x8x6x4096_S1x8x1x4096_0_0_2_0) shapeCasts_S1x8x1x4096_S8x4096) slices_S8x4096_S1x4096_0_0) shapeCasts_S1x4096_S4096))) (shapeCast _ (extractStridedSlice S8192x4096 ![0, 0] (Host.dotGeneral dot_S24576x4096_S4096x4096_S24576x4096_1_0_0_1_n_n none (extf .f32 a bitsLt_bf16_f32) w) slices_S24576x4096_S8192x4096_0_0) shapeCasts_S8192x4096_S32x256x4096))) shapeCasts_S32x256x4096_S8192x4096)⟩, ⟨S16384x4096, (shapeCast _ (addf (shapeCast _ (extractStridedSlice S16384x4096 ![8192, 0] x slices_S24576x4096_S16384x4096_8192_0) shapeCasts_S16384x4096_S4x4096x4096) (mulf (broadcastInDim S4x4096x4096 ![0, 1, 2] bcast_S4x1x4096_S4x4096x4096_0_1_2 (broadcastInDim S4x1x4096 ![0, 2] bcast_S4x4096_S4x1x4096_0_2 (extractStridedSlice S4x4096 ![1, 0] (shapeCast _ (extractStridedSlice S1x8x1x4096 ![0, 0, 2, 0] (shapeCast _ g shapeCasts_S192x1x4096_S4x8x6x4096) slices_S4x8x6x4096_S1x8x1x4096_0_0_2_0) shapeCasts_S1x8x1x4096_S8x4096) slices_S8x4096_S4x4096_1_0))) (shapeCast _ (extractStridedSlice S16384x4096 ![8192, 0] (Host.dotGeneral dot_S24576x4096_S4096x4096_S24576x4096_1_0_0_1_n_n none (extf .f32 a bitsLt_bf16_f32) w) slices_S24576x4096_S16384x4096_8192_0) shapeCasts_S16384x4096_S4x4096x4096))) shapeCasts_S4x4096x4096_S16384x4096)⟩] concatenates_S8192x4096_S16384x4096_S24576x4096_d0

end Cert.ReferenceMixIdeal.Hand

namespace Cert.KernelMixIdeal.Hand

open Cert.KernelMixIdeal Cert.KernelMixIdeal.Gen Idealize.ShloMosaic Idealize.ShloMosaic.TcCoe Idealize.SL.Sem

variable (m : (ℓ : Loc nD τ sig) → Buf (Elt Ideal) ℓ)

/-- Which block each window reads or writes at grid point `t`. -/
theorem idx : ∀ t : Fin cfg0.N, win0_0.index t = ![t.val / 8, t.val % 2] ∧ win0_1.index t = ![t.val % 2, t.val / 2 % 4]
    ∧ win0_2.index t = ![t.val / 8, t.val / 2 % 4]
    ∧ win0_3.index t = ![if t.val / 8 < 8 then 2 else (1 + (t.val / 8 - 8) / 4) * 6 + 2, 0, t.val / 2 % 4]
    ∧ win0_4.index t = ![t.val / 8, t.val / 2 % 4] :=
  (by decide +kernel : ∀ t : Fin grid0.N, _)

/-- One block product at an index. -/
theorem hpay1 (x0 : Vec Ideal S1024x2048 .bf16) (x1 : Vec Ideal S2048x1024 .bf16) (j : S1024x1024.Idx) :
    k0_pay1 (F := Ideal) x0 x1 j = ∑ k : Fin 2048, x0 (Idealize.ShloMosaic.ix2 (j 0) k) * x1 (Idealize.ShloMosaic.ix2 k (j 1)) := by
  pointwise [k0_pay1]

/-- The flushing point writes the residual plus the gate times what the accumulator holds. -/
theorem out_eq (c : Dev nD) (t : Fin cfg0.N) (h0 : ¬t.val % 2 = 0) (h2 : t.val % 2 = 1) :
    (outsAt0 m c t.val t.isLt).1 = k0_pay4 (outsAt0 m c t.val t.isLt).2 (iblk m c 2 t) (iblk m c 3 t) := by
  rw [outsAt0_B m c t h0 h2 h2]
  frame_out

/-- The accumulator at a flushing point: the two block products of its run, which are the product's row and column. -/
theorem acc_eq (c : Dev nD) (t : Fin cfg0.N) (h2 : t.val % 2 = 1) (j : S1024x1024.Idx) (r : Fin 24576) (q : Fin 4096)
    (A : FVec Ideal S24576x4096 .bf16) (W : FVec Ideal S4096x4096 .f32)
    (hA : m ((c : Thread nD τ).loc main_arg0) = A) (hW : m ((c : Thread nD τ).loc main_arg1) = W)
    (hr : r.val = t.val / 8 * 1024 + j 0) (hq : q.val = t.val / 2 % 4 * 1024 + j 1) :
    (outsAt0 m c t.val t.isLt).2 j = ∑ k : Fin 4096, A (ix2 r k) * W (ix2 k q) := by
  subst hA hW
  rw [Pipeline.eq_sum_fin_of_reset_step_apply_of_flush (fun n h => (outsAt0 m c n h).2) 2 (fun _ => 0)
    (fun t j => k0_pay1 (F := Ideal) (iblk m c 0 t) (iblk m c 1 t) j)
    (fun t h j => by rw [outsAt0_A m c t h (by omega) (by omega)]; frame_out; rw [zero_add]; pointwise [k0_pay2])
    (fun t h j => by
      rw [outsAt0_B m c t h (by omega) (by omega)]
      frame_out
      simp only [read_unread_whole]
      pointwise [k0_pay3, k0_pay1])
    t h2 j, zero_add]
  simp only [hpay1]
  refine Fin.sum_mul_add_congr fun s k hl => ?_
  have e := idx ⟨_, Pipeline.run_point_lt_of_flush t h2 s⟩
  blk_point [iblk, V, idx t, e]

/-- The residual add at one element. -/
theorem pay4_at (X acc : Vec Ideal S1024x1024 .f32) (G : Vec Ideal S1x1x1024 .f32) (y : S1024x1024.Idx) :
    k0_pay4 (F := Ideal) acc X G y = X y + G (ix3 0 0 (y 1)) * acc y := by
  pointwise [k0_pay4]

/-- The residual add at one element, against the reference at the element's place in the array: both halves of the
    stream read the same product row, and the gate row of the element's sequence. -/
theorem tile (X acc : Vec Ideal S1024x1024 .f32) (G : Vec Ideal S1x1x1024 .f32) (a : FVec Ideal S24576x4096 .bf16)
    (w : FVec Ideal S4096x4096 .f32) (x : FVec Ideal S24576x4096 .f32) (g : FVec Ideal S192x1x4096 .f32)
    (y : S1024x1024.Idx) (i : S24576x4096.Idx) (ρ : Fin 192)
    (hρ : ρ.val = if (i 0).val < 8192 then 2 else (1 + ((i 0).val - 8192) / 4096) * 6 + 2)
    (hX : X y = x i) (hacc : acc y = ∑ k : Fin 4096, a (ix2 (i 0) k) * w (ix2 k (i 1)))
    (hG : G (ix3 0 0 (y 1)) = g (ix3 ρ 0 (i 1))) :
    k0_pay4 acc X G y = Cert.ReferenceMixIdeal.Hand.mixRef a w x g i := by
  rw [pay4_at, hX, hacc, hG]
  pointwise [Cert.ReferenceMixIdeal.Hand.mixRef]
  have hi : (i 0).val < 24576 := (i 0).isLt
  by_cases h : (i 0).val < 8192
  · rw [if_pos h] at hρ
    rw [dif_pos h]
    blk_point
  · rw [if_neg h] at hρ
    rw [dif_neg h]
    blk_point

/-- One flushed block is that block of the reference's result. -/
theorem point (c : Dev nD) (t : Fin cfg0.N) (h2 : t.val % 2 = 1) (y : S1024x1024.Idx) :
    (outsAt0 m c t.val t.isLt).1 y
      = Cert.ReferenceMixIdeal.Hand.mixRef (m ((c : Thread nD τ).loc main_arg0)) (m ((c : Thread nD τ).loc main_arg1))
        (m ((c : Thread nD τ).loc main_arg2)) (m ((c : Thread nD τ).loc main_arg3)) (((cfg0.win 4).blk t).view.emb y) := by
  have e := idx t
  have ht : t.val < 192 := lt_of_lt_of_eq t.isLt N_0
  have hy : (y 0).val < 1024 := (y 0).isLt
  rw [out_eq m c t (by omega) h2]
  have hr : ((((cfg0.win 4).blk t).view.emb y) 0).val = t.val / 8 * 1024 + y 0 := by blk_simp [e]
  have hq : ((((cfg0.win 4).blk t).view.emb y) 1).val = t.val / 2 % 4 * 1024 + y 1 := by blk_simp [e]
  have hρ : (if t.val / 8 < 8 then 2 else (1 + (t.val / 8 - 8) / 4) * 6 + 2) < 192 := by split <;> omega
  refine tile _ _ _ _ _ _ _ y _ ⟨_, hρ⟩ ?_ ?_ (acc_eq m c t h2 y _ _ _ _ rfl rfl hr hq) ?_
  · rw [hr]
    show (if t.val / 8 < 8 then 2 else (1 + (t.val / 8 - 8) / 4) * 6 + 2) = _
    split <;> split <;> omega
  · blk_point [iblk, V, e]
  · blk_point [iblk, V, e]

/-- The result array after the launch is the reference's. -/
theorem final (c : Dev nD) : (dats m 0 c).arrAt 4 (cfgs 0).N
    = Cert.ReferenceMixIdeal.Hand.mixRef (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t hf y => ?_
  blk_simp
  rw [after0_4]
  exact point m c t ((flush0_4 t).mp hf) y

end Cert.KernelMixIdeal.Hand

end
-- ==== Proof.Rank.lean ====
/- The low-rank product of the two gates: the activations times the two weight matrices side by side, padded with zeros. -/
module

public import proofs.«01_k».proof.Proof.Gen.KernelRankIdeal.Frame
public import proofs.«01_k».proof.Proof.Gen.ReferenceRankIdeal.Run
public import Idealize.ShloMosaic.Lib.Pipeline.ValueKit
public import Idealize.ShloMosaic.Lib.Pointwise
public import Idealize.ShloMosaic.Lib.Pipeline.ReadBack
public import Idealize.ShloMosaic.Lib.StableHlo.ReadAt
public import Idealize.ShloMosaic.Lib.Routing.OpsSet

@[expose] public section

set_option maxRecDepth 16384

noncomputable section

namespace Cert.ReferenceRankIdeal.Hand

open Cert.ReferenceRankIdeal Cert.ReferenceRankIdeal.Gen Idealize.ShloMosaic Idealize.ShloMosaic.TcCoe Idealize.SL.Sem

/-- The reference's result, as one term of the activations and the two weight matrices. -/
def rankRef (a0 : FVec Ideal S24576x4096 .bf16) (a1 : FVec Ideal S4096x16 .f32) (a2 : FVec Ideal S4096x16 .f32) :
    FVec Ideal S24576x128 .f32 :=
  (concatenate S24576x128 1 [⟨S24576x16, ((Host.dotGeneral dot_S24576x4096_S4096x16_S24576x16_1_0_0_1_n_n none (extf .f32 a0 bitsLt_bf16_f32) a1) : (⟨S24576x16, .f32⟩ : BufTy).Contents (Elt Ideal))⟩, ⟨S24576x16, ((Host.dotGeneral dot_S24576x4096_S4096x16_S24576x16_1_0_0_1_n_n none (extf .f32 a0 bitsLt_bf16_f32) a2) : (⟨S24576x16, .f32⟩ : BufTy).Contents (Elt Ideal))⟩, ⟨S24576x96, ((broadcastInDim S24576x96 ![] bcast_S_S24576x96 (constant (F := Ideal) S_ .f32 0x00000000#32)) : (⟨S24576x96, .f32⟩ : BufTy).Contents (Elt Ideal))⟩] concatenates_S24576x16_S24576x16_S24576x96_S24576x128_d1 : (⟨S24576x128, .f32⟩ : BufTy).Contents (Elt Ideal))

end Cert.ReferenceRankIdeal.Hand

namespace Cert.KernelRankIdeal.Hand

open Cert.KernelRankIdeal Cert.KernelRankIdeal.Gen Idealize.ShloMosaic Idealize.ShloMosaic.TcCoe Idealize.SL.Sem

variable (m : (ℓ : Loc nD τ sig) → Buf (Elt Ideal) ℓ)

/-- Which block each window reads or writes at grid point `t`. -/
theorem idx : ∀ t : Fin cfg0.N, win0_0.index t = ![t.val, 0] ∧ win0_1.index t = ![0, 0] ∧ win0_2.index t = ![t.val, 0] :=
  (by decide +kernel : ∀ t : Fin grid0.N, _)

/-- Where an update of the padded weights lands: its own row, its column moved by the start. -/
theorem lands (o : ℕ) (ho : o + 16 ≤ 128) (off : BitVec 32) (hoff : off.toInt = (o : ℤ)) (idx : IVec S1 32) (hidx : ∀ i, idx i = off)
    (j : S4096x16.Idx) : scatter_S4096x128_S1_S4096x16_01_n_1_0.resultIdx? j idx
      = some (ix2 (j 0) ⟨o + (j 1).val, by have h : (j 1).val < 16 := (j 1).isLt; omega⟩) := by
  have h0 : (j 0).val < 4096 := (j 0).isLt
  have h1 : (j 1).val < 16 := (j 1).isLt
  have s0 : scatter_S4096x128_S1_S4096x16_01_n_1_0.start j idx 0 + scatter_S4096x128_S1_S4096x16_01_n_1_0.window j 0 = ((j 0).val : ℤ) := by
    unfold ScatterDims.start ScatterDims.window
    rw [dif_neg (by decide), dif_pos (by decide), zero_add]
    rfl
  have s1 : scatter_S4096x128_S1_S4096x16_01_n_1_0.start j idx 1 + scatter_S4096x128_S1_S4096x16_01_n_1_0.window j 1 = ((o + (j 1).val : ℕ) : ℤ) := by
    unfold ScatterDims.start ScatterDims.window
    rw [dif_pos (by decide), dif_pos (by decide), hidx, hoff]
    rfl
  unfold ScatterDims.resultIdx?
  rw [dif_pos (Fin.forall_fin_two.mpr ⟨by rw [s0]; exact ⟨by omega, by exact_mod_cast h0⟩,
    by rw [s1]; exact ⟨by omega, by exact_mod_cast (by omega : o + (j 1).val < 128)⟩⟩)]
  refine congrArg some (funext (Fin.forall_fin_two.mpr ⟨Fin.ext ?_, Fin.ext ?_⟩))
  · show (scatter_S4096x128_S1_S4096x16_01_n_1_0.start j idx 0 + scatter_S4096x128_S1_S4096x16_01_n_1_0.window j 0).toNat = (j 0).val
    rw [s0]; rfl
  · show (scatter_S4096x128_S1_S4096x16_01_n_1_0.start j idx 1 + scatter_S4096x128_S1_S4096x16_01_n_1_0.window j 1).toNat = o + (j 1).val
    rw [s1]; rfl

/-- One padded update at an element: the update's inside its sixteen columns, the operand's outside. -/
theorem pad_at (x0 : FVec Ideal S4096x128 .f32) (u : FVec Ideal S4096x16 .f32) (o : ℕ) (ho : o + 16 ≤ 128) (off : BitVec 32)
    (hoff : off.toInt = (o : ℤ)) (idx : IVec S1 32) (hidx : ∀ i, idx i = off) (k : Fin 4096) (n : Fin 128) :
    Host.scatter scatter_S4096x128_S1_S4096x16_01_n_1_0 (fun _ b => b) x0 idx u (ix2 k n)
      = if h : o ≤ n.val ∧ n.val < o + 16 then u (ix2 k ⟨n.val - o, by omega⟩) else x0 (ix2 k n) := by
  have hl := lands o ho off hoff idx hidx
  by_cases h : o ≤ n.val ∧ n.val < o + 16
  · rw [dif_pos h]
    refine Routing.scatter_set_hit _ _ _ _ _ _ (fun j hj => ?_) (ix2 k ⟨n.val - o, by omega⟩) ?_
    · rw [hl j] at hj
      have hj := Option.some.inj hj
      have e0 : (j 0).val = k.val := congrArg (fun q : S4096x128.Idx => (q 0).val) hj
      have e1 : o + (j 1).val = n.val := congrArg (fun q : S4096x128.Idx => (q 1).val) hj
      refine congrArg u (funext (Fin.forall_fin_two.mpr ⟨Fin.ext e0, Fin.ext ?_⟩))
      show (j 1).val = n.val - o
      omega
    · rw [hl]
      refine congrArg some (funext (Fin.forall_fin_two.mpr ⟨rfl, Fin.ext ?_⟩))
      show o + (n.val - o) = n.val
      omega
  · rw [dif_neg h]
    refine Routing.scatter_set_miss _ _ _ _ _ fun j hj => h ?_
    rw [hl j] at hj
    have e1 : o + (j 1).val = n.val := congrArg (fun q : S4096x128.Idx => (q 1).val) (Option.some.inj hj)
    have h1 : (j 1).val < 16 := (j 1).isLt
    omega

/-- The padded weights as the launch finds them: the two matrices side by side, then zeros. -/
theorem weights (c : Dev nD) (k : Fin 4096) (n : Fin 128) : V m c main_v5 (ix2 k n)
    = if h : n.val < 16 then m ((c : Thread nD τ).loc main_arg1) (ix2 k ⟨n.val, h⟩)
      else if h : n.val < 32 then m ((c : Thread nD τ).loc main_arg2) (ix2 k ⟨n.val - 16, by omega⟩) else (0 : EReal) := by
  unfold V
  after_reads_at
  rw [pad_at _ _ 16 (by omega) 16#32 (by decide) (broadcastInDim S1 ![] bcast_S_S1 (constantI S_ 32 16#32)) (fun _ => rfl),
    pad_at _ _ 0 (by omega) 0#32 (by decide) (broadcastInDim S1 ![] bcast_S_S1 (constantI S_ 32 0#32)) (fun _ => rfl)]
  by_cases h : n.val < 16
  · rw [dif_neg (by omega), dif_pos (by omega), dif_pos h]
    rfl
  · rw [dif_neg h]
    by_cases h2 : n.val < 32
    · rw [dif_pos (by omega), dif_pos h2]
    · rw [dif_neg (by omega), dif_neg (by omega), dif_neg h2]
      exact Ideal.ofBits_zero .f32

/-- One block of the product against the reference at the element's place in the array. -/
theorem tile (X : Vec Ideal S2048x4096 .bf16) (W : Vec Ideal S4096x128 .bf16) (x : FVec Ideal S24576x4096 .bf16)
    (wf wb : FVec Ideal S4096x16 .f32) (y : S2048x128.Idx) (i : S24576x128.Idx) (hi : i 1 = y 1)
    (hX : ∀ k : Fin 4096, X (ix2 (y 0) k) = x (ix2 (i 0) k))
    (hW : ∀ (k : Fin 4096) (n : Fin 128), W (ix2 k n) = if h : n.val < 16 then wf (ix2 k ⟨n.val, h⟩)
      else if h : n.val < 32 then wb (ix2 k ⟨n.val - 16, by omega⟩) else (0 : EReal)) :
    k0_pay1 X W y = Cert.ReferenceRankIdeal.Hand.rankRef x wf wb i := by
  have hn := fun k => hW k (y 1)
  pointwise [k0_pay1, Cert.ReferenceRankIdeal.Hand.rankRef]
  simp only [hi, hX]
  by_cases h : (y 1).val < 16
  · rw [dif_pos h]
    exact Finset.sum_congr rfl fun k _ => congrArg _ ((hn k).trans (dif_pos h))
  · rw [dif_neg h]
    by_cases h2 : (y 1).val < 32
    · rw [dif_pos (by omega)]
      exact Finset.sum_congr rfl fun k _ => congrArg _ ((hn k).trans ((dif_neg h).trans (dif_pos h2)))
    · rw [dif_neg (by omega)]
      exact Finset.sum_eq_zero fun k _ => (congrArg _ ((hn k).trans ((dif_neg h).trans (dif_neg h2)))).trans (mul_zero _)

/-- One block of the result is that block of the reference's. -/
theorem point (c : Dev nD) (t : Fin cfg0.N) (y : S2048x128.Idx) :
    k0_pay1 (iblk m c 0 t) (iblk m c 1 t) y
      = Cert.ReferenceRankIdeal.Hand.rankRef (m ((c : Thread nD τ).loc main_arg0)) (m ((c : Thread nD τ).loc main_arg1)) (m ((c : Thread nD τ).loc main_arg2)) (((cfg0.win 2).blk t).view.emb y) := by
  have e := idx t
  have h1 : ((((cfg0.win 2).blk t).view.emb y) 1).val = y 1 := by blk_simp [e]
  refine tile _ _ _ _ _ y _ (Fin.ext h1) (fun k => ?_) (fun k n => ?_)
  · blk_point [iblk, V, e]
  · refine Eq.trans ?_ (weights m c k n)
    unfold iblk
    change _ = V m c (Pipeline.arrRef spec0 1) (ix2 k n)
    generalize V m c (Pipeline.arrRef spec0 1) = A
    blk_point [e]

/-- The result array after the launch is the reference's. -/
theorem final (c : Dev nD) : (dats m 0 c).arrAt 2 (cfgs 0).N
    = Cert.ReferenceRankIdeal.Hand.rankRef (m ((c : Thread nD τ).loc main_arg0)) (m ((c : Thread nD τ).loc main_arg1)) (m ((c : Thread nD τ).loc main_arg2)) := by
  refine (dats m 0 c).arrAt_eq_of_covers 2 _ (by decide +kernel) fun t _ y => ?_
  blk_simp
  rw [after0_2]
  frame_out
  exact point m c t y

end Cert.KernelRankIdeal.Hand

end
-- ==== Proof.Norm.lean ====
/- The modulated norm before the mixing: each row over its root mean square, times the weights, scaled and shifted by its sequence's modulation rows. -/
module

public import proofs.«01_k».proof.Proof.Gen.KernelNormIdeal.Frame
public import proofs.«01_k».proof.Proof.Gen.ReferenceNormIdeal.Run
public import Idealize.ShloMosaic.Lib.Pipeline.ValueKit
public import Idealize.ShloMosaic.Lib.Pointwise
public import Idealize.ShloMosaic.Lib.Pipeline.ReadBack
public import Idealize.ShloMosaic.Lib.StableHlo.ReadAt

@[expose] public section

set_option maxRecDepth 16384

noncomputable section

namespace Cert.ReferenceNormIdeal.Hand

open Cert.ReferenceNormIdeal Cert.ReferenceNormIdeal.Gen Idealize.ShloMosaic Idealize.ShloMosaic.TcCoe Idealize.SL.Sem

/-- Every row over its root mean square, times the norm's weights. -/
def normed (a0 : FVec Ideal S24576x4096 .f32) (a1 : FVec Ideal S4096 .f32) : FVec Ideal S24576x4096 .f32 :=
  mulf (mulf a0 (broadcastInDim S24576x4096 ![0, 1] bcast_S24576x1_S24576x4096_0_1 (Host.rsqrt (addf (Host.divf (broadcastInDim S24576x1 ![0] bcast_S24576_S24576x1_0 (Host.reduceAdd (mulf a0 a0) (constant S_ .f32 0x00000000#32) reducesTo_S24576x4096_S24576_d1 h_S_)) (broadcastInDim S24576x1 ![] bcast_S_S24576x1 (constant S_ .f32 0x45800000#32))) (broadcastInDim S24576x1 ![] bcast_S_S24576x1 (constant S_ .f32 0x358637BD#32)))))) (broadcastInDim S24576x4096 ![0, 1] bcast_S1x4096_S24576x4096_0_1 (broadcastInDim S1x4096 ![1] bcast_S4096_S1x4096_1 a1))

/-- The prompt's rows, scaled and shifted by the first modulation. -/
def promptRows (n : FVec Ideal S24576x4096 .f32) (a2 : FVec Ideal S192x1x4096 .f32) : FVec Ideal S8192x4096 .f32 :=
  shapeCast _ (addf (mulf (shapeCast _ (extractStridedSlice S8192x4096 ![0, 0] n slices_S24576x4096_S8192x4096_0_0) shapeCasts_S8192x4096_S32x256x4096) (broadcastInDim S32x256x4096 ![0, 1, 2] bcast_S1x1x4096_S32x256x4096_0_1_2 (addf (broadcastInDim S1x1x4096 ![] bcast_S_S1x1x4096 (constant S_ .f32 0x3F800000#32)) (broadcastInDim S1x1x4096 ![2] bcast_S4096_S1x1x4096_2 (shapeCast _ (extractStridedSlice S1x1x4096 ![0, 1, 0] (shapeCast _ (extractStridedSlice S1x8x6x4096 ![0, 0, 0, 0] (shapeCast _ a2 shapeCasts_S192x1x4096_S4x8x6x4096) slices_S4x8x6x4096_S1x8x6x4096_0_0_0_0) shapeCasts_S1x8x6x4096_S8x6x4096) slices_S8x6x4096_S1x1x4096_0_1_0) shapeCasts_S1x1x4096_S4096))))) (broadcastInDim S32x256x4096 ![0, 1, 2] bcast_S1x1x4096_S32x256x4096_0_1_2 (broadcastInDim S1x1x4096 ![2] bcast_S4096_S1x1x4096_2 (shapeCast _ (extractStridedSlice S1x1x4096 ![0, 0, 0] (shapeCast _ (extractStridedSlice S1x8x6x4096 ![0, 0, 0, 0] (shapeCast _ a2 shapeCasts_S192x1x4096_S4x8x6x4096) slices_S4x8x6x4096_S1x8x6x4096_0_0_0_0) shapeCasts_S1x8x6x4096_S8x6x4096) slices_S8x6x4096_S1x1x4096_0_0_0) shapeCasts_S1x1x4096_S4096)))) shapeCasts_S32x256x4096_S8192x4096

/-- The sample's rows, each sequence scaled and shifted by its own modulation. -/
def sampleRows (n : FVec Ideal S24576x4096 .f32) (a2 : FVec Ideal S192x1x4096 .f32) : FVec Ideal S16384x4096 .f32 :=
  shapeCast _ (addf (mulf (shapeCast _ (extractStridedSlice S16384x4096 ![8192, 0] n slices_S24576x4096_S16384x4096_8192_0) shapeCasts_S16384x4096_S4x4096x4096) (broadcastInDim S4x4096x4096 ![0, 1, 2] bcast_S4x1x4096_S4x4096x4096_0_1_2 (addf (broadcastInDim S4x1x4096 ![] bcast_S_S4x1x4096 (constant S_ .f32 0x3F800000#32)) (broadcastInDim S4x1x4096 ![0, 2] bcast_S4x4096_S4x1x4096_0_2 (shapeCast _ (extractStridedSlice S4x1x4096 ![1, 1, 0] (shapeCast _ (extractStridedSlice S1x8x6x4096 ![0, 0, 0, 0] (shapeCast _ a2 shapeCasts_S192x1x4096_S4x8x6x4096) slices_S4x8x6x4096_S1x8x6x4096_0_0_0_0) shapeCasts_S1x8x6x4096_S8x6x4096) slices_S8x6x4096_S4x1x4096_1_1_0) shapeCasts_S4x1x4096_S4x4096))))) (broadcastInDim S4x4096x4096 ![0, 1, 2] bcast_S4x1x4096_S4x4096x4096_0_1_2 (broadcastInDim S4x1x4096 ![0, 2] bcast_S4x4096_S4x1x4096_0_2 (shapeCast _ (extractStridedSlice S4x1x4096 ![1, 0, 0] (shapeCast _ (extractStridedSlice S1x8x6x4096 ![0, 0, 0, 0] (shapeCast _ a2 shapeCasts_S192x1x4096_S4x8x6x4096) slices_S4x8x6x4096_S1x8x6x4096_0_0_0_0) shapeCasts_S1x8x6x4096_S8x6x4096) slices_S8x6x4096_S4x1x4096_1_0_0) shapeCasts_S4x1x4096_S4x4096)))) shapeCasts_S4x4096x4096_S16384x4096

/-- The reference's result, as one term of the stream, the norm's weights and the modulation rows. -/
def normRef (a0 : FVec Ideal S24576x4096 .f32) (a1 : FVec Ideal S4096 .f32) (a2 : FVec Ideal S192x1x4096 .f32) :
    FVec Ideal S24576x4096 .bf16 :=
  truncf .bf16 (concatenate S24576x4096 0 [⟨S8192x4096, (promptRows (normed a0 a1) a2)⟩, ⟨S16384x4096, (sampleRows (normed a0 a1) a2)⟩] concatenates_S8192x4096_S16384x4096_S24576x4096_d0) bitsLt_bf16_f32

/-- An element of a normed row. -/
theorem normed_at (a0 : FVec Ideal S24576x4096 .f32) (a1 : FVec Ideal S4096 .f32) (r : Fin 24576) (c : Fin 4096) :
    normed a0 a1 (ix2 r c) = a0 (ix2 r c) * Ideal.rsqrt (Ideal.div (∑ x, a0 (ix2 r x) * a0 (ix2 r x)) (Ideal.ofBits .f32 0x45800000#32)
      + Ideal.ofBits .f32 0x358637BD#32) * a1 (ix1 c) := by
  pointwise [normed]

/-- Two streams one under the other, at an element. -/
theorem rows_at (p : FVec Ideal S8192x4096 .f32) (q : FVec Ideal S16384x4096 .f32) (i : S24576x4096.Idx) :
    concatenate S24576x4096 0 [⟨S8192x4096, p⟩, ⟨S16384x4096, q⟩] concatenates_S8192x4096_S16384x4096_S24576x4096_d0 i
      = if h : (i 0).val < 8192 then p (ix2 ⟨(i 0).val, h⟩ (i 1))
        else q (ix2 ⟨(i 0).val - 8192, by have h : (i 0).val < 24576 := (i 0).isLt; omega⟩ (i 1)) := by
  pointwise

/-- A prompt row of the two streams one under the other. -/
theorem prompt_at (a0 : FVec Ideal S24576x4096 .f32) (a1 : FVec Ideal S4096 .f32) (a2 : FVec Ideal S192x1x4096 .f32)
    (r : Fin 24576) (c : Fin 4096) (h : r.val < 8192) :
    normRef a0 a1 a2 (ix2 r c) = normed a0 a1 (ix2 r c) * (1 + a2 (ix3 1 0 c)) + a2 (ix3 0 0 c) := by
  unfold normRef
  generalize normed a0 a1 = n
  refine ((rows_at (promptRows n a2) (sampleRows n a2) (ix2 r c)).trans (dif_pos h)).trans ?_
  have f : ∀ x : Fin 8192, promptRows n a2 (ix2 x c) = n (ix2 ⟨x.val, by omega⟩ c) * (1 + a2 (ix3 1 0 c)) + a2 (ix3 0 0 c) := fun x => by
    pointwise [promptRows]
  exact f ⟨r.val, h⟩

/-- A sample row of the two streams one under the other: its modulation is its sequence's. -/
theorem sample_at (a0 : FVec Ideal S24576x4096 .f32) (a1 : FVec Ideal S4096 .f32) (a2 : FVec Ideal S192x1x4096 .f32)
    (r : Fin 24576) (c : Fin 4096) (h : ¬r.val < 8192) (σ τ : Fin 192) (hσ : σ.val = (1 + (r.val - 8192) / 4096) * 6 + 1)
    (hτ : τ.val = (1 + (r.val - 8192) / 4096) * 6) :
    normRef a0 a1 a2 (ix2 r c) = normed a0 a1 (ix2 r c) * (1 + a2 (ix3 σ 0 c)) + a2 (ix3 τ 0 c) := by
  unfold normRef
  generalize normed a0 a1 = n
  refine ((rows_at (promptRows n a2) (sampleRows n a2) (ix2 r c)).trans (dif_neg h)).trans ?_
  have f : ∀ x : Fin 16384, sampleRows n a2 (ix2 x c) = n (ix2 ⟨8192 + x.val, by omega⟩ c)
      * (1 + a2 (ix3 ⟨(1 + x.val / 4096) * 6 + 1, by omega⟩ 0 c)) + a2 (ix3 ⟨(1 + x.val / 4096) * 6, by omega⟩ 0 c) := fun x => by
    pointwise [sampleRows]
  refine (f ⟨r.val - 8192, by omega⟩).trans ?_
  rw [show (⟨8192 + (r.val - 8192), by omega⟩ : Fin 24576) = r from Fin.ext (by show 8192 + (r.val - 8192) = r.val; omega),
    show σ = ⟨(1 + (r.val - 8192) / 4096) * 6 + 1, by omega⟩ from Fin.ext hσ,
    show τ = ⟨(1 + (r.val - 8192) / 4096) * 6, by omega⟩ from Fin.ext hτ]

end Cert.ReferenceNormIdeal.Hand

namespace Cert.KernelNormIdeal.Hand

open Cert.KernelNormIdeal Cert.KernelNormIdeal.Gen Idealize.ShloMosaic Idealize.ShloMosaic.TcCoe Idealize.SL.Sem

variable (m : (ℓ : Loc nD τ sig) → Buf (Elt Ideal) ℓ)

/-- Which block each window reads or writes at grid point `t`. -/
theorem idx : ∀ t : Fin cfg0.N, win0_0.index t = ![t.val, 0] ∧ win0_1.index t = ![0, 0]
    ∧ win0_2.index t = ![if t.val < 16 then 1 else (1 + (t.val - 16) / 8) * 6 + 1, 0, 0]
    ∧ win0_3.index t = ![if t.val < 16 then 0 else (1 + (t.val - 16) / 8) * 6, 0, 0]
    ∧ win0_4.index t = ![t.val, 0] :=
  (by decide +kernel : ∀ t : Fin grid0.N, _)

/-- The norm's weights as the launch finds them: the vector as one row. -/
theorem weights (c : Dev nD) (k : Fin 4096) : V m c main_v0 (ix2 0 k) = m ((c : Thread nD τ).loc main_arg1) (ix1 k) := by
  unfold V
  after_reads_at

/-- An element of a block by its coordinates. -/
theorem coords (X : Vec Ideal S512x4096 .f32) (y : S512x4096.Idx) : X y = X (ix2 (y 0) (y 1)) := by
  blk_point

/-- One modulated block against the reference at the element's place in the array: the modulation rows are those of the
    element's sequence. -/
theorem tile (X : Vec Ideal S512x4096 .f32) (G : Vec Ideal S1x4096 .f32) (H S : Vec Ideal S1x1x4096 .f32) (x : FVec Ideal S24576x4096 .f32)
    (g : FVec Ideal S4096 .f32) (q : FVec Ideal S192x1x4096 .f32) (y : S512x4096.Idx) (r : Fin 24576) (c : Fin 4096) (σ τ : Fin 192)
    (hσ : σ.val = if r.val < 8192 then 1 else (1 + (r.val - 8192) / 4096) * 6 + 1)
    (hτ : τ.val = if r.val < 8192 then 0 else (1 + (r.val - 8192) / 4096) * 6)
    (hi : c = y 1)
    (hX : ∀ k : Fin 4096, X (ix2 (y 0) k) = x (ix2 r k)) (hG : ∀ k : Fin 4096, G (ix2 0 k) = g (ix1 k))
    (hS : S (ix3 0 0 (y 1)) = q (ix3 σ 0 (y 1))) (hH : H (ix3 0 0 (y 1)) = q (ix3 τ 0 (y 1))) :
    k0_pay1 X G S H y = Cert.ReferenceNormIdeal.Hand.normRef x g q (ix2 r c) := by
  have e : k0_pay1 X G S H y = X (ix2 (y 0) (y 1)) * Ideal.rsqrt (Ideal.div (∑ k : Fin 4096, X (ix2 (y 0) k) * X (ix2 (y 0) k))
      (Ideal.ofBits .f32 0x45800000#32) + Ideal.ofBits .f32 0x358637BD#32) * G (ix2 0 (y 1)) * (1 + S (ix3 0 0 (y 1))) + H (ix3 0 0 (y 1)) := by
    rw [← coords X y]
    pointwise [k0_pay1]
  rw [e, hS, hH, hX (y 1), hG (y 1)]
  simp only [hX]
  by_cases h : r.val < 8192
  · rw [if_pos h] at hσ hτ
    rw [Cert.ReferenceNormIdeal.Hand.prompt_at x g q r c h, Cert.ReferenceNormIdeal.Hand.normed_at, hi, show σ = 1 from Fin.ext hσ, show τ = 0 from Fin.ext hτ]
  · rw [if_neg h] at hσ hτ
    rw [Cert.ReferenceNormIdeal.Hand.sample_at x g q r c h σ τ hσ hτ, Cert.ReferenceNormIdeal.Hand.normed_at, hi]

/-- One block of the result is that block of the reference's. -/
theorem point (c : Dev nD) (t : Fin cfg0.N) (y : S512x4096.Idx) :
    k0_pay1 (iblk m c 0 t) (iblk m c 1 t) (iblk m c 2 t) (iblk m c 3 t) y
      = Cert.ReferenceNormIdeal.Hand.normRef (m ((c : Thread nD τ).loc main_arg0)) (m ((c : Thread nD τ).loc main_arg1)) (m ((c : Thread nD τ).loc main_arg2)) (((cfg0.win 4).blk t).view.emb y) := by
  have e := idx t
  have ht : t.val < 48 := lt_of_lt_of_eq t.isLt N_0
  have hy : (y 0).val < 512 := (y 0).isLt
  have h0 : ((((cfg0.win 4).blk t).view.emb y) 0).val = t.val * 512 + y 0 := by blk_simp [e]
  have h1 : ((((cfg0.win 4).blk t).view.emb y) 1).val = y 1 := by blk_simp [e]
  have hσ : (if t.val < 16 then 1 else (1 + (t.val - 16) / 8) * 6 + 1) < 192 := by split <;> omega
  have hτ : (if t.val < 16 then 0 else (1 + (t.val - 16) / 8) * 6) < 192 := by split <;> omega
  rw [show ((cfg0.win 4).blk t).view.emb y = ix2 (⟨t.val * 512 + (y 0).val, by omega⟩ : Fin 24576) (y 1 : Fin 4096) from by
    ext a; match a with | 0 => exact h0 | 1 => exact h1]
  refine tile _ _ _ _ _ _ _ y _ _ ⟨_, hσ⟩ ⟨_, hτ⟩ ?_ ?_ rfl (fun k => ?_) (fun k => ?_) ?_ ?_
  · show (if t.val < 16 then 1 else (1 + (t.val - 16) / 8) * 6 + 1) = if t.val * 512 + (y 0).val < 8192 then 1 else (1 + (t.val * 512 + (y 0).val - 8192) / 4096) * 6 + 1
    split <;> split <;> omega
  · show (if t.val < 16 then 0 else (1 + (t.val - 16) / 8) * 6) = if t.val * 512 + (y 0).val < 8192 then 0 else (1 + (t.val * 512 + (y 0).val - 8192) / 4096) * 6
    split <;> split <;> omega
  · blk_point [iblk, V, e]
  · refine Eq.trans ?_ (weights m c k)
    blk_point [iblk, e]
  · blk_point [iblk, V, e]
  · blk_point [iblk, V, e]

/-- The result array after the launch is the reference's. -/
theorem final (c : Dev nD) : (dats m 0 c).arrAt 4 (cfgs 0).N
    = Cert.ReferenceNormIdeal.Hand.normRef (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]
  frame_out
  exact point m c t y

end Cert.KernelNormIdeal.Hand

end
-- ==== Proof.Head.lean ====
/- The end of the recurrent mixer: the two directions' outputs added, every head's row over its root mean square, times the
   norm's weights, gated. -/
module

public import proofs.«01_k».proof.Proof.Gen.KernelHeadIdeal.Frame
public import proofs.«01_k».proof.Proof.Gen.ReferenceHeadIdeal.Run
public import Idealize.ShloMosaic.Lib.Pipeline.ValueKit
public import Idealize.ShloMosaic.Lib.Pointwise
public import Idealize.ShloMosaic.Lib.Pipeline.ReadBack
public import Idealize.ShloMosaic.Lib.StableHlo.ReadAt

@[expose] public section

set_option maxRecDepth 16384

noncomputable section

namespace Cert.ReferenceHeadIdeal.Hand

open Cert.ReferenceHeadIdeal Cert.ReferenceHeadIdeal.Gen Idealize.ShloMosaic Idealize.ShloMosaic.TcCoe Idealize.SL.Sem

/-- The reference's result, as one term of the two directions' outputs, the projection that holds the gate, and the
    norm's weights. -/
def headRef (a0 a1 : FVec Ideal S24576x4096 .f32) (a2 : FVec Ideal S24576x12288 .f32) (a3 : FVec Ideal S512 .f32) :
    FVec Ideal S24576x4096 .bf16 :=
  truncf .bf16 (shapeCast _ (mulf (mulf (mulf (shapeCast _ (addf a0 a1) shapeCasts_S24576x4096_S24576x8x512) (broadcastInDim S24576x8x512 ![0, 1, 2] bcast_S24576x8x1_S24576x8x512_0_1_2 (Host.rsqrt (addf (Host.divf (broadcastInDim S24576x8x1 ![0, 1] bcast_S24576x8_S24576x8x1_0_1 (Host.reduceAdd (mulf (shapeCast _ (addf a0 a1) shapeCasts_S24576x4096_S24576x8x512) (shapeCast _ (addf a0 a1) shapeCasts_S24576x4096_S24576x8x512)) (constant S_ .f32 0x00000000#32) reducesTo_S24576x8x512_S24576x8_d2 h_S_)) (broadcastInDim S24576x8x1 ![] bcast_S_S24576x8x1 (constant S_ .f32 0x44000000#32))) (broadcastInDim S24576x8x1 ![] bcast_S_S24576x8x1 (constant S_ .f32 0x358637BD#32)))))) (broadcastInDim S24576x8x512 ![0, 1, 2] bcast_S1x1x512_S24576x8x512_0_1_2 (broadcastInDim S1x1x512 ![2] bcast_S512_S1x1x512_2 a3))) (mulf (shapeCast _ (extractStridedSlice S24576x4096 ![0, 8192] a2 slices_S24576x12288_S24576x4096_0_8192) shapeCasts_S24576x4096_S24576x8x512) (Host.divf (broadcastInDim S24576x8x512 ![] bcast_S_S24576x8x512 (constant S_ .f32 0x3F800000#32)) (addf (broadcastInDim S24576x8x512 ![] bcast_S_S24576x8x512 (constant S_ .f32 0x3F800000#32)) (Host.exp (Host.negf (shapeCast _ (extractStridedSlice S24576x4096 ![0, 8192] a2 slices_S24576x12288_S24576x4096_0_8192) shapeCasts_S24576x4096_S24576x8x512))))))) shapeCasts_S24576x8x512_S24576x4096) bitsLt_bf16_f32

/-- The reference's result at an element. -/
theorem at_ (a0 a1 : FVec Ideal S24576x4096 .f32) (a2 : FVec Ideal S24576x12288 .f32) (a3 : FVec Ideal S512 .f32) (r : Fin 24576) (c : Fin 4096) :
    headRef a0 a1 a2 a3 (ix2 r c) = (a0 (ix2 r c) + a1 (ix2 r c))
      * Ideal.rsqrt (Ideal.div (∑ x : Fin 512, (a0 (ix2 r ⟨c.val / 512 * 512 + x.val, by omega⟩) + a1 (ix2 r ⟨c.val / 512 * 512 + x.val, by omega⟩))
          * (a0 (ix2 r ⟨c.val / 512 * 512 + x.val, by omega⟩) + a1 (ix2 r ⟨c.val / 512 * 512 + x.val, by omega⟩))) (Ideal.ofBits .f32 0x44000000#32)
        + Ideal.ofBits .f32 0x358637BD#32) * a3 (ix1 ⟨c.val % 512, Nat.mod_lt _ (by omega)⟩)
      * (a2 (ix2 r ⟨8192 + c.val, by omega⟩) * Ideal.div 1 (1 + Ideal.exp (-a2 (ix2 r ⟨8192 + c.val, by omega⟩)))) := by
  pointwise [headRef]

end Cert.ReferenceHeadIdeal.Hand

namespace Cert.KernelHeadIdeal.Hand

open Cert.KernelHeadIdeal Cert.KernelHeadIdeal.Gen Idealize.ShloMosaic Idealize.ShloMosaic.TcCoe Idealize.SL.Sem

variable (m : (ℓ : Loc nD τ sig) → Buf (Elt Ideal) ℓ)

/-- Which block each window reads or writes at grid point `t`. -/
theorem idx : ∀ t : Fin cfg0.N, win0_0.index t = ![t.val, 0] ∧ win0_1.index t = ![t.val, 0] ∧ win0_2.index t = ![t.val, 2]
    ∧ win0_3.index t = ![0, 0] ∧ win0_4.index t = ![t.val, 0] :=
  (by decide +kernel : ∀ t : Fin grid0.N, _)

/-- The norm's weights as the launch finds them: the vector as one row. -/
theorem weights (c : Dev nD) (k : Fin 512) : V m c main_v0 (ix2 0 k) = m ((c : Thread nD τ).loc main_arg3) (ix1 k) := by
  unfold V
  after_reads_at

/-- An element of a head's block by its coordinates. -/
theorem coords (X : Vec Ideal S256x512 .f32) (y : S256x512.Idx) : X y = X (ix2 (y 0) (y 1)) := by
  blk_point

/-- One head of one block against the reference at the element's place in the array. -/
theorem tile (A B Z : Vec Ideal S256x512 .f32) (G : Vec Ideal S1x512 .f32) (a b : FVec Ideal S24576x4096 .f32) (z : FVec Ideal S24576x12288 .f32)
    (g : FVec Ideal S512 .f32) (y : S256x512.Idx) (r : Fin 24576) (c : Fin 4096) (h : ℕ) (hc : c.val = 512 * h + (y 1).val)
    (hA : ∀ k : Fin 512, A (ix2 (y 0) k) = a (ix2 r ⟨512 * h + k.val, by have : (y 1).val < 512 := (y 1).isLt; omega⟩))
    (hB : ∀ k : Fin 512, B (ix2 (y 0) k) = b (ix2 r ⟨512 * h + k.val, by have : (y 1).val < 512 := (y 1).isLt; omega⟩))
    (hZ : Z (ix2 (y 0) (y 1)) = z (ix2 r ⟨8192 + c.val, by omega⟩)) (hG : ∀ k : Fin 512, G (ix2 0 k) = g (ix1 k)) :
    k0_pay1 (k0_pay2 G) A B Z y = Cert.ReferenceHeadIdeal.Hand.headRef a b z g (ix2 r c) := by
  have hy : (y 1).val < 512 := (y 1).isLt
  have e : k0_pay1 (k0_pay2 G) A B Z y = (A (ix2 (y 0) (y 1)) + B (ix2 (y 0) (y 1)))
      * Ideal.rsqrt (Ideal.div (∑ x : Fin 512, (A (ix2 (y 0) x) + B (ix2 (y 0) x)) * (A (ix2 (y 0) x) + B (ix2 (y 0) x)))
          (Ideal.ofBits .f32 0x44000000#32) + Ideal.ofBits .f32 0x358637BD#32) * G (ix2 0 (y 1))
      * (Z (ix2 (y 0) (y 1)) * Ideal.logistic (Z (ix2 (y 0) (y 1)))) := by
    rw [← coords A y, ← coords B y, ← coords Z y]
    pointwise [k0_pay1, k0_pay2]
  rw [e, Cert.ReferenceHeadIdeal.Hand.at_, hZ, hG (y 1), hA (y 1), hB (y 1)]
  simp only [hA, hB]
  have e1 : (⟨512 * h + (y 1).val, by omega⟩ : Fin 4096) = c := Fin.ext hc.symm
  have e2 : (⟨c.val % 512, Nat.mod_lt _ (by omega)⟩ : Fin 512) = y 1 := Fin.ext (by show c.val % 512 = (y 1).val; omega)
  have e3 : ∀ x : Fin 512, (⟨c.val / 512 * 512 + x.val, by omega⟩ : Fin 4096) = ⟨512 * h + x.val, by omega⟩ :=
    fun x => Fin.ext (by show c.val / 512 * 512 + x.val = 512 * h + x.val; omega)
  rw [show (⟨512 * h + (y 1).val, by omega⟩ : Fin 4096) = c from e1, e2]
  simp only [e3]
  rfl

/-- The norm's weights are loaded whole. -/
theorem whole (X : Vec Ideal S1x512 .f32) (k : Fin 512) : View.ld X r0_0 (ix2 0 k) = X (ix2 0 k) := by
  refine congrArg X (funext fun a => Fin.ext ?_)
  match a with
  | 0 => rfl
  | 1 => show 0 + 1 * k.val = k.val; omega

/-- A block whose eight head pieces each hold a head's columns of the reference holds the reference's block. -/
theorem point (c : Dev nD) (t : Fin cfg0.N) (y : S256x4096.Idx) :
    out0_4 (iblk m c 0 t) (iblk m c 1 t) (iblk m c 2 t) (iblk m c 3 t) y
      = Cert.ReferenceHeadIdeal.Hand.headRef (m ((c : Thread nD τ).loc main_arg0)) (m ((c : Thread nD τ).loc main_arg1))
          (m ((c : Thread nD τ).loc main_arg2)) (m ((c : Thread nD τ).loc main_arg3)) (((cfg0.win 4).blk t).view.emb y) := by
  have e := idx t
  have ht : t.val < 96 := lt_of_lt_of_eq t.isLt N_0
  have hemb : ∀ w : S256x4096.Idx, ((cfg0.win 4).blk t).view.emb w
      = ix2 (⟨t.val * 256 + (w 0).val, by have : (w 0).val < 256 := (w 0).isLt; omega⟩ : Fin 24576) (w 1 : Fin 4096) := fun w => by
    ext a
    match a with
    | 0 => blk_simp [e]
    | 1 => blk_simp [e]
  have h0 : ∀ (w : S256x4096.Idx), iblk m c 0 t w = m ((c : Thread nD τ).loc main_arg0)
      (ix2 (⟨t.val * 256 + (w 0).val, by have : (w 0).val < 256 := (w 0).isLt; omega⟩ : Fin 24576) (w 1 : Fin 4096)) := fun w => by
    blk_point [iblk, V, e]
  have h1 : ∀ (w : S256x4096.Idx), iblk m c 1 t w = m ((c : Thread nD τ).loc main_arg1)
      (ix2 (⟨t.val * 256 + (w 0).val, by have : (w 0).val < 256 := (w 0).isLt; omega⟩ : Fin 24576) (w 1 : Fin 4096)) := fun w => by
    blk_point [iblk, V, e]
  have h2 : ∀ (w : S256x4096.Idx), iblk m c 2 t w = m ((c : Thread nD τ).loc main_arg2)
      (ix2 (⟨t.val * 256 + (w 0).val, by have : (w 0).val < 256 := (w 0).isLt; omega⟩ : Fin 24576)
        (⟨8192 + (w 1).val, by have : (w 1).val < 4096 := (w 1).isLt; omega⟩ : Fin 12288)) := fun w => by
    blk_point [iblk, V, e]
  have h3 : ∀ k : Fin 512, iblk m c 3 t (ix2 0 k) = m ((c : Thread nD τ).loc main_arg3) (ix1 k) := fun k => by
    refine Eq.trans ?_ (weights m c k)
    blk_point [iblk, e]
  revert h0 h1 h2 h3
  generalize iblk m c 0 t = X0, iblk m c 1 t = X1, iblk m c 2 t = X2, iblk m c 3 t = X3
  generalize m ((c : Thread nD τ).loc main_arg0) = a, m ((c : Thread nD τ).loc main_arg1) = b,
    m ((c : Thread nD τ).loc main_arg2) = z, m ((c : Thread nD τ).loc main_arg3) = g
  intro h0 h1 h2 h3
  have h3 : ∀ k : Fin 512, View.ld X3 r0_0 (ix2 0 k) = g (ix1 k) := fun k => by
    exact (whole X3 k).trans (h3 k)
  have key : ∀ (h : ℕ) (hh : 512 * h + 512 ≤ 4096) (A B Z : Vec Ideal S256x512 .f32) (em : S256x512.Idx → S256x4096.Idx)
      (_ : ∀ x, em x = ix2 (x 0 : Fin 256) (⟨512 * h + (x 1).val, by have : (x 1).val < 512 := (x 1).isLt; omega⟩ : Fin 4096))
      (_ : ∀ x, A x = X0 (em x)) (_ : ∀ x, B x = X1 (em x)) (_ : ∀ x, Z x = X2 (em x)) (x : S256x512.Idx),
      k0_pay1 (k0_pay2 (View.ld X3 r0_0)) A B Z x
        = Cert.ReferenceHeadIdeal.Hand.headRef a b z g (((cfg0.win 4).blk t).view.emb (em x)) := by
    intro h hh A B Z em hem hA hB hZ x
    have hx : (x 1).val < 512 := (x 1).isLt
    have x0 : (x 0).val < 256 := (x 0).isLt
    have hE : ((cfg0.win 4).blk t).view.emb (em x)
        = ix2 (⟨t.val * 256 + (x 0).val, by omega⟩ : Fin 24576) (⟨512 * h + (x 1).val, by omega⟩ : Fin 4096) := by
      rw [hem x]
      exact hemb _
    rw [hE]
    refine tile A B Z _ a b z g x _ _ h rfl (fun k => ?_) (fun k => ?_) ?_ h3
    · rw [hA, h0, hem]
      rfl
    · rw [hB, h1, hem]
      rfl
    · rw [hZ, h2, hem]
      rfl
  unfold out0_4
  refine View.canon_apply_of_pieces (Val := Elt Ideal) (fun w => Cert.ReferenceHeadIdeal.Hand.headRef a b z g (((cfg0.win 4).blk t).view.emb w)) _ ?_ y
    (cover0_4 _ _ _ _ _ _ _ _ y)
  intro p hp
  simp only [List.mem_cons, List.not_mem_nil, or_false] at hp
  rcases hp with rfl | rfl | rfl | rfl | rfl | rfl | rfl | rfl
  · exact fun x => key 7 (by decide) (View.ld X0 r0_8) (View.ld X1 r0_8) (View.ld X2 r0_8) r0_8.emb
      (fun x => by blk_point) (fun _ => rfl) (fun _ => rfl) (fun _ => rfl) x
  · exact fun x => key 6 (by decide) (View.ld X0 r0_7) (View.ld X1 r0_7) (View.ld X2 r0_7) r0_7.emb
      (fun x => by blk_point) (fun _ => rfl) (fun _ => rfl) (fun _ => rfl) x
  · exact fun x => key 5 (by decide) (View.ld X0 r0_6) (View.ld X1 r0_6) (View.ld X2 r0_6) r0_6.emb
      (fun x => by blk_point) (fun _ => rfl) (fun _ => rfl) (fun _ => rfl) x
  · exact fun x => key 4 (by decide) (View.ld X0 r0_5) (View.ld X1 r0_5) (View.ld X2 r0_5) r0_5.emb
      (fun x => by blk_point) (fun _ => rfl) (fun _ => rfl) (fun _ => rfl) x
  · exact fun x => key 3 (by decide) (View.ld X0 r0_4) (View.ld X1 r0_4) (View.ld X2 r0_4) r0_4.emb
      (fun x => by blk_point) (fun _ => rfl) (fun _ => rfl) (fun _ => rfl) x
  · exact fun x => key 2 (by decide) (View.ld X0 r0_3) (View.ld X1 r0_3) (View.ld X2 r0_3) r0_3.emb
      (fun x => by blk_point) (fun _ => rfl) (fun _ => rfl) (fun _ => rfl) x
  · exact fun x => key 1 (by decide) (View.ld X0 r0_2) (View.ld X1 r0_2) (View.ld X2 r0_2) r0_2.emb
      (fun x => by blk_point) (fun _ => rfl) (fun _ => rfl) (fun _ => rfl) x
  · exact fun x => key 0 (by decide) (View.ld X0 r0_1) (View.ld X1 r0_1) (View.ld X2 r0_1) r0_1.emb
      (fun x => by blk_point) (fun _ => rfl) (fun _ => rfl) (fun _ => rfl) x

/-- The result array after the launch is the reference's. -/
theorem final (c : Dev nD) : (dats m 0 c).arrAt 4 (cfgs 0).N
    = Cert.ReferenceHeadIdeal.Hand.headRef (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t _ y => ?_
  blk_simp
  rw [after0_4]
  exact point m c t y

end Cert.KernelHeadIdeal.Hand

end
-- ==== Proof.LastPrompt.lean ====
/- The final norm over one stream: each row over its root mean square, times the weights. -/
module

public import proofs.«01_k».proof.Proof.Gen.KernelLastPromptIdeal.Frame
public import proofs.«01_k».proof.Proof.Gen.ReferenceLastPromptIdeal.Run
public import Idealize.ShloMosaic.Lib.Pipeline.ValueKit
public import Idealize.ShloMosaic.Lib.Pointwise
public import Idealize.ShloMosaic.Lib.Pipeline.ReadBack
public import Idealize.ShloMosaic.Lib.StableHlo.ReadAt

@[expose] public section

set_option maxRecDepth 16384

noncomputable section

namespace Cert.ReferenceLastPromptIdeal.Hand

open Cert.ReferenceLastPromptIdeal Cert.ReferenceLastPromptIdeal.Gen Idealize.ShloMosaic Idealize.ShloMosaic.TcCoe Idealize.SL.Sem

/-- The reference's result, as one term of the stream and the norm's weights. -/
def lastPromptRef (a0 : FVec Ideal S24576x4096 .f32) (a1 : FVec Ideal S4096 .f32) :
    FVec Ideal S8192x4096 .f32 :=
  mulf (mulf (extractStridedSlice S8192x4096 ![0, 0] a0 slices_S24576x4096_S8192x4096_0_0) (broadcastInDim S8192x4096 ![0, 1] bcast_S8192x1_S8192x4096_0_1 (Host.rsqrt (addf (Host.divf (broadcastInDim S8192x1 ![0] bcast_S8192_S8192x1_0 (Host.reduceAdd (mulf (extractStridedSlice S8192x4096 ![0, 0] a0 slices_S24576x4096_S8192x4096_0_0) (extractStridedSlice S8192x4096 ![0, 0] a0 slices_S24576x4096_S8192x4096_0_0)) (constant S_ .f32 0x00000000#32) reducesTo_S8192x4096_S8192_d1 h_S_)) (broadcastInDim S8192x1 ![] bcast_S_S8192x1 (constant S_ .f32 0x45800000#32))) (broadcastInDim S8192x1 ![] bcast_S_S8192x1 (constant S_ .f32 0x358637BD#32)))))) (broadcastInDim S8192x4096 ![0, 1] bcast_S1x4096_S8192x4096_0_1 (broadcastInDim S1x4096 ![1] bcast_S4096_S1x4096_1 a1))

end Cert.ReferenceLastPromptIdeal.Hand

namespace Cert.KernelLastPromptIdeal.Hand

open Cert.KernelLastPromptIdeal Cert.KernelLastPromptIdeal.Gen Idealize.ShloMosaic Idealize.ShloMosaic.TcCoe Idealize.SL.Sem

variable (m : (ℓ : Loc nD τ sig) → Buf (Elt Ideal) ℓ)

/-- Which block each window reads or writes at grid point `t`. -/
theorem idx : ∀ t : Fin cfg0.N, win0_0.index t = ![0 + t.val, 0] ∧ win0_1.index t = ![0, 0] ∧ win0_2.index t = ![t.val, 0] :=
  (by decide +kernel : ∀ t : Fin grid0.N, _)

/-- The norm's weights as the launch finds them: the vector as one row. -/
theorem weights (c : Dev nD) (k : Fin 4096) : V m c main_v0 (ix2 0 k) = m ((c : Thread nD τ).loc main_arg1) (ix1 k) := by
  unfold V
  after_reads_at

/-- One normalised block against the reference at the element's place in the array. -/
theorem tile (X : Vec Ideal S512x4096 .f32) (G : Vec Ideal S1x4096 .f32) (x : FVec Ideal S24576x4096 .f32)
    (g : FVec Ideal S4096 .f32) (y : S512x4096.Idx) (i : Cert.ReferenceLastPromptIdeal.S8192x4096.Idx) (ρ : Fin 24576)
    (hρ : ρ.val = 0 + (i 0).val) (hi : (i 1).val = (y 1).val)
    (hX : ∀ k : Fin 4096, X (ix2 (y 0) k) = x (ix2 ρ k)) (hG : ∀ k : Fin 4096, G (ix2 0 k) = g (ix1 k)) :
    k0_pay1 X G y = Cert.ReferenceLastPromptIdeal.Hand.lastPromptRef x g i := by
  pointwise [k0_pay1, Cert.ReferenceLastPromptIdeal.Hand.lastPromptRef]
  have e1 : (i 1 : Fin 4096) = y 1 := Fin.ext hi
  have hi0 : (i 0).val < 8192 := (i 0).isLt
  have e0 : (⟨(i 0).val, by omega⟩ : Fin 24576) = ρ := Fin.ext (show (i 0).val = ρ.val by omega)
  rw [show X y = X (ix2 (y 0) (y 1)) from by blk_point, e1]
  simp only [hX, hG, e0]
  rw [show X (ix2 (y 0) (y 1)) = x (ix2 ρ (y 1)) from hX (y 1), show G (ix2 0 (y 1)) = g (ix1 (y 1)) from hG (y 1)]

/-- One block of the result is that block of the reference's. -/
theorem point (c : Dev nD) (t : Fin cfg0.N) (y : S512x4096.Idx) :
    k0_pay1 (iblk m c 0 t) (iblk m c 1 t) y
      = Cert.ReferenceLastPromptIdeal.Hand.lastPromptRef (m ((c : Thread nD τ).loc main_arg0)) (m ((c : Thread nD τ).loc main_arg1)) (((cfg0.win 2).blk t).view.emb y) := by
  have e := idx t
  have ht : t.val < 16 := lt_of_lt_of_eq t.isLt N_0
  have hy : (y 0).val < 512 := (y 0).isLt
  have h0 : ((((cfg0.win 2).blk t).view.emb y) 0).val = t.val * 512 + y 0 := by blk_simp [e]
  have h1 : ((((cfg0.win 2).blk t).view.emb y) 1).val = y 1 := by blk_simp [e]
  refine tile _ _ _ _ y _ ⟨0 + (t.val * 512 + y 0), by omega⟩ (by rw [h0]) h1 (fun k => ?_) (fun k => ?_)
  · blk_point [iblk, V, e]
  · refine Eq.trans ?_ (weights m c k)
    blk_point [iblk, e]

/-- The result array after the launch is the reference's. -/
theorem final (c : Dev nD) : (dats m 0 c).arrAt 2 (cfgs 0).N
    = Cert.ReferenceLastPromptIdeal.Hand.lastPromptRef (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

end Cert.KernelLastPromptIdeal.Hand

end
-- ==== Proof.LastSample.lean ====
/- The final norm over one stream: each row over its root mean square, times the weights. -/
module

public import proofs.«01_k».proof.Proof.Gen.KernelLastSampleIdeal.Frame
public import proofs.«01_k».proof.Proof.Gen.ReferenceLastSampleIdeal.Run
public import Idealize.ShloMosaic.Lib.Pipeline.ValueKit
public import Idealize.ShloMosaic.Lib.Pointwise
public import Idealize.ShloMosaic.Lib.Pipeline.ReadBack
public import Idealize.ShloMosaic.Lib.StableHlo.ReadAt

@[expose] public section

set_option maxRecDepth 16384

noncomputable section

namespace Cert.ReferenceLastSampleIdeal.Hand

open Cert.ReferenceLastSampleIdeal Cert.ReferenceLastSampleIdeal.Gen Idealize.ShloMosaic Idealize.ShloMosaic.TcCoe Idealize.SL.Sem

/-- The reference's result, as one term of the stream and the norm's weights. -/
def lastSampleRef (a0 : FVec Ideal S24576x4096 .f32) (a1 : FVec Ideal S4096 .f32) :
    FVec Ideal S16384x4096 .f32 :=
  mulf (mulf (extractStridedSlice S16384x4096 ![8192, 0] a0 slices_S24576x4096_S16384x4096_8192_0) (broadcastInDim S16384x4096 ![0, 1] bcast_S16384x1_S16384x4096_0_1 (Host.rsqrt (addf (Host.divf (broadcastInDim S16384x1 ![0] bcast_S16384_S16384x1_0 (Host.reduceAdd (mulf (extractStridedSlice S16384x4096 ![8192, 0] a0 slices_S24576x4096_S16384x4096_8192_0) (extractStridedSlice S16384x4096 ![8192, 0] a0 slices_S24576x4096_S16384x4096_8192_0)) (constant S_ .f32 0x00000000#32) reducesTo_S16384x4096_S16384_d1 h_S_)) (broadcastInDim S16384x1 ![] bcast_S_S16384x1 (constant S_ .f32 0x45800000#32))) (broadcastInDim S16384x1 ![] bcast_S_S16384x1 (constant S_ .f32 0x358637BD#32)))))) (broadcastInDim S16384x4096 ![0, 1] bcast_S1x4096_S16384x4096_0_1 (broadcastInDim S1x4096 ![1] bcast_S4096_S1x4096_1 a1))

end Cert.ReferenceLastSampleIdeal.Hand

namespace Cert.KernelLastSampleIdeal.Hand

open Cert.KernelLastSampleIdeal Cert.KernelLastSampleIdeal.Gen Idealize.ShloMosaic Idealize.ShloMosaic.TcCoe Idealize.SL.Sem

variable (m : (ℓ : Loc nD τ sig) → Buf (Elt Ideal) ℓ)

/-- Which block each window reads or writes at grid point `t`. -/
theorem idx : ∀ t : Fin cfg0.N, win0_0.index t = ![16 + t.val, 0] ∧ win0_1.index t = ![0, 0] ∧ win0_2.index t = ![t.val, 0] :=
  (by decide +kernel : ∀ t : Fin grid0.N, _)

/-- The norm's weights as the launch finds them: the vector as one row. -/
theorem weights (c : Dev nD) (k : Fin 4096) : V m c main_v0 (ix2 0 k) = m ((c : Thread nD τ).loc main_arg1) (ix1 k) := by
  unfold V
  after_reads_at

/-- One normalised block against the reference at the element's place in the array. -/
theorem tile (X : Vec Ideal S512x4096 .f32) (G : Vec Ideal S1x4096 .f32) (x : FVec Ideal S24576x4096 .f32)
    (g : FVec Ideal S4096 .f32) (y : S512x4096.Idx) (i : Cert.ReferenceLastSampleIdeal.S16384x4096.Idx) (ρ : Fin 24576)
    (hρ : ρ.val = 8192 + (i 0).val) (hi : (i 1).val = (y 1).val)
    (hX : ∀ k : Fin 4096, X (ix2 (y 0) k) = x (ix2 ρ k)) (hG : ∀ k : Fin 4096, G (ix2 0 k) = g (ix1 k)) :
    k0_pay1 X G y = Cert.ReferenceLastSampleIdeal.Hand.lastSampleRef x g i := by
  pointwise [k0_pay1, Cert.ReferenceLastSampleIdeal.Hand.lastSampleRef]
  have e1 : (i 1 : Fin 4096) = y 1 := Fin.ext hi
  have hi0 : (i 0).val < 16384 := (i 0).isLt
  have e0 : (⟨8192 + (i 0).val, by omega⟩ : Fin 24576) = ρ := Fin.ext (show 8192 + (i 0).val = ρ.val by omega)
  rw [show X y = X (ix2 (y 0) (y 1)) from by blk_point, e1]
  simp only [hX, hG, e0]
  rw [show X (ix2 (y 0) (y 1)) = x (ix2 ρ (y 1)) from hX (y 1), show G (ix2 0 (y 1)) = g (ix1 (y 1)) from hG (y 1)]

/-- One block of the result is that block of the reference's. -/
theorem point (c : Dev nD) (t : Fin cfg0.N) (y : S512x4096.Idx) :
    k0_pay1 (iblk m c 0 t) (iblk m c 1 t) y
      = Cert.ReferenceLastSampleIdeal.Hand.lastSampleRef (m ((c : Thread nD τ).loc main_arg0)) (m ((c : Thread nD τ).loc main_arg1)) (((cfg0.win 2).blk t).view.emb y) := by
  have e := idx t
  have ht : t.val < 32 := lt_of_lt_of_eq t.isLt N_0
  have hy : (y 0).val < 512 := (y 0).isLt
  have h0 : ((((cfg0.win 2).blk t).view.emb y) 0).val = t.val * 512 + y 0 := by blk_simp [e]
  have h1 : ((((cfg0.win 2).blk t).view.emb y) 1).val = y 1 := by blk_simp [e]
  refine tile _ _ _ _ y _ ⟨8192 + (t.val * 512 + y 0), by omega⟩ (by rw [h0]) h1 (fun k => ?_) (fun k => ?_)
  · blk_point [iblk, V, e]
  · refine Eq.trans ?_ (weights m c k)
    blk_point [iblk, e]

/-- The result array after the launch is the reference's. -/
theorem final (c : Dev nD) : (dats m 0 c).arrAt 2 (cfgs 0).N
    = Cert.ReferenceLastSampleIdeal.Hand.lastSampleRef (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

end Cert.KernelLastSampleIdeal.Hand

end
-- ==== Proof.Mods.lean ====
/- The modulation values of every layer: the gated conditioning rows times the weights, plus the biases. -/
module

public import proofs.«01_k».proof.Proof.Gen.KernelModsIdeal.Frame
public import proofs.«01_k».proof.Proof.Gen.ReferenceModsIdeal.Run
public import Idealize.ShloMosaic.Lib.Pipeline.ValueKit
public import Idealize.ShloMosaic.Lib.Pointwise
public import Idealize.ShloMosaic.Lib.Pipeline.ReadBack
public import Idealize.ShloMosaic.Lib.StableHlo.ReadAt

@[expose] public section

set_option maxRecDepth 16384

noncomputable section

namespace Cert.ReferenceModsIdeal.Hand

open Cert.ReferenceModsIdeal Cert.ReferenceModsIdeal.Gen Idealize.ShloMosaic Idealize.ShloMosaic.TcCoe Idealize.SL.Sem

/-- The reference's result, as one term of the conditioning rows, the weights and the biases. -/
def modsRef (a0 : FVec Ideal S8x4096 .f32) (a1 : FVec Ideal S4x4096x24576 .f32) (a2 : FVec Ideal S4x24576 .f32) :
    FVec Ideal S4x8x24576 .f32 :=
  addf (transpose S4x8x24576 [0, 2, 1] (Host.dotGeneral dot_S4x4096x24576_S8x4096_S4x24576x8_1_1_02_0_n_n none a1 (mulf a0 (Host.divf (broadcastInDim S8x4096 ![] bcast_S_S8x4096 (constant S_ .f32 0x3F800000#32)) (addf (broadcastInDim S8x4096 ![] bcast_S_S8x4096 (constant S_ .f32 0x3F800000#32)) (Host.exp (Host.negf a0)))))) transposes_S4x24576x8_S4x8x24576_0_2_1) (broadcastInDim S4x8x24576 ![0, 1, 2] bcast_S4x1x24576_S4x8x24576_0_1_2 (broadcastInDim S4x1x24576 ![0, 2] bcast_S4x24576_S4x1x24576_0_2 a2))

end Cert.ReferenceModsIdeal.Hand

namespace Cert.KernelModsIdeal.Hand

open Cert.KernelModsIdeal Cert.KernelModsIdeal.Gen Idealize.ShloMosaic Idealize.ShloMosaic.TcCoe Idealize.SL.Sem

variable (m : (ℓ : Loc nD τ sig) → Buf (Elt Ideal) ℓ)

/-- Which block each window reads or writes at grid point `t`. -/
theorem idx : ∀ t : Fin cfg0.N, win0_0.index t = ![0, 0] ∧ win0_1.index t = ![t.val / 48, 0, t.val % 48]
    ∧ win0_2.index t = ![t.val / 48, 0, t.val % 48] ∧ win0_3.index t = ![t.val / 48, 0, t.val % 48] :=
  (by decide +kernel : ∀ t : Fin grid0.N, _)

/-- The biases as the launch finds them: a row for each layer. -/
theorem biases (c : Dev nD) (l : Fin 4) (k : Fin 24576) :
    V m c main_v0 (ix3 l 0 k) = m ((c : Thread nD τ).loc main_arg2) (ix2 l k) := by
  unfold V
  after_reads_at

/-- One block of modulation values against the reference at the element's place in the array. -/
theorem tile (C : Vec Ideal S8x4096 .f32) (W : Vec Ideal S1x4096x512 .f32) (B : Vec Ideal S1x1x512 .f32) (x : FVec Ideal S8x4096 .f32)
    (w : FVec Ideal S4x4096x24576 .f32) (b : FVec Ideal S4x24576 .f32) (y : S1x8x512.Idx) (i : Cert.ReferenceModsIdeal.S4x8x24576.Idx)
    (hC : ∀ k : Fin 4096, C (ix2 (y 1) k) = x (ix2 (i 1) k)) (hW : ∀ k : Fin 4096, W (ix3 0 k (y 2)) = w (ix3 (i 0) k (i 2)))
    (hB : B (ix3 0 0 (y 2)) = b (ix2 (i 0) (i 2))) :
    k0_pay1 C W B y = Cert.ReferenceModsIdeal.Hand.modsRef x w b i := by
  pointwise [k0_pay1, Cert.ReferenceModsIdeal.Hand.modsRef]
  simp only [hC, hW, hB]
  congr 1
  exact Finset.sum_congr rfl fun k _ => mul_comm _ _

/-- One block of the result is that block of the reference's. -/
theorem point (c : Dev nD) (t : Fin cfg0.N) (y : S1x8x512.Idx) :
    k0_pay1 (iblk m c 0 t) (iblk m c 1 t) (iblk m c 2 t) y
      = Cert.ReferenceModsIdeal.Hand.modsRef (m ((c : Thread nD τ).loc main_arg0)) (m ((c : Thread nD τ).loc main_arg1)) (m ((c : Thread nD τ).loc main_arg2)) (((cfg0.win 3).blk t).view.emb y) := by
  have e := idx t
  have ht : t.val < 192 := lt_of_lt_of_eq t.isLt N_0
  have hy : (y 0).val < 1 := (y 0).isLt
  have hy2 : (y 2).val < 512 := (y 2).isLt
  have h0 : ((((cfg0.win 3).blk t).view.emb y) 0).val = t.val / 48 + y 0 := by blk_simp [e]
  have h1 : ((((cfg0.win 3).blk t).view.emb y) 1).val = y 1 := by blk_simp [e]
  have h2 : ((((cfg0.win 3).blk t).view.emb y) 2).val = t.val % 48 * 512 + y 2 := by blk_simp [e]
  refine tile _ _ _ _ _ _ y _ (fun k => ?_) (fun k => ?_) ?_
  · blk_point [iblk, V, e]
  · blk_point [iblk, V, e]
  · refine Eq.trans ?_ (biases m c _ _)
    blk_point [iblk, e]

/-- The result array after the launch is the reference's. -/
theorem final (c : Dev nD) : (dats m 0 c).arrAt 3 (cfgs 0).N
    = Cert.ReferenceModsIdeal.Hand.modsRef (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  frame_out
  exact point m c t y

end Cert.KernelModsIdeal.Hand

end
-- ==== Proof.Embed.lean ====
/- The token stream: the prompt rows as they are, the sample rows plus the positional rows. -/
module

public import proofs.«01_k».proof.Proof.Gen.KernelEmbedIdeal.Frame
public import proofs.«01_k».proof.Proof.Gen.ReferenceEmbedIdeal.Run
public import Idealize.ShloMosaic.Lib.Pipeline.ValueKit
public import Idealize.ShloMosaic.Lib.Pointwise
public import Idealize.ShloMosaic.Lib.Pipeline.ReadBack
public import Idealize.ShloMosaic.Lib.StableHlo.ReadAt

@[expose] public section

set_option maxRecDepth 16384

noncomputable section

namespace Cert.ReferenceEmbedIdeal.Hand

open Cert.ReferenceEmbedIdeal Cert.ReferenceEmbedIdeal.Gen Idealize.ShloMosaic Idealize.ShloMosaic.TcCoe Idealize.SL.Sem

/-- The reference's result, as one term of the two streams and the positional rows. -/
def embedRef (a0 : FVec Ideal S8192x4096 .f32) (a1 : FVec Ideal S16384x4096 .f32) (a2 : FVec Ideal S4096x4096 .f32) :
    FVec Ideal S24576x4096 .f32 :=
  concatenate S24576x4096 0 [⟨S8192x4096, a0⟩, ⟨S16384x4096, (shapeCast _ (addf (shapeCast _ a1 shapeCasts_S16384x4096_S4x4096x4096) (broadcastInDim S4x4096x4096 ![0, 1, 2] bcast_S1x4096x4096_S4x4096x4096_0_1_2 (broadcastInDim S1x4096x4096 ![1, 2] bcast_S4096x4096_S1x4096x4096_1_2 a2))) shapeCasts_S4x4096x4096_S16384x4096)⟩] concatenates_S8192x4096_S16384x4096_S24576x4096_d0

end Cert.ReferenceEmbedIdeal.Hand

namespace Cert.KernelEmbedIdeal.Hand

open Cert.KernelEmbedIdeal Cert.KernelEmbedIdeal.Gen Idealize.ShloMosaic Idealize.ShloMosaic.TcCoe Idealize.SL.Sem

variable (m : (ℓ : Loc nD τ sig) → Buf (Elt Ideal) ℓ)

/-- Which block each window reads or writes at grid point `t`. -/
theorem idx : ∀ t : Fin cfg0.N, win0_0.index t = ![if t.val < 32 then t.val else 31, 0]
    ∧ win0_1.index t = ![if t.val < 32 then 0 else t.val - 32, 0]
    ∧ win0_2.index t = ![if t.val < 32 then 0 else (t.val - 32) % 16, 0] ∧ win0_3.index t = ![t.val, 0] :=
  (by decide +kernel : ∀ t : Fin grid0.N, _)

/-- Two streams one under the other, at an element. -/
theorem rows_at (a0 : FVec Ideal S8192x4096 .f32) (b : FVec Ideal S16384x4096 .f32) (i : S24576x4096.Idx) :
    concatenate Cert.ReferenceEmbedIdeal.S24576x4096 0 [⟨Cert.ReferenceEmbedIdeal.S8192x4096, a0⟩, ⟨Cert.ReferenceEmbedIdeal.S16384x4096, b⟩]
        Cert.ReferenceEmbedIdeal.Gen.concatenates_S8192x4096_S16384x4096_S24576x4096_d0 i
      = if h : (i 0).val < 8192 then a0 (ix2 ⟨(i 0).val, h⟩ (i 1))
        else b (ix2 ⟨(i 0).val - 8192, by have h : (i 0).val < 24576 := (i 0).isLt; omega⟩ (i 1)) := by
  pointwise

/-- The sample rows plus the positional rows, at an element. -/
theorem plus_at (a1 : FVec Ideal S16384x4096 .f32) (a2 : FVec Ideal S4096x4096 .f32) (r : Fin 16384) (k : Fin 4096) :
    shapeCast Cert.ReferenceEmbedIdeal.S16384x4096 (addf (shapeCast _ a1 Cert.ReferenceEmbedIdeal.Gen.shapeCasts_S16384x4096_S4x4096x4096)
      (broadcastInDim Cert.ReferenceEmbedIdeal.S4x4096x4096 ![0, 1, 2] Cert.ReferenceEmbedIdeal.Gen.bcast_S1x4096x4096_S4x4096x4096_0_1_2
        (broadcastInDim Cert.ReferenceEmbedIdeal.S1x4096x4096 ![1, 2] Cert.ReferenceEmbedIdeal.Gen.bcast_S4096x4096_S1x4096x4096_1_2 a2)))
      Cert.ReferenceEmbedIdeal.Gen.shapeCasts_S4x4096x4096_S16384x4096 (ix2 r k)
      = a1 (ix2 r k) + a2 (ix2 ⟨r.val % 4096, Nat.mod_lt _ (by omega)⟩ k) := by
  pointwise

/-- A prompt row of the reference is the prompt's. -/
theorem prompt_at (a0 : FVec Ideal S8192x4096 .f32) (a1 : FVec Ideal S16384x4096 .f32) (a2 : FVec Ideal S4096x4096 .f32)
    (i : S24576x4096.Idx) (h : (i 0).val < 8192) :
    Cert.ReferenceEmbedIdeal.Hand.embedRef a0 a1 a2 i = a0 (ix2 ⟨(i 0).val, h⟩ (i 1)) := by
  unfold Cert.ReferenceEmbedIdeal.Hand.embedRef
  exact (rows_at _ _ i).trans (dif_pos h)

/-- A sample row of the reference is the sample's plus the positional row of its place in its sequence. -/
theorem sample_at (a0 : FVec Ideal S8192x4096 .f32) (a1 : FVec Ideal S16384x4096 .f32) (a2 : FVec Ideal S4096x4096 .f32)
    (i : S24576x4096.Idx) (h : ¬(i 0).val < 8192) (r : Fin 16384) (p : Fin 4096) (hr : r.val = (i 0).val - 8192)
    (hp : p.val = ((i 0).val - 8192) % 4096) :
    Cert.ReferenceEmbedIdeal.Hand.embedRef a0 a1 a2 i = a1 (ix2 r (i 1)) + a2 (ix2 p (i 1)) := by
  unfold Cert.ReferenceEmbedIdeal.Hand.embedRef
  refine (rows_at _ _ i).trans ((dif_neg h).trans ((plus_at _ _ _ _).trans ?_))
  rw [show r = ⟨(i 0).val - 8192, by rw [← hr]; exact r.isLt⟩ from Fin.ext hr, show p = ⟨((i 0).val - 8192) % 4096, Nat.mod_lt _ (by omega)⟩ from Fin.ext hp]

/-- The sum of two blocks at an element. -/
theorem pay_at (X Y : Vec Ideal S256x4096 .f32) (y : S256x4096.Idx) : k0_pay1 (F := Ideal) X Y y = X y + Y y := by
  pointwise [k0_pay1]

/-- One block of the result is that block of the reference's. -/
theorem point (c : Dev nD) (t : Fin cfg0.N) (y : S256x4096.Idx) :
    outsAt0 m c t.val t.isLt y
      = Cert.ReferenceEmbedIdeal.Hand.embedRef (m ((c : Thread nD τ).loc main_arg0)) (m ((c : Thread nD τ).loc main_arg1)) (m ((c : Thread nD τ).loc main_arg2)) (((cfg0.win 3).blk t).view.emb y) := by
  have e := idx t
  have ht : t.val < 96 := lt_of_lt_of_eq t.isLt N_0
  have hy : (y 0).val < 256 := (y 0).isLt
  have h0 : ((((cfg0.win 3).blk t).view.emb y) 0).val = t.val * 256 + y 0 := by blk_simp [e]
  have h1 : ((((cfg0.win 3).blk t).view.emb y) 1).val = y 1 := by blk_simp [e]
  by_cases h : t.val < 32
  · rw [outsAt0_A m c t h (by omega), prompt_at _ _ _ _ (by rw [h0]; omega)]
    frame_out
    rw [if_pos h, if_pos h, if_pos h] at e
    blk_point [iblk, V, e]
  · rw [outsAt0_B m c t h (by omega), sample_at _ _ _ _ (by rw [h0]; omega) ⟨t.val * 256 + y 0 - 8192, by omega⟩
      ⟨(t.val * 256 + y 0 - 8192) % 4096, by omega⟩ (by rw [h0]) (by rw [h0])]
    frame_out
    rw [if_neg h, if_neg h, if_neg h] at e
    rw [pay_at]
    congr 1
    · blk_point [iblk, V, e]
    · blk_point [iblk, V, e]

/-- The result array after the launch is the reference's. -/
theorem final (c : Dev nD) : (dats m 0 c).arrAt 3 (cfgs 0).N
    = Cert.ReferenceEmbedIdeal.Hand.embedRef (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  exact point m c t y

end Cert.KernelEmbedIdeal.Hand

end
-- ==== Proof.ChunkMath.lean ====
/-
  The mathematics of the gated scan, over the reals and away from any program.

  `st` is the recurrence itself at one key and one value coordinate. `st_add` is its closed form over any number of
  tokens; `chunk_out` and `chunk_state` say that what one chunk of 128 tokens computes from the decay tables is the
  recurrence run over the chunk, the chunk's rows being visited in the order `ρ` (downwards or upwards).
-/
module

public import Mathlib.Analysis.SpecialFunctions.Exp
public import Mathlib.Algebra.BigOperators.Fin
public import Mathlib.Algebra.BigOperators.Ring.Finset
public import Mathlib.Tactic.Ring

@[expose] public section

noncomputable section

namespace Cert.Scan

open Finset

/-- The state after `n` tokens at one key coordinate and one value coordinate: decay, then add the token's outer
    product. -/
def st (g k v : ℕ → ℝ) (s0 : ℝ) : ℕ → ℝ
  | 0 => s0
  | n + 1 => Real.exp (g n) * st g k v s0 n + k n * v n

/-- The state `t` tokens after token `n0`. -/
theorem st_add (g k v : ℕ → ℝ) (s0 : ℝ) (n0 t : ℕ) :
    st g k v s0 (n0 + t) = Real.exp (∑ u ∈ range t, g (n0 + u)) * st g k v s0 n0
      + ∑ r ∈ range t, Real.exp (∑ u ∈ range t, g (n0 + u) - ∑ u ∈ range (r + 1), g (n0 + u))
          * (k (n0 + r) * v (n0 + r)) := by
  induction t with
  | zero => simp
  | succ t ih =>
    rw [← Nat.add_assoc, st, ih, sum_range_succ (fun r => Real.exp _ * _) t, sum_range_succ _ t, sub_self, Real.exp_zero,
      one_mul, mul_add, mul_sum, ← mul_assoc, ← Real.exp_add, add_assoc, add_comm (g (n0 + t))]
    congr 2
    refine sum_congr rfl fun r _ => ?_
    rw [← mul_assoc, ← Real.exp_add]
    congr 2
    ring

/-- A sum over the rows up to `t` as a sum over an initial range. -/
theorem sum_le (f : ℕ → ℝ) (t : Fin 128) :
    (∑ u : Fin 128, if u ≤ t then f u.val else 0) = ∑ u ∈ range (t.val + 1), f u := by
  have h := Fin.sum_univ_eq_sum_range (fun u => if u ≤ t.val then f u else 0) 128
  have e : ∀ u : Fin 128, (if u ≤ t then f u.val else 0) = if u.val ≤ t.val then f u.val else 0 := fun u => rfl
  rw [sum_congr rfl fun u _ => e u, h, ← sum_filter]
  refine sum_congr ?_ fun _ _ => rfl
  ext u
  have := t.isLt
  simp only [mem_filter, mem_range]
  omega

/-- What the tables must satisfy: `A 0` sums a row's decays up to its own time; the pair of rows `i`, `j` with `j` not
    later than `i` is on exactly one level, and there the two rows' sums add to the decay between them. -/
structure Tables (A : ℕ → Fin 128 → Fin 128 → ℝ) (lv : Fin 128 → Fin 128 → ℤ) (ρ : Fin 128 → Fin 128) : Prop where
  invol : ∀ i, ρ (ρ i) = i
  sum : ∀ i u, A 0 i u = if ρ u ≤ ρ i then 1 else 0
  later : ∀ i j, ρ i < ρ j → lv i j = -1
  diag : ∀ i, lv i i = 0
  range : ∀ i j, ρ j < ρ i → 1 ≤ lv i j ∧ lv i j ≤ 7
  pair : ∀ i j, ρ j < ρ i → ∀ l : ℕ, lv i j = l → ∀ u, A l i u + A l j u = A 0 i u - A 0 j u

variable {A : ℕ → Fin 128 → Fin 128 → ℝ} {lv : Fin 128 → Fin 128 → ℤ} {ρ : Fin 128 → Fin 128}

/-- Row `i`'s sum of decays on level `l`, at key coordinate `d`. -/
def dec (A : ℕ → Fin 128 → Fin 128 → ℝ) (g : Fin 128 → Fin 256 → ℝ) (l : ℕ) (i : Fin 128) (d : Fin 256) : ℝ :=
  ∑ u, A l i u * g u d

/-- The weight of row `j` in row `i`'s output on one level. -/
def lvl (A : ℕ → Fin 128 → Fin 128 → ℝ) (lv : Fin 128 → Fin 128 → ℤ) (q k g : Fin 128 → Fin 256 → ℝ) (l : ℕ)
    (i j : Fin 128) : ℝ :=
  if lv i j = l then ∑ d, (q i d * Real.exp (dec A g l i d)) * (k j d * Real.exp (dec A g l j d)) else 0

/-- The weight of row `j` in row `i`'s output. -/
def att (A : ℕ → Fin 128 → Fin 128 → ℝ) (lv : Fin 128 → Fin 128 → ℤ) (q k g : Fin 128 → Fin 256 → ℝ)
    (i j : Fin 128) : ℝ :=
  (if lv i j = 0 then ∑ d, q i d * k j d else 0) + lvl A lv q k g 1 i j + lvl A lv q k g 2 i j + lvl A lv q k g 3 i j
    + lvl A lv q k g 4 i j + lvl A lv q k g 5 i j + lvl A lv q k g 6 i j + lvl A lv q k g 7 i j

/-- The weight is the decayed product of query and key for the rows not later than `i`, and zero for the others. -/
theorem att_eq (T : Tables A lv ρ) (q k g : Fin 128 → Fin 256 → ℝ) (i j : Fin 128) :
    att A lv q k g i j = if ρ j ≤ ρ i then ∑ d, q i d * k j d * Real.exp (dec A g 0 i d - dec A g 0 j d) else 0 := by
  rcases lt_trichotomy (ρ j) (ρ i) with h | h | h
  · rw [if_pos h.le]
    obtain ⟨h1, h7⟩ := T.range i j h
    have hp := T.pair i j h
    have key : ∀ l : ℕ, lv i j = l → lvl A lv q k g l i j
        = ∑ d, q i d * k j d * Real.exp (dec A g 0 i d - dec A g 0 j d) := by
      intro l hl
      rw [lvl, if_pos hl]
      refine sum_congr rfl fun d _ => ?_
      have e : dec A g 0 i d - dec A g 0 j d = dec A g l i d + dec A g l j d := by
        unfold dec
        rw [← sum_sub_distrib, ← sum_add_distrib]
        refine sum_congr rfl fun u _ => ?_
        rw [← sub_mul, ← add_mul, hp l hl u]
      rw [e, Real.exp_add]
      ring
    have zero : ∀ l : ℕ, lv i j ≠ l → lvl A lv q k g l i j = 0 := fun l hl => if_neg hl
    have hc : lv i j = 1 ∨ lv i j = 2 ∨ lv i j = 3 ∨ lv i j = 4 ∨ lv i j = 5 ∨ lv i j = 6 ∨ lv i j = 7 := by omega
    unfold att
    rcases hc with e | e | e | e | e | e | e <;>
      (rw [if_neg (by omega)]
       first
        | rw [key 1 e, zero 2 (by omega), zero 3 (by omega), zero 4 (by omega), zero 5 (by omega), zero 6 (by omega), zero 7 (by omega)]
        | rw [key 2 e, zero 1 (by omega), zero 3 (by omega), zero 4 (by omega), zero 5 (by omega), zero 6 (by omega), zero 7 (by omega)]
        | rw [key 3 e, zero 1 (by omega), zero 2 (by omega), zero 4 (by omega), zero 5 (by omega), zero 6 (by omega), zero 7 (by omega)]
        | rw [key 4 e, zero 1 (by omega), zero 2 (by omega), zero 3 (by omega), zero 5 (by omega), zero 6 (by omega), zero 7 (by omega)]
        | rw [key 5 e, zero 1 (by omega), zero 2 (by omega), zero 3 (by omega), zero 4 (by omega), zero 6 (by omega), zero 7 (by omega)]
        | rw [key 6 e, zero 1 (by omega), zero 2 (by omega), zero 3 (by omega), zero 4 (by omega), zero 5 (by omega), zero 7 (by omega)]
        | rw [key 7 e, zero 1 (by omega), zero 2 (by omega), zero 3 (by omega), zero 4 (by omega), zero 5 (by omega), zero 6 (by omega)]) <;>
      ring
  · have hij : j = i := by rw [← T.invol j, h, T.invol i]
    subst hij
    have e := T.diag j
    have zero : ∀ l : ℕ, l ≠ 0 → lvl A lv q k g l j j = 0 := fun l hl => if_neg (by omega)
    unfold att
    rw [if_pos e, if_pos le_rfl, zero 1 (by omega), zero 2 (by omega), zero 3 (by omega), zero 4 (by omega),
      zero 5 (by omega), zero 6 (by omega), zero 7 (by omega)]
    simp
  · rw [if_neg (not_le.mpr h)]
    have e := T.later i j h
    have zero : ∀ l : ℕ, lvl A lv q k g l i j = 0 := fun l => if_neg (by omega)
    unfold att
    rw [if_neg (by omega), zero 1, zero 2, zero 3, zero 4, zero 5, zero 6, zero 7]
    simp

/-- Row `i`'s decay sum is the sum of the decays of the tokens up to it. -/
theorem dec_zero (T : Tables A lv ρ) (g : Fin 128 → Fin 256 → ℝ) (G : ℕ → ℝ) (d : Fin 256)
    (hG : ∀ i, g i d = G (ρ i).val) (i : Fin 128) : dec A g 0 i d = ∑ u ∈ range ((ρ i).val + 1), G u := by
  rw [← sum_le G (ρ i)]
  let e : Fin 128 ≃ Fin 128 := ⟨ρ, ρ, T.invol, T.invol⟩
  rw [← Equiv.sum_comp e (fun u => if u ≤ ρ i then G u.val else 0)]
  refine sum_congr rfl fun u _ => ?_
  rw [T.sum, hG u]
  show _ = if ρ u ≤ ρ i then G (ρ u).val else 0
  split <;> simp

/-- A sum over rows weighted by what the later rows see, as a sum over times. -/
theorem sum_rows (T : Tables A lv ρ) (f : Fin 128 → ℝ) (F : ℕ → ℝ) (hf : ∀ i, f i = F (ρ i).val) (i : Fin 128) :
    (∑ j, if ρ j ≤ ρ i then f j else 0) = ∑ r ∈ range ((ρ i).val + 1), F r := by
  rw [← sum_le F (ρ i)]
  let e : Fin 128 ≃ Fin 128 := ⟨ρ, ρ, T.invol, T.invol⟩
  rw [← Equiv.sum_comp e (fun u => if u ≤ ρ i then F u.val else 0)]
  refine sum_congr rfl fun u _ => ?_
  rw [hf u]
  rfl

/-- One chunk's output row is the query times the recurrence's state just after that row's token. -/
theorem chunk_out (T : Tables A lv ρ) (q k g : Fin 128 → Fin 256 → ℝ) (v : Fin 128 → ℝ) (S : Fin 256 → ℝ)
    (n0 : ℕ) (G K : Fin 256 → ℕ → ℝ) (V : ℕ → ℝ) (s0 : Fin 256 → ℝ)
    (hg : ∀ i d, g i d = G d (n0 + (ρ i).val)) (hk : ∀ i d, k i d = K d (n0 + (ρ i).val))
    (hv : ∀ i, v i = V (n0 + (ρ i).val)) (hS : ∀ d, S d = st (G d) (K d) V (s0 d) n0) (i : Fin 128) :
    (∑ d, (q i d * Real.exp (dec A g 0 i d)) * S d) + ∑ j, att A lv q k g i j * v j
      = ∑ d, q i d * st (G d) (K d) V (s0 d) (n0 + (ρ i).val + 1) := by
  have h1 : ∀ d, q i d * st (G d) (K d) V (s0 d) (n0 + (ρ i).val + 1)
      = (q i d * Real.exp (dec A g 0 i d)) * S d
        + ∑ j, if ρ j ≤ ρ i then q i d * k j d * Real.exp (dec A g 0 i d - dec A g 0 j d) * v j else 0 := by
    intro d
    rw [sum_rows T (fun j => q i d * k j d * Real.exp (dec A g 0 i d - dec A g 0 j d) * v j)
      (fun r => q i d * K d (n0 + r) * Real.exp (∑ u ∈ range ((ρ i).val + 1), G d (n0 + u)
        - ∑ u ∈ range (r + 1), G d (n0 + u)) * V (n0 + r))
      (fun j => by rw [dec_zero T g (fun u => G d (n0 + u)) d (fun i => hg i d), dec_zero T g (fun u => G d (n0 + u)) d (fun i => hg i d), hk j d, hv j]) i,
      add_assoc n0, st_add, mul_add, mul_sum, dec_zero T g (fun u => G d (n0 + u)) d (fun i => hg i d), hS d]
    congr 1
    · ring
    · refine sum_congr rfl fun r _ => ?_
      ring
  rw [sum_congr rfl fun d _ => h1 d, sum_add_distrib, sum_comm]
  congr 1
  refine sum_congr rfl fun j _ => ?_
  rw [att_eq T]
  split
  · rw [sum_mul]
  · simp

/-- The state after the chunk is the recurrence's, 128 tokens on. -/
theorem chunk_state (T : Tables A lv ρ) (k g : Fin 128 → Fin 256 → ℝ) (v : Fin 128 → ℝ) (S : Fin 256 → ℝ)
    (n0 : ℕ) (G K : Fin 256 → ℕ → ℝ) (V : ℕ → ℝ) (s0 : Fin 256 → ℝ)
    (hg : ∀ i d, g i d = G d (n0 + (ρ i).val)) (hk : ∀ i d, k i d = K d (n0 + (ρ i).val))
    (hv : ∀ i, v i = V (n0 + (ρ i).val)) (hS : ∀ d, S d = st (G d) (K d) V (s0 d) n0) (e : Fin 128)
    (he : ρ e = 127) (d : Fin 256) :
    Real.exp (dec A g 0 e d) * S d + ∑ j, (k j d * Real.exp (dec A g 0 e d - dec A g 0 j d)) * v j
      = st (G d) (K d) V (s0 d) (n0 + 128) := by
  have h := sum_rows T (fun j => (k j d * Real.exp (dec A g 0 e d - dec A g 0 j d)) * v j)
      (fun r => (K d (n0 + r) * Real.exp (∑ u ∈ range 128, G d (n0 + u)
        - ∑ u ∈ range (r + 1), G d (n0 + u))) * V (n0 + r))
      (fun j => by rw [dec_zero T g (fun u => G d (n0 + u)) d (fun i => hg i d), dec_zero T g (fun u => G d (n0 + u)) d (fun i => hg i d), hk j d, hv j, he]; rfl) e
  have h' : (∑ j, (k j d * Real.exp (dec A g 0 e d - dec A g 0 j d)) * v j)
      = ∑ j, if ρ j ≤ ρ e then (k j d * Real.exp (dec A g 0 e d - dec A g 0 j d)) * v j else 0 := by
    refine sum_congr rfl fun j _ => ?_
    rw [if_pos]
    rw [he]
    exact Fin.le_last (n := 127) (ρ j)
  rw [h', h, he, st_add, dec_zero T g (fun u => G d (n0 + u)) d (fun i => hg i d), he, hS d]
  congr 1
  refine sum_congr rfl fun r _ => ?_
  show _ = Real.exp (∑ u ∈ range 128, G d (n0 + u) - _) * _
  ring

end Cert.Scan

end
-- ==== Proof.ScanSpec.lean ====
/-
  The recurrence over the real numbers, token by token, of one sequence, one head and one direction; and the elementwise
  functions of the gates.
-/
module

public import proofs.«01_k».proof.Proof.ChunkMath
public import Idealize.ShloMosaic.Lib.Pointwise

@[expose] public section

noncomputable section

namespace Cert.Scan

open Idealize.ShloMosaic

/-- A finite sum of reals, read in the extended reals. -/
theorem coe_sum {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The float word of one sixteenth. -/
theorem sixteenth : Ideal.ofBits .f32 0x3D800000#32 = (((1 : ℝ) / 16 : ℝ) : EReal) := by
  simp [Ideal.ofBits, Ideal.ieee, -EReal.coe_mul]; norm_num

/-- The float word of sixteen. -/
theorem sixteen : Ideal.ofBits .f32 0x41800000#32 = ((16 : ℝ) : EReal) := by
  simp [Ideal.ofBits, Ideal.ieee, -EReal.coe_mul]; norm_num

/-- The logarithm of the logistic function, over sixteen. -/
def gate (x : ℝ) : ℝ := (min x 0 - Real.log (1 + Real.exp (-|x|))) * (1 / 16)

theorem absf_coe (x : ℝ) : FloatOps.absf (F := Ideal) (φ := .f32) (x : EReal) = ((|x| : ℝ) : EReal) := by
  show max (x : EReal) (-(x : EReal)) = _
  rw [← EReal.coe_neg]
  exact (EReal.coe_strictMono.monotone.map_max).symm

theorem log1p_coe (x : ℝ) : Ideal.log1p ((Real.exp x : ℝ) : EReal) = ((Real.log (1 + Real.exp x) : ℝ) : EReal) := by
  have h : (0 : ℝ) < 1 + Real.exp x := by positivity
  unfold Ideal.log1p
  rw [← EReal.coe_one, ← EReal.coe_add, Ideal.log_coe, if_neg (not_le.mpr h)]

theorem max_coe (x : ℝ) : max (x : EReal) 0 = ((max x 0 : ℝ) : EReal) :=
  (EReal.coe_strictMono.monotone.map_max (a := x) (b := 0)).symm

/-- The softplus form of the gate. -/
theorem gate_softplus (x : ℝ) : -(max (-x) 0 + Real.log (1 + Real.exp (-|-x|))) * (1 / 16) = gate x := by
  unfold gate
  have h : max (-x) 0 = - min x 0 := by
    rcases le_total x 0 with h | h
    · rw [min_eq_left h, max_eq_left (by linarith)]
    · rw [min_eq_right h, max_eq_right (by linarith)]; simp
  rw [h, abs_neg]
  ring

/-- The logit of a gate: sixteen columns of the projected token, from column `off`, through one direction's map. -/
def logit (A W : ℕ → ℕ → ℝ) (B : ℕ → ℝ) (off r c : ℕ) : ℝ := ∑ x : Fin 16, A r (off + x.val) * W x.val c + B c

/-- The state of entry `(d, e)` of head `h` after `n` tokens, token `n` being row `R n` of the arrays. -/
def state (Z A W : ℕ → ℕ → ℝ) (B : ℕ → ℝ) (off : ℕ) (R : ℕ → ℕ) (s0 : ℝ) (h d e : ℕ) : ℕ → ℝ :=
  st (fun n => gate (logit A W B off (R n) (256 * h + d))) (fun n => Z (R n) (2048 + (256 * h + d)))
    (fun n => Z (R n) (4096 + (512 * h + e))) s0

/-- Column `e` of head `h` of the output at token `n`. -/
def out (Z A W : ℕ → ℕ → ℝ) (B : ℕ → ℝ) (off : ℕ) (R : ℕ → ℕ) (s0 : Fin 256 → ℝ) (h e n : ℕ) : ℝ :=
  ∑ d : Fin 256, (Z (R n) (256 * h + d.val) * (1 / 16)) * state Z A W B off R (s0 d) h d.val e (n + 1)

end Cert.Scan

end
-- ==== Proof.ScanArgs.lean ====
/-
  What the recurrence's kernel reads at one grid point: a chunk's rows of the projected tokens, a head's columns of the gate
  maps, and the tables.
-/
module

public import proofs.«01_k».proof.Proof.Gen.KernelScanIdeal.Frame
public import proofs.«01_k».proof.Proof.ScanSpec
public import Idealize.ShloMosaic.Lib.Pipeline.ValueKit
public import Idealize.ShloMosaic.Lib.StableHlo.ReadAt
public import Idealize.ShloMosaic.Lib.Routing.OpsSet

@[expose] public section

set_option maxRecDepth 16384

noncomputable section

namespace Cert.KernelScanIdeal.Hand

open Cert.KernelScanIdeal Cert.KernelScanIdeal.Gen Cert.Scan Idealize.ShloMosaic Idealize.ShloMosaic.TcCoe Idealize.SL.Sem

variable (m : (ℓ : Loc nD τ sig) → Buf (Elt Ideal) ℓ)

/-- Which blocks the forward half reads at grid point `t`. -/
theorem idxF : ∀ t : Fin cfg0.N, win0_0.index t = ![t.val / 16 * 2 + t.val % 2, t.val / 2 % 8]
    ∧ win0_1.index t = ![t.val / 16 * 2 + t.val % 2, 8 + t.val / 2 % 8]
    ∧ win0_2.index t = ![t.val / 16 * 2 + t.val % 2, 8 + t.val / 2 % 8]
    ∧ win0_3.index t = ![t.val / 16 * 2 + t.val % 2, 0] ∧ win0_8.index t = ![0, t.val / 2 % 8] ∧ win0_9.index t = ![0, t.val / 2 % 8] :=
  (by decide +kernel : ∀ t : Fin grid0.N, _)

/-- Which blocks the backward half reads. -/
theorem idxB : ∀ t : Fin cfg0.N, win0_4.index t = ![t.val / 16 * 2 + (1 - t.val % 2), t.val / 2 % 8]
    ∧ win0_5.index t = ![t.val / 16 * 2 + (1 - t.val % 2), 8 + t.val / 2 % 8]
    ∧ win0_6.index t = ![t.val / 16 * 2 + (1 - t.val % 2), 8 + t.val / 2 % 8]
    ∧ win0_7.index t = ![t.val / 16 * 2 + (1 - t.val % 2), 0] ∧ win0_10.index t = ![0, t.val / 2 % 8] ∧ win0_11.index t = ![0, t.val / 2 % 8] :=
  (by decide +kernel : ∀ t : Fin grid0.N, _)

/-- Which blocks are written, and where the tables are read. -/
theorem idxO : ∀ t : Fin cfg0.N, win0_14.index t = ![t.val / 16 * 2 + t.val % 2, t.val / 2 % 8]
    ∧ win0_15.index t = ![t.val / 16 * 2 + (1 - t.val % 2), t.val / 2 % 8]
    ∧ win0_16.index t = ![t.val / 16, t.val / 2 % 8, 0, 0] ∧ win0_17.index t = ![t.val / 16, t.val / 2 % 8, 0, 0]
    ∧ win0_12.index t = ![0, 0, 0] ∧ win0_13.index t = ![0, 0, 0] :=
  (by decide +kernel : ∀ t : Fin grid0.N, _)

/-- Where an update of the padded gate map lands: its own column, its row moved by the start. -/
theorem lands (o : ℕ) (ho : o + 16 ≤ 128) (off : BitVec 32) (hoff : off.toInt = (o : ℤ)) (idx : IVec S1 32) (hidx : ∀ i, idx i = off)
    (j : S16x2048.Idx) : scatter_S128x2048_S1_S16x2048_01_n_0_0.resultIdx? j idx
      = some (ix2 ⟨o + (j 0).val, by have h : (j 0).val < 16 := (j 0).isLt; omega⟩ (j 1)) := by
  have h0 : (j 0).val < 16 := (j 0).isLt
  have h1 : (j 1).val < 2048 := (j 1).isLt
  have s0 : scatter_S128x2048_S1_S16x2048_01_n_0_0.start j idx 0 + scatter_S128x2048_S1_S16x2048_01_n_0_0.window j 0 = ((o + (j 0).val : ℕ) : ℤ) := by
    unfold ScatterDims.start ScatterDims.window
    rw [dif_pos (by decide), dif_pos (by decide), hidx, hoff]
    rfl
  have s1 : scatter_S128x2048_S1_S16x2048_01_n_0_0.start j idx 1 + scatter_S128x2048_S1_S16x2048_01_n_0_0.window j 1 = ((j 1).val : ℤ) := by
    unfold ScatterDims.start ScatterDims.window
    rw [dif_neg (by decide), dif_pos (by decide), zero_add]
    rfl
  unfold ScatterDims.resultIdx?
  rw [dif_pos (Fin.forall_fin_two.mpr ⟨by rw [s0]; exact ⟨by omega, by exact_mod_cast (by omega : o + (j 0).val < 128)⟩,
    by rw [s1]; exact ⟨by omega, by exact_mod_cast h1⟩⟩)]
  refine congrArg some (funext (Fin.forall_fin_two.mpr ⟨Fin.ext ?_, Fin.ext ?_⟩))
  · show (scatter_S128x2048_S1_S16x2048_01_n_0_0.start j idx 0 + scatter_S128x2048_S1_S16x2048_01_n_0_0.window j 0).toNat = o + (j 0).val
    rw [s0]; rfl
  · show (scatter_S128x2048_S1_S16x2048_01_n_0_0.start j idx 1 + scatter_S128x2048_S1_S16x2048_01_n_0_0.window j 1).toNat = (j 1).val
    rw [s1]; rfl

/-- The padded gate map at an element: the map's inside its sixteen rows, the operand's outside. -/
theorem pad_at (x0 : FVec Ideal S128x2048 .f32) (u : FVec Ideal S16x2048 .f32) (o : ℕ) (ho : o + 16 ≤ 128) (off : BitVec 32)
    (hoff : off.toInt = (o : ℤ)) (idx : IVec S1 32) (hidx : ∀ i, idx i = off) (k : Fin 128) (n : Fin 2048) :
    Host.scatter scatter_S128x2048_S1_S16x2048_01_n_0_0 (fun _ b => b) x0 idx u (ix2 k n)
      = if h : o ≤ k.val ∧ k.val < o + 16 then u (ix2 ⟨k.val - o, by omega⟩ n) else x0 (ix2 k n) := by
  have hl := lands o ho off hoff idx hidx
  by_cases h : o ≤ k.val ∧ k.val < o + 16
  · rw [dif_pos h]
    refine Routing.scatter_set_hit _ _ _ _ _ _ (fun j hj => ?_) (ix2 ⟨k.val - o, by omega⟩ n) ?_
    · rw [hl j] at hj
      have hj := Option.some.inj hj
      have e0 : o + (j 0).val = k.val := congrArg (fun q : S128x2048.Idx => (q 0).val) hj
      have e1 : (j 1).val = n.val := congrArg (fun q : S128x2048.Idx => (q 1).val) hj
      refine congrArg u (funext (Fin.forall_fin_two.mpr ⟨Fin.ext ?_, Fin.ext e1⟩))
      show (j 0).val = k.val - o
      omega
    · rw [hl]
      refine congrArg some (funext (Fin.forall_fin_two.mpr ⟨Fin.ext ?_, rfl⟩))
      show o + (k.val - o) = k.val
      omega
  · rw [dif_neg h]
    refine Routing.scatter_set_miss _ _ _ _ _ fun j hj => h ?_
    rw [hl j] at hj
    have e0 : o + (j 0).val = k.val := congrArg (fun q : S128x2048.Idx => (q 0).val) (Option.some.inj hj)
    have h0 : (j 0).val < 16 := (j 0).isLt
    omega

/-- The forward gate map as the launch finds it. -/
theorem mapF (c : Dev nD) (k : Fin 128) (n : Fin 2048) : V m c main_v2 (ix2 k n)
    = if h : 0 ≤ k.val ∧ k.val < 0 + 16 then m ((c : Thread nD τ).loc main_arg2) (ix2 ⟨k.val - 0, by omega⟩ n) else (0 : EReal) := by
  unfold V
  after_reads_at
  rw [pad_at _ _ 0 (by omega) 0#32 (by decide) (broadcastInDim S1 ![] bcast_S_S1 (constantI S_ 32 0#32)) (fun _ => rfl)]
  refine dite_congr (by simp) (fun _ => rfl) (fun _ => ?_)
  exact Ideal.ofBits_zero .f32

/-- The backward gate map as the launch finds it. -/
theorem mapB (c : Dev nD) (k : Fin 128) (n : Fin 2048) : V m c main_v5 (ix2 k n)
    = if h : 16 ≤ k.val ∧ k.val < 16 + 16 then m ((c : Thread nD τ).loc main_arg4) (ix2 ⟨k.val - 16, by omega⟩ n) else (0 : EReal) := by
  unfold V
  after_reads_at
  rw [pad_at _ _ 16 (by omega) 16#32 (by decide) (broadcastInDim S1 ![] bcast_S_S1 (constantI S_ 32 16#32)) (fun _ => rfl)]
  refine dite_congr rfl (fun _ => rfl) (fun _ => ?_)
  exact Ideal.ofBits_zero .f32

/-- The forward bias as the launch finds it. -/
theorem biasF (c : Dev nD) (n : Fin 2048) : V m c main_v6 (ix2 0 n) = m ((c : Thread nD τ).loc main_arg3) (ix1 n) := by
  unfold V
  after_reads_at

/-- The backward bias as the launch finds it. -/
theorem biasB (c : Dev nD) (n : Fin 2048) : V m c main_v7 (ix2 0 n) = m ((c : Thread nD τ).loc main_arg5) (ix1 n) := by
  unfold V
  after_reads_at

end Cert.KernelScanIdeal.Hand

end
-- ==== Proof.ChunkVal.lean ====
/-
  What the operations on one chunk compute when every element is a real number, in the forward direction: the gates'
  logits, the gates' sums over the tables' rows, the weights between rows, the output rows and the next state.
-/
module

public import proofs.«01_k».proof.Proof.Gen.KernelScanIdeal.Skeleton
public import proofs.«01_k».proof.Proof.ScanSpec
public import Idealize.ShloMosaic.Lib.Pipeline.ValueKit
public import Idealize.ShloMosaic.Lib.Pointwise

@[expose] public section

set_option maxRecDepth 16384

noncomputable section

namespace Cert.Scan

open Cert.KernelScanIdeal Cert.KernelScanIdeal.Gen Idealize.ShloMosaic Idealize.ShloMosaic.TcCoe Idealize.SL.Sem

/-- Choosing on an equality of words is choosing on an equality of integers. -/
theorem sel_eq (x : BitVec 32) (n : BitVec 32) (a : ℝ) :
    Scalar.select (IntOp.cmpi .eq x n) (a : EReal) 0 = ((if x.toInt = n.toInt then a else 0 : ℝ) : EReal) := by
  by_cases h : x = n
  · have e : x.toInt = n.toInt := by rw [h]
    rw [if_pos e]
    simp [Scalar.select, IntOp.cmpi, h]
  · have e : ¬x.toInt = n.toInt := fun e => h (BitVec.eq_of_toInt_eq e)
    have h' : (x == n) = false := beq_false_of_ne h
    rw [if_neg e]
    simp [Scalar.select, IntOp.cmpi, h']

/-- The logits of the gates: the low parts of the split operands vanish, the rest is the affine map. -/
theorem zz_at (a : Vec Ideal S128x128 .f32) (w : Vec Ideal S128x256 .f32) (b : Vec Ideal S1x256 .f32)
    (ar : Fin 128 → Fin 128 → ℝ) (wr : Fin 128 → Fin 256 → ℝ) (br : Fin 256 → ℝ)
    (ha : ∀ i c, a (ix2 i c) = (ar i c : EReal)) (hw : ∀ c d, w (ix2 c d) = (wr c d : EReal))
    (hb : ∀ d, b (ix2 0 d) = (br d : EReal)) (i : Fin 128) (d : Fin 256) :
    k0_pay7 (F := Ideal) a w b (ix2 i d) = ((∑ c, ar i c * wr c d + br d : ℝ) : EReal) := by
  pointwise [k0_pay7]
  simp only [ha, hw, hb, ← EReal.coe_sub, ← EReal.coe_mul, coe_sum, ← EReal.coe_add, sub_self, zero_mul, mul_zero,
    Finset.sum_const_zero, add_zero]

/-- The gates summed over the rows of the table. -/
theorem ee_at (tab : FVec Ideal S1024x128 .bf16) (a : Vec Ideal S128x128 .f32) (w : Vec Ideal S128x256 .f32)
    (b : Vec Ideal S1x256 .f32) (T : ℕ → Fin 128 → ℝ) (z : Fin 128 → Fin 256 → ℝ)
    (hT : ∀ r u, tab (ix2 r u) = (T r.val u : EReal)) (hz : ∀ i d, k0_pay7 (F := Ideal) a w b (ix2 i d) = (z i d : EReal))
    (r : Fin 1024) (d : Fin 256) :
    k0_pay9 (F := Ideal) tab (k0_pay7 a w b) (k0_pay8 a w b) (ix2 r d) = ((∑ u, T r.val u * gate (z u d) : ℝ) : EReal) := by
  have hm : ∀ i d, k0_pay8 (F := Ideal) a w b (ix2 i d) = ((min (z i d) 0 : ℝ) : EReal) := by
    intro i d
    pointwise [k0_pay8]
    rw [hz]
    exact (EReal.coe_strictMono.monotone.map_min (a := z i d) (b := 0)).symm
  have hd : 512 + d.val - 256 - 256 = d.val := by omega
  generalize hZ : k0_pay7 (F := Ideal) a w b = Z at *
  generalize hM : k0_pay8 (F := Ideal) a w b = M at *
  pointwise [k0_pay9]
  have hg : ∀ x : ℝ, (min x 0 - Real.log (1 + Real.exp (-|x|))) * (1 / 16) = gate x := fun x => rfl
  simp only [hT, hz, hm, absf_coe, zero_sub, ← EReal.coe_neg, ← EReal.coe_sub, Ideal.exp_coe, log1p_coe, sixteenth, ← EReal.coe_mul, coe_sum,
    ← EReal.coe_add, sub_self, mul_zero, Finset.sum_const_zero, add_zero, hg]
  have h1 : ¬(512 + d.val < 256) := by omega
  have h2 : ¬(512 + d.val - 256 < 256) := by omega
  simp only [h1, h2, dite_false, mul_zero, EReal.coe_zero, Finset.sum_const_zero, add_zero]

variable (q k : FVec Ideal S128x256 .f32) (v : FVec Ideal S128x512 .f32) (lv : IVec S128x128 32)
  (tab : FVec Ideal S1024x128 .bf16) (a : Vec Ideal S128x128 .f32) (w : Vec Ideal S128x256 .f32)
  (b : Vec Ideal S1x256 .f32) (S : FVec Ideal S256x512 .f32)

/-- The chunk's output rows, forwards. -/
def outF : FVec Ideal S128x512 .f32 :=
  k0_pay20 k lv (k0_pay9 tab (k0_pay7 a w b) (k0_pay8 a w b)) (k0_pay11 q) (k0_pay12 v)
    (k0_pay13 q tab (k0_pay7 a w b) (k0_pay8 a w b) S)
    (k0_pay17 k lv (k0_pay9 tab (k0_pay7 a w b) (k0_pay8 a w b)) (k0_pay11 q) (k0_pay14 q k lv) (k0_pay15 lv)
      (k0_pay16 q k tab (k0_pay7 a w b) (k0_pay8 a w b)))
    (k0_pay18 lv) (k0_pay19 k (k0_pay9 tab (k0_pay7 a w b) (k0_pay8 a w b)) (k0_pay11 q))

/-- The state after the chunk, forwards. -/
def stateF : FVec Ideal S256x512 .f32 :=
  k0_pay21 k (k0_pay10 tab (k0_pay7 a w b) (k0_pay8 a w b)) (k0_pay12 v) S

/-- The chunk's output rows, backwards. -/
def outB : FVec Ideal S128x512 .f32 :=
  k0_pay34 k lv (k0_pay27 tab (k0_pay25 a w b) (k0_pay26 a w b)) (k0_pay29 q) (k0_pay30 v)
    (k0_pay31 q tab (k0_pay25 a w b) (k0_pay26 a w b) S)
    (k0_pay33 k lv (k0_pay27 tab (k0_pay25 a w b) (k0_pay26 a w b)) (k0_pay29 q)
      (k0_pay32 q k tab lv (k0_pay25 a w b) (k0_pay26 a w b)))

/-- The state after the chunk, backwards. -/
def stateB : FVec Ideal S256x512 .f32 :=
  k0_pay35 k (k0_pay28 tab (k0_pay25 a w b) (k0_pay26 a w b)) (k0_pay30 v) S

/-- Both directions compute their output rows by the same operations. -/
theorem outB_eq : outB q k v lv tab a w b S = outF q k v lv tab a w b S := rfl

variable {q k v lv tab a w b S}
variable {qr kr : Fin 128 → Fin 256 → ℝ} {vr : Fin 128 → Fin 512 → ℝ} {T : ℕ → Fin 128 → ℝ} {z : Fin 128 → Fin 256 → ℝ}
  {Sr : Fin 256 → Fin 512 → ℝ}

theorem outF_at (hq : ∀ i d, q (ix2 i d) = (qr i d : EReal)) (hk : ∀ i d, k (ix2 i d) = (kr i d : EReal))
    (hv : ∀ i e, v (ix2 i e) = (vr i e : EReal)) (hT : ∀ r u, tab (ix2 r u) = (T r.val u : EReal))
    (hz : ∀ i d, k0_pay7 (F := Ideal) a w b (ix2 i d) = (z i d : EReal)) (hS : ∀ d e, S (ix2 d e) = (Sr d e : EReal))
    (i : Fin 128) (e : Fin 512) :
    outF q k v lv tab a w b S (ix2 i e)
      = (((∑ d, ((qr i d * (1 / 16)) * Real.exp (dec (fun l r u => T (128 * l + r.val) u) (fun u d => gate (z u d)) 0 i d)) * Sr d e)
        + ∑ j, att (fun l r u => T (128 * l + r.val) u) (fun i j => (lv (ix2 i j)).toInt) (fun i d => qr i d * (1 / 16)) kr
            (fun u d => gate (z u d)) i j * vr j e : ℝ) : EReal) := by
  have hE := ee_at tab a w b T z hT hz
  pointwise [outF, k0_pay20, k0_pay17, k0_pay18, k0_pay19, k0_pay15, k0_pay14, k0_pay12, k0_pay11, k0_pay13, k0_pay10,
    k0_pay16]
  simp only [hq, hk, hv, hS, hE, sixteenth, Ideal.exp_coe, ← EReal.coe_mul, coe_sum, sel_eq, ← EReal.coe_add]
  have i0 : (0#32).toInt = ((0 : ℕ) : ℤ) := rfl
  have i1 : (1#32).toInt = ((1 : ℕ) : ℤ) := rfl
  have i2 : (2#32).toInt = ((2 : ℕ) : ℤ) := rfl
  have i3 : (3#32).toInt = ((3 : ℕ) : ℤ) := rfl
  have i4 : (4#32).toInt = ((4 : ℕ) : ℤ) := rfl
  have i5 : (5#32).toInt = ((5 : ℕ) : ℤ) := rfl
  have i6 : (6#32).toInt = ((6 : ℕ) : ℤ) := rfl
  have i7 : (7#32).toInt = ((7 : ℕ) : ℤ) := rfl
  rw [i0, i1, i2, i3, i4, i5, i6, i7]
  simp only [att, lvl, dec, Nat.reduceMul, Nat.zero_add, Nat.cast_zero]

theorem stateF_at (hk : ∀ i d, k (ix2 i d) = (kr i d : EReal))
    (hv : ∀ i e, v (ix2 i e) = (vr i e : EReal)) (hT : ∀ r u, tab (ix2 r u) = (T r.val u : EReal))
    (hz : ∀ i d, k0_pay7 (F := Ideal) a w b (ix2 i d) = (z i d : EReal)) (hS : ∀ d e, S (ix2 d e) = (Sr d e : EReal))
    (d : Fin 256) (e : Fin 512) :
    stateF k v tab a w b S (ix2 d e)
      = ((Real.exp (dec (fun l r u => T (128 * l + r.val) u) (fun u d => gate (z u d)) 0 127 d) * Sr d e
        + ∑ j, (kr j d * Real.exp (dec (fun l r u => T (128 * l + r.val) u) (fun u d => gate (z u d)) 0 127 d
            - dec (fun l r u => T (128 * l + r.val) u) (fun u d => gate (z u d)) 0 j d)) * vr j e : ℝ) : EReal) := by
  have hE := ee_at tab a w b T z hT hz
  pointwise [stateF, k0_pay21, k0_pay12, k0_pay10]
  simp only [hk, hv, hS, hE, Ideal.exp_coe, ← EReal.coe_mul, ← EReal.coe_sub, coe_sum, ← EReal.coe_add]
  simp only [dec, Nat.reduceMul, Nat.zero_add]
  rfl

/-- The backward state reads the chunk's first row where the forward one reads its last. -/
theorem stateB_at (hk : ∀ i d, k (ix2 i d) = (kr i d : EReal))
    (hv : ∀ i e, v (ix2 i e) = (vr i e : EReal)) (hT : ∀ r u, tab (ix2 r u) = (T r.val u : EReal))
    (hz : ∀ i d, k0_pay7 (F := Ideal) a w b (ix2 i d) = (z i d : EReal)) (hS : ∀ d e, S (ix2 d e) = (Sr d e : EReal))
    (d : Fin 256) (e : Fin 512) :
    stateB k v tab a w b S (ix2 d e)
      = ((Real.exp (dec (fun l r u => T (128 * l + r.val) u) (fun u d => gate (z u d)) 0 0 d) * Sr d e
        + ∑ j, (kr j d * Real.exp (dec (fun l r u => T (128 * l + r.val) u) (fun u d => gate (z u d)) 0 0 d
            - dec (fun l r u => T (128 * l + r.val) u) (fun u d => gate (z u d)) 0 j d)) * vr j e : ℝ) : EReal) := by
  have hE : ∀ r d, k0_pay27 (F := Ideal) tab (k0_pay25 a w b) (k0_pay26 a w b) (ix2 r d) = _ := ee_at tab a w b T z hT hz
  pointwise [stateB, k0_pay35, k0_pay30, k0_pay28]
  simp only [hk, hv, hS, hE, Ideal.exp_coe, ← EReal.coe_mul, ← EReal.coe_sub, coe_sum, ← EReal.coe_add]
  simp only [dec, Nat.reduceMul, Nat.zero_add]
  rfl

end Cert.Scan

end
-- ==== Proof.TabMath.lean ====
/-
  The tables of one chunk, on natural numbers: row `128 * l + i` sums the gates from `lo` up to `hi`, and the level of two
  rows is the position of the highest bit in which they differ.
-/
module

public import proofs.«01_k».proof.Proof.ChunkMath

@[expose] public section

set_option maxRecDepth 16384

noncomputable section

namespace Cert.Scan

/-- The level at which two rows part. -/
def part (i j : ℕ) : ℕ := if i = j then 0 else Nat.log2 (i ^^^ j) + 1

/-- Half the width of a level's group of rows. -/
def half (r : ℕ) : ℕ := 2 ^ (r / 128) / 2
/-- Whether a row lies in the lower half of its group. -/
def low (r : ℕ) : Prop := r % 128 % 2 ^ (r / 128) < half r
instance (r : ℕ) : Decidable (low r) := inferInstanceAs (Decidable (_ < _))
/-- The middle of a row's group. -/
def mid (r : ℕ) : ℕ := r % 128 / 2 ^ (r / 128) * 2 ^ (r / 128) + half r

/-- The first gate a row sums, forwards. -/
def loF (r : ℕ) : ℕ := if r / 128 = 0 then 0 else if low r then r % 128 + 1 else mid r
/-- The first gate a row no longer sums, forwards. -/
def hiF (r : ℕ) : ℕ := if r / 128 = 0 then r % 128 + 1 else if low r then mid r else r % 128 + 1
/-- The first gate a row sums, backwards. -/
def loB (r : ℕ) : ℕ := if r / 128 = 0 then r % 128 else if low r then r % 128 else mid r
/-- The first gate a row no longer sums, backwards. -/
def hiB (r : ℕ) : ℕ := if r / 128 = 0 then 128 else if low r then mid r else r % 128

/-- One entry of a table. -/
def mark (lo hi u : ℕ) : ℝ := if lo ≤ u ∧ u < hi then 1 else 0

theorem partsF : ∀ i j : Fin 128, j < i → 1 ≤ part i j ∧ part i j ≤ 7 ∧ loF (128 * part i j + j) = j + 1
    ∧ hiF (128 * part i j + i) = i + 1 ∧ hiF (128 * part i j + j) = loF (128 * part i j + i)
    ∧ j + 1 ≤ loF (128 * part i j + i) ∧ loF (128 * part i j + i) ≤ i + 1 := by decide +kernel

theorem partsB : ∀ i j : Fin 128, i < j → 1 ≤ part i j ∧ part i j ≤ 7 ∧ loB (128 * part i j + i) = i
    ∧ hiB (128 * part i j + j) = j ∧ hiB (128 * part i j + i) = loB (128 * part i j + j)
    ∧ i ≤ loB (128 * part i j + j) ∧ loB (128 * part i j + j) ≤ j := by decide +kernel

theorem zerosF : ∀ i : Fin 128, loF (128 * 0 + i) = 0 ∧ hiF (128 * 0 + i) = i + 1 := by decide +kernel
theorem zerosB : ∀ i : Fin 128, loB (128 * 0 + i) = i ∧ hiB (128 * 0 + i) = 128 := by decide +kernel

theorem part_self (i : ℕ) : part i i = 0 := if_pos rfl

/-- The forward tables are such tables, with the rows in their own order. -/
theorem tablesF (lv : Fin 128 → Fin 128 → ℤ) (hlv : ∀ i j, lv i j = if j ≤ i then (part i.val j.val : ℤ) else -1) :
    Tables (fun l r u => mark (loF (128 * l + r.val)) (hiF (128 * l + r.val)) u.val) lv (fun i => i) where
  invol := fun _ => rfl
  sum i u := by
    have h := zerosF i
    show mark _ _ _ = _
    rw [mark, h.1, h.2]
    exact if_congr ⟨fun h => by have := h.2; exact Fin.le_def.mpr (by omega), fun h => by have := Fin.le_def.mp h; omega⟩ rfl rfl
  later i j h := by rw [hlv, if_neg (not_le.mpr h)]
  diag i := by rw [hlv, if_pos le_rfl, part_self]; rfl
  range i j h := by
    have p := partsF i j h
    rw [hlv, if_pos (le_of_lt h)]
    exact ⟨by exact_mod_cast p.1, by exact_mod_cast p.2.1⟩
  pair i j h l hl u := by
    have p := partsF i j h
    rw [hlv, if_pos (le_of_lt h)] at hl
    have hl : part i.val j.val = l := by exact_mod_cast hl
    rw [hl] at p
    obtain ⟨_, _, p1, p2, p3, p4, p5⟩ := p
    have zi := zerosF i
    have zj := zerosF j
    show mark _ _ _ + mark _ _ _ = mark _ _ _ - mark _ _ _
    simp only [mark]
    rw [zi.1, zi.2, zj.1, zj.2, p1, p2, p3]
    have h := Fin.lt_def.mp h
    split_ifs <;> first | omega | norm_num

/-- The backward tables are such tables, with the rows in reverse order. -/
theorem tablesB (lv : Fin 128 → Fin 128 → ℤ) (hlv : ∀ i j, lv i j = if i ≤ j then (part i.val j.val : ℤ) else -1) :
    Tables (fun l r u => mark (loB (128 * l + r.val)) (hiB (128 * l + r.val)) u.val) lv Fin.rev where
  invol := Fin.rev_rev
  sum i u := by
    have h := zerosB i
    have hu := u.isLt
    show mark _ _ _ = _
    rw [mark, h.1, h.2]
    exact if_congr ⟨fun h => by rw [Fin.rev_le_rev]; exact Fin.le_def.mpr h.1, fun h => by
      rw [Fin.rev_le_rev] at h; exact ⟨Fin.le_def.mp h, hu⟩⟩ rfl rfl
  later i j h := by rw [hlv, if_neg (not_le.mpr (Fin.rev_lt_rev.mp h))]
  diag i := by rw [hlv, if_pos le_rfl, part_self]; rfl
  range i j h := by
    have h := Fin.rev_lt_rev.mp h
    have p := partsB i j h
    rw [hlv, if_pos (le_of_lt h)]
    exact ⟨by exact_mod_cast p.1, by exact_mod_cast p.2.1⟩
  pair i j h l hl u := by
    have h := Fin.rev_lt_rev.mp h
    have p := partsB i j h
    rw [hlv, if_pos (le_of_lt h)] at hl
    have hl : part i.val j.val = l := by exact_mod_cast hl
    rw [hl] at p
    obtain ⟨_, _, p1, p2, p3, p4, p5⟩ := p
    have zi := zerosB i
    have zj := zerosB j
    have hu := u.isLt
    show mark _ _ _ + mark _ _ _ = mark _ _ _ - mark _ _ _
    simp only [mark]
    rw [zi.1, zi.2, zj.1, zj.2, p1, p2, p3]
    have h := Fin.lt_def.mp h
    split_ifs <;> first | omega | norm_num

end Cert.Scan

end
-- ==== Proof.ScanTab.lean ====
/-
  The two tables the recurrence's kernel is given: which gates a row sums, and the level at which two rows part.
-/
module

public import proofs.«01_k».proof.Proof.Gen.KernelScanIdeal.Frame
public import proofs.«01_k».proof.Proof.ChunkVal
public import proofs.«01_k».proof.Proof.TabMath
public import Idealize.ShloMosaic.Lib.StableHlo.ReadAt

@[expose] public section

set_option maxRecDepth 16384

noncomputable section

namespace Cert.Scan

open Idealize.ShloMosaic

/-- A row's level. -/
def wLev (r : BitVec 32) : BitVec 32 := IntOp.divsi .host r 128#32
/-- A row's place in the chunk. -/
def wRow (r : BitVec 32) : BitVec 32 := IntOp.remsi .host r 128#32
/-- The width of its group. -/
def wPow (r : BitVec 32) : BitVec 32 := IntOp.shli .host 1#32 (wLev r)
def wHalf (r : BitVec 32) : BitVec 32 := IntOp.divsi .host (wPow r) 2#32
def wMid (r : BitVec 32) : BitVec 32 := IntOp.addi (IntOp.muli (IntOp.divsi .host (wRow r) (wPow r)) (wPow r)) (wHalf r)
/-- Whether its level is the first. -/
def wTop (r : BitVec 32) : BitVec 1 := IntOp.cmpi .eq (wLev r) 0#32
/-- Whether it lies in the lower half of its group. -/
def wLow (r : BitVec 32) : BitVec 1 := IntOp.cmpi .slt (IntOp.remsi .host (wRow r) (wPow r)) (wHalf r)

/-- The bounds of the sums, as the words the tables are made from. -/
def wLoF (r : BitVec 32) : BitVec 32 := Scalar.select (wTop r) 0#32 (Scalar.select (wLow r) (IntOp.addi (wRow r) 1#32) (wMid r))
def wHiF (r : BitVec 32) : BitVec 32 :=
  Scalar.select (wTop r) (IntOp.addi (wRow r) 1#32) (Scalar.select (wLow r) (wMid r) (IntOp.addi (wRow r) 1#32))
def wLoB (r : BitVec 32) : BitVec 32 := Scalar.select (wTop r) (wRow r) (Scalar.select (wLow r) (wRow r) (wMid r))
def wHiB (r : BitVec 32) : BitVec 32 := Scalar.select (wTop r) 128#32 (Scalar.select (wLow r) (wMid r) (wRow r))

theorem words : ∀ r : Fin 1024, wLoF (BitVec.ofNat 32 r.val) = BitVec.ofNat 32 (loF r.val)
    ∧ wHiF (BitVec.ofNat 32 r.val) = BitVec.ofNat 32 (hiF r.val) ∧ wLoB (BitVec.ofNat 32 r.val) = BitVec.ofNat 32 (loB r.val)
    ∧ wHiB (BitVec.ofNat 32 r.val) = BitVec.ofNat 32 (hiB r.val) := by decide +kernel

theorem small : ∀ r : Fin 1024, loF r.val ≤ 128 ∧ hiF r.val ≤ 128 ∧ loB r.val ≤ 128 ∧ hiB r.val ≤ 128 := by decide +kernel

/-- One step of counting the bits of a word. -/
def wBit (x k : BitVec 32) : BitVec 32 := BitVec.setWidth 32 (IntOp.cmpi .sge x k)
/-- The position of the highest bit in which two rows differ. -/
def wLen (x : BitVec 32) : BitVec 32 :=
  IntOp.addi (IntOp.addi (IntOp.addi (IntOp.addi (IntOp.addi (IntOp.addi (IntOp.addi 0#32 (wBit x 1#32)) (wBit x 2#32)) (wBit x 4#32))
    (wBit x 8#32)) (wBit x 16#32)) (wBit x 32#32)) (wBit x 64#32)

theorem levelsF : ∀ i j : Fin 128, (Scalar.select (IntOp.cmpi .sle (BitVec.ofNat 32 j.val) (BitVec.ofNat 32 i.val))
    (wLen (IntOp.xori (BitVec.ofNat 32 i.val) (BitVec.ofNat 32 j.val))) 4294967295#32).toInt
      = if j ≤ i then (part i.val j.val : ℤ) else -1 := by decide +kernel

theorem levelsB : ∀ i j : Fin 128, (Scalar.select (IntOp.cmpi .sge (BitVec.ofNat 32 j.val) (BitVec.ofNat 32 i.val))
    (wLen (IntOp.xori (BitVec.ofNat 32 i.val) (BitVec.ofNat 32 j.val))) 4294967295#32).toInt
      = if i ≤ j then (part i.val j.val : ℤ) else -1 := by decide +kernel

theorem toInt_small (a : ℕ) (h : a ≤ 128) : (BitVec.ofNat 32 a).toInt = (a : ℤ) := by
  rw [BitVec.toInt_eq_toNat_of_lt (by rw [BitVec.toNat_ofNat]; omega), BitVec.toNat_ofNat, Nat.mod_eq_of_lt (by omega)]

/-- An entry of a table from the words of its bounds. -/
theorem mark_word (lo hi u : ℕ) (hl : lo ≤ 128) (hh : hi ≤ 128) (hu : u ≤ 128) :
    FloatOps.uitofp (F := Ideal) .f32 (IntOp.andi (IntOp.cmpi .sle (BitVec.ofNat 32 lo) (BitVec.ofNat 32 u))
      (IntOp.cmpi .slt (BitVec.ofNat 32 u) (BitVec.ofNat 32 hi))) = (mark lo hi u : EReal) := by
  have a : IntOp.cmpi .sle (BitVec.ofNat 32 lo) (BitVec.ofNat 32 u) = if lo ≤ u then 1#1 else 0#1 := by
    show BitVec.ofBool (BitVec.sle _ _) = _
    rw [BitVec.sle_eq_decide, toInt_small lo hl, toInt_small u hu]
    by_cases h : lo ≤ u
    · rw [if_pos h, decide_eq_true (by exact_mod_cast h)]; rfl
    · rw [if_neg h, decide_eq_false (by exact_mod_cast h)]; rfl
  have b : IntOp.cmpi .slt (BitVec.ofNat 32 u) (BitVec.ofNat 32 hi) = if u < hi then 1#1 else 0#1 := by
    show BitVec.ofBool (BitVec.slt _ _) = _
    rw [BitVec.slt_eq_decide, toInt_small hi hh, toInt_small u hu]
    by_cases h : u < hi
    · rw [if_pos h, decide_eq_true (by exact_mod_cast h)]; rfl
    · rw [if_neg h, decide_eq_false (by exact_mod_cast h)]; rfl
  have one : FloatOps.uitofp (F := Ideal) .f32 (1#1 : BitVec 1) = ((1 : ℝ) : EReal) := by
    show (((1#1 : BitVec 1).toNat : ℝ) : EReal) = _
    norm_num
  have zero : FloatOps.uitofp (F := Ideal) .f32 (0#1 : BitVec 1) = ((0 : ℝ) : EReal) := by
    show (((0#1 : BitVec 1).toNat : ℝ) : EReal) = _
    norm_num
  rw [a, b, mark]
  by_cases h1 : lo ≤ u <;> by_cases h2 : u < hi
  · rw [if_pos h1, if_pos h2, if_pos (And.intro h1 h2)]; exact one
  · rw [if_pos h1, if_neg h2, if_neg (fun h : lo ≤ u ∧ u < hi => h2 h.2)]; exact zero
  · rw [if_neg h1, if_pos h2, if_neg (fun h : lo ≤ u ∧ u < hi => h1 h.1)]; exact zero
  · rw [if_neg h1, if_neg h2, if_neg (fun h : lo ≤ u ∧ u < hi => h1 h.1)]; exact zero

end Cert.Scan

namespace Cert.KernelScanIdeal.Hand

open Cert.KernelScanIdeal Cert.KernelScanIdeal.Gen Cert.Scan Idealize.ShloMosaic Idealize.ShloMosaic.TcCoe Idealize.SL.Sem

variable (m : (ℓ : Loc nD τ sig) → Buf (Elt Ideal) ℓ)

/-- The forward table, entry by entry. -/
theorem tab0 (c : Dev nD) (r : Fin 1024) (u : Fin 128) : V m c main_v105 (ix3 0 r u) = (mark (loF r.val) (hiF r.val) u.val : EReal) := by
  rw [← mark_word _ _ _ (small r).1 (small r).2.1 (by omega), ← (words r).1, ← (words r).2.1]
  unfold V
  after_reads_at
  pointwise
  after_reads_at
  pointwise
  rfl

/-- The backward table, entry by entry. -/
theorem tab1 (c : Dev nD) (r : Fin 1024) (u : Fin 128) : V m c main_v105 (ix3 1 r u) = (mark (loB r.val) (hiB r.val) u.val : EReal) := by
  rw [← mark_word _ _ _ (small r).2.2.1 (small r).2.2.2 (by omega), ← (words r).2.2.1, ← (words r).2.2.2]
  unfold V
  after_reads_at
  pointwise
  after_reads_at
  pointwise
  rfl

/-- The forward levels. -/
theorem lev0 (c : Dev nD) (i j : Fin 128) : (show BitVec 32 from V m c main_v104 (ix3 0 i j)).toInt = if j ≤ i then (part i.val j.val : ℤ) else -1 := by
  rw [← levelsF i j]
  refine congrArg BitVec.toInt ?_
  unfold V
  after_reads_at
  pointwise
  rfl

/-- The backward levels. -/
theorem lev1 (c : Dev nD) (i j : Fin 128) : (show BitVec 32 from V m c main_v104 (ix3 1 i j)).toInt = if i ≤ j then (part i.val j.val : ℤ) else -1 := by
  rw [← levelsB i j]
  refine congrArg BitVec.toInt ?_
  unfold V
  after_reads_at
  pointwise
  rfl

end Cert.KernelScanIdeal.Hand

end
-- ==== Proof.ScanOuts.lean ====
/-
  What one grid point of the recurrence's kernel leaves behind: its output rows and the two states carried to the next point.
-/
module

public import proofs.«01_k».proof.Proof.Gen.KernelScanIdeal.Frame
public import proofs.«01_k».proof.Proof.ChunkVal
public import Idealize.ShloMosaic.Lib.Pipeline.ReadBack

@[expose] public section

set_option maxRecDepth 16384

noncomputable section

namespace Cert.KernelScanIdeal.Hand

open Cert.KernelScanIdeal Cert.KernelScanIdeal.Gen Cert.Scan Idealize.ShloMosaic Idealize.ShloMosaic.TcCoe Idealize.SL.Sem

/-- The forward half of the levels. -/
def lvF (X : Vec Ideal S2x128x128 .i32) : IVec S128x128 32 :=
  k0_pay6 (F := Ideal) (View.ld X (Rect.unit ![0, 0, 0] ![1, 128, 128] inb_S2x128x128_S1x128x128_0_0_0))
/-- The backward half of the levels. -/
def lvB (X : Vec Ideal S2x128x128 .i32) : IVec S128x128 32 :=
  k0_pay23 (F := Ideal) (View.ld X (Rect.unit ![1, 0, 0] ![1, 128, 128] inb_S2x128x128_S1x128x128_1_0_0))
/-- The forward half of the tables. -/
def tabF (X : Vec Ideal S2x1024x128 .bf16) : FVec Ideal S1024x128 .bf16 :=
  k0_pay5 (F := Ideal) (View.ld X (Rect.unit ![0, 0, 0] ![1, 1024, 128] inb_S2x1024x128_S1x1024x128_0_0_0))
/-- The backward half of the tables. -/
def tabB (X : Vec Ideal S2x1024x128 .bf16) : FVec Ideal S1024x128 .bf16 :=
  k0_pay22 (F := Ideal) (View.ld X (Rect.unit ![1, 0, 0] ![1, 1024, 128] inb_S2x1024x128_S1x1024x128_1_0_0))

theorem lvF_at (X : Vec Ideal S2x128x128 .i32) (i j : Fin 128) : lvF X (ix2 i j) = X (ix3 0 i j) := by
  pointwise [lvF, k0_pay6]
theorem lvB_at (X : Vec Ideal S2x128x128 .i32) (i j : Fin 128) : lvB X (ix2 i j) = X (ix3 1 i j) := by
  pointwise [lvB, k0_pay23]
theorem tabF_at (X : Vec Ideal S2x1024x128 .bf16) (i : Fin 1024) (j : Fin 128) : tabF X (ix2 i j) = X (ix3 0 i j) := by
  pointwise [tabF, k0_pay5]
theorem tabB_at (X : Vec Ideal S2x1024x128 .bf16) (i : Fin 1024) (j : Fin 128) : tabB X (ix2 i j) = X (ix3 1 i j) := by
  pointwise [tabB, k0_pay22]

/-- The states start at zero. -/
theorem zeroF (d : Fin 256) (e : Fin 512) : k0_pay3 (F := Ideal) (ix2 d e) = 0 := by
  pointwise [k0_pay3]
theorem zeroB (d : Fin 256) (e : Fin 512) : k0_pay4 (F := Ideal) (ix2 d e) = 0 := by
  pointwise [k0_pay4]
/-- A state is written back as one block. -/
theorem packF (S : Vec Ideal S256x512 .f32) (a b : Fin 1) (d : Fin 256) (e : Fin 512) : k0_pay1 (F := Ideal) S (ix4 a b d e) = S (ix2 d e) := by
  pointwise [k0_pay1]
theorem packB (S : Vec Ideal S256x512 .f32) (a b : Fin 1) (d : Fin 256) (e : Fin 512) : k0_pay2 (F := Ideal) S (ix4 a b d e) = S (ix2 d e) := by
  pointwise [k0_pay2]

variable (m : (ℓ : Loc nD τ sig) → Buf (Elt Ideal) ℓ)

/-- The forward output rows of point `t`, from the state before it. -/
def rowsF (c : Dev nD) (t : Fin cfg0.N) (S : FVec Ideal S256x512 .f32) : FVec Ideal S128x512 .f32 :=
  outF (iblk m c 0 t) (iblk m c 1 t) (iblk m c 2 t) (lvF (iblk m c 13 t)) (tabF (iblk m c 12 t)) (iblk m c 3 t) (iblk m c 8 t) (iblk m c 9 t) S
/-- The backward output rows of point `t`, from the state before it. -/
def rowsB (c : Dev nD) (t : Fin cfg0.N) (S : FVec Ideal S256x512 .f32) : FVec Ideal S128x512 .f32 :=
  outB (iblk m c 4 t) (iblk m c 5 t) (iblk m c 6 t) (lvB (iblk m c 13 t)) (tabB (iblk m c 12 t)) (iblk m c 7 t) (iblk m c 10 t) (iblk m c 11 t) S
/-- The forward state after point `t`. -/
def nextF (c : Dev nD) (t : Fin cfg0.N) (S : FVec Ideal S256x512 .f32) : FVec Ideal S256x512 .f32 :=
  stateF (iblk m c 1 t) (iblk m c 2 t) (tabF (iblk m c 12 t)) (iblk m c 3 t) (iblk m c 8 t) (iblk m c 9 t) S
/-- The backward state after point `t`. -/
def nextB (c : Dev nD) (t : Fin cfg0.N) (S : FVec Ideal S256x512 .f32) : FVec Ideal S256x512 .f32 :=
  stateB (iblk m c 5 t) (iblk m c 6 t) (tabB (iblk m c 12 t)) (iblk m c 7 t) (iblk m c 10 t) (iblk m c 11 t) S

theorem outs_A_f (c : Dev nD) (t : Fin cfg0.N) (h0 : t.val % 2 = 0) (h1 : ¬t.val % 2 = 1) :
    (outsAt0 m c t.val t.isLt).1 = rowsF m c t (k0_pay3 (F := Ideal)) := by
  rw [outsAt0_A m c t h0 h1]
  frame_out
  first | rfl | (simp only [read_unread_whole]; rfl)

theorem outs_A_b (c : Dev nD) (t : Fin cfg0.N) (h0 : t.val % 2 = 0) (h1 : ¬t.val % 2 = 1) :
    (outsAt0 m c t.val t.isLt).2.1 = rowsB m c t (k0_pay4 (F := Ideal)) := by
  rw [outsAt0_A m c t h0 h1]
  frame_out
  first | rfl | (simp only [read_unread_whole]; rfl)

theorem outs_A_sf (c : Dev nD) (t : Fin cfg0.N) (h0 : t.val % 2 = 0) (h1 : ¬t.val % 2 = 1) :
    (outsAt0 m c t.val t.isLt).2.2.2.2.1 = nextF m c t (k0_pay3 (F := Ideal)) := by
  rw [outsAt0_A m c t h0 h1]
  frame_out
  first | rfl | (simp only [read_unread_whole]; rfl)

theorem outs_A_sb (c : Dev nD) (t : Fin cfg0.N) (h0 : t.val % 2 = 0) (h1 : ¬t.val % 2 = 1) :
    (outsAt0 m c t.val t.isLt).2.2.2.2.2 = nextB m c t (k0_pay4 (F := Ideal)) := by
  rw [outsAt0_A m c t h0 h1]
  frame_out
  first | rfl | (simp only [read_unread_whole]; rfl)

theorem outs_B_f (c : Dev nD) (t : Fin cfg0.N) (h0 : ¬t.val % 2 = 0) (h1 : t.val % 2 = 1) :
    (outsAt0 m c t.val t.isLt).1 = rowsF m c t (outsAt0 m c (t.val - 1) (Nat.lt_of_le_of_lt (Nat.sub_le _ _) t.isLt)).2.2.2.2.1 := by
  rw [outsAt0_B m c t h0 h1]
  frame_out
  simp only [read_unread_whole]
  rfl

theorem outs_B_b (c : Dev nD) (t : Fin cfg0.N) (h0 : ¬t.val % 2 = 0) (h1 : t.val % 2 = 1) :
    (outsAt0 m c t.val t.isLt).2.1 = rowsB m c t (outsAt0 m c (t.val - 1) (Nat.lt_of_le_of_lt (Nat.sub_le _ _) t.isLt)).2.2.2.2.2 := by
  rw [outsAt0_B m c t h0 h1]
  frame_out
  simp only [read_unread_whole]
  rfl

theorem outs_B_sf (c : Dev nD) (t : Fin cfg0.N) (h0 : ¬t.val % 2 = 0) (h1 : t.val % 2 = 1) :
    (outsAt0 m c t.val t.isLt).2.2.1 = k0_pay1 (F := Ideal) (nextF m c t (outsAt0 m c (t.val - 1) (Nat.lt_of_le_of_lt (Nat.sub_le _ _) t.isLt)).2.2.2.2.1) := by
  rw [outsAt0_B m c t h0 h1]
  frame_out
  simp only [read_unread_whole]
  rfl

theorem outs_B_sb (c : Dev nD) (t : Fin cfg0.N) (h0 : ¬t.val % 2 = 0) (h1 : t.val % 2 = 1) :
    (outsAt0 m c t.val t.isLt).2.2.2.1 = k0_pay2 (F := Ideal) (nextB m c t (outsAt0 m c (t.val - 1) (Nat.lt_of_le_of_lt (Nat.sub_le _ _) t.isLt)).2.2.2.2.2) := by
  rw [outsAt0_B m c t h0 h1]
  frame_out
  simp only [read_unread_whole]
  rfl

end Cert.KernelScanIdeal.Hand

end
-- ==== Proof.ChunkFold.lean ====
/-
  One chunk against the recurrence: the chunk's output rows are the recurrence's outputs at its tokens, and the state it
  leaves is the recurrence's state 128 tokens later.
-/
module

public import proofs.«01_k».proof.Proof.ChunkVal
public import proofs.«01_k».proof.Proof.ChunkMath

@[expose] public section

set_option maxRecDepth 16384

noncomputable section

namespace Cert.Scan

open Cert.KernelScanIdeal Cert.KernelScanIdeal.Gen Idealize.ShloMosaic Idealize.ShloMosaic.TcCoe Idealize.SL.Sem

/-- What the operands of one chunk hold: rows `R (n0 + ρ i)` of the arrays, head `h`'s columns, one direction's gate map
padded with zeros to 128 columns, and the two tables. -/
structure Chunk (q k : FVec Ideal S128x256 .f32) (v : FVec Ideal S128x512 .f32) (lv : IVec S128x128 32)
    (tab : FVec Ideal S1024x128 .bf16) (a : Vec Ideal S128x128 .f32) (w : Vec Ideal S128x256 .f32) (b : Vec Ideal S1x256 .f32)
    (Z A W : ℕ → ℕ → ℝ) (B : ℕ → ℝ) (off : ℕ) (R : ℕ → ℕ) (h n0 : ℕ) (ρ : Fin 128 → Fin 128) (T : ℕ → Fin 128 → ℝ) : Prop where
  hq : ∀ i d, q (ix2 i d) = (Z (R (n0 + (ρ i).val)) (256 * h + d.val) : EReal)
  hk : ∀ i d, k (ix2 i d) = (Z (R (n0 + (ρ i).val)) (2048 + (256 * h + d.val)) : EReal)
  hv : ∀ i e, v (ix2 i e) = (Z (R (n0 + (ρ i).val)) (4096 + (512 * h + e.val)) : EReal)
  ha : ∀ i x, a (ix2 i x) = (A (R (n0 + (ρ i).val)) x.val : EReal)
  hw : ∀ x d, w (ix2 x d) = ((if off ≤ x.val ∧ x.val < off + 16 then W (x.val - off) (256 * h + d.val) else 0 : ℝ) : EReal)
  hb : ∀ d, b (ix2 0 d) = (B (256 * h + d.val) : EReal)
  hT : ∀ r u, tab (ix2 r u) = (T r.val u : EReal)
  tables : Tables (fun l r u => T (128 * l + r.val) u) (fun i j => (lv (ix2 i j)).toInt) ρ
  fits : off + 16 ≤ 128

/-- A sum over 128 columns of which sixteen count. -/
theorem pad_sum (off : ℕ) (fits : off + 16 ≤ 128) (f g : ℕ → ℝ) :
    ∑ x : Fin 128, f x.val * (if off ≤ x.val ∧ x.val < off + 16 then g (x.val - off) else 0)
      = ∑ x : Fin 16, f (off + x.val) * g x.val := by
  rw [Fin.sum_univ_eq_sum_range (fun x => f x * (if off ≤ x ∧ x < off + 16 then g (x - off) else 0)) 128,
    Fin.sum_univ_eq_sum_range (fun x => f (off + x) * g x) 16]
  have e : (128 : ℕ) = off + (16 + (112 - off)) := by omega
  rw [e, Finset.sum_range_add, Finset.sum_range_add]
  rw [Finset.sum_eq_zero (s := Finset.range off), Finset.sum_eq_zero (s := Finset.range (112 - off)), zero_add, add_zero]
  · refine Finset.sum_congr rfl fun x hx => ?_
    have hx := Finset.mem_range.mp hx
    rw [if_pos ⟨by omega, by omega⟩, Nat.add_sub_cancel_left]
  · intro x _
    rw [if_neg (by omega), mul_zero]
  · intro x hx
    have hx := Finset.mem_range.mp hx
    rw [if_neg (by omega), mul_zero]

variable {q k : FVec Ideal S128x256 .f32} {v : FVec Ideal S128x512 .f32} {lv : IVec S128x128 32}
  {tab : FVec Ideal S1024x128 .bf16} {a : Vec Ideal S128x128 .f32} {w : Vec Ideal S128x256 .f32} {b : Vec Ideal S1x256 .f32}
  {Z A W : ℕ → ℕ → ℝ} {B : ℕ → ℝ} {off : ℕ} {R : ℕ → ℕ} {h n0 : ℕ} {ρ : Fin 128 → Fin 128} {T : ℕ → Fin 128 → ℝ}

theorem Chunk.hz (C : Chunk q k v lv tab a w b Z A W B off R h n0 ρ T) (i : Fin 128) (d : Fin 256) :
    k0_pay7 (F := Ideal) a w b (ix2 i d) = (logit A W B off (R (n0 + (ρ i).val)) (256 * h + d.val) : EReal) := by
  rw [zz_at a w b (fun i x => A (R (n0 + (ρ i).val)) x.val)
    (fun x d => if off ≤ x.val ∧ x.val < off + 16 then W (x.val - off) (256 * h + d.val) else 0) (fun d => B (256 * h + d.val))
    C.ha C.hw C.hb i d,
    pad_sum off C.fits (fun x => A (R (n0 + (ρ i).val)) x) (fun x => W x (256 * h + d.val))]
  rfl

variable {S : FVec Ideal S256x512 .f32} {s0 : Fin 256 → Fin 512 → ℝ}

/-- The chunk's output rows. -/
theorem Chunk.out_at (C : Chunk q k v lv tab a w b Z A W B off R h n0 ρ T)
    (hS : ∀ d e, S (ix2 d e) = (state Z A W B off R (s0 d e) h d.val e.val n0 : EReal)) (i : Fin 128) (e : Fin 512) :
    outF q k v lv tab a w b S (ix2 i e) = (out Z A W B off R (fun d => s0 d e) h e.val (n0 + (ρ i).val) : EReal) := by
  rw [outF_at C.hq C.hk C.hv C.hT C.hz hS i e]
  exact congrArg _ (chunk_out C.tables (fun i d => Z (R (n0 + (ρ i).val)) (256 * h + d.val) * (1 / 16)) _ _ _ _ n0
    (fun d n => gate (logit A W B off (R n) (256 * h + d.val))) (fun d n => Z (R n) (2048 + (256 * h + d.val)))
    (fun n => Z (R n) (4096 + (512 * h + e.val))) (fun d => s0 d e)
    (fun _ _ => rfl) (fun _ _ => rfl) (fun _ => rfl) (fun _ => rfl) i)

/-- The state after a chunk whose last token is its last row. -/
theorem Chunk.next_last (C : Chunk q k v lv tab a w b Z A W B off R h n0 ρ T) (he : ρ 127 = 127)
    (hS : ∀ d e, S (ix2 d e) = (state Z A W B off R (s0 d e) h d.val e.val n0 : EReal)) (d : Fin 256) (e : Fin 512) :
    stateF k v tab a w b S (ix2 d e) = (state Z A W B off R (s0 d e) h d.val e.val (n0 + 128) : EReal) := by
  rw [stateF_at C.hk C.hv C.hT C.hz hS d e]
  exact congrArg _ (chunk_state C.tables _ _ _ _ n0
    (fun d n => gate (logit A W B off (R n) (256 * h + d.val))) (fun d n => Z (R n) (2048 + (256 * h + d.val)))
    (fun n => Z (R n) (4096 + (512 * h + e.val))) (fun d => s0 d e)
    (fun _ _ => rfl) (fun _ _ => rfl) (fun _ => rfl) (fun _ => rfl) 127 he d)

/-- The state after a chunk whose last token is its first row. -/
theorem Chunk.next_first (C : Chunk q k v lv tab a w b Z A W B off R h n0 ρ T) (he : ρ 0 = 127)
    (hS : ∀ d e, S (ix2 d e) = (state Z A W B off R (s0 d e) h d.val e.val n0 : EReal)) (d : Fin 256) (e : Fin 512) :
    stateB k v tab a w b S (ix2 d e) = (state Z A W B off R (s0 d e) h d.val e.val (n0 + 128) : EReal) := by
  rw [stateB_at C.hk C.hv C.hT C.hz hS d e]
  exact congrArg _ (chunk_state C.tables _ _ _ _ n0
    (fun d n => gate (logit A W B off (R n) (256 * h + d.val))) (fun d n => Z (R n) (2048 + (256 * h + d.val)))
    (fun n => Z (R n) (4096 + (512 * h + e.val))) (fun d => s0 d e)
    (fun _ _ => rfl) (fun _ _ => rfl) (fun _ => rfl) (fun _ => rfl) 0 he d)

end Cert.Scan

end
-- ==== Proof.ScanChunk.lean ====
/-
  The chunk of tokens the recurrence's kernel reads at one grid point, forwards and backwards.
-/
module

public import proofs.«01_k».proof.Proof.ScanArgs
public import proofs.«01_k».proof.Proof.ScanTab
public import proofs.«01_k».proof.Proof.ScanOuts
public import proofs.«01_k».proof.Proof.ChunkFold

@[expose] public section

set_option maxRecDepth 16384

noncomputable section

namespace Cert.KernelScanIdeal.Hand

open Cert.KernelScanIdeal Cert.KernelScanIdeal.Gen Cert.Scan Idealize.ShloMosaic Idealize.ShloMosaic.TcCoe Idealize.SL.Sem

variable (m : (ℓ : Loc nD τ sig) → Buf (Elt Ideal) ℓ)

/-- A head's columns of the forward gate map. -/
theorem headWF (c : Dev nD) (t : Fin cfg0.N) (x : Fin 128) (d : Fin 256) :
    (iblk m c 8 t : Vec Ideal S128x256 .f32) (ix2 x d) = V m c main_v2 (ix2 x ⟨256 * (t.val / 2 % 8) + d.val, by omega⟩) := by
  have e := idxF t
  have hX : ∀ X : Vec Ideal S128x2048 .f32, X = V m c main_v2 →
      (iblk m c 8 t : Vec Ideal S128x256 .f32) (ix2 x d) = X (ix2 x ⟨256 * (t.val / 2 % 8) + d.val, by omega⟩) := by
    intro X hX
    unfold iblk
    rw [show V m c (Pipeline.arrRef spec0 8) = X from hX.symm]
    blk_point [e]
  exact hX _ rfl

/-- A head's columns of the forward bias. -/
theorem headBF (c : Dev nD) (t : Fin cfg0.N) (d : Fin 256) :
    (iblk m c 9 t : Vec Ideal S1x256 .f32) (ix2 0 d) = V m c main_v6 (ix2 0 ⟨256 * (t.val / 2 % 8) + d.val, by omega⟩) := by
  have e := idxF t
  have hX : ∀ X : Vec Ideal S1x2048 .f32, X = V m c main_v6 →
      (iblk m c 9 t : Vec Ideal S1x256 .f32) (ix2 0 d) = X (ix2 0 ⟨256 * (t.val / 2 % 8) + d.val, by omega⟩) := by
    intro X hX
    unfold iblk
    rw [show V m c (Pipeline.arrRef spec0 9) = X from hX.symm]
    blk_point [e]
  exact hX _ rfl

/-- A head's columns of the backward gate map. -/
theorem headWB (c : Dev nD) (t : Fin cfg0.N) (x : Fin 128) (d : Fin 256) :
    (iblk m c 10 t : Vec Ideal S128x256 .f32) (ix2 x d) = V m c main_v5 (ix2 x ⟨256 * (t.val / 2 % 8) + d.val, by omega⟩) := by
  have e := idxB t
  have hX : ∀ X : Vec Ideal S128x2048 .f32, X = V m c main_v5 →
      (iblk m c 10 t : Vec Ideal S128x256 .f32) (ix2 x d) = X (ix2 x ⟨256 * (t.val / 2 % 8) + d.val, by omega⟩) := by
    intro X hX
    unfold iblk
    rw [show V m c (Pipeline.arrRef spec0 10) = X from hX.symm]
    blk_point [e]
  exact hX _ rfl

/-- A head's columns of the backward bias. -/
theorem headBB (c : Dev nD) (t : Fin cfg0.N) (d : Fin 256) :
    (iblk m c 11 t : Vec Ideal S1x256 .f32) (ix2 0 d) = V m c main_v7 (ix2 0 ⟨256 * (t.val / 2 % 8) + d.val, by omega⟩) := by
  have e := idxB t
  have hX : ∀ X : Vec Ideal S1x2048 .f32, X = V m c main_v7 →
      (iblk m c 11 t : Vec Ideal S1x256 .f32) (ix2 0 d) = X (ix2 0 ⟨256 * (t.val / 2 % 8) + d.val, by omega⟩) := by
    intro X hX
    unfold iblk
    rw [show V m c (Pipeline.arrRef spec0 11) = X from hX.symm]
    blk_point [e]
  exact hX _ rfl

variable (Z A Wf Wb : ℕ → ℕ → ℝ) (Bf Bb : ℕ → ℝ) (c : Dev nD)

/-- The forward chunk read at grid point `t`. -/
theorem chunkF (hz : ∀ i j, m ((c : Thread nD τ).loc main_arg0) (ix2 i j) = (Z i.val j.val : EReal))
    (ha : ∀ i j, m ((c : Thread nD τ).loc main_arg1) (ix2 i j) = (A i.val j.val : EReal))
    (hw : ∀ i j, m ((c : Thread nD τ).loc main_arg2) (ix2 i j) = (Wf i.val j.val : EReal))
    (hb : ∀ i, m ((c : Thread nD τ).loc main_arg3) (ix1 i) = (Bf i.val : EReal)) (t : Fin cfg0.N) :
    Chunk (iblk m c 0 t) (iblk m c 1 t) (iblk m c 2 t) (lvF (iblk m c 13 t)) (tabF (iblk m c 12 t)) (iblk m c 3 t)
      (iblk m c 8 t) (iblk m c 9 t) Z A Wf Bf 0 (fun n => 0 + (t.val / 16 * 256 + n)) (t.val / 2 % 8) (128 * (t.val % 2)) (fun i => i)
      (fun r u => mark (loF r) (hiF r) u.val) where
  hq i d := by
    have e := idxF t
    have ht : t.val < 512 := t.isLt
    refine Eq.trans ?_ ((congrFun (V_main_arg0 m c) _).trans ((hz ⟨t.val / 16 * 256 + (128 * (t.val % 2) + i.val), by omega⟩ ⟨256 * (t.val / 2 % 8) + d.val, by omega⟩).trans ?_))
    · unfold iblk
      change _ = V m c (Pipeline.arrRef spec0 0) (ix2 _ _)
      generalize V m c (Pipeline.arrRef spec0 0) = X
      blk_point [e]
    · simp only [zero_add]
  hk i d := by
    have e := idxF t
    have ht : t.val < 512 := t.isLt
    refine Eq.trans ?_ ((congrFun (V_main_arg0 m c) _).trans ((hz ⟨t.val / 16 * 256 + (128 * (t.val % 2) + i.val), by omega⟩ ⟨2048 + (256 * (t.val / 2 % 8) + d.val), by omega⟩).trans ?_))
    · unfold iblk
      change _ = V m c (Pipeline.arrRef spec0 1) (ix2 _ _)
      generalize V m c (Pipeline.arrRef spec0 1) = X
      blk_point [e]
    · simp only [zero_add]
  hv i d := by
    have e := idxF t
    have ht : t.val < 512 := t.isLt
    refine Eq.trans ?_ ((congrFun (V_main_arg0 m c) _).trans ((hz ⟨t.val / 16 * 256 + (128 * (t.val % 2) + i.val), by omega⟩ ⟨4096 + (512 * (t.val / 2 % 8) + d.val), by omega⟩).trans ?_))
    · unfold iblk
      change _ = V m c (Pipeline.arrRef spec0 2) (ix2 _ _)
      generalize V m c (Pipeline.arrRef spec0 2) = X
      blk_point [e]
    · simp only [zero_add]
  ha i d := by
    have e := idxF t
    have ht : t.val < 512 := t.isLt
    refine Eq.trans ?_ ((congrFun (V_main_arg1 m c) _).trans ((ha ⟨t.val / 16 * 256 + (128 * (t.val % 2) + i.val), by omega⟩ d).trans ?_))
    · unfold iblk
      change _ = V m c (Pipeline.arrRef spec0 3) (ix2 _ _)
      generalize V m c (Pipeline.arrRef spec0 3) = X
      blk_point [e]
    · simp only [zero_add]
  hw x d := by
    have e := idxF t
    refine Eq.trans ?_ ((mapF m c x ⟨256 * (t.val / 2 % 8) + d.val, by omega⟩).trans ?_)
    · exact headWF m c t x d
    · by_cases h : 0 ≤ x.val ∧ x.val < 0 + 16
      · rw [dif_pos h, if_pos h]; exact hw _ _
      · rw [dif_neg h, if_neg h]; rfl
  hb d := by
    have e := idxF t
    refine Eq.trans ?_ ((biasF m c ⟨256 * (t.val / 2 % 8) + d.val, by omega⟩).trans (hb _))
    exact headBF m c t d
  hT r u := by
    have e := idxO t
    refine (tabF_at _ r u).trans (Eq.trans ?_ (tab0 m c r u))
    unfold iblk
    change _ = V m c (Pipeline.arrRef spec0 12) (ix3 0 r u)
    generalize V m c (Pipeline.arrRef spec0 12) = X
    blk_point [e]
  tables := tablesF _ fun i j => by
    have e := idxO t
    refine (congrArg BitVec.toInt ((lvF_at _ i j).trans ?_)).trans (lev0 m c i j)
    unfold iblk
    change _ = V m c (Pipeline.arrRef spec0 13) (ix3 0 i j)
    generalize V m c (Pipeline.arrRef spec0 13) = X
    blk_point [e]
  fits := by omega

/-- The backward chunk read at grid point `t`. -/
theorem chunkB (hz : ∀ i j, m ((c : Thread nD τ).loc main_arg0) (ix2 i j) = (Z i.val j.val : EReal))
    (ha : ∀ i j, m ((c : Thread nD τ).loc main_arg1) (ix2 i j) = (A i.val j.val : EReal))
    (hw : ∀ i j, m ((c : Thread nD τ).loc main_arg4) (ix2 i j) = (Wb i.val j.val : EReal))
    (hb : ∀ i, m ((c : Thread nD τ).loc main_arg5) (ix1 i) = (Bb i.val : EReal)) (t : Fin cfg0.N) :
    Chunk (iblk m c 4 t) (iblk m c 5 t) (iblk m c 6 t) (lvB (iblk m c 13 t)) (tabB (iblk m c 12 t)) (iblk m c 7 t)
      (iblk m c 10 t) (iblk m c 11 t) Z A Wb Bb 16 (fun n => 0 + (t.val / 16 * 256 + (255 - n))) (t.val / 2 % 8) (128 * (t.val % 2)) Fin.rev
      (fun r u => mark (loB r) (hiB r) u.val) where
  hq i d := by
    have e := idxB t
    have ht : t.val < 512 := t.isLt
    refine Eq.trans ?_ ((congrFun (V_main_arg0 m c) _).trans ((hz ⟨t.val / 16 * 256 + (128 * (1 - t.val % 2) + i.val), by omega⟩ ⟨256 * (t.val / 2 % 8) + d.val, by omega⟩).trans ?_))
    · unfold iblk
      change _ = V m c (Pipeline.arrRef spec0 4) (ix2 _ _)
      generalize V m c (Pipeline.arrRef spec0 4) = X
      blk_point [e]
    · rw [Fin.val_rev, show 0 + (t.val / 16 * 256 + (255 - (128 * (t.val % 2) + (128 - (i.val + 1))))) = t.val / 16 * 256 + (128 * (1 - t.val % 2) + i.val) by omega]
  hk i d := by
    have e := idxB t
    have ht : t.val < 512 := t.isLt
    refine Eq.trans ?_ ((congrFun (V_main_arg0 m c) _).trans ((hz ⟨t.val / 16 * 256 + (128 * (1 - t.val % 2) + i.val), by omega⟩ ⟨2048 + (256 * (t.val / 2 % 8) + d.val), by omega⟩).trans ?_))
    · unfold iblk
      change _ = V m c (Pipeline.arrRef spec0 5) (ix2 _ _)
      generalize V m c (Pipeline.arrRef spec0 5) = X
      blk_point [e]
    · rw [Fin.val_rev, show 0 + (t.val / 16 * 256 + (255 - (128 * (t.val % 2) + (128 - (i.val + 1))))) = t.val / 16 * 256 + (128 * (1 - t.val % 2) + i.val) by omega]
  hv i d := by
    have e := idxB t
    have ht : t.val < 512 := t.isLt
    refine Eq.trans ?_ ((congrFun (V_main_arg0 m c) _).trans ((hz ⟨t.val / 16 * 256 + (128 * (1 - t.val % 2) + i.val), by omega⟩ ⟨4096 + (512 * (t.val / 2 % 8) + d.val), by omega⟩).trans ?_))
    · unfold iblk
      change _ = V m c (Pipeline.arrRef spec0 6) (ix2 _ _)
      generalize V m c (Pipeline.arrRef spec0 6) = X
      blk_point [e]
    · rw [Fin.val_rev, show 0 + (t.val / 16 * 256 + (255 - (128 * (t.val % 2) + (128 - (i.val + 1))))) = t.val / 16 * 256 + (128 * (1 - t.val % 2) + i.val) by omega]
  ha i d := by
    have e := idxB t
    have ht : t.val < 512 := t.isLt
    refine Eq.trans ?_ ((congrFun (V_main_arg1 m c) _).trans ((ha ⟨t.val / 16 * 256 + (128 * (1 - t.val % 2) + i.val), by omega⟩ d).trans ?_))
    · unfold iblk
      change _ = V m c (Pipeline.arrRef spec0 7) (ix2 _ _)
      generalize V m c (Pipeline.arrRef spec0 7) = X
      blk_point [e]
    · rw [Fin.val_rev, show 0 + (t.val / 16 * 256 + (255 - (128 * (t.val % 2) + (128 - (i.val + 1))))) = t.val / 16 * 256 + (128 * (1 - t.val % 2) + i.val) by omega]
  hw x d := by
    have e := idxB t
    refine Eq.trans ?_ ((mapB m c x ⟨256 * (t.val / 2 % 8) + d.val, by omega⟩).trans ?_)
    · exact headWB m c t x d
    · by_cases h : 16 ≤ x.val ∧ x.val < 16 + 16
      · rw [dif_pos h, if_pos h]; exact hw _ _
      · rw [dif_neg h, if_neg h]; rfl
  hb d := by
    have e := idxB t
    refine Eq.trans ?_ ((biasB m c ⟨256 * (t.val / 2 % 8) + d.val, by omega⟩).trans (hb _))
    exact headBB m c t d
  hT r u := by
    have e := idxO t
    refine (tabB_at _ r u).trans (Eq.trans ?_ (tab1 m c r u))
    unfold iblk
    change _ = V m c (Pipeline.arrRef spec0 12) (ix3 1 r u)
    generalize V m c (Pipeline.arrRef spec0 12) = X
    blk_point [e]
  tables := tablesB _ fun i j => by
    have e := idxO t
    refine (congrArg BitVec.toInt ((lvB_at _ i j).trans ?_)).trans (lev1 m c i j)
    unfold iblk
    change _ = V m c (Pipeline.arrRef spec0 13) (ix3 1 i j)
    generalize V m c (Pipeline.arrRef spec0 13) = X
    blk_point [e]
  fits := by omega

end Cert.KernelScanIdeal.Hand

end
-- ==== Proof.Scan.lean ====
/-
  The recurrence's kernel over its grid: both chunks of every sequence and head, and the arrays it leaves.
-/
module

public import proofs.«01_k».proof.Proof.ScanChunk

@[expose] public section

set_option maxRecDepth 16384

noncomputable section

namespace Cert.KernelScanIdeal.Hand

open Cert.KernelScanIdeal Cert.KernelScanIdeal.Gen Cert.Scan Idealize.ShloMosaic Idealize.ShloMosaic.TcCoe Idealize.SL.Sem

/-- Equal sequences and positions give equal outputs. -/
theorem out_congr {Z A W : ℕ → ℕ → ℝ} {B : ℕ → ℝ} {off : ℕ} {R R' : ℕ → ℕ} {s : Fin 256 → ℝ} {h h' e e' n n' : ℕ}
    (hR : ∀ n, R n = R' n) (hh : h = h') (he : e = e') (hn : n = n') :
    ((out Z A W B off R s h e n : ℝ) : EReal) = ((out Z A W B off R' s h' e' n' : ℝ) : EReal) := by
  rw [funext hR, hh, he, hn]

/-- Equal sequences and positions give equal states. -/
theorem state_congr {Z A W : ℕ → ℕ → ℝ} {B : ℕ → ℝ} {off : ℕ} {R R' : ℕ → ℕ} {s : ℝ} {h h' d d' e e' : ℕ} {n : ℕ}
    (hR : ∀ n, R n = R' n) (hh : h = h') (hd : d = d') (he : e = e') :
    ((state Z A W B off R s h d e n : ℝ) : EReal) = ((state Z A W B off R' s h' d' e' n : ℝ) : EReal) := by
  rw [funext hR, hh, hd, he]

variable (m : (ℓ : Loc nD τ sig) → Buf (Elt Ideal) ℓ) (Z A Wf Wb : ℕ → ℕ → ℝ) (Bf Bb : ℕ → ℝ) (c : Dev nD)
  (hz : ∀ i j, m ((c : Thread nD τ).loc main_arg0) (ix2 i j) = (Z i.val j.val : EReal))
  (ha : ∀ i j, m ((c : Thread nD τ).loc main_arg1) (ix2 i j) = (A i.val j.val : EReal))
  (hwf : ∀ i j, m ((c : Thread nD τ).loc main_arg2) (ix2 i j) = (Wf i.val j.val : EReal))
  (hbf : ∀ i, m ((c : Thread nD τ).loc main_arg3) (ix1 i) = (Bf i.val : EReal))
  (hwb : ∀ i j, m ((c : Thread nD τ).loc main_arg4) (ix2 i j) = (Wb i.val j.val : EReal))
  (hbb : ∀ i, m ((c : Thread nD τ).loc main_arg5) (ix1 i) = (Bb i.val : EReal))

section forward
include hz ha hwf hbf

/-- The forward state after a sequence's first chunk. -/
theorem first_f (t : Fin cfg0.N) (h0 : t.val % 2 = 0) (d : Fin 256) (e : Fin 512) :
    (outsAt0 m c t.val t.isLt).2.2.2.2.1 (ix2 d e)
      = (state Z A Wf Bf 0 (fun n => 0 + (t.val / 16 * 256 + n)) 0 (t.val / 2 % 8) d.val e.val 128 : EReal) := by
  rw [outs_A_sf m c t h0 (by omega)]
  have C := chunkF m Z A Wf Bf c hz ha hwf hbf t
  rw [h0] at C
  exact C.next_last (s0 := fun _ _ => 0) rfl (fun d e => zeroF d e) d e

/-- The forward output rows of every point. -/
theorem rows_f (t : Fin cfg0.N) (i : Fin 128) (e : Fin 512) :
    (outsAt0 m c t.val t.isLt).1 (ix2 i e)
      = (out Z A Wf Bf 0 (fun n => 0 + (t.val / 16 * 256 + n)) (fun _ => 0) (t.val / 2 % 8) e.val (128 * (t.val % 2) + i.val) : EReal) := by
  have C := chunkF m Z A Wf Bf c hz ha hwf hbf t
  by_cases h0 : t.val % 2 = 0
  · rw [outs_A_f m c t h0 (by omega)]
    rw [h0] at C ⊢
    exact C.out_at (s0 := fun _ _ => 0) (fun d e => zeroF d e) i e
  · have h1 : t.val % 2 = 1 := by omega
    rw [outs_B_f m c t h0 h1]
    rw [h1] at C ⊢
    refine C.out_at (s0 := fun _ _ => 0) (fun d e => ?_) i e
    have H := first_f m Z A Wf Bf c hz ha hwf hbf ⟨t.val - 1, Nat.lt_of_le_of_lt (Nat.sub_le _ _) t.isLt⟩ (by show (t.val - 1) % 2 = 0; omega) d e
    rw [show (⟨t.val - 1, Nat.lt_of_le_of_lt (Nat.sub_le _ _) t.isLt⟩ : Fin cfg0.N).val / 16 = t.val / 16 by show (t.val - 1) / 16 = _; omega,
      show (⟨t.val - 1, Nat.lt_of_le_of_lt (Nat.sub_le _ _) t.isLt⟩ : Fin cfg0.N).val / 2 % 8 = t.val / 2 % 8 by show (t.val - 1) / 2 % 8 = _; omega] at H
    exact H

/-- The forward state a sequence ends with. -/
theorem last_f (t : Fin cfg0.N) (h1 : t.val % 2 = 1) (a b : Fin 1) (d : Fin 256) (e : Fin 512) :
    (outsAt0 m c t.val t.isLt).2.2.1 (ix4 a b d e)
      = (state Z A Wf Bf 0 (fun n => 0 + (t.val / 16 * 256 + n)) 0 (t.val / 2 % 8) d.val e.val 256 : EReal) := by
  have C := chunkF m Z A Wf Bf c hz ha hwf hbf t
  rw [outs_B_sf m c t (by omega) h1, packF]
  rw [h1] at C
  refine C.next_last (s0 := fun _ _ => 0) rfl (fun d e => ?_) d e
  have H := first_f m Z A Wf Bf c hz ha hwf hbf ⟨t.val - 1, Nat.lt_of_le_of_lt (Nat.sub_le _ _) t.isLt⟩ (by show (t.val - 1) % 2 = 0; omega) d e
  rw [show (⟨t.val - 1, Nat.lt_of_le_of_lt (Nat.sub_le _ _) t.isLt⟩ : Fin cfg0.N).val / 16 = t.val / 16 by show (t.val - 1) / 16 = _; omega,
    show (⟨t.val - 1, Nat.lt_of_le_of_lt (Nat.sub_le _ _) t.isLt⟩ : Fin cfg0.N).val / 2 % 8 = t.val / 2 % 8 by show (t.val - 1) / 2 % 8 = _; omega] at H
  exact H

/-- The forward outputs' array after the launch, on the sequences' rows. -/
theorem final_f : (dats m 0 c).arrAt 14 (cfgs 0).N
    = fun i : S24576x4096.Idx => if (i 0 : ℕ) < 8192 then ((out Z A Wf Bf 0 (fun n => 0 + ((i 0 : ℕ) / 256 * 256 + n)) (fun _ => 0) ((i 1 : ℕ) / 512) ((i 1 : ℕ) % 512) ((i 0 : ℕ) % 256) : ℝ) : EReal)
      else V m c main_v106_0 i := by
  refine (dats m 0 c).arrAt_eq_of_coversWhere 14 _ (fun β => β 0 < 64) (by decide +kernel) (fun t hf y => ?_)
    (fun j => by blk_simp [Pipeline.Window.cell_apply]; omega)
  have e := idxO t
  have ht : t.val < 512 := t.isLt
  have y0 : (y 0).val < 128 := (y 0).isLt
  have y1 : (y 1).val < 512 := (y 1).isLt
  have i0 : win0_14.index t 0 = t.val / 16 * 2 + t.val % 2 := congrFun e.1 0
  have i1 : win0_14.index t 1 = t.val / 2 % 8 := congrFun e.1 1
  blk_simp
  rw [after0_14]
  refine (congrArg _ (by blk_point [])).trans ((rows_f m Z A Wf Bf c hz ha hwf hbf t (y 0) (y 1)).trans ?_)
  refine out_congr (fun n => ?_) ?_ ?_ ?_ <;> beta_reduce <;> omega

/-- The forward states' array after the launch. -/
theorem final_sf : (dats m 0 c).arrAt 16 (cfgs 0).N
    = fun i : S32x8x256x512.Idx => ((state Z A Wf Bf 0 (fun n => 0 + ((i 0 : ℕ) * 256 + n)) 0 (i 1 : ℕ) (i 2 : ℕ) (i 3 : ℕ) 256 : ℝ) : EReal) := by
  refine (dats m 0 c).arrAt_eq_of_covers 16 _ (by decide +kernel) fun t hf y => ?_
  have h1 := (flush0_16 t).mp hf
  have e := idxO t
  have ht : t.val < 512 := t.isLt
  have q0 : (y 0).val = 0 := by have : (y 0).val < 1 := (y 0).isLt; omega
  have q1 : (y 1).val = 0 := by have : (y 1).val < 1 := (y 1).isLt; omega
  have i0 : win0_16.index t 0 = t.val / 16 := congrFun e.2.2.1 0
  have i1 : win0_16.index t 1 = t.val / 2 % 8 := congrFun e.2.2.1 1
  have i2 : win0_16.index t 2 = 0 := congrFun e.2.2.1 2
  have i3 : win0_16.index t 3 = 0 := congrFun e.2.2.1 3
  blk_simp
  rw [after0_16]
  refine (congrArg _ (by blk_point [])).trans ((last_f m Z A Wf Bf c hz ha hwf hbf t h1 (y 0) (y 1) (y 2) (y 3)).trans ?_)
  refine state_congr (fun n => ?_) ?_ ?_ ?_ <;> beta_reduce <;> omega

end forward

section backward
include hz ha hwb hbb

/-- The backward state after a sequence's first chunk. -/
theorem first_b (t : Fin cfg0.N) (h0 : t.val % 2 = 0) (d : Fin 256) (e : Fin 512) :
    (outsAt0 m c t.val t.isLt).2.2.2.2.2 (ix2 d e)
      = (state Z A Wb Bb 16 (fun n => 0 + (t.val / 16 * 256 + (255 - n))) 0 (t.val / 2 % 8) d.val e.val 128 : EReal) := by
  rw [outs_A_sb m c t h0 (by omega)]
  have C := chunkB m Z A Wb Bb c hz ha hwb hbb t
  rw [h0] at C
  exact C.next_first (s0 := fun _ _ => 0) rfl (fun d e => zeroB d e) d e

/-- The backward output rows of every point. -/
theorem rows_b (t : Fin cfg0.N) (i : Fin 128) (e : Fin 512) :
    (outsAt0 m c t.val t.isLt).2.1 (ix2 i e)
      = (out Z A Wb Bb 16 (fun n => 0 + (t.val / 16 * 256 + (255 - n))) (fun _ => 0) (t.val / 2 % 8) e.val (128 * (t.val % 2) + (Fin.rev i).val) : EReal) := by
  have C := chunkB m Z A Wb Bb c hz ha hwb hbb t
  by_cases h0 : t.val % 2 = 0
  · rw [outs_A_b m c t h0 (by omega)]
    rw [h0] at C ⊢
    exact C.out_at (s0 := fun _ _ => 0) (fun d e => zeroB d e) i e
  · have h1 : t.val % 2 = 1 := by omega
    rw [outs_B_b m c t h0 h1]
    rw [h1] at C ⊢
    refine C.out_at (s0 := fun _ _ => 0) (fun d e => ?_) i e
    have H := first_b m Z A Wb Bb c hz ha hwb hbb ⟨t.val - 1, Nat.lt_of_le_of_lt (Nat.sub_le _ _) t.isLt⟩ (by show (t.val - 1) % 2 = 0; omega) d e
    rw [show (⟨t.val - 1, Nat.lt_of_le_of_lt (Nat.sub_le _ _) t.isLt⟩ : Fin cfg0.N).val / 16 = t.val / 16 by show (t.val - 1) / 16 = _; omega,
      show (⟨t.val - 1, Nat.lt_of_le_of_lt (Nat.sub_le _ _) t.isLt⟩ : Fin cfg0.N).val / 2 % 8 = t.val / 2 % 8 by show (t.val - 1) / 2 % 8 = _; omega] at H
    exact H

/-- The backward output rows, counted from the chunk's end. -/
theorem rows_b' (t : Fin cfg0.N) (i : Fin 128) (e : Fin 512) :
    (outsAt0 m c t.val t.isLt).2.1 (ix2 i e)
      = (out Z A Wb Bb 16 (fun n => 0 + (t.val / 16 * 256 + (255 - n))) (fun _ => 0) (t.val / 2 % 8) e.val (128 * (t.val % 2) + (127 - i.val)) : EReal) := by
  have H := rows_b m Z A Wb Bb c hz ha hwb hbb t i e
  rw [Fin.val_rev, show 128 - (i.val + 1) = 127 - i.val by omega] at H
  exact H

/-- The backward state a sequence ends with. -/
theorem last_b (t : Fin cfg0.N) (h1 : t.val % 2 = 1) (a b : Fin 1) (d : Fin 256) (e : Fin 512) :
    (outsAt0 m c t.val t.isLt).2.2.2.1 (ix4 a b d e)
      = (state Z A Wb Bb 16 (fun n => 0 + (t.val / 16 * 256 + (255 - n))) 0 (t.val / 2 % 8) d.val e.val 256 : EReal) := by
  have C := chunkB m Z A Wb Bb c hz ha hwb hbb t
  rw [outs_B_sb m c t (by omega) h1, packB]
  rw [h1] at C
  refine C.next_first (s0 := fun _ _ => 0) rfl (fun d e => ?_) d e
  have H := first_b m Z A Wb Bb c hz ha hwb hbb ⟨t.val - 1, Nat.lt_of_le_of_lt (Nat.sub_le _ _) t.isLt⟩ (by show (t.val - 1) % 2 = 0; omega) d e
  rw [show (⟨t.val - 1, Nat.lt_of_le_of_lt (Nat.sub_le _ _) t.isLt⟩ : Fin cfg0.N).val / 16 = t.val / 16 by show (t.val - 1) / 16 = _; omega,
    show (⟨t.val - 1, Nat.lt_of_le_of_lt (Nat.sub_le _ _) t.isLt⟩ : Fin cfg0.N).val / 2 % 8 = t.val / 2 % 8 by show (t.val - 1) / 2 % 8 = _; omega] at H
  exact H

/-- The backward outputs' array after the launch, on the sequences' rows. -/
theorem final_b : (dats m 0 c).arrAt 15 (cfgs 0).N
    = fun i : S24576x4096.Idx => if (i 0 : ℕ) < 8192 then ((out Z A Wb Bb 16 (fun n => 0 + ((i 0 : ℕ) / 256 * 256 + (255 - n))) (fun _ => 0) ((i 1 : ℕ) / 512) ((i 1 : ℕ) % 512) (255 - (i 0 : ℕ) % 256) : ℝ) : EReal)
      else V m c main_v106_1 i := by
  refine (dats m 0 c).arrAt_eq_of_coversWhere 15 _ (fun β => β 0 < 64) (by decide +kernel) (fun t hf y => ?_)
    (fun j => by blk_simp [Pipeline.Window.cell_apply]; omega)
  have e := idxO t
  have ht : t.val < 512 := t.isLt
  have y0 : (y 0).val < 128 := (y 0).isLt
  have y1 : (y 1).val < 512 := (y 1).isLt
  have i0 : win0_15.index t 0 = t.val / 16 * 2 + (1 - t.val % 2) := congrFun e.2.1 0
  have i1 : win0_15.index t 1 = t.val / 2 % 8 := congrFun e.2.1 1
  blk_simp
  rw [after0_15]
  refine (congrArg _ (by blk_point [])).trans ((rows_b' m Z A Wb Bb c hz ha hwb hbb t (y 0) (y 1)).trans ?_)
  refine out_congr (fun n => ?_) ?_ ?_ ?_ <;> beta_reduce <;> omega

/-- The backward states' array after the launch. -/
theorem final_sb : (dats m 0 c).arrAt 17 (cfgs 0).N
    = fun i : S32x8x256x512.Idx => ((state Z A Wb Bb 16 (fun n => 0 + ((i 0 : ℕ) * 256 + (255 - n))) 0 (i 1 : ℕ) (i 2 : ℕ) (i 3 : ℕ) 256 : ℝ) : EReal) := by
  refine (dats m 0 c).arrAt_eq_of_covers 17 _ (by decide +kernel) fun t hf y => ?_
  have h1 := (flush0_17 t).mp hf
  have e := idxO t
  have ht : t.val < 512 := t.isLt
  have q0 : (y 0).val = 0 := by have : (y 0).val < 1 := (y 0).isLt; omega
  have q1 : (y 1).val = 0 := by have : (y 1).val < 1 := (y 1).isLt; omega
  have i0 : win0_17.index t 0 = t.val / 16 := congrFun e.2.2.2.1 0
  have i1 : win0_17.index t 1 = t.val / 2 % 8 := congrFun e.2.2.2.1 1
  have i2 : win0_17.index t 2 = 0 := congrFun e.2.2.2.1 2
  have i3 : win0_17.index t 3 = 0 := congrFun e.2.2.2.1 3
  blk_simp
  rw [after0_17]
  refine (congrArg _ (by blk_point [])).trans ((last_b m Z A Wb Bb c hz ha hwb hbb t h1 (y 0) (y 1) (y 2) (y 3)).trans ?_)
  refine state_congr (fun n => ?_) ?_ ?_ ?_ <;> beta_reduce <;> omega

end backward

end Cert.KernelScanIdeal.Hand

end
-- ==== Proof.Finite.lean ====
/-
  The precondition read: arrays whose magnitudes all lie below infinity hold real numbers.
-/
module

public import proofs.«01_k».proof.Pre_finite
public import Idealize.ShloMosaic.Lib.ReduceAll
public import Idealize.ShloMosaic.Lib.Pointwise

@[expose] public section

set_option maxRecDepth 16384

noncomputable section

namespace Cert.Scan

open Idealize.ShloMosaic

/-- A number of magnitude below infinity is real. -/
theorem real_of_lt (x : EReal) (h : FloatOps.cmpf (F := Ideal) (φ := .f32) .olt (FloatOps.absf (F := Ideal) (φ := .f32) x) (FloatOps.ofBits (F := Ideal) .f32 0x7F800000#32) = 1#1) :
    ∃ r : ℝ, x = (r : EReal) := by
  have top : FloatOps.ofBits (F := Ideal) .f32 0x7F800000#32 = (⊤ : EReal) := by
    show Ideal.ofBits .f32 0x7F800000#32 = ⊤
    simp [Ideal.ofBits, Ideal.ieee]
  rw [top] at h
  change Ideal.cmp .olt (max x (-x)) ⊤ = 1#1 at h
  have h : max x (-x) < ⊤ := by
    by_contra hn
    simp [Ideal.cmp, hn] at h
  refine ⟨x.toReal, (EReal.coe_toReal (fun e => ?_) (fun e => ?_)).symm⟩
  · rw [e] at h; simp at h
  · rw [e] at h; simp at h

open Cert.Pre_finite

instance : Subsingleton S_.Idx := ⟨fun a b => funext fun i => i.elim0⟩

/-- Every element of an array the test passes is real. -/
theorem reals_of {S : Shape} {axes : List (Fin S.rank)} (x : FVec Ideal S .f32) (hb : S_.BroadcastsInDim S (![] : Fin 0 → Fin S.rank))
    (hr : S.ReducesTo axes S_) (hu : 0 < S_.numel)
    (e : Host.reduce IntOp.andi (cmpf .olt (Host.absf x) (broadcastInDim S ![] hb (constant (F := Ideal) S_ .f32 0x7F800000#32)))
      (constantI S_ 1 1#1) hr hu ix0 = 1#1) (i : S.Idx) : ∃ r : ℝ, x i = (r : EReal) :=
  real_of_lt (x i) (Host.reduce_andi_all _ _ _ _ ix0 e i)

theorem and_left {a b : BitVec 1} (h : IntOp.andi a b = 1#1) : a = 1#1 := by
  revert h; revert a b; decide
theorem and_right {a b : BitVec 1} (h : IntOp.andi a b = 1#1) : b = 1#1 := by
  revert h; revert a b; decide

/-- A matrix of reals, by row and column. -/
theorem table {p q : ℕ} (x : FVec Ideal ⟨2, ![p, q]⟩ .f32) (h : ∀ i, ∃ r : ℝ, x i = (r : EReal)) :
    ∃ X : ℕ → ℕ → ℝ, ∀ (i : Fin p) (j : Fin q), x (ix2 i j) = (X i.val j.val : EReal) :=
  ⟨fun i j => if h' : i < p ∧ j < q then (h (ix2 ⟨i, h'.1⟩ ⟨j, h'.2⟩)).choose else 0,
    fun i j => by beta_reduce; rw [dif_pos ⟨i.isLt, j.isLt⟩]; exact (h (ix2 i j)).choose_spec⟩

/-- A vector of reals, by position. -/
theorem line {p : ℕ} (x : FVec Ideal ⟨1, ![p]⟩ .f32) (h : ∀ i, ∃ r : ℝ, x i = (r : EReal)) :
    ∃ X : ℕ → ℝ, ∀ (i : Fin p), x (ix1 i) = (X i.val : EReal) :=
  ⟨fun i => if h' : i < p then (h (ix1 ⟨i, h'⟩)).choose else 0,
    fun i => by beta_reduce; rw [dif_pos i.isLt]; exact (h (ix1 i)).choose_spec⟩

/-- Under the precondition the six arrays are tables of reals. -/
theorem reals [Cert.Pre_finite.Facts] (z : FVec Ideal S24576x12288 .f32) (a : FVec Ideal S24576x128 .f32) (wf : FVec Ideal S16x2048 .f32)
    (bf : FVec Ideal S2048 .f32) (wb : FVec Ideal S16x2048 .f32) (bb : FVec Ideal S2048 .f32)
    (H : Cert.Pre_finite.fn (F := Ideal) z a wf bf wb bb = fun _ => 1#1) :
    ∃ (Z A Wf Wb : ℕ → ℕ → ℝ) (Bf Bb : ℕ → ℝ), (∀ i j, z (ix2 i j) = (Z i.val j.val : EReal)) ∧ (∀ i j, a (ix2 i j) = (A i.val j.val : EReal))
      ∧ (∀ i j, wf (ix2 i j) = (Wf i.val j.val : EReal)) ∧ (∀ i, bf (ix1 i) = (Bf i.val : EReal))
      ∧ (∀ i j, wb (ix2 i j) = (Wb i.val j.val : EReal)) ∧ (∀ i, bb (ix1 i) = (Bb i.val : EReal)) := by
  have h := congrFun H ix0
  have h5 := and_left h
  have h4 := and_left h5
  have h3 := and_left h4
  have h2 := and_left h3
  obtain ⟨Z, hZ⟩ := table z (reals_of z _ _ _ (and_right (and_left h2)))
  obtain ⟨A, hA⟩ := table a (reals_of a _ _ _ (and_right h2))
  obtain ⟨Wf, hWf⟩ := table wf (reals_of wf _ _ _ (and_right h3))
  obtain ⟨Bf, hBf⟩ := line bf (reals_of bf _ _ _ (and_right h4))
  obtain ⟨Wb, hWb⟩ := table wb (reals_of wb _ _ _ (and_right h5))
  obtain ⟨Bb, hBb⟩ := line bb (reals_of bb _ _ _ (and_right h))
  exact ⟨Z, A, Wf, Wb, Bf, Bb, hZ, hA, hWf, hBf, hWb, hBb⟩

end Cert.Scan

end
-- ==== Proof.RefScan.lean ====
/-
  What the reference computes, token by token: its carried state and its outputs at every trip are the real recurrence.
-/
module

public import proofs.«01_k».proof.Proof.ScanSpec
public import proofs.«01_k».proof.Proof.Gen.ReferenceScanIdeal.Step
public import Idealize.ShloMosaic.Lib.Pipeline.ValueKit

@[expose] public section

set_option maxRecDepth 16384

noncomputable section

namespace Cert.ReferenceScanIdeal.Hand

open Cert.ReferenceScanIdeal Cert.ReferenceScanIdeal.Gen Cert.ReferenceScanIdeal.Step Idealize.ShloMosaic Cert.Scan

section Operands

variable (z : (⟨S24576x12288, .f32⟩ : BufTy).Contents (Elt Ideal)) (a1 : (⟨S24576x128, .f32⟩ : BufTy).Contents (Elt Ideal))
  (wf : (⟨S16x2048, .f32⟩ : BufTy).Contents (Elt Ideal)) (bf : (⟨S2048, .f32⟩ : BufTy).Contents (Elt Ideal))
  (wb : (⟨S16x2048, .f32⟩ : BufTy).Contents (Elt Ideal)) (bb : (⟨S2048, .f32⟩ : BufTy).Contents (Elt Ideal))
  (Z A Wf Wb : ℕ → ℕ → ℝ) (Bf Bb : ℕ → ℝ)

/-- The query of one token of one sequence, forwards. -/
theorem q_f (hz : ∀ i j, z (ix2 i j) = (Z i.val j.val : EReal)) (t : Fin 256) (b : Fin 32) (h : Fin 8) (d : Fin 256) :
    A_main_v45 z a1 wf bf wb bb (ix4 t ⟨b.val, by omega⟩ h d) = ((Z (0 + (b.val * 256 + t.val)) (256 * h.val + d.val) * (1 / 16) : ℝ) : EReal) := by
  have e : h.val * 256 + d.val = 256 * h.val + d.val := by omega
  have e0 : 0 + (b.val * 256 + t.val) = b.val * 256 + t.val := by omega
  pointwise [A_main_v45, A_main_v15, A_main_v14, A_main_v11, A_main_v9, K_main_v10, K_main_cst_0, A_main_v5, A_main_v2, A_main_v1]
  simp only [hz, e, e0, sixteenth, ← EReal.coe_mul]

/-- The query of one token of one sequence, backwards. -/
theorem q_b (hz : ∀ i j, z (ix2 i j) = (Z i.val j.val : EReal)) (t : Fin 256) (b : Fin 32) (h : Fin 8) (d : Fin 256) :
    A_main_v45 z a1 wf bf wb bb (ix4 t ⟨32 + b.val, by omega⟩ h d) = ((Z (0 + (b.val * 256 + (255 - t.val))) (256 * h.val + d.val) * (1 / 16) : ℝ) : EReal) := by
  have e : h.val * 256 + d.val = 256 * h.val + d.val := by omega
  have e0 : 0 + (b.val * 256 + (255 - t.val)) = b.val * 256 + (255 - t.val) := by omega
  have er : t.rev.val = 255 - t.val := by rw [Fin.val_rev]; omega
  pointwise [A_main_v45, A_main_v15, A_main_v14, A_main_v11, A_main_v9, K_main_v10, K_main_cst_0, A_main_v5, A_main_v2, A_main_v1]
  simp only [show ¬((0 : Fin 4) ∈ ([1] : List (Fin 4))) by decide, show (1 : Fin 4) ∈ ([1] : List (Fin 4)) by decide, show ¬((2 : Fin 4) ∈ ([1] : List (Fin 4))) by decide, show ¬((3 : Fin 4) ∈ ([1] : List (Fin 4))) by decide, ↓reduceIte, er]
  simp only [hz, e, e0, sixteenth, ← EReal.coe_mul]

/-- The key of one token of one sequence, forwards. -/
theorem k_f (hz : ∀ i j, z (ix2 i j) = (Z i.val j.val : EReal)) (t : Fin 256) (b : Fin 32) (h : Fin 8) (d : Fin 256) :
    A_main_v46 z a1 wf bf wb bb (ix4 t ⟨b.val, by omega⟩ h d) = ((Z (0 + (b.val * 256 + t.val)) (2048 + (256 * h.val + d.val)) : ℝ) : EReal) := by
  have e : h.val * 256 + d.val = 256 * h.val + d.val := by omega
  have e0 : 0 + (b.val * 256 + t.val) = b.val * 256 + t.val := by omega
  pointwise [A_main_v46, A_main_v17, A_main_v16, A_main_v12, A_main_v6, A_main_v2, A_main_v1]
  simp only [hz, e, e0]

/-- The key of one token of one sequence, backwards. -/
theorem k_b (hz : ∀ i j, z (ix2 i j) = (Z i.val j.val : EReal)) (t : Fin 256) (b : Fin 32) (h : Fin 8) (d : Fin 256) :
    A_main_v46 z a1 wf bf wb bb (ix4 t ⟨32 + b.val, by omega⟩ h d) = ((Z (0 + (b.val * 256 + (255 - t.val))) (2048 + (256 * h.val + d.val)) : ℝ) : EReal) := by
  have e : h.val * 256 + d.val = 256 * h.val + d.val := by omega
  have e0 : 0 + (b.val * 256 + (255 - t.val)) = b.val * 256 + (255 - t.val) := by omega
  have er : t.rev.val = 255 - t.val := by rw [Fin.val_rev]; omega
  pointwise [A_main_v46, A_main_v17, A_main_v16, A_main_v12, A_main_v6, A_main_v2, A_main_v1]
  simp only [show ¬((0 : Fin 4) ∈ ([1] : List (Fin 4))) by decide, show (1 : Fin 4) ∈ ([1] : List (Fin 4)) by decide, show ¬((2 : Fin 4) ∈ ([1] : List (Fin 4))) by decide, show ¬((3 : Fin 4) ∈ ([1] : List (Fin 4))) by decide, ↓reduceIte, er]
  simp only [hz, e, e0]

/-- The value of one token of one sequence, forwards. -/
theorem v_f (hz : ∀ i j, z (ix2 i j) = (Z i.val j.val : EReal)) (t : Fin 256) (b : Fin 32) (h : Fin 8) (d : Fin 512) :
    A_main_v47 z a1 wf bf wb bb (ix4 t ⟨b.val, by omega⟩ h d) = ((Z (0 + (b.val * 256 + t.val)) (4096 + (512 * h.val + d.val)) : ℝ) : EReal) := by
  have e : h.val * 512 + d.val = 512 * h.val + d.val := by omega
  have e0 : 0 + (b.val * 256 + t.val) = b.val * 256 + t.val := by omega
  pointwise [A_main_v47, A_main_v19, A_main_v18, A_main_v13, A_main_v7, A_main_v2, A_main_v1]
  simp only [hz, e, e0]

/-- The value of one token of one sequence, backwards. -/
theorem v_b (hz : ∀ i j, z (ix2 i j) = (Z i.val j.val : EReal)) (t : Fin 256) (b : Fin 32) (h : Fin 8) (d : Fin 512) :
    A_main_v47 z a1 wf bf wb bb (ix4 t ⟨32 + b.val, by omega⟩ h d) = ((Z (0 + (b.val * 256 + (255 - t.val))) (4096 + (512 * h.val + d.val)) : ℝ) : EReal) := by
  have e : h.val * 512 + d.val = 512 * h.val + d.val := by omega
  have e0 : 0 + (b.val * 256 + (255 - t.val)) = b.val * 256 + (255 - t.val) := by omega
  have er : t.rev.val = 255 - t.val := by rw [Fin.val_rev]; omega
  pointwise [A_main_v47, A_main_v19, A_main_v18, A_main_v13, A_main_v7, A_main_v2, A_main_v1]
  simp only [show ¬((0 : Fin 4) ∈ ([1] : List (Fin 4))) by decide, show (1 : Fin 4) ∈ ([1] : List (Fin 4)) by decide, show ¬((2 : Fin 4) ∈ ([1] : List (Fin 4))) by decide, show ¬((3 : Fin 4) ∈ ([1] : List (Fin 4))) by decide, ↓reduceIte, er]
  simp only [hz, e, e0]

/-- The log gate of one token of one sequence, forwards. -/
theorem g_f (ha : ∀ i j, a1 (ix2 i j) = (A i.val j.val : EReal)) (hw : ∀ i j, wf (ix2 i j) = (Wf i.val j.val : EReal))
    (hb : ∀ i, bf (ix1 i) = (Bf i.val : EReal)) (t : Fin 256) (b : Fin 32) (h : Fin 8) (d : Fin 256) :
    A_main_v48 z a1 wf bf wb bb (ix4 t ⟨b.val, by omega⟩ h d)
      = ((gate (logit A Wf Bf 0 (0 + (b.val * 256 + t.val)) (256 * h.val + d.val)) : ℝ) : EReal) := by
  have e : h.val * 256 + d.val = 256 * h.val + d.val := by omega
  have e0 : 0 + (b.val * 256 + t.val) = b.val * 256 + t.val := by omega
  pointwise [A_main_v48, A_main_v43, A_main_v30, A_main_v29, A_main_v27, A_main_v26, A_main_call3_v11, A_main_call3_v10, A_main_call3_v9, A_main_call3_v8, A_main_call3_v7, A_main_call3_v6, A_main_call3_v4, A_main_call3_v3, A_main_call3_v1, A_main_v25, A_main_v24, A_main_v23, A_main_v22, A_main_v21, A_main_v20, A_main_v4, A_main_v3, K_main_v28, K_main_cst_1, K_main_call3_v5, K_main_call3_v2, K_main_call3_v0, K_main_call3_cst]
  simp only [ha, hw, hb, e, e0, ← EReal.coe_mul, coe_sum, ← EReal.coe_add, ← EReal.coe_neg, ne_eq, not_true_eq_false, if_false,
    absf_coe, Ideal.exp_coe, log1p_coe, max_coe, sixteen, Ideal.div_coe (show (16 : ℝ) ≠ 0 by norm_num)]
  congr 1
  rw [← gate_softplus]
  simp only [logit, Nat.zero_add]

/-- The log gate of one token of one sequence, backwards. -/
theorem g_b (ha : ∀ i j, a1 (ix2 i j) = (A i.val j.val : EReal)) (hw : ∀ i j, wb (ix2 i j) = (Wb i.val j.val : EReal))
    (hb : ∀ i, bb (ix1 i) = (Bb i.val : EReal)) (t : Fin 256) (b : Fin 32) (h : Fin 8) (d : Fin 256) :
    A_main_v48 z a1 wf bf wb bb (ix4 t ⟨32 + b.val, by omega⟩ h d)
      = ((gate (logit A Wb Bb 16 (0 + (b.val * 256 + (255 - t.val))) (256 * h.val + d.val)) : ℝ) : EReal) := by
  have e : h.val * 256 + d.val = 256 * h.val + d.val := by omega
  have e0 : 0 + (b.val * 256 + (255 - t.val)) = b.val * 256 + (255 - t.val) := by omega
  have er : t.rev.val = 255 - t.val := by rw [Fin.val_rev]; omega
  pointwise [A_main_v48, A_main_v43, A_main_v42, A_main_v41, A_main_v40, A_main_v38, A_main_v37, A_main_call4_v11, A_main_call4_v10, A_main_call4_v9, A_main_call4_v8, A_main_call4_v7, A_main_call4_v6, A_main_call4_v4, A_main_call4_v3, A_main_call4_v1, A_main_v36, A_main_v35, A_main_v34, A_main_v33, A_main_v32, A_main_v31, A_main_v4, A_main_v3, K_main_v39, K_main_cst_2, K_main_call4_v5, K_main_call4_v2, K_main_call4_v0, K_main_call4_cst]
  simp only [show ¬((0 : Fin 4) ∈ ([1] : List (Fin 4))) by decide, show (1 : Fin 4) ∈ ([1] : List (Fin 4)) by decide, show ¬((2 : Fin 4) ∈ ([1] : List (Fin 4))) by decide, show ¬((3 : Fin 4) ∈ ([1] : List (Fin 4))) by decide, ↓reduceIte, er]
  simp only [ha, hw, hb, e, e0, ← EReal.coe_mul, coe_sum, ← EReal.coe_add, ← EReal.coe_neg, ne_eq, not_true_eq_false, if_false,
    absf_coe, Ideal.exp_coe, log1p_coe, max_coe, sixteen, Ideal.div_coe (show (16 : ℝ) ≠ 0 by norm_num)]
  congr 1
  rw [← gate_softplus]
  rfl

end Operands

/-- The trip's number, as the slices read it. -/
theorem trip (j : ℕ) (hj : j < 256) : (min (max (BitVec.ofNat 32 j).toInt 0) ((256 - 1 : ℕ) : ℤ)).toNat = j := by
  have h : (BitVec.ofNat 32 j).toInt = j := by
    rw [BitVec.toInt_eq_toNat_of_lt (by simp only [BitVec.toNat_ofNat]; omega), BitVec.toNat_ofNat, Nat.mod_eq_of_lt (by omega)]
  rw [h]; omega

theorem step_state (j : ℕ) (hj : j < 256) (s : State Ideal) (b : Fin 64) (h : Fin 8) (d : Fin 256) (e : Fin 512) :
    (step j s).main_v50_5 (ix4 b h d e)
      = Ideal.exp (s.main_v50_3 (ix4 ⟨j, hj⟩ b h d)) * s.main_v50_5 (ix4 b h d e)
        + s.main_v50_1 (ix4 ⟨j, hj⟩ b h d) * s.main_v50_2 (ix4 ⟨j, hj⟩ b h e) := by
  rw [step_main_v50_5]
  have z0 : ∀ n : ℕ, (min (max (constantI S_ 32 (0#32) (Shape.Idx.first h_S_)).toInt 0) (n : ℤ)).toNat = 0 := fun n => by
    show (min (max (0 : ℤ) 0) (n : ℤ)).toNat = 0
    omega
  have z1 : ∀ H : 4 = 4, (min (max (constantI S_ 32 (BitVec.ofNat 32 j) (Shape.Idx.first h_S_)).toInt 0)
      ((256 - ![1, 64, 8, 256] (Fin.cast H 0) : ℕ) : ℤ)).toNat = j := fun _ => trip j hj
  have z2 : ∀ H : 4 = 4, (min (max (constantI S_ 32 (BitVec.ofNat 32 j) (Shape.Idx.first h_S_)).toInt 0)
      ((256 - ![1, 64, 8, 512] (Fin.cast H 0) : ℕ) : ℤ)).toNat = j := fun _ => trip j hj
  pointwise [b29, b28, b27, b26, b25, b24, b23, b22, b21, b20, b19, b18, b14, b13, b9, b8, b5, b6, b7, b10, b11, b12, b15, b16, b17]
  simp only [Host.clampedStart, Matrix.cons_val, z0, z1, z2, Nat.zero_add]

theorem step_out (j : ℕ) (hj : j < 256) (s : State Ideal) (t : Fin 256) (b : Fin 64) (h : Fin 8) (e : Fin 512) :
    (step j s).main_v50_6 (ix4 t b h e)
      = if t.val = j then ∑ d : Fin 256, s.main_v50_0 (ix4 ⟨j, hj⟩ b h d) * (step j s).main_v50_5 (ix4 b h d e)
        else s.main_v50_6 (ix4 t b h e) := by
  rw [step_main_v50_5, step_main_v50_6]
  have z0 : ∀ n : ℕ, (min (max (constantI S_ 32 (0#32) (Shape.Idx.first h_S_)).toInt 0) (n : ℤ)).toNat = 0 := fun n => by
    show (min (max (0 : ℤ) 0) (n : ℤ)).toNat = 0
    omega
  have z1 : ∀ H : 4 = 4, (min (max (constantI S_ 32 (BitVec.ofNat 32 j) (Shape.Idx.first h_S_)).toInt 0)
      ((256 - ![1, 64, 8, 256] (Fin.cast H 0) : ℕ) : ℤ)).toNat = j := fun _ => trip j hj
  have z2 : ∀ H : 4 = 4, (min (max (constantI S_ 32 (BitVec.ofNat 32 j) (Shape.Idx.first h_S_)).toInt 0)
      ((256 - ![1, 64, 8, 512] (Fin.cast H 0) : ℕ) : ℤ)).toNat = j := fun _ => trip j hj
  generalize hS : b29 j s = S
  pointwise [b35, b31, b30, b4, b3, b0, b1, b2, b32, b33, b34, hS]
  simp only [Host.clampedStart, Matrix.cons_val, z0, z1, z2, Nat.zero_add, Nat.sub_zero, Nat.zero_le, and_true]
  by_cases hc : t.val = j
  · rw [if_pos hc, dif_pos (by omega)]
  · rw [if_neg hc, dif_neg (by omega)]

section Iterate

variable (it : ℕ → State Ideal) (hs : ∀ n, it (n + 1) = step n (it n))
include hs

theorem fixed (n : ℕ) : (it n).main_v50_0 = (it 0).main_v50_0 ∧ (it n).main_v50_1 = (it 0).main_v50_1
    ∧ (it n).main_v50_2 = (it 0).main_v50_2 ∧ (it n).main_v50_3 = (it 0).main_v50_3 := by
  induction n with
  | zero => exact ⟨rfl, rfl, rfl, rfl⟩
  | succ n ih => rw [hs n]; exact ih

variable (b : Fin 64) (h : Fin 8) (Q K G : Fin 256 → ℕ → ℝ) (V : Fin 512 → ℕ → ℝ) (s0 : Fin 256 → Fin 512 → ℝ)
  (hq : ∀ (t : Fin 256) d, (it 0).main_v50_0 (ix4 t b h d) = (Q d t.val : EReal))
  (hk : ∀ (t : Fin 256) d, (it 0).main_v50_1 (ix4 t b h d) = (K d t.val : EReal))
  (hv : ∀ (t : Fin 256) e, (it 0).main_v50_2 (ix4 t b h e) = (V e t.val : EReal))
  (hg : ∀ (t : Fin 256) d, (it 0).main_v50_3 (ix4 t b h d) = (G d t.val : EReal))
  (h0 : ∀ d e, (it 0).main_v50_5 (ix4 b h d e) = (s0 d e : EReal))
include hk hv hg h0

/-- After `n` trips the carried state is the recurrence's. -/
theorem iter_state (n : ℕ) (hn : n ≤ 256) (d : Fin 256) (e : Fin 512) :
    (it n).main_v50_5 (ix4 b h d e) = (st (G d) (K d) (V e) (s0 d e) n : EReal) := by
  induction n with
  | zero => exact h0 d e
  | succ n ih =>
    obtain ⟨-, f1, f2, f3⟩ := fixed it hs n
    rw [hs n, step_state n (by omega), f1, f2, f3, hk, hv, hg, ih (by omega), Ideal.exp_coe, ← EReal.coe_mul, ← EReal.coe_mul,
      ← EReal.coe_add]
    rfl

include hq

/-- After `n` trips the first `n` output rows are the recurrence's. -/
theorem iter_out (n : ℕ) (hn : n ≤ 256) (t : Fin 256) (ht : t.val < n) (e : Fin 512) :
    (it n).main_v50_6 (ix4 t b h e)
      = ((∑ d : Fin 256, Q d t.val * st (G d) (K d) (V e) (s0 d e) (t.val + 1) : ℝ) : EReal) := by
  induction n with
  | zero => exact absurd ht (Nat.not_lt_zero _)
  | succ n ih =>
    obtain ⟨f0, -, -, -⟩ := fixed it hs n
    rw [hs n, step_out n (by omega)]
    by_cases hc : t.val = n
    · rw [if_pos hc, ← hs n, f0]
      simp only [hq, iter_state it hs b h K G V s0 hk hv hg h0 (n + 1) hn, ← EReal.coe_mul, coe_sum, hc]
    · rw [if_neg hc]
      exact ih (by omega) (by omega)

end Iterate

section Results

variable (z : (⟨S24576x12288, .f32⟩ : BufTy).Contents (Elt Ideal)) (a1 : (⟨S24576x128, .f32⟩ : BufTy).Contents (Elt Ideal))
  (wf : (⟨S16x2048, .f32⟩ : BufTy).Contents (Elt Ideal)) (bf : (⟨S2048, .f32⟩ : BufTy).Contents (Elt Ideal))
  (wb : (⟨S16x2048, .f32⟩ : BufTy).Contents (Elt Ideal)) (bb : (⟨S2048, .f32⟩ : BufTy).Contents (Elt Ideal))
  (Z A Wf Wb : ℕ → ℕ → ℝ) (Bf Bb : ℕ → ℝ)
  (hz : ∀ i j, z (ix2 i j) = (Z i.val j.val : EReal)) (ha : ∀ i j, a1 (ix2 i j) = (A i.val j.val : EReal))
  (hwf : ∀ i j, wf (ix2 i j) = (Wf i.val j.val : EReal)) (hbf : ∀ i, bf (ix1 i) = (Bf i.val : EReal))
  (hwb : ∀ i j, wb (ix2 i j) = (Wb i.val j.val : EReal)) (hbb : ∀ i, bb (ix1 i) = (Bb i.val : EReal))
  (it : ℕ → State Ideal) (hi : it 0 = init z a1 wf bf wb bb) (hs : ∀ n, it (n + 1) = step n (it n))
include hz ha hwf hbf hwb hbb hi hs

theorem state_f (b : Fin 32) (h : Fin 8) (d : Fin 256) (e : Fin 512) :
    (it 256).main_v50_5 (ix4 ⟨b.val, by omega⟩ h d e)
      = (state Z A Wf Bf 0 (fun n => 0 + (b.val * 256 + n)) 0 h.val d.val e.val 256 : EReal) := by
  have H := iter_state it hs ⟨b.val, by omega⟩ h
    (fun d n => Z (0 + (b.val * 256 + n)) (2048 + (256 * h.val + d.val)))
    (fun d n => gate (logit A Wf Bf 0 (0 + (b.val * 256 + n)) (256 * h.val + d.val)))
    (fun e n => Z (0 + (b.val * 256 + n)) (4096 + (512 * h.val + e.val)))
    (fun d e => 0)
    (fun t d => by rw [hi]; exact k_f z a1 wf bf wb bb Z hz t b h d) (fun t e => by rw [hi]; exact v_f z a1 wf bf wb bb Z hz t b h e)
    (fun t d => by rw [hi]; exact g_f z a1 wf bf wb bb A Wf Bf ha hwf hbf t b h d)
    (fun d e => by rw [hi]; show K_main_v44 (F := Ideal) _ = _; pointwise [K_main_v44, K_main_v0, K_main_cst]; simp) 256 le_rfl d e
  exact H

theorem state_b (b : Fin 32) (h : Fin 8) (d : Fin 256) (e : Fin 512) :
    (it 256).main_v50_5 (ix4 ⟨32 + b.val, by omega⟩ h d e)
      = (state Z A Wb Bb 16 (fun n => 0 + (b.val * 256 + (255 - n))) 0 h.val d.val e.val 256 : EReal) := by
  have H := iter_state it hs ⟨32 + b.val, by omega⟩ h
    (fun d n => Z (0 + (b.val * 256 + (255 - n))) (2048 + (256 * h.val + d.val)))
    (fun d n => gate (logit A Wb Bb 16 (0 + (b.val * 256 + (255 - n))) (256 * h.val + d.val)))
    (fun e n => Z (0 + (b.val * 256 + (255 - n))) (4096 + (512 * h.val + e.val)))
    (fun d e => 0)
    (fun t d => by rw [hi]; exact k_b z a1 wf bf wb bb Z hz t b h d) (fun t e => by rw [hi]; exact v_b z a1 wf bf wb bb Z hz t b h e)
    (fun t d => by rw [hi]; exact g_b z a1 wf bf wb bb A Wb Bb ha hwb hbb t b h d)
    (fun d e => by rw [hi]; show K_main_v44 (F := Ideal) _ = _; pointwise [K_main_v44, K_main_v0, K_main_cst]; simp) 256 le_rfl d e
  exact H

theorem out_f (b : Fin 32) (t : Fin 256) (h : Fin 8) (e : Fin 512) :
    (it 256).main_v50_6 (ix4 t ⟨b.val, by omega⟩ h e)
      = (out Z A Wf Bf 0 (fun n => 0 + (b.val * 256 + n)) (fun _ => 0) h.val e.val t.val : EReal) := by
  have H := iter_out it hs ⟨b.val, by omega⟩ h
    (fun d n => Z (0 + (b.val * 256 + n)) (256 * h.val + d.val) * (1 / 16))
    (fun d n => Z (0 + (b.val * 256 + n)) (2048 + (256 * h.val + d.val)))
    (fun d n => gate (logit A Wf Bf 0 (0 + (b.val * 256 + n)) (256 * h.val + d.val)))
    (fun e n => Z (0 + (b.val * 256 + n)) (4096 + (512 * h.val + e.val)))
    (fun d e => 0) (fun t d => by rw [hi]; exact q_f z a1 wf bf wb bb Z hz t b h d)
    (fun t d => by rw [hi]; exact k_f z a1 wf bf wb bb Z hz t b h d) (fun t e => by rw [hi]; exact v_f z a1 wf bf wb bb Z hz t b h e)
    (fun t d => by rw [hi]; exact g_f z a1 wf bf wb bb A Wf Bf ha hwf hbf t b h d)
    (fun d e => by rw [hi]; show K_main_v44 (F := Ideal) _ = _; pointwise [K_main_v44, K_main_v0, K_main_cst]; simp) 256 le_rfl t t.isLt e
  exact H

theorem out_b (b : Fin 32) (t : Fin 256) (h : Fin 8) (e : Fin 512) :
    (it 256).main_v50_6 (ix4 t ⟨32 + b.val, by omega⟩ h e)
      = (out Z A Wb Bb 16 (fun n => 0 + (b.val * 256 + (255 - n))) (fun _ => 0) h.val e.val t.val : EReal) := by
  have H := iter_out it hs ⟨32 + b.val, by omega⟩ h
    (fun d n => Z (0 + (b.val * 256 + (255 - n))) (256 * h.val + d.val) * (1 / 16))
    (fun d n => Z (0 + (b.val * 256 + (255 - n))) (2048 + (256 * h.val + d.val)))
    (fun d n => gate (logit A Wb Bb 16 (0 + (b.val * 256 + (255 - n))) (256 * h.val + d.val)))
    (fun e n => Z (0 + (b.val * 256 + (255 - n))) (4096 + (512 * h.val + e.val)))
    (fun d e => 0) (fun t d => by rw [hi]; exact q_b z a1 wf bf wb bb Z hz t b h d)
    (fun t d => by rw [hi]; exact k_b z a1 wf bf wb bb Z hz t b h d) (fun t e => by rw [hi]; exact v_b z a1 wf bf wb bb Z hz t b h e)
    (fun t d => by rw [hi]; exact g_b z a1 wf bf wb bb A Wb Bb ha hwb hbb t b h d)
    (fun d e => by rw [hi]; show K_main_v44 (F := Ideal) _ = _; pointwise [K_main_v44, K_main_v0, K_main_cst]; simp) 256 le_rfl t t.isLt e
  exact H

/-- The forward outputs of the sequences' rows. -/
theorem res_f (r : Fin 24576) (c : Fin 4096) (hr : r.val < 8192) :
    R_main_v60 (it 256) (ix2 r c) = (out Z A Wf Bf 0 (fun n => 0 + (r.val / 256 * 256 + n)) (fun _ => 0) (c.val / 512) (c.val % 512) (r.val % 256) : EReal) := by
  have H := out_f z a1 wf bf wb bb Z A Wf Wb Bf Bb hz ha hwf hbf hwb hbb it hi hs ⟨r.val / 256, by omega⟩ ⟨r.val % 256, by omega⟩ ⟨c.val / 512, by omega⟩ ⟨c.val % 512, by omega⟩
  rw [← H]
  pointwise [R_main_v60]
  rw [dif_pos hr]

/-- The backward outputs of the sequences' rows. -/
theorem res_b (r : Fin 24576) (c : Fin 4096) (hr : r.val < 8192) :
    R_main_v61 (it 256) (ix2 r c) = (out Z A Wb Bb 16 (fun n => 0 + (r.val / 256 * 256 + (255 - n))) (fun _ => 0) (c.val / 512) (c.val % 512) (255 - r.val % 256) : EReal) := by
  have H := out_b z a1 wf bf wb bb Z A Wf Wb Bf Bb hz ha hwf hbf hwb hbb it hi hs ⟨r.val / 256, by omega⟩ ⟨255 - r.val % 256, by omega⟩ ⟨c.val / 512, by omega⟩ ⟨c.val % 512, by omega⟩
  rw [← H]
  have er : ∀ hh, (⟨r.val % 256, hh⟩ : Fin 256).rev = ⟨255 - r.val % 256, by omega⟩ := fun hh => Fin.ext (by
    rw [Fin.val_rev]; show 256 - (r.val % 256 + 1) = 255 - r.val % 256; omega)
  pointwise [R_main_v61]
  simp only [show ¬((0 : Fin 4) ∈ ([1] : List (Fin 4))) by decide, show (1 : Fin 4) ∈ ([1] : List (Fin 4)) by decide, show ¬((2 : Fin 4) ∈ ([1] : List (Fin 4))) by decide, show ¬((3 : Fin 4) ∈ ([1] : List (Fin 4))) by decide, ↓reduceIte, er]
  rw [dif_pos hr]

end Results

end Cert.ReferenceScanIdeal.Hand

end
-- ==== Proof.StepScan.lean ====
/- The reference's run over its trips: at a valuation that holds a state, every value of one trip is the step's, so one trip
   keeps holding with the step applied; what comes before the loop holds the initial state; and the results are the fields of
   the iterated step. -/
module

public import proofs.«01_k».proof.Proof.Gen.ReferenceScanIdeal.Run
public import proofs.«01_k».proof.Proof.Gen.ReferenceScanIdeal.Step

@[expose] public section

noncomputable section

namespace Cert.ReferenceScanIdeal.Trips

open Idealize.ShloMosaic Idealize.ShloMosaic.TcCoe Idealize.SL.Sem Idealize.ShloMosaic.StableHlo
open Cert.ReferenceScanIdeal Cert.ReferenceScanIdeal.Gen Cert.ReferenceScanIdeal.Value
open Cert.ReferenceScanIdeal.Step (State step init)

variable {F : FTy → Type} [FloatOps F]

variable (V0 : Valuation τ sig (Elt F)) (s : State F) (j : ℕ)

/-- The valuation holds the state, the set-up values and the trip's number. -/
structure Holds : Prop where
  f_5 : V0 (Proc.devRef .tc main_v50_5) = s.main_v50_5
  f_6 : V0 (Proc.devRef .tc main_v50_6) = s.main_v50_6
  f_0 : V0 (Proc.devRef .tc main_v50_0) = s.main_v50_0
  f_1 : V0 (Proc.devRef .tc main_v50_1) = s.main_v50_1
  f_2 : V0 (Proc.devRef .tc main_v50_2) = s.main_v50_2
  f_3 : V0 (Proc.devRef .tc main_v50_3) = s.main_v50_3
  n_4 : V0 (Proc.devRef .tc main_v50_4) = constantI S_ 32 (BitVec.ofNat 32 j)

variable {V0 s j}

set_option maxRecDepth 8192 in
theorem al_0 (h : Holds V0 s j) : (constantI S_ 32 0#32 : (Proc.devRef .tc main_while0b_call6_c : DevRef τ sig).ty.Contents (Elt F)) = Cert.ReferenceScanIdeal.Step.b0 j s := by
  unfold Cert.ReferenceScanIdeal.Step.b0
  rfl
set_option maxRecDepth 8192 in
theorem al_1 (h : Holds V0 s j) : (constantI S_ 32 0#32 : (Proc.devRef .tc main_while0b_call6_c_0 : DevRef τ sig).ty.Contents (Elt F)) = Cert.ReferenceScanIdeal.Step.b1 j s := by
  unfold Cert.ReferenceScanIdeal.Step.b1
  rfl
set_option maxRecDepth 8192 in
theorem al_2 (h : Holds V0 s j) : (constantI S_ 32 0#32 : (Proc.devRef .tc main_while0b_call6_c_1 : DevRef τ sig).ty.Contents (Elt F)) = Cert.ReferenceScanIdeal.Step.b2 j s := by
  unfold Cert.ReferenceScanIdeal.Step.b2
  rfl
set_option maxRecDepth 8192 in
theorem al_3 (h : Holds V0 s j) : (Host.dynamicSlice S1x64x8x256 (V0 (Proc.devRef .tc main_v50_0)) (fun k => (((![V0 (Proc.devRef .tc main_v50_4), constantI S_ 32 0#32, constantI S_ 32 0#32, constantI S_ 32 0#32] : Fin 4 → (⟨S_, .i32⟩ : BufTy).Contents (Elt F))) k (Shape.Idx.first h_S_)).toInt) sliceFits_S256x64x8x256_S1x64x8x256 : (Proc.devRef .tc main_while0b_call6_v0 : DevRef τ sig).ty.Contents (Elt F)) = Cert.ReferenceScanIdeal.Step.b3 j s := by
  unfold Cert.ReferenceScanIdeal.Step.b3
  rw [← al_0 h, ← al_1 h, ← al_2 h, h.f_0, h.n_4]
  try rfl
set_option maxRecDepth 8192 in
theorem al_4 (h : Holds V0 s j) : (shapeCast S64x8x256 (Host.dynamicSlice S1x64x8x256 (V0 (Proc.devRef .tc main_v50_0)) (fun k => (((![V0 (Proc.devRef .tc main_v50_4), constantI S_ 32 0#32, constantI S_ 32 0#32, constantI S_ 32 0#32] : Fin 4 → (⟨S_, .i32⟩ : BufTy).Contents (Elt F))) k (Shape.Idx.first h_S_)).toInt) sliceFits_S256x64x8x256_S1x64x8x256) shapeCasts_S1x64x8x256_S64x8x256 : (Proc.devRef .tc main_while0b_v62 : DevRef τ sig).ty.Contents (Elt F)) = Cert.ReferenceScanIdeal.Step.b4 j s := by
  unfold Cert.ReferenceScanIdeal.Step.b4
  rw [← al_3 h]
  try rfl
set_option maxRecDepth 8192 in
theorem al_5 (h : Holds V0 s j) : (constantI S_ 32 0#32 : (Proc.devRef .tc main_while0b_call7_c : DevRef τ sig).ty.Contents (Elt F)) = Cert.ReferenceScanIdeal.Step.b5 j s := by
  unfold Cert.ReferenceScanIdeal.Step.b5
  rfl
set_option maxRecDepth 8192 in
theorem al_6 (h : Holds V0 s j) : (constantI S_ 32 0#32 : (Proc.devRef .tc main_while0b_call7_c_0 : DevRef τ sig).ty.Contents (Elt F)) = Cert.ReferenceScanIdeal.Step.b6 j s := by
  unfold Cert.ReferenceScanIdeal.Step.b6
  rfl
set_option maxRecDepth 8192 in
theorem al_7 (h : Holds V0 s j) : (constantI S_ 32 0#32 : (Proc.devRef .tc main_while0b_call7_c_1 : DevRef τ sig).ty.Contents (Elt F)) = Cert.ReferenceScanIdeal.Step.b7 j s := by
  unfold Cert.ReferenceScanIdeal.Step.b7
  rfl
set_option maxRecDepth 8192 in
theorem al_8 (h : Holds V0 s j) : (Host.dynamicSlice S1x64x8x256 (V0 (Proc.devRef .tc main_v50_1)) (fun k => (((![V0 (Proc.devRef .tc main_v50_4), constantI S_ 32 0#32, constantI S_ 32 0#32, constantI S_ 32 0#32] : Fin 4 → (⟨S_, .i32⟩ : BufTy).Contents (Elt F))) k (Shape.Idx.first h_S_)).toInt) sliceFits_S256x64x8x256_S1x64x8x256 : (Proc.devRef .tc main_while0b_call7_v0 : DevRef τ sig).ty.Contents (Elt F)) = Cert.ReferenceScanIdeal.Step.b8 j s := by
  unfold Cert.ReferenceScanIdeal.Step.b8
  rw [← al_5 h, ← al_6 h, ← al_7 h, h.f_1, h.n_4]
  try rfl
set_option maxRecDepth 8192 in
theorem al_9 (h : Holds V0 s j) : (shapeCast S64x8x256 (Host.dynamicSlice S1x64x8x256 (V0 (Proc.devRef .tc main_v50_1)) (fun k => (((![V0 (Proc.devRef .tc main_v50_4), constantI S_ 32 0#32, constantI S_ 32 0#32, constantI S_ 32 0#32] : Fin 4 → (⟨S_, .i32⟩ : BufTy).Contents (Elt F))) k (Shape.Idx.first h_S_)).toInt) sliceFits_S256x64x8x256_S1x64x8x256) shapeCasts_S1x64x8x256_S64x8x256 : (Proc.devRef .tc main_while0b_v63 : DevRef τ sig).ty.Contents (Elt F)) = Cert.ReferenceScanIdeal.Step.b9 j s := by
  unfold Cert.ReferenceScanIdeal.Step.b9
  rw [← al_8 h]
  try rfl
set_option maxRecDepth 8192 in
theorem al_10 (h : Holds V0 s j) : (constantI S_ 32 0#32 : (Proc.devRef .tc main_while0b_call8_c : DevRef τ sig).ty.Contents (Elt F)) = Cert.ReferenceScanIdeal.Step.b10 j s := by
  unfold Cert.ReferenceScanIdeal.Step.b10
  rfl
set_option maxRecDepth 8192 in
theorem al_11 (h : Holds V0 s j) : (constantI S_ 32 0#32 : (Proc.devRef .tc main_while0b_call8_c_0 : DevRef τ sig).ty.Contents (Elt F)) = Cert.ReferenceScanIdeal.Step.b11 j s := by
  unfold Cert.ReferenceScanIdeal.Step.b11
  rfl
set_option maxRecDepth 8192 in
theorem al_12 (h : Holds V0 s j) : (constantI S_ 32 0#32 : (Proc.devRef .tc main_while0b_call8_c_1 : DevRef τ sig).ty.Contents (Elt F)) = Cert.ReferenceScanIdeal.Step.b12 j s := by
  unfold Cert.ReferenceScanIdeal.Step.b12
  rfl
set_option maxRecDepth 8192 in
theorem al_13 (h : Holds V0 s j) : (Host.dynamicSlice S1x64x8x512 (V0 (Proc.devRef .tc main_v50_2)) (fun k => (((![V0 (Proc.devRef .tc main_v50_4), constantI S_ 32 0#32, constantI S_ 32 0#32, constantI S_ 32 0#32] : Fin 4 → (⟨S_, .i32⟩ : BufTy).Contents (Elt F))) k (Shape.Idx.first h_S_)).toInt) sliceFits_S256x64x8x512_S1x64x8x512 : (Proc.devRef .tc main_while0b_call8_v0 : DevRef τ sig).ty.Contents (Elt F)) = Cert.ReferenceScanIdeal.Step.b13 j s := by
  unfold Cert.ReferenceScanIdeal.Step.b13
  rw [← al_10 h, ← al_11 h, ← al_12 h, h.f_2, h.n_4]
  try rfl
set_option maxRecDepth 8192 in
theorem al_14 (h : Holds V0 s j) : (shapeCast S64x8x512 (Host.dynamicSlice S1x64x8x512 (V0 (Proc.devRef .tc main_v50_2)) (fun k => (((![V0 (Proc.devRef .tc main_v50_4), constantI S_ 32 0#32, constantI S_ 32 0#32, constantI S_ 32 0#32] : Fin 4 → (⟨S_, .i32⟩ : BufTy).Contents (Elt F))) k (Shape.Idx.first h_S_)).toInt) sliceFits_S256x64x8x512_S1x64x8x512) shapeCasts_S1x64x8x512_S64x8x512 : (Proc.devRef .tc main_while0b_v64 : DevRef τ sig).ty.Contents (Elt F)) = Cert.ReferenceScanIdeal.Step.b14 j s := by
  unfold Cert.ReferenceScanIdeal.Step.b14
  rw [← al_13 h]
  try rfl
set_option maxRecDepth 8192 in
theorem al_15 (h : Holds V0 s j) : (constantI S_ 32 0#32 : (Proc.devRef .tc main_while0b_call9_c : DevRef τ sig).ty.Contents (Elt F)) = Cert.ReferenceScanIdeal.Step.b15 j s := by
  unfold Cert.ReferenceScanIdeal.Step.b15
  rfl
set_option maxRecDepth 8192 in
theorem al_16 (h : Holds V0 s j) : (constantI S_ 32 0#32 : (Proc.devRef .tc main_while0b_call9_c_0 : DevRef τ sig).ty.Contents (Elt F)) = Cert.ReferenceScanIdeal.Step.b16 j s := by
  unfold Cert.ReferenceScanIdeal.Step.b16
  rfl
set_option maxRecDepth 8192 in
theorem al_17 (h : Holds V0 s j) : (constantI S_ 32 0#32 : (Proc.devRef .tc main_while0b_call9_c_1 : DevRef τ sig).ty.Contents (Elt F)) = Cert.ReferenceScanIdeal.Step.b17 j s := by
  unfold Cert.ReferenceScanIdeal.Step.b17
  rfl
set_option maxRecDepth 8192 in
theorem al_18 (h : Holds V0 s j) : (Host.dynamicSlice S1x64x8x256 (V0 (Proc.devRef .tc main_v50_3)) (fun k => (((![V0 (Proc.devRef .tc main_v50_4), constantI S_ 32 0#32, constantI S_ 32 0#32, constantI S_ 32 0#32] : Fin 4 → (⟨S_, .i32⟩ : BufTy).Contents (Elt F))) k (Shape.Idx.first h_S_)).toInt) sliceFits_S256x64x8x256_S1x64x8x256 : (Proc.devRef .tc main_while0b_call9_v0 : DevRef τ sig).ty.Contents (Elt F)) = Cert.ReferenceScanIdeal.Step.b18 j s := by
  unfold Cert.ReferenceScanIdeal.Step.b18
  rw [← al_15 h, ← al_16 h, ← al_17 h, h.f_3, h.n_4]
  try rfl
set_option maxRecDepth 8192 in
theorem al_19 (h : Holds V0 s j) : (shapeCast S64x8x256 (Host.dynamicSlice S1x64x8x256 (V0 (Proc.devRef .tc main_v50_3)) (fun k => (((![V0 (Proc.devRef .tc main_v50_4), constantI S_ 32 0#32, constantI S_ 32 0#32, constantI S_ 32 0#32] : Fin 4 → (⟨S_, .i32⟩ : BufTy).Contents (Elt F))) k (Shape.Idx.first h_S_)).toInt) sliceFits_S256x64x8x256_S1x64x8x256) shapeCasts_S1x64x8x256_S64x8x256 : (Proc.devRef .tc main_while0b_v65 : DevRef τ sig).ty.Contents (Elt F)) = Cert.ReferenceScanIdeal.Step.b19 j s := by
  unfold Cert.ReferenceScanIdeal.Step.b19
  rw [← al_18 h]
  try rfl
set_option maxRecDepth 8192 in
theorem al_20 (h : Holds V0 s j) : (Host.exp (shapeCast S64x8x256 (Host.dynamicSlice S1x64x8x256 (V0 (Proc.devRef .tc main_v50_3)) (fun k => (((![V0 (Proc.devRef .tc main_v50_4), constantI S_ 32 0#32, constantI S_ 32 0#32, constantI S_ 32 0#32] : Fin 4 → (⟨S_, .i32⟩ : BufTy).Contents (Elt F))) k (Shape.Idx.first h_S_)).toInt) sliceFits_S256x64x8x256_S1x64x8x256) shapeCasts_S1x64x8x256_S64x8x256) : (Proc.devRef .tc main_while0b_v66 : DevRef τ sig).ty.Contents (Elt F)) = Cert.ReferenceScanIdeal.Step.b20 j s := by
  unfold Cert.ReferenceScanIdeal.Step.b20
  rw [← al_19 h]
  try rfl
set_option maxRecDepth 8192 in
theorem al_21 (h : Holds V0 s j) : (broadcastInDim S64x8x256x1 ![0, 1, 2] bcast_S64x8x256_S64x8x256x1_0_1_2 (Host.exp (shapeCast S64x8x256 (Host.dynamicSlice S1x64x8x256 (V0 (Proc.devRef .tc main_v50_3)) (fun k => (((![V0 (Proc.devRef .tc main_v50_4), constantI S_ 32 0#32, constantI S_ 32 0#32, constantI S_ 32 0#32] : Fin 4 → (⟨S_, .i32⟩ : BufTy).Contents (Elt F))) k (Shape.Idx.first h_S_)).toInt) sliceFits_S256x64x8x256_S1x64x8x256) shapeCasts_S1x64x8x256_S64x8x256)) : (Proc.devRef .tc main_while0b_v67 : DevRef τ sig).ty.Contents (Elt F)) = Cert.ReferenceScanIdeal.Step.b21 j s := by
  unfold Cert.ReferenceScanIdeal.Step.b21
  rw [← al_20 h]
  try rfl
set_option maxRecDepth 8192 in
theorem al_22 (h : Holds V0 s j) : (broadcastInDim S64x8x256x512 ![0, 1, 2, 3] bcast_S64x8x256x1_S64x8x256x512_0_1_2_3 (broadcastInDim S64x8x256x1 ![0, 1, 2] bcast_S64x8x256_S64x8x256x1_0_1_2 (Host.exp (shapeCast S64x8x256 (Host.dynamicSlice S1x64x8x256 (V0 (Proc.devRef .tc main_v50_3)) (fun k => (((![V0 (Proc.devRef .tc main_v50_4), constantI S_ 32 0#32, constantI S_ 32 0#32, constantI S_ 32 0#32] : Fin 4 → (⟨S_, .i32⟩ : BufTy).Contents (Elt F))) k (Shape.Idx.first h_S_)).toInt) sliceFits_S256x64x8x256_S1x64x8x256) shapeCasts_S1x64x8x256_S64x8x256))) : (Proc.devRef .tc main_while0b_v68 : DevRef τ sig).ty.Contents (Elt F)) = Cert.ReferenceScanIdeal.Step.b22 j s := by
  unfold Cert.ReferenceScanIdeal.Step.b22
  rw [← al_21 h]
  try rfl
set_option maxRecDepth 8192 in
theorem al_23 (h : Holds V0 s j) : (mulf (broadcastInDim S64x8x256x512 ![0, 1, 2, 3] bcast_S64x8x256x1_S64x8x256x512_0_1_2_3 (broadcastInDim S64x8x256x1 ![0, 1, 2] bcast_S64x8x256_S64x8x256x1_0_1_2 (Host.exp (shapeCast S64x8x256 (Host.dynamicSlice S1x64x8x256 (V0 (Proc.devRef .tc main_v50_3)) (fun k => (((![V0 (Proc.devRef .tc main_v50_4), constantI S_ 32 0#32, constantI S_ 32 0#32, constantI S_ 32 0#32] : Fin 4 → (⟨S_, .i32⟩ : BufTy).Contents (Elt F))) k (Shape.Idx.first h_S_)).toInt) sliceFits_S256x64x8x256_S1x64x8x256) shapeCasts_S1x64x8x256_S64x8x256)))) (V0 (Proc.devRef .tc main_v50_5)) : (Proc.devRef .tc main_while0b_v69 : DevRef τ sig).ty.Contents (Elt F)) = Cert.ReferenceScanIdeal.Step.b23 j s := by
  unfold Cert.ReferenceScanIdeal.Step.b23
  rw [← al_22 h, h.f_5]
  try rfl
set_option maxRecDepth 8192 in
theorem al_24 (h : Holds V0 s j) : (broadcastInDim S64x8x256x1 ![0, 1, 2] bcast_S64x8x256_S64x8x256x1_0_1_2 (shapeCast S64x8x256 (Host.dynamicSlice S1x64x8x256 (V0 (Proc.devRef .tc main_v50_1)) (fun k => (((![V0 (Proc.devRef .tc main_v50_4), constantI S_ 32 0#32, constantI S_ 32 0#32, constantI S_ 32 0#32] : Fin 4 → (⟨S_, .i32⟩ : BufTy).Contents (Elt F))) k (Shape.Idx.first h_S_)).toInt) sliceFits_S256x64x8x256_S1x64x8x256) shapeCasts_S1x64x8x256_S64x8x256) : (Proc.devRef .tc main_while0b_v70 : DevRef τ sig).ty.Contents (Elt F)) = Cert.ReferenceScanIdeal.Step.b24 j s := by
  unfold Cert.ReferenceScanIdeal.Step.b24
  rw [← al_9 h]
  try rfl
set_option maxRecDepth 8192 in
theorem al_25 (h : Holds V0 s j) : (broadcastInDim S64x8x1x512 ![0, 1, 3] bcast_S64x8x512_S64x8x1x512_0_1_3 (shapeCast S64x8x512 (Host.dynamicSlice S1x64x8x512 (V0 (Proc.devRef .tc main_v50_2)) (fun k => (((![V0 (Proc.devRef .tc main_v50_4), constantI S_ 32 0#32, constantI S_ 32 0#32, constantI S_ 32 0#32] : Fin 4 → (⟨S_, .i32⟩ : BufTy).Contents (Elt F))) k (Shape.Idx.first h_S_)).toInt) sliceFits_S256x64x8x512_S1x64x8x512) shapeCasts_S1x64x8x512_S64x8x512) : (Proc.devRef .tc main_while0b_v71 : DevRef τ sig).ty.Contents (Elt F)) = Cert.ReferenceScanIdeal.Step.b25 j s := by
  unfold Cert.ReferenceScanIdeal.Step.b25
  rw [← al_14 h]
  try rfl
set_option maxRecDepth 8192 in
theorem al_26 (h : Holds V0 s j) : (broadcastInDim S64x8x256x512 ![0, 1, 2, 3] bcast_S64x8x256x1_S64x8x256x512_0_1_2_3 (broadcastInDim S64x8x256x1 ![0, 1, 2] bcast_S64x8x256_S64x8x256x1_0_1_2 (shapeCast S64x8x256 (Host.dynamicSlice S1x64x8x256 (V0 (Proc.devRef .tc main_v50_1)) (fun k => (((![V0 (Proc.devRef .tc main_v50_4), constantI S_ 32 0#32, constantI S_ 32 0#32, constantI S_ 32 0#32] : Fin 4 → (⟨S_, .i32⟩ : BufTy).Contents (Elt F))) k (Shape.Idx.first h_S_)).toInt) sliceFits_S256x64x8x256_S1x64x8x256) shapeCasts_S1x64x8x256_S64x8x256)) : (Proc.devRef .tc main_while0b_v72 : DevRef τ sig).ty.Contents (Elt F)) = Cert.ReferenceScanIdeal.Step.b26 j s := by
  unfold Cert.ReferenceScanIdeal.Step.b26
  rw [← al_24 h]
  try rfl
set_option maxRecDepth 8192 in
theorem al_27 (h : Holds V0 s j) : (broadcastInDim S64x8x256x512 ![0, 1, 2, 3] bcast_S64x8x1x512_S64x8x256x512_0_1_2_3 (broadcastInDim S64x8x1x512 ![0, 1, 3] bcast_S64x8x512_S64x8x1x512_0_1_3 (shapeCast S64x8x512 (Host.dynamicSlice S1x64x8x512 (V0 (Proc.devRef .tc main_v50_2)) (fun k => (((![V0 (Proc.devRef .tc main_v50_4), constantI S_ 32 0#32, constantI S_ 32 0#32, constantI S_ 32 0#32] : Fin 4 → (⟨S_, .i32⟩ : BufTy).Contents (Elt F))) k (Shape.Idx.first h_S_)).toInt) sliceFits_S256x64x8x512_S1x64x8x512) shapeCasts_S1x64x8x512_S64x8x512)) : (Proc.devRef .tc main_while0b_v73 : DevRef τ sig).ty.Contents (Elt F)) = Cert.ReferenceScanIdeal.Step.b27 j s := by
  unfold Cert.ReferenceScanIdeal.Step.b27
  rw [← al_25 h]
  try rfl
set_option maxRecDepth 8192 in
theorem al_28 (h : Holds V0 s j) : (mulf (broadcastInDim S64x8x256x512 ![0, 1, 2, 3] bcast_S64x8x256x1_S64x8x256x512_0_1_2_3 (broadcastInDim S64x8x256x1 ![0, 1, 2] bcast_S64x8x256_S64x8x256x1_0_1_2 (shapeCast S64x8x256 (Host.dynamicSlice S1x64x8x256 (V0 (Proc.devRef .tc main_v50_1)) (fun k => (((![V0 (Proc.devRef .tc main_v50_4), constantI S_ 32 0#32, constantI S_ 32 0#32, constantI S_ 32 0#32] : Fin 4 → (⟨S_, .i32⟩ : BufTy).Contents (Elt F))) k (Shape.Idx.first h_S_)).toInt) sliceFits_S256x64x8x256_S1x64x8x256) shapeCasts_S1x64x8x256_S64x8x256))) (broadcastInDim S64x8x256x512 ![0, 1, 2, 3] bcast_S64x8x1x512_S64x8x256x512_0_1_2_3 (broadcastInDim S64x8x1x512 ![0, 1, 3] bcast_S64x8x512_S64x8x1x512_0_1_3 (shapeCast S64x8x512 (Host.dynamicSlice S1x64x8x512 (V0 (Proc.devRef .tc main_v50_2)) (fun k => (((![V0 (Proc.devRef .tc main_v50_4), constantI S_ 32 0#32, constantI S_ 32 0#32, constantI S_ 32 0#32] : Fin 4 → (⟨S_, .i32⟩ : BufTy).Contents (Elt F))) k (Shape.Idx.first h_S_)).toInt) sliceFits_S256x64x8x512_S1x64x8x512) shapeCasts_S1x64x8x512_S64x8x512))) : (Proc.devRef .tc main_while0b_v74 : DevRef τ sig).ty.Contents (Elt F)) = Cert.ReferenceScanIdeal.Step.b28 j s := by
  unfold Cert.ReferenceScanIdeal.Step.b28
  rw [← al_26 h, ← al_27 h]
  try rfl
set_option maxRecDepth 8192 in
theorem al_29 (h : Holds V0 s j) : (res_main_while0b_v75 V0 : (Proc.devRef .tc main_while0b_v75 : DevRef τ sig).ty.Contents (Elt F)) = Cert.ReferenceScanIdeal.Step.b29 j s := by
  unfold res_main_while0b_v75 Cert.ReferenceScanIdeal.Step.b29
  rw [← al_23 h, ← al_28 h]
  try rfl
set_option maxRecDepth 8192 in
theorem al_30 (h : Holds V0 s j) : (Host.dotGeneral dot_S64x8x256_S64x8x256x512_S64x8x512_2_2_n_3_01_01 none (shapeCast S64x8x256 (Host.dynamicSlice S1x64x8x256 (V0 (Proc.devRef .tc main_v50_0)) (fun k => (((![V0 (Proc.devRef .tc main_v50_4), constantI S_ 32 0#32, constantI S_ 32 0#32, constantI S_ 32 0#32] : Fin 4 → (⟨S_, .i32⟩ : BufTy).Contents (Elt F))) k (Shape.Idx.first h_S_)).toInt) sliceFits_S256x64x8x256_S1x64x8x256) shapeCasts_S1x64x8x256_S64x8x256) (res_main_while0b_v75 V0) : (Proc.devRef .tc main_while0b_v76 : DevRef τ sig).ty.Contents (Elt F)) = Cert.ReferenceScanIdeal.Step.b30 j s := by
  unfold Cert.ReferenceScanIdeal.Step.b30
  rw [← al_4 h, ← al_29 h]
  try rfl
set_option maxRecDepth 8192 in
theorem al_31 (h : Holds V0 s j) : (broadcastInDim S1x64x8x512 ![1, 2, 3] bcast_S64x8x512_S1x64x8x512_1_2_3 (Host.dotGeneral dot_S64x8x256_S64x8x256x512_S64x8x512_2_2_n_3_01_01 none (shapeCast S64x8x256 (Host.dynamicSlice S1x64x8x256 (V0 (Proc.devRef .tc main_v50_0)) (fun k => (((![V0 (Proc.devRef .tc main_v50_4), constantI S_ 32 0#32, constantI S_ 32 0#32, constantI S_ 32 0#32] : Fin 4 → (⟨S_, .i32⟩ : BufTy).Contents (Elt F))) k (Shape.Idx.first h_S_)).toInt) sliceFits_S256x64x8x256_S1x64x8x256) shapeCasts_S1x64x8x256_S64x8x256) (res_main_while0b_v75 V0)) : (Proc.devRef .tc main_while0b_call10_v0 : DevRef τ sig).ty.Contents (Elt F)) = Cert.ReferenceScanIdeal.Step.b31 j s := by
  unfold Cert.ReferenceScanIdeal.Step.b31
  rw [← al_30 h]
  try rfl
set_option maxRecDepth 8192 in
theorem al_32 (h : Holds V0 s j) : (constantI S_ 32 0#32 : (Proc.devRef .tc main_while0b_call10_c : DevRef τ sig).ty.Contents (Elt F)) = Cert.ReferenceScanIdeal.Step.b32 j s := by
  unfold Cert.ReferenceScanIdeal.Step.b32
  rfl
set_option maxRecDepth 8192 in
theorem al_33 (h : Holds V0 s j) : (constantI S_ 32 0#32 : (Proc.devRef .tc main_while0b_call10_c_0 : DevRef τ sig).ty.Contents (Elt F)) = Cert.ReferenceScanIdeal.Step.b33 j s := by
  unfold Cert.ReferenceScanIdeal.Step.b33
  rfl
set_option maxRecDepth 8192 in
theorem al_34 (h : Holds V0 s j) : (constantI S_ 32 0#32 : (Proc.devRef .tc main_while0b_call10_c_1 : DevRef τ sig).ty.Contents (Elt F)) = Cert.ReferenceScanIdeal.Step.b34 j s := by
  unfold Cert.ReferenceScanIdeal.Step.b34
  rfl
set_option maxRecDepth 8192 in
theorem al_35 (h : Holds V0 s j) : (Host.dynamicUpdateSlice (V0 (Proc.devRef .tc main_v50_6)) (broadcastInDim S1x64x8x512 ![1, 2, 3] bcast_S64x8x512_S1x64x8x512_1_2_3 (Host.dotGeneral dot_S64x8x256_S64x8x256x512_S64x8x512_2_2_n_3_01_01 none (shapeCast S64x8x256 (Host.dynamicSlice S1x64x8x256 (V0 (Proc.devRef .tc main_v50_0)) (fun k => (((![V0 (Proc.devRef .tc main_v50_4), constantI S_ 32 0#32, constantI S_ 32 0#32, constantI S_ 32 0#32] : Fin 4 → (⟨S_, .i32⟩ : BufTy).Contents (Elt F))) k (Shape.Idx.first h_S_)).toInt) sliceFits_S256x64x8x256_S1x64x8x256) shapeCasts_S1x64x8x256_S64x8x256) (res_main_while0b_v75 V0))) (fun k => (((![V0 (Proc.devRef .tc main_v50_4), constantI S_ 32 0#32, constantI S_ 32 0#32, constantI S_ 32 0#32] : Fin 4 → (⟨S_, .i32⟩ : BufTy).Contents (Elt F))) k (Shape.Idx.first h_S_)).toInt) updateFits_S256x64x8x512_S1x64x8x512 : (Proc.devRef .tc main_while0b_v77 : DevRef τ sig).ty.Contents (Elt F)) = Cert.ReferenceScanIdeal.Step.b35 j s := by
  unfold Cert.ReferenceScanIdeal.Step.b35
  rw [← al_31 h, ← al_32 h, ← al_33 h, ← al_34 h, h.f_6, h.n_4]
  try rfl

/-! One trip's step of the carried values is `step`, field by field; a counter steps to the next number. -/

theorem step_5 (h : Holds V0 s j) : step_main_v50_5 V0 = (step j s).main_v50_5 := by
  unfold step_main_v50_5 Cert.ReferenceScanIdeal.Step.step
  show id (res_main_while0b_v75 V0) = _
  rw [al_29 h]
  try rfl
theorem step_6 (h : Holds V0 s j) : step_main_v50_6 V0 = (step j s).main_v50_6 := by
  unfold step_main_v50_6 Cert.ReferenceScanIdeal.Step.step
  show id (Host.dynamicUpdateSlice (V0 (Proc.devRef .tc main_v50_6)) (broadcastInDim S1x64x8x512 ![1, 2, 3] bcast_S64x8x512_S1x64x8x512_1_2_3 (Host.dotGeneral dot_S64x8x256_S64x8x256x512_S64x8x512_2_2_n_3_01_01 none (shapeCast S64x8x256 (Host.dynamicSlice S1x64x8x256 (V0 (Proc.devRef .tc main_v50_0)) (fun k => (((![V0 (Proc.devRef .tc main_v50_4), constantI S_ 32 0#32, constantI S_ 32 0#32, constantI S_ 32 0#32] : Fin 4 → (⟨S_, .i32⟩ : BufTy).Contents (Elt F))) k (Shape.Idx.first h_S_)).toInt) sliceFits_S256x64x8x256_S1x64x8x256) shapeCasts_S1x64x8x256_S64x8x256) (res_main_while0b_v75 V0))) (fun k => (((![V0 (Proc.devRef .tc main_v50_4), constantI S_ 32 0#32, constantI S_ 32 0#32, constantI S_ 32 0#32] : Fin 4 → (⟨S_, .i32⟩ : BufTy).Contents (Elt F))) k (Shape.Idx.first h_S_)).toInt) updateFits_S256x64x8x512_S1x64x8x512) = _
  exact al_35 h
theorem step_4 (h : Holds V0 s j) : step_main_v50_4 V0 = constantI S_ 32 (BitVec.ofNat 32 (j + 1)) := by
  unfold step_main_v50_4
  rw [h.n_4]
  funext i
  show BitVec.ofNat 32 j + 1#32 = BitVec.ofNat 32 (j + 1)
  simp only [BitVec.ofNat_add]

set_option maxRecDepth 8192 in
theorem out_main_v60_holds (h : Holds V0 s j) : out_main_v60 V0 = Cert.ReferenceScanIdeal.Step.R_main_v60 s := by
  unfold out_main_v60 Cert.ReferenceScanIdeal.Step.R_main_v60
  rw [h.f_6]
  try rfl

set_option maxRecDepth 8192 in
theorem out_main_v61_holds (h : Holds V0 s j) : out_main_v61 V0 = Cert.ReferenceScanIdeal.Step.R_main_v61 s := by
  unfold out_main_v61 Cert.ReferenceScanIdeal.Step.R_main_v61
  rw [h.f_6]
  try rfl

set_option maxRecDepth 8192 in
theorem out_main_v57_holds (h : Holds V0 s j) : out_main_v57 V0 = Cert.ReferenceScanIdeal.Step.R_main_v57 s := by
  unfold out_main_v57 Cert.ReferenceScanIdeal.Step.R_main_v57
  rw [h.f_5]
  try rfl

set_option maxRecDepth 8192 in
theorem out_main_v58_holds (h : Holds V0 s j) : out_main_v58 V0 = Cert.ReferenceScanIdeal.Step.R_main_v58 s := by
  unfold out_main_v58 Cert.ReferenceScanIdeal.Step.R_main_v58
  rw [h.f_5]
  try rfl

/-- One trip keeps the valuation holding: `step` of the state, the same set-up values, the next number. -/
theorem holds_step (h : Holds V0 s j) : Holds (STEP V0) (step j s) (j + 1) where
  f_5 := (STEP_main_v50_5 V0).trans (step_5 h)
  f_6 := (STEP_main_v50_6 V0).trans (step_6 h)
  n_4 := (STEP_main_v50_4 V0).trans (step_4 h)
  f_0 := (STEP_main_v50_0 V0).trans h.f_0
  f_1 := (STEP_main_v50_1 V0).trans h.f_1
  f_2 := (STEP_main_v50_2 V0).trans h.f_2
  f_3 := (STEP_main_v50_3 V0).trans h.f_3

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))

variable (m : (ℓ : Loc nD τ sig) → Buf (Elt F) ℓ) (c : Dev nD)

set_option maxRecDepth 65536 in
set_option maxHeartbeats 4000000 in
theorem entry_f_5 : (entryContents preI m c) (Proc.devRef .tc main_v50_5) = (initState m c).main_v50_5 := by
  simp only [entryContents, afterL_cons, afterL_nil]
  after_reads_simp <;> rfl

set_option maxRecDepth 65536 in
set_option maxHeartbeats 4000000 in
theorem entry_f_6 : (entryContents preI m c) (Proc.devRef .tc main_v50_6) = (initState m c).main_v50_6 := by
  simp only [entryContents, afterL_cons, afterL_nil]
  after_reads_simp <;> rfl

set_option maxRecDepth 65536 in
set_option maxHeartbeats 4000000 in
theorem entry_f_0 : (entryContents preI m c) (Proc.devRef .tc main_v50_0) = (initState m c).main_v50_0 := by
  simp only [entryContents, afterL_cons, afterL_nil]
  after_reads_simp <;> rfl

set_option maxRecDepth 65536 in
set_option maxHeartbeats 4000000 in
theorem entry_f_1 : (entryContents preI m c) (Proc.devRef .tc main_v50_1) = (initState m c).main_v50_1 := by
  simp only [entryContents, afterL_cons, afterL_nil]
  after_reads_simp <;> rfl

set_option maxRecDepth 65536 in
set_option maxHeartbeats 4000000 in
theorem entry_f_2 : (entryContents preI m c) (Proc.devRef .tc main_v50_2) = (initState m c).main_v50_2 := by
  simp only [entryContents, afterL_cons, afterL_nil]
  after_reads_simp <;> rfl

set_option maxRecDepth 65536 in
set_option maxHeartbeats 4000000 in
theorem entry_f_3 : (entryContents preI m c) (Proc.devRef .tc main_v50_3) = (initState m c).main_v50_3 := by
  simp only [entryContents, afterL_cons, afterL_nil]
  after_reads_simp <;> rfl

set_option maxRecDepth 65536 in
set_option maxHeartbeats 4000000 in
theorem entry_n_4 : (entryContents preI m c) (Proc.devRef .tc main_v50_4) = constantI S_ 32 (BitVec.ofNat 32 0) := by
  simp only [entryContents, afterL_cons, afterL_nil]
  after_reads_simp <;> rfl

/-- What comes before the loop leaves the set-up values, number 0, the initial state. -/
theorem entry_holds : Holds (entryContents preI m c) (initState m c) 0 :=
  ⟨entry_f_5 m c, entry_f_6 m c, entry_f_0 m c, entry_f_1 m c, entry_f_2 m c, entry_f_3 m c, entry_n_4 m c⟩

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceScanIdeal` terminates with each result at its field of state
    number 256 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v60) = Cert.ReferenceScanIdeal.Step.R_main_v60 (it c 256)
      ∧ r.2.mem ((c.tc : Thread nD τ).loc main_v61) = Cert.ReferenceScanIdeal.Step.R_main_v61 (it c 256)
      ∧ r.2.mem ((c.tc : Thread nD τ).loc main_v57) = Cert.ReferenceScanIdeal.Step.R_main_v57 (it c 256)
      ∧ r.2.mem ((c.tc : Thread nD τ).loc main_v58) = Cert.ReferenceScanIdeal.Step.R_main_v58 (it c 256)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    have hk := holds_iter m c (it c) (h0 c) (hs c) 256
    ⟨(h c).1.trans (out_main_v60_holds hk), (h c).2.1.trans (out_main_v61_holds hk), (h c).2.2.1.trans (out_main_v57_holds hk), (h c).2.2.2.1.trans (out_main_v58_holds hk), (h c).2.2.2.2.1, (h c).2.2.2.2.2.1, (h c).2.2.2.2.2.2.1, (h c).2.2.2.2.2.2.2.1, (h c).2.2.2.2.2.2.2.2.1, (h c).2.2.2.2.2.2.2.2.2⟩) (Value.run m ρ)

end Cert.ReferenceScanIdeal.Trips

end
-- ==== Proof.ScanPair.lean ====
/-
  The recurrence's launch and its reference end with the same arrays, on the rows the launch writes.
-/
module

public import proofs.«01_k».proof.Defs
public import proofs.«01_k».proof.Proof.Gen.On_prompt_rows
public import proofs.«01_k».proof.Proof.Gen.Pre_finite
public import proofs.«01_k».proof.Proof.Scan
public import proofs.«01_k».proof.Proof.Finite
public import proofs.«01_k».proof.Proof.RefScan
public import proofs.«01_k».proof.Proof.StepScan
public import Idealize.ShloMosaic.Lib.Claim
public import Idealize.ShloMosaic.Lib.WordCmp

@[expose] public section

set_option maxRecDepth 16384

noncomputable section

namespace Cert.Scan

open Idealize.ShloMosaic Idealize.SL.Sem

/-- A row the mask selects is a row of a sequence. -/
theorem row_lt (i : Fin 24576) (h : IntOp.cmpi .slt (BitVec.ofNat 32 i.val) 8192#32 = 1#1) : i.val < 8192 := by
  have e : IntOp.cmpi .slt (BitVec.ofNat 32 i.val) (BitVec.ofNat 32 8192) = BitVec.ofBool (decide (i.val < 8192)) :=
    WordCmp.cmpi_slt_ofNat (by have := i.isLt; omega) (by omega)
  rw [e] at h
  by_contra hn
  rw [decide_eq_false hn] at h
  exact absurd h (by decide)

/-- An index of a matrix by its two coordinates. -/
theorem ix2_eta {p q : ℕ} (i : (⟨2, ![p, q]⟩ : Shape).Idx) : i = ix2 (i 0) (i 1) := by blk_point

/-- An index of a rank-4 array by its four coordinates. -/
theorem ix4_eta {p q r s : ℕ} (i : (⟨4, ![p, q, r, s]⟩ : Shape).Idx) : i = ix4 (i 0) (i 1) (i 2) (i 3) := by blk_point

end Cert.Scan

namespace Cert.ReferenceScanIdeal.Hand

open Cert.ReferenceScanIdeal Cert.ReferenceScanIdeal.Gen Cert.ReferenceScanIdeal.Step Idealize.ShloMosaic

/-- The forward states are the first half of the carried ones. -/
theorem half_f (s : State Ideal) (b : Fin 32) (h : Fin 8) (d : Fin 256) (e : Fin 512) :
    R_main_v57 s (ix4 b h d e) = s.main_v50_5 (ix4 ⟨b.val, by omega⟩ h d e) := by
  pointwise [R_main_v57]

/-- The backward states are the second half. -/
theorem half_b (s : State Ideal) (b : Fin 32) (h : Fin 8) (d : Fin 256) (e : Fin 512) :
    R_main_v58 s (ix4 b h d e) = s.main_v50_5 (ix4 ⟨32 + b.val, by omega⟩ h d e) := by
  pointwise [R_main_v58]

/-- The states of the reference's trips. -/
def iter (m : (ℓ : Loc nD τ sig) → Buf (Elt Ideal) ℓ) (c : Dev nD) : ℕ → State Ideal
  | 0 => Cert.ReferenceScanIdeal.Trips.initState m c
  | n + 1 => step n (iter m c n)

end Cert.ReferenceScanIdeal.Hand

namespace Cert.KernelScanIdeal.Hand

open Cert.KernelScanIdeal Cert.KernelScanIdeal.Gen Idealize.ShloMosaic Idealize.ShloMosaic.TcCoe Idealize.SL.Sem

/-- The launch leaves the four arrays of its write-backs, and its arguments as they were. -/
theorem runs (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v106_0) = (dats m 0 c).arrAt 14 (cfgs 0).N
      ∧ r.2.mem ((c.tc : Thread nD τ).loc main_v106_1) = (dats m 0 c).arrAt 15 (cfgs 0).N
      ∧ r.2.mem ((c.tc : Thread nD τ).loc main_v106_2) = (dats m 0 c).arrAt 16 (cfgs 0).N
      ∧ r.2.mem ((c.tc : Thread nD τ).loc main_v106_3) = (dats m 0 c).arrAt 17 (cfgs 0).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  θ_run_mono (θ_run_and (Cert.KernelScanIdeal.Gen.run_main m g) (Cert.KernelScanIdeal.Gen.unchanged m g))
    (fun _ h c => ⟨(h.1 c).1 14, (h.1 c).1 15, (h.1 c).1 16, (h.1 c).1 17, h.2 c⟩)

end Cert.KernelScanIdeal.Hand

namespace Cert.Scan

open Idealize.ShloMosaic Idealize.SL.Sem
open Cert.ReferenceScanIdeal.Hand (iter half_f half_b res_f res_b state_f state_b)
open Cert.KernelScanIdeal.Hand (final_f final_b final_sf final_sb)

section same

open Idealize.ShloMosaic.TcCoe

variable (m : (ℓ : Loc Cert.KernelScanIdeal.nD Cert.KernelScanIdeal.τ Cert.KernelScanIdeal.sig) → Buf (Elt Ideal) ℓ)
  (m' : (ℓ : Loc Cert.ReferenceScanIdeal.nD Cert.ReferenceScanIdeal.τ Cert.ReferenceScanIdeal.sig) → Buf (Elt Ideal) ℓ)
  (c : Dev Cert.KernelScanIdeal.nD)
  (e0 : m' ((c.tc : Thread Cert.ReferenceScanIdeal.nD Cert.ReferenceScanIdeal.τ).loc Cert.ReferenceScanIdeal.main_arg0) = m ((c.tc : Thread Cert.KernelScanIdeal.nD Cert.KernelScanIdeal.τ).loc Cert.KernelScanIdeal.main_arg0))
  (e1 : m' ((c.tc : Thread Cert.ReferenceScanIdeal.nD Cert.ReferenceScanIdeal.τ).loc Cert.ReferenceScanIdeal.main_arg1) = m ((c.tc : Thread Cert.KernelScanIdeal.nD Cert.KernelScanIdeal.τ).loc Cert.KernelScanIdeal.main_arg1))
  (e2 : m' ((c.tc : Thread Cert.ReferenceScanIdeal.nD Cert.ReferenceScanIdeal.τ).loc Cert.ReferenceScanIdeal.main_arg2) = m ((c.tc : Thread Cert.KernelScanIdeal.nD Cert.KernelScanIdeal.τ).loc Cert.KernelScanIdeal.main_arg2))
  (e3 : m' ((c.tc : Thread Cert.ReferenceScanIdeal.nD Cert.ReferenceScanIdeal.τ).loc Cert.ReferenceScanIdeal.main_arg3) = m ((c.tc : Thread Cert.KernelScanIdeal.nD Cert.KernelScanIdeal.τ).loc Cert.KernelScanIdeal.main_arg3))
  (e4 : m' ((c.tc : Thread Cert.ReferenceScanIdeal.nD Cert.ReferenceScanIdeal.τ).loc Cert.ReferenceScanIdeal.main_arg4) = m ((c.tc : Thread Cert.KernelScanIdeal.nD Cert.KernelScanIdeal.τ).loc Cert.KernelScanIdeal.main_arg4))
  (e5 : m' ((c.tc : Thread Cert.ReferenceScanIdeal.nD Cert.ReferenceScanIdeal.τ).loc Cert.ReferenceScanIdeal.main_arg5) = m ((c.tc : Thread Cert.KernelScanIdeal.nD Cert.KernelScanIdeal.τ).loc Cert.KernelScanIdeal.main_arg5))
include e0 e1 e2 e3 e4 e5

/-- On real arguments the reference's four results are the launch's: the outputs on the sequences' rows, the states everywhere. -/
theorem same (h : Cert.Pre_KernelScanIdeal_finite m) :
    (∀ i : (⟨2, ![24576, 4096]⟩ : Shape).Idx, (i 0).val < 8192 → Cert.ReferenceScanIdeal.Step.R_main_v60 (iter m' c 256) i = (Cert.KernelScanIdeal.Gen.dats m 0 c).arrAt 14 (Cert.KernelScanIdeal.cfgs 0).N i)
    ∧ (∀ i : (⟨2, ![24576, 4096]⟩ : Shape).Idx, (i 0).val < 8192 → Cert.ReferenceScanIdeal.Step.R_main_v61 (iter m' c 256) i = (Cert.KernelScanIdeal.Gen.dats m 0 c).arrAt 15 (Cert.KernelScanIdeal.cfgs 0).N i)
    ∧ (∀ i : (⟨4, ![32, 8, 256, 512]⟩ : Shape).Idx, Cert.ReferenceScanIdeal.Step.R_main_v57 (iter m' c 256) i = (Cert.KernelScanIdeal.Gen.dats m 0 c).arrAt 16 (Cert.KernelScanIdeal.cfgs 0).N i)
    ∧ (∀ i : (⟨4, ![32, 8, 256, 512]⟩ : Shape).Idx, Cert.ReferenceScanIdeal.Step.R_main_v58 (iter m' c 256) i = (Cert.KernelScanIdeal.Gen.dats m 0 c).arrAt 17 (Cert.KernelScanIdeal.cfgs 0).N i) := by
  obtain ⟨Z, A, Wf, Wb, Bf, Bb, hz, ha, hwf, hbf, hwb, hbb⟩ := reals _ _ _ _ _ _ (h c)
  have hs : ∀ n, iter m' c (n + 1) = Cert.ReferenceScanIdeal.Step.step n (iter m' c n) := fun n => rfl
  have hi : iter m' c 0 = Cert.ReferenceScanIdeal.Step.init (m ((c.tc : Thread Cert.KernelScanIdeal.nD Cert.KernelScanIdeal.τ).loc Cert.KernelScanIdeal.main_arg0)) (m ((c.tc : Thread Cert.KernelScanIdeal.nD Cert.KernelScanIdeal.τ).loc Cert.KernelScanIdeal.main_arg1)) (m ((c.tc : Thread Cert.KernelScanIdeal.nD Cert.KernelScanIdeal.τ).loc Cert.KernelScanIdeal.main_arg2)) (m ((c.tc : Thread Cert.KernelScanIdeal.nD Cert.KernelScanIdeal.τ).loc Cert.KernelScanIdeal.main_arg3)) (m ((c.tc : Thread Cert.KernelScanIdeal.nD Cert.KernelScanIdeal.τ).loc Cert.KernelScanIdeal.main_arg4)) (m ((c.tc : Thread Cert.KernelScanIdeal.nD Cert.KernelScanIdeal.τ).loc Cert.KernelScanIdeal.main_arg5)) := by
    rw [← e0, ← e1, ← e2, ← e3, ← e4, ← e5]
    rfl
  generalize iter m' c = it at hs hi ⊢
  refine ⟨fun i hr => ?_, fun i hr => ?_, fun i => ?_, fun i => ?_⟩
  · rw [final_f m Z A Wf Bf c hz ha hwf hbf]
    refine (congrArg _ (ix2_eta i)).trans ((res_f _ _ _ _ _ _ Z A Wf Wb Bf Bb hz ha hwf hbf hwb hbb it hi hs (i 0) (i 1) hr).trans ?_)
    exact (if_pos hr).symm
  · rw [final_b m Z A Wb Bb c hz ha hwb hbb]
    refine (congrArg _ (ix2_eta i)).trans ((res_b _ _ _ _ _ _ Z A Wf Wb Bf Bb hz ha hwf hbf hwb hbb it hi hs (i 0) (i 1) hr).trans ?_)
    exact (if_pos hr).symm
  · rw [final_sf m Z A Wf Bf c hz ha hwf hbf]
    exact (congrArg _ (ix4_eta i)).trans ((half_f _ (i 0) (i 1) (i 2) (i 3)).trans (state_f _ _ _ _ _ _ Z A Wf Wb Bf Bb hz ha hwf hbf hwb hbb it hi hs (i 0) (i 1) (i 2) (i 3)))
  · rw [final_sb m Z A Wb Bb c hz ha hwb hbb]
    exact (congrArg _ (ix4_eta i)).trans ((half_b _ (i 0) (i 1) (i 2) (i 3)).trans (state_b _ _ _ _ _ _ Z A Wf Wb Bf Bb hz ha hwf hbf hwb hbb it hi hs (i 0) (i 1) (i 2) (i 3)))

end same

/-- The launch and the reference, on the rows the launch writes. -/
theorem pair : Cert.algebraic_KernelScanIdeal_ReferenceScanIdeal_on_prompt_rows_pre_finite := by
  intro m g m' g' hpre hagree
  refine ⟨fun c => (Cert.KernelScanIdeal.Gen.dats m 0 c).arrAt 14 (Cert.KernelScanIdeal.cfgs 0).N,
    fun c => (Cert.KernelScanIdeal.Gen.dats m 0 c).arrAt 15 (Cert.KernelScanIdeal.cfgs 0).N,
    fun c => (Cert.KernelScanIdeal.Gen.dats m 0 c).arrAt 16 (Cert.KernelScanIdeal.cfgs 0).N,
    fun c => (Cert.KernelScanIdeal.Gen.dats m 0 c).arrAt 17 (Cert.KernelScanIdeal.cfgs 0).N,
    θ_run_mono (Cert.KernelScanIdeal.Hand.runs m g) (fun r h c => ?_),
    θ_run_mono (Cert.ReferenceScanIdeal.Trips.run_iter m' g' (iter m') (fun _ => rfl) (fun _ _ => rfl)) (fun r h c => ?_)⟩
  · obtain ⟨h0, h1, h2, h3, ha⟩ := h c
    exact ⟨fun i _ => congrFun h0 i, fun i _ => congrFun h1 i, fun i _ => congrFun h2 i, fun i _ => congrFun h3 i, ha⟩
  · obtain ⟨h0, h1, h2, h3, ha⟩ := h c
    obtain ⟨a0, a1, a2, a3, a4, a5⟩ := hagree c
    obtain ⟨s0, s1, s2, s3⟩ := same m m' c a0 a1 a2 a3 a4 a5 hpre
    exact ⟨fun i hi => (congrFun h0 i).trans (s0 i (row_lt (i 0) hi)), fun i hi => (congrFun h1 i).trans (s1 i (row_lt (i 0) hi)),
      fun i _ => (congrFun h2 i).trans (s2 i), fun i _ => (congrFun h3 i).trans (s3 i), ha⟩

/-- The reference leaves its arguments as they were, and every counter at zero. -/
theorem frame : Cert.quiescent_ReferenceScanIdeal := by
  intro m g _
  refine θ_run_mono (Cert.ReferenceScanIdeal.Value.run m g) (fun r h => ⟨fun c => ?_, sem_eq_zero_of_no_sems (by decide) r.2⟩)
  have hc := h c
  and_intros <;> proj_exact hc

end Cert.Scan

end
-- ==== Proof.lean ====
module

public import proofs.«01_k».proof.Defs
public import proofs.«01_k».proof.Proof.Up
public import proofs.«01_k».proof.Proof.Down
public import proofs.«01_k».proof.Proof.In
public import proofs.«01_k».proof.Proof.Mix
public import proofs.«01_k».proof.Proof.Rank
public import proofs.«01_k».proof.Proof.Norm
public import proofs.«01_k».proof.Proof.Head
public import proofs.«01_k».proof.Proof.LastPrompt
public import proofs.«01_k».proof.Proof.LastSample
public import proofs.«01_k».proof.Proof.Mods
public import proofs.«01_k».proof.Proof.Embed
public import proofs.«01_k».proof.Proof.ScanPair
public import proofs.«01_k».proof.Proof.Gen.KernelScan
public import proofs.«01_k».proof.Proof.Gen.KernelScan.Skeleton
public import proofs.«01_k».proof.Proof.Gen.KernelScan.Launch
public import proofs.«01_k».proof.Proof.Gen.KernelScan.Points
public import proofs.«01_k».proof.Proof.Gen.KernelScan.Frame
public import proofs.«01_k».proof.Proof.Gen.KernelScanIdeal
public import proofs.«01_k».proof.Proof.Gen.KernelScanIdeal.Skeleton
public import proofs.«01_k».proof.Proof.Gen.KernelScanIdeal.Launch
public import proofs.«01_k».proof.Proof.Gen.KernelScanIdeal.Points
public import proofs.«01_k».proof.Proof.Gen.KernelScanIdeal.Frame
public import proofs.«01_k».proof.Proof.Gen.ReferenceScanIdeal
public import proofs.«01_k».proof.Proof.Gen.KernelUp
public import proofs.«01_k».proof.Proof.Gen.KernelUp.Skeleton
public import proofs.«01_k».proof.Proof.Gen.KernelUp.Launch
public import proofs.«01_k».proof.Proof.Gen.KernelUp.Points
public import proofs.«01_k».proof.Proof.Gen.KernelUp.Frame
public import proofs.«01_k».proof.Proof.Gen.KernelUpIdeal
public import proofs.«01_k».proof.Proof.Gen.KernelUpIdeal.Skeleton
public import proofs.«01_k».proof.Proof.Gen.KernelUpIdeal.Launch
public import proofs.«01_k».proof.Proof.Gen.KernelUpIdeal.Points
public import proofs.«01_k».proof.Proof.Gen.KernelUpIdeal.Frame
public import proofs.«01_k».proof.Proof.Gen.ReferenceUpIdeal
public import proofs.«01_k».proof.Proof.Gen.KernelDown
public import proofs.«01_k».proof.Proof.Gen.KernelDown.Skeleton
public import proofs.«01_k».proof.Proof.Gen.KernelDown.Launch
public import proofs.«01_k».proof.Proof.Gen.KernelDown.Points
public import proofs.«01_k».proof.Proof.Gen.KernelDown.Frame
public import proofs.«01_k».proof.Proof.Gen.KernelDownIdeal
public import proofs.«01_k».proof.Proof.Gen.KernelDownIdeal.Skeleton
public import proofs.«01_k».proof.Proof.Gen.KernelDownIdeal.Launch
public import proofs.«01_k».proof.Proof.Gen.KernelDownIdeal.Points
public import proofs.«01_k».proof.Proof.Gen.KernelDownIdeal.Frame
public import proofs.«01_k».proof.Proof.Gen.ReferenceDownIdeal
public import proofs.«01_k».proof.Proof.Gen.KernelIn
public import proofs.«01_k».proof.Proof.Gen.KernelIn.Skeleton
public import proofs.«01_k».proof.Proof.Gen.KernelIn.Launch
public import proofs.«01_k».proof.Proof.Gen.KernelIn.Points
public import proofs.«01_k».proof.Proof.Gen.KernelIn.Frame
public import proofs.«01_k».proof.Proof.Gen.KernelInIdeal
public import proofs.«01_k».proof.Proof.Gen.KernelInIdeal.Skeleton
public import proofs.«01_k».proof.Proof.Gen.KernelInIdeal.Launch
public import proofs.«01_k».proof.Proof.Gen.KernelInIdeal.Points
public import proofs.«01_k».proof.Proof.Gen.KernelInIdeal.Frame
public import proofs.«01_k».proof.Proof.Gen.ReferenceInIdeal
public import proofs.«01_k».proof.Proof.Gen.KernelMix
public import proofs.«01_k».proof.Proof.Gen.KernelMix.Skeleton
public import proofs.«01_k».proof.Proof.Gen.KernelMix.Launch
public import proofs.«01_k».proof.Proof.Gen.KernelMix.Points
public import proofs.«01_k».proof.Proof.Gen.KernelMix.Frame
public import proofs.«01_k».proof.Proof.Gen.KernelMixIdeal
public import proofs.«01_k».proof.Proof.Gen.KernelMixIdeal.Skeleton
public import proofs.«01_k».proof.Proof.Gen.KernelMixIdeal.Launch
public import proofs.«01_k».proof.Proof.Gen.KernelMixIdeal.Points
public import proofs.«01_k».proof.Proof.Gen.KernelMixIdeal.Frame
public import proofs.«01_k».proof.Proof.Gen.ReferenceMixIdeal
public import proofs.«01_k».proof.Proof.Gen.KernelRank
public import proofs.«01_k».proof.Proof.Gen.KernelRank.Skeleton
public import proofs.«01_k».proof.Proof.Gen.KernelRank.Launch
public import proofs.«01_k».proof.Proof.Gen.KernelRank.Points
public import proofs.«01_k».proof.Proof.Gen.KernelRank.Frame
public import proofs.«01_k».proof.Proof.Gen.KernelRankIdeal
public import proofs.«01_k».proof.Proof.Gen.KernelRankIdeal.Skeleton
public import proofs.«01_k».proof.Proof.Gen.KernelRankIdeal.Launch
public import proofs.«01_k».proof.Proof.Gen.KernelRankIdeal.Points
public import proofs.«01_k».proof.Proof.Gen.KernelRankIdeal.Frame
public import proofs.«01_k».proof.Proof.Gen.ReferenceRankIdeal
public import proofs.«01_k».proof.Proof.Gen.KernelNorm
public import proofs.«01_k».proof.Proof.Gen.KernelNorm.Skeleton
public import proofs.«01_k».proof.Proof.Gen.KernelNorm.Launch
public import proofs.«01_k».proof.Proof.Gen.KernelNorm.Points
public import proofs.«01_k».proof.Proof.Gen.KernelNorm.Frame
public import proofs.«01_k».proof.Proof.Gen.KernelNormIdeal
public import proofs.«01_k».proof.Proof.Gen.KernelNormIdeal.Skeleton
public import proofs.«01_k».proof.Proof.Gen.KernelNormIdeal.Launch
public import proofs.«01_k».proof.Proof.Gen.KernelNormIdeal.Points
public import proofs.«01_k».proof.Proof.Gen.KernelNormIdeal.Frame
public import proofs.«01_k».proof.Proof.Gen.ReferenceNormIdeal
public import proofs.«01_k».proof.Proof.Gen.KernelHead
public import proofs.«01_k».proof.Proof.Gen.KernelHead.Skeleton
public import proofs.«01_k».proof.Proof.Gen.KernelHead.Launch
public import proofs.«01_k».proof.Proof.Gen.KernelHead.Points
public import proofs.«01_k».proof.Proof.Gen.KernelHead.Frame
public import proofs.«01_k».proof.Proof.Gen.KernelHeadIdeal
public import proofs.«01_k».proof.Proof.Gen.KernelHeadIdeal.Skeleton
public import proofs.«01_k».proof.Proof.Gen.KernelHeadIdeal.Launch
public import proofs.«01_k».proof.Proof.Gen.KernelHeadIdeal.Points
public import proofs.«01_k».proof.Proof.Gen.KernelHeadIdeal.Frame
public import proofs.«01_k».proof.Proof.Gen.ReferenceHeadIdeal
public import proofs.«01_k».proof.Proof.Gen.KernelLastPrompt
public import proofs.«01_k».proof.Proof.Gen.KernelLastPrompt.Skeleton
public import proofs.«01_k».proof.Proof.Gen.KernelLastPrompt.Launch
public import proofs.«01_k».proof.Proof.Gen.KernelLastPrompt.Points
public import proofs.«01_k».proof.Proof.Gen.KernelLastPrompt.Frame
public import proofs.«01_k».proof.Proof.Gen.KernelLastPromptIdeal
public import proofs.«01_k».proof.Proof.Gen.KernelLastPromptIdeal.Skeleton
public import proofs.«01_k».proof.Proof.Gen.KernelLastPromptIdeal.Launch
public import proofs.«01_k».proof.Proof.Gen.KernelLastPromptIdeal.Points
public import proofs.«01_k».proof.Proof.Gen.KernelLastPromptIdeal.Frame
public import proofs.«01_k».proof.Proof.Gen.ReferenceLastPromptIdeal
public import proofs.«01_k».proof.Proof.Gen.KernelLastSample
public import proofs.«01_k».proof.Proof.Gen.KernelLastSample.Skeleton
public import proofs.«01_k».proof.Proof.Gen.KernelLastSample.Launch
public import proofs.«01_k».proof.Proof.Gen.KernelLastSample.Points
public import proofs.«01_k».proof.Proof.Gen.KernelLastSample.Frame
public import proofs.«01_k».proof.Proof.Gen.KernelLastSampleIdeal
public import proofs.«01_k».proof.Proof.Gen.KernelLastSampleIdeal.Skeleton
public import proofs.«01_k».proof.Proof.Gen.KernelLastSampleIdeal.Launch
public import proofs.«01_k».proof.Proof.Gen.KernelLastSampleIdeal.Points
public import proofs.«01_k».proof.Proof.Gen.KernelLastSampleIdeal.Frame
public import proofs.«01_k».proof.Proof.Gen.ReferenceLastSampleIdeal
public import proofs.«01_k».proof.Proof.Gen.KernelMods
public import proofs.«01_k».proof.Proof.Gen.KernelMods.Skeleton
public import proofs.«01_k».proof.Proof.Gen.KernelMods.Launch
public import proofs.«01_k».proof.Proof.Gen.KernelMods.Points
public import proofs.«01_k».proof.Proof.Gen.KernelMods.Frame
public import proofs.«01_k».proof.Proof.Gen.KernelModsIdeal
public import proofs.«01_k».proof.Proof.Gen.KernelModsIdeal.Skeleton
public import proofs.«01_k».proof.Proof.Gen.KernelModsIdeal.Launch
public import proofs.«01_k».proof.Proof.Gen.KernelModsIdeal.Points
public import proofs.«01_k».proof.Proof.Gen.KernelModsIdeal.Frame
public import proofs.«01_k».proof.Proof.Gen.ReferenceModsIdeal
public import proofs.«01_k».proof.Proof.Gen.KernelEmbed
public import proofs.«01_k».proof.Proof.Gen.KernelEmbed.Skeleton
public import proofs.«01_k».proof.Proof.Gen.KernelEmbed.Launch
public import proofs.«01_k».proof.Proof.Gen.KernelEmbed.Points
public import proofs.«01_k».proof.Proof.Gen.KernelEmbed.Frame
public import proofs.«01_k».proof.Proof.Gen.KernelEmbedIdeal
public import proofs.«01_k».proof.Proof.Gen.KernelEmbedIdeal.Skeleton
public import proofs.«01_k».proof.Proof.Gen.KernelEmbedIdeal.Launch
public import proofs.«01_k».proof.Proof.Gen.KernelEmbedIdeal.Points
public import proofs.«01_k».proof.Proof.Gen.KernelEmbedIdeal.Frame
public import proofs.«01_k».proof.Proof.Gen.ReferenceEmbedIdeal
public import proofs.«01_k».proof.Proof.Gen.Pre_finite
public import proofs.«01_k».proof.Proof.Gen.On_prompt_rows
public import proofs.«01_k».proof.Proof.Gen.ReferenceUpIdeal.Run
public import proofs.«01_k».proof.Proof.Gen.ReferenceDownIdeal.Run
public import proofs.«01_k».proof.Proof.Gen.ReferenceInIdeal.Run
public import proofs.«01_k».proof.Proof.Gen.ReferenceMixIdeal.Run
public import proofs.«01_k».proof.Proof.Gen.ReferenceRankIdeal.Run
public import proofs.«01_k».proof.Proof.Gen.ReferenceNormIdeal.Run
public import proofs.«01_k».proof.Proof.Gen.ReferenceHeadIdeal.Run
public import proofs.«01_k».proof.Proof.Gen.ReferenceLastPromptIdeal.Run
public import proofs.«01_k».proof.Proof.Gen.ReferenceLastSampleIdeal.Run
public import proofs.«01_k».proof.Proof.Gen.ReferenceModsIdeal.Run
public import proofs.«01_k».proof.Proof.Gen.ReferenceEmbedIdeal.Run
public import proofs.«01_k».proof.Proof.Gen.ReferenceScanIdeal.Run
public import proofs.«01_k».proof.Proof.Gen.ReferenceScanIdeal.Step
public import Idealize.ShloMosaic.Adequacy
public import Idealize.ShloMosaic.Init

@[expose] public section

noncomputable section

namespace Cert.Proof

open Idealize.ShloMosaic Idealize.SL.Sem Cert.KernelScan

/-- Up's reference leaves its arguments as they were, and every counter at zero. -/
theorem frameUp : Cert.quiescent_ReferenceUpIdeal := by
  intro m g _
  hlo_run
  · intro c
    and_intros <;> trivial
  · exact sem_eq_zero_of_no_sems (by decide) r.2

/-- Up's launch and its reference end with the same array. -/
theorem algebraicUp : Cert.algebraic_KernelUpIdeal_ReferenceUpIdeal := by
  pair_intro
  · run_from Cert.KernelUpIdeal.Gen.run_main m g
  · hlo_run
    exact (Cert.KernelUpIdeal.Hand.final m c).symm

/-- Down's reference leaves its arguments as they were, and every counter at zero. -/
theorem frameDown : Cert.quiescent_ReferenceDownIdeal := by
  intro m g _
  hlo_run
  · intro c
    and_intros <;> trivial
  · exact sem_eq_zero_of_no_sems (by decide) r.2

/-- Down's launch and its reference end with the same array. -/
theorem algebraicDown : Cert.algebraic_KernelDownIdeal_ReferenceDownIdeal := by
  pair_intro
  · run_from Cert.KernelDownIdeal.Gen.run_main m g
  · hlo_run
    have h3 := (hagree c).2.2.2
    refine Eq.trans ?_ (Cert.KernelDownIdeal.Hand.final m c).symm
    unfold Cert.ReferenceDownIdeal.Hand.downRef
    rw [← h3]
    rfl

/-- In's reference leaves its arguments as they were, and every counter at zero. -/
theorem frameIn : Cert.quiescent_ReferenceInIdeal := by
  intro m g _
  hlo_run
  · intro c
    and_intros <;> trivial
  · exact sem_eq_zero_of_no_sems (by decide) r.2

/-- In's launch and its reference end with the same array. -/
theorem algebraicIn : Cert.algebraic_KernelInIdeal_ReferenceInIdeal := by
  pair_intro
  · run_from Cert.KernelInIdeal.Gen.run_main m g
  · hlo_run
    exact (Cert.KernelInIdeal.Hand.final m c).symm

/-- Mix's reference leaves its arguments as they were, and every counter at zero. -/
theorem frameMix : Cert.quiescent_ReferenceMixIdeal := by
  intro m g _
  hlo_run
  · intro c
    and_intros <;> trivial
  · exact sem_eq_zero_of_no_sems (by decide) r.2

/-- Mix's launch and its reference end with the same array. -/
theorem algebraicMix : Cert.algebraic_KernelMixIdeal_ReferenceMixIdeal := by
  pair_intro
  · run_from Cert.KernelMixIdeal.Gen.run_main m g
  · hlo_run
    have h3 := (hagree c).2.2.2
    refine Eq.trans ?_ (Cert.KernelMixIdeal.Hand.final m c).symm
    unfold Cert.ReferenceMixIdeal.Hand.mixRef
    rw [← h3]
    rfl

/-- Rank's reference leaves its arguments as they were, and every counter at zero. -/
theorem frameRank : Cert.quiescent_ReferenceRankIdeal := by
  intro m g _
  hlo_run
  · intro c
    and_intros <;> trivial
  · exact sem_eq_zero_of_no_sems (by decide) r.2

/-- Rank's launch and its reference end with the same array. -/
theorem algebraicRank : Cert.algebraic_KernelRankIdeal_ReferenceRankIdeal := by
  pair_intro
  · run_from Cert.KernelRankIdeal.Gen.run_main m g
  · run_from Cert.ReferenceRankIdeal.Value.run m' g'
    have h2 := (hagree c).2.2
    refine Eq.trans ?_ (Cert.KernelRankIdeal.Hand.final m c).symm
    unfold Cert.ReferenceRankIdeal.Hand.rankRef
    rw [← h2]

/-- Norm's reference leaves its arguments as they were, and every counter at zero. -/
theorem frameNorm : Cert.quiescent_ReferenceNormIdeal := by
  intro m g _
  hlo_run
  · intro c
    and_intros <;> trivial
  · exact sem_eq_zero_of_no_sems (by decide) r.2

/-- Norm's launch and its reference end with the same array. -/
theorem algebraicNorm : Cert.algebraic_KernelNormIdeal_ReferenceNormIdeal := by
  pair_intro
  · run_from Cert.KernelNormIdeal.Gen.run_main m g
  · run_from Cert.ReferenceNormIdeal.Value.run m' g'
    refine Eq.trans ?_ (Cert.KernelNormIdeal.Hand.final m c).symm
    rw [← (hagree c).1, ← (hagree c).2.1, ← (hagree c).2.2]
    rfl

/-- Head's reference leaves its arguments as they were, and every counter at zero. -/
theorem frameHead : Cert.quiescent_ReferenceHeadIdeal := by
  intro m g _
  hlo_run
  · intro c
    and_intros <;> trivial
  · exact sem_eq_zero_of_no_sems (by decide) r.2

/-- Head's launch and its reference end with the same array. -/
theorem algebraicHead : Cert.algebraic_KernelHeadIdeal_ReferenceHeadIdeal := by
  pair_intro
  · run_from Cert.KernelHeadIdeal.Gen.run_main m g
  · hlo_run
    exact (Cert.KernelHeadIdeal.Hand.final m c).symm

/-- LastPrompt's reference leaves its arguments as they were, and every counter at zero. -/
theorem frameLastPrompt : Cert.quiescent_ReferenceLastPromptIdeal := by
  intro m g _
  hlo_run
  · intro c
    and_intros <;> trivial
  · exact sem_eq_zero_of_no_sems (by decide) r.2

/-- LastPrompt's launch and its reference end with the same array. -/
theorem algebraicLastPrompt : Cert.algebraic_KernelLastPromptIdeal_ReferenceLastPromptIdeal := by
  pair_intro
  · run_from Cert.KernelLastPromptIdeal.Gen.run_main m g
  · hlo_run
    exact (Cert.KernelLastPromptIdeal.Hand.final m c).symm

/-- LastSample's reference leaves its arguments as they were, and every counter at zero. -/
theorem frameLastSample : Cert.quiescent_ReferenceLastSampleIdeal := by
  intro m g _
  hlo_run
  · intro c
    and_intros <;> trivial
  · exact sem_eq_zero_of_no_sems (by decide) r.2

/-- LastSample's launch and its reference end with the same array. -/
theorem algebraicLastSample : Cert.algebraic_KernelLastSampleIdeal_ReferenceLastSampleIdeal := by
  pair_intro
  · run_from Cert.KernelLastSampleIdeal.Gen.run_main m g
  · hlo_run
    exact (Cert.KernelLastSampleIdeal.Hand.final m c).symm

/-- Mods's reference leaves its arguments as they were, and every counter at zero. -/
theorem frameMods : Cert.quiescent_ReferenceModsIdeal := by
  intro m g _
  hlo_run
  · intro c
    and_intros <;> trivial
  · exact sem_eq_zero_of_no_sems (by decide) r.2

/-- Mods's launch and its reference end with the same array. -/
theorem algebraicMods : Cert.algebraic_KernelModsIdeal_ReferenceModsIdeal := by
  pair_intro
  · run_from Cert.KernelModsIdeal.Gen.run_main m g
  · hlo_run
    exact (Cert.KernelModsIdeal.Hand.final m c).symm

/-- Embed's reference leaves its arguments as they were, and every counter at zero. -/
theorem frameEmbed : Cert.quiescent_ReferenceEmbedIdeal := by
  intro m g _
  hlo_run
  · intro c
    and_intros <;> trivial
  · exact sem_eq_zero_of_no_sems (by decide) r.2

/-- Embed's launch and its reference end with the same array. -/
theorem algebraicEmbed : Cert.algebraic_KernelEmbedIdeal_ReferenceEmbedIdeal := by
  pair_intro
  · run_from Cert.KernelEmbedIdeal.Gen.run_main m g
  · run_from Cert.ReferenceEmbedIdeal.Value.run m' g'
    have h2 := (hagree c).2.2
    refine Eq.trans ?_ (Cert.KernelEmbedIdeal.Hand.final m c).symm
    unfold Cert.ReferenceEmbedIdeal.Hand.embedRef
    rw [← h2]

/-- Everything the certificate claims. -/
theorem claim : Cert.Claim := ⟨Cert.KernelScan.Gen.facts, Cert.KernelScanIdeal.Gen.facts, Cert.ReferenceScanIdeal.Gen.facts,
  Cert.KernelUp.Gen.facts, Cert.KernelUpIdeal.Gen.facts, Cert.ReferenceUpIdeal.Gen.facts,
  Cert.KernelDown.Gen.facts, Cert.KernelDownIdeal.Gen.facts, Cert.ReferenceDownIdeal.Gen.facts,
  Cert.KernelIn.Gen.facts, Cert.KernelInIdeal.Gen.facts, Cert.ReferenceInIdeal.Gen.facts,
  Cert.KernelMix.Gen.facts, Cert.KernelMixIdeal.Gen.facts, Cert.ReferenceMixIdeal.Gen.facts,
  Cert.KernelRank.Gen.facts, Cert.KernelRankIdeal.Gen.facts, Cert.ReferenceRankIdeal.Gen.facts,
  Cert.KernelNorm.Gen.facts, Cert.KernelNormIdeal.Gen.facts, Cert.ReferenceNormIdeal.Gen.facts,
  Cert.KernelHead.Gen.facts, Cert.KernelHeadIdeal.Gen.facts, Cert.ReferenceHeadIdeal.Gen.facts,
  Cert.KernelLastPrompt.Gen.facts, Cert.KernelLastPromptIdeal.Gen.facts, Cert.ReferenceLastPromptIdeal.Gen.facts,
  Cert.KernelLastSample.Gen.facts, Cert.KernelLastSampleIdeal.Gen.facts, Cert.ReferenceLastSampleIdeal.Gen.facts,
  Cert.KernelMods.Gen.facts, Cert.KernelModsIdeal.Gen.facts, Cert.ReferenceModsIdeal.Gen.facts,
  Cert.KernelEmbed.Gen.facts, Cert.KernelEmbedIdeal.Gen.facts, Cert.ReferenceEmbedIdeal.Gen.facts,
  Cert.Pre_finite.Gen.facts, Cert.On_prompt_rows.Gen.facts,
  fun m ρ _ => Cert.KernelScan.Gen.frame m ρ, fun m ρ _ => Cert.KernelScanIdeal.Gen.frame m ρ,
  fun m ρ _ => Cert.KernelScanIdeal.Gen.frame m ρ, Cert.Scan.frame, fun m ρ _ => Cert.Scan.frame m ρ trivial,
  fun m ρ _ => Cert.KernelUp.Gen.frame m ρ, fun m ρ _ => Cert.KernelUpIdeal.Gen.frame m ρ, frameUp,
  fun m ρ _ => Cert.KernelDown.Gen.frame m ρ, fun m ρ _ => Cert.KernelDownIdeal.Gen.frame m ρ, frameDown,
  fun m ρ _ => Cert.KernelIn.Gen.frame m ρ, fun m ρ _ => Cert.KernelInIdeal.Gen.frame m ρ, frameIn,
  fun m ρ _ => Cert.KernelMix.Gen.frame m ρ, fun m ρ _ => Cert.KernelMixIdeal.Gen.frame m ρ, frameMix,
  fun m ρ _ => Cert.KernelRank.Gen.frame m ρ, fun m ρ _ => Cert.KernelRankIdeal.Gen.frame m ρ, frameRank,
  fun m ρ _ => Cert.KernelNorm.Gen.frame m ρ, fun m ρ _ => Cert.KernelNormIdeal.Gen.frame m ρ, frameNorm,
  fun m ρ _ => Cert.KernelHead.Gen.frame m ρ, fun m ρ _ => Cert.KernelHeadIdeal.Gen.frame m ρ, frameHead,
  fun m ρ _ => Cert.KernelLastPrompt.Gen.frame m ρ, fun m ρ _ => Cert.KernelLastPromptIdeal.Gen.frame m ρ, frameLastPrompt,
  fun m ρ _ => Cert.KernelLastSample.Gen.frame m ρ, fun m ρ _ => Cert.KernelLastSampleIdeal.Gen.frame m ρ, frameLastSample,
  fun m ρ _ => Cert.KernelMods.Gen.frame m ρ, fun m ρ _ => Cert.KernelModsIdeal.Gen.frame m ρ, frameMods,
  fun m ρ _ => Cert.KernelEmbed.Gen.frame m ρ, fun m ρ _ => Cert.KernelEmbedIdeal.Gen.frame m ρ, frameEmbed,
  trivial, Cert.Scan.pair,
  trivial, algebraicUp,
  trivial, algebraicDown,
  trivial, algebraicIn,
  trivial, algebraicMix,
  trivial, algebraicRank,
  trivial, algebraicNorm,
  trivial, algebraicHead,
  trivial, algebraicLastPrompt,
  trivial, algebraicLastSample,
  trivial, algebraicMods,
  trivial, algebraicEmbed⟩

end Cert.Proof

end
